-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_kept_KernelIdeal [hPre_capacity_kept_KernelIdeal : Cert.Pre_capacity_kept_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_kept_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_kept_ReferenceIdeal [hPre_capacity_kept_ReferenceIdeal : Cert.Pre_capacity_kept_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_kept_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_capacity_kept_KernelIdeal [hKernelIdeal : Cert.KernelIdeal.Facts] [hPre_capacity_kept_KernelIdeal : Cert.Pre_capacity_kept_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_kept_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_capacity_kept_ReferenceIdeal [hReferenceIdeal : Cert.ReferenceIdeal.Facts] [hPre_capacity_kept_ReferenceIdeal : Cert.Pre_capacity_kept_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_kept_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_capacity_kept_KernelIdeal [hKernelIdeal : Cert.KernelIdeal.Facts] [hReferenceIdeal : Cert.ReferenceIdeal.Facts] [hPre_capacity_kept_KernelIdeal : Cert.Pre_capacity_kept_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_kept_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_capacity_kept_KernelIdeal : Cert.Pre_capacity_kept_KernelIdeal.Facts) (hPre_capacity_kept_ReferenceIdeal : Cert.Pre_capacity_kept_ReferenceIdeal.Facts),
    quiescent_Kernel (hKernel := hKernel)
    ∧ quiescent_KernelIdeal (hKernelIdeal := hKernelIdeal)
    ∧ quiescent_KernelIdeal_pre_capacity_kept_KernelIdeal (hKernelIdeal := hKernelIdeal) (hPre_capacity_kept_KernelIdeal := hPre_capacity_kept_KernelIdeal)
    ∧ quiescent_ReferenceIdeal (hReferenceIdeal := hReferenceIdeal)
    ∧ quiescent_ReferenceIdeal_pre_capacity_kept_ReferenceIdeal (hReferenceIdeal := hReferenceIdeal) (hPre_capacity_kept_ReferenceIdeal := hPre_capacity_kept_ReferenceIdeal)
    ∧ preserves_Kernel_KernelIdeal
    ∧ algebraic_KernelIdeal_ReferenceIdeal_pre_capacity_kept_KernelIdeal (hKernelIdeal := hKernelIdeal) (hReferenceIdeal := hReferenceIdeal) (hPre_capacity_kept_KernelIdeal := hPre_capacity_kept_KernelIdeal)
-- ==== Pre_capacity_kept_KernelIdeal.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S32 : Shape := ⟨1, ![32]⟩
abbrev S32x1 : Shape := ⟨2, ![32, 1]⟩
abbrev S_ : Shape := ⟨0, ![]⟩
abbrev S1024x1 : Shape := ⟨2, ![1024, 1]⟩
abbrev S1024 : Shape := ⟨1, ![1024]⟩
abbrev S1x1024 : Shape := ⟨2, ![1, 1024]⟩
abbrev S32x1024 : Shape := ⟨2, ![32, 1024]⟩
abbrev S1024x32 : Shape := ⟨2, ![1024, 32]⟩

class Facts : Prop where
  bcast_S32_S32x1_0 : S32.BroadcastsInDim S32x1 (![0] : Fin 1 → Fin S32x1.rank)
  bcast_S_S32x1 : S_.BroadcastsInDim S32x1 (![] : Fin 0 → Fin S32x1.rank)
  slices_S1024x2_S1024x1_0_0 : S1024x2.Slices ![0, 0] S1024x1
  shapeCasts_S1024x1_S1024 : S1024x1.ShapeCasts S1024
  bcast_S1024_S1x1024_1 : S1024.BroadcastsInDim S1x1024 (![1] : Fin 1 → Fin S1x1024.rank)
  slices_S1024x2_S1024x1_0_1 : S1024x2.Slices ![0, 1] S1024x1
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  shapeCasts_S32x1024_S1024x32 : S32x1024.ShapeCasts S1024x32
  natLt_1_32 : 1 < 32
  reducesTo_S1024x32_S1024_d1 : S1024x32.ReducesTo [1] S1024
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg2 : IVec S1024x2 32) (main_v31 : IVec S1024 32) (main_v35 : IVec S_ 1) (main_v39 : IVec S_ 1) : IVec S_ 1 :=
  let main_v40 : IVec S_ 1 := andi main_v35 main_v39
  let main_c_6 : IVec S_ 32 := constantI S_ 32 0#32
  let main_v41 : IVec S1024x2 32 := broadcastInDim S1024x2 ![] bcast_S_S1024x2 main_c_6
  let main_v42 : IVec S1024x2 1 := cmpi .sge main_arg2 main_v41
  let main_c_7 : IVec S_ 32 := constantI S_ 32 128#32
  let main_v43 : IVec S1024x2 32 := broadcastInDim S1024x2 ![] bcast_S_S1024x2 main_c_7
  let main_v44 : IVec S1024x2 1 := cmpi .slt main_arg2 main_v43
  let main_v45 : IVec S1024x2 1 := andi main_v42 main_v44
  let main_c_8 : IVec S_ 1 := constantI S_ 1 1#1
  let main_v46 : IVec S_ 1 := (fun x v => Host.reduce IntOp.andi x v reducesTo_S1024x2_S_d0_1 h_S_) main_v45 main_c_8
  let main_v47 : IVec S_ 1 := andi main_v40 main_v46
  let main_c_9 : IVec S_ 32 := constantI S_ 32 16#32
  let main_v48 : IVec S1024 32 := broadcastInDim S1024 ![] bcast_S_S1024 main_c_9
  let main_v49 : IVec S1024 1 := cmpi .sle main_v31 main_v48
  let main_c_10 : IVec S_ 1 := constantI S_ 1 1#1
  let main_v50 : IVec S_ 1 := (fun x v => Host.reduce IntOp.andi x v reducesTo_S1024_S_d0 h_S_) main_v49 main_c_10
  let main_v51 : IVec S_ 1 := andi main_v47 main_v50
  main_v51

def fn_part1 {F : FTy → Type} [FloatOps F] (main_arg0 : FVec F S1024x512 .bf16) (main_arg1 : FVec F S512x128 .bf16) (main_arg2 : IVec S1024x2 32) (main_v3 : IVec S32x1 32) (main_v9 : IVec S1x1024 32) (main_v18 : IVec S32x1024 1) (main_v21 : IVec S32x1024 1) : IVec S_ 1 :=
  let main_c_1 : IVec S_ 32 := constantI S_ 32 4#32
  let main_v22 : IVec S32x1 32 := broadcastInDim S32x1 ![] bcast_S_S32x1 main_c_1
  let main_v23 : IVec S32x1 32 := addi main_v3 main_v22
  let main_v24 : IVec S32x1024 32 := broadcastInDim S32x1024 ![0, 1] bcast_S1x1024_S32x1024_0_1 main_v9
  let main_v25 : IVec S32x1024 32 := broadcastInDim S32x1024 ![0, 1] bcast_S32x1_S32x1024_0_1 main_v23
  let main_v26 : IVec S32x1024 1 := cmpi .slt main_v24 main_v25
  let main_v27 : IVec S32x1024 1 := andi main_v21 main_v26
  let main_v28 : IVec S32x1024 1 := ori main_v18 main_v27
  let main_v29 : IVec S1024x32 1 := shapeCast S1024x32 main_v28 shapeCasts_S32x1024_S1024x32
  let main_v30 : IVec S1024x32 32 := (extui 32 · natLt_1_32) main_v29
  let main_c_2 : IVec S_ 32 := constantI S_ 32 0#32
  let main_v31 : IVec S1024 32 := (fun x v => Host.reduce IntOp.addi x v reducesTo_S1024x32_S1024_d1 h_S_) main_v30 main_c_2
  let main_v32 : FVec F S1024x512 .bf16 := Host.absf main_arg0
  let main_cst : FVec F S_ .bf16 := constant S_ .bf16 0x7F80#16
  let main_v33 : FVec F S1024x512 .bf16 := broadcastInDim S1024x512 ![] bcast_S_S1024x512 main_cst
  let main_v34 : IVec S1024x512 1 := cmpf .olt main_v32 main_v33
  let main_c_3 : IVec S_ 1 := constantI S_ 1 1#1
  let main_v35 : IVec S_ 1 := (fun x v => Host.reduce IntOp.andi x v reducesTo_S1024x512_S_d0_1 h_S_) main_v34 main_c_3
  let main_v36 : FVec F S512x128 .bf16 := Host.absf main_arg1
  let main_cst_4 : FVec F S_ .bf16 := constant S_ .bf16 0x7F80#16
  let main_v37 : FVec F S512x128 .bf16 := broadcastInDim S512x128 ![] bcast_S_S512x128 main_cst_4
  let main_v38 : IVec S512x128 1 := cmpf .olt main_v36 main_v37
  let main_c_5 : IVec S_ 1 := constantI S_ 1 1#1
  let main_v39 : IVec S_ 1 := (fun x v => Host.reduce IntOp.andi x v reducesTo_S512x128_S_d0_1 h_S_) main_v38 main_c_5
  fn_part2 (F := F) main_arg2 main_v31 main_v35 main_v39

def fn {F : FTy → Type} [FloatOps F] (main_arg0 : FVec F S1024x512 .bf16) (main_arg1 : FVec F S512x128 .bf16) (main_arg2 : IVec S1024x2 32) (main_arg3 : FVec F S4x512x1024 .bf16) : IVec S_ 1 :=
  let main_v0 : IVec S32 32 := iotaInDim S32 32 0
  let main_v1 : IVec S32x1 32 := broadcastInDim S32x1 ![0] bcast_S32_S32x1_0 main_v0
  let main_c : IVec S_ 32 := constantI S_ 32 4#32
  let main_v2 : IVec S32x1 32 := broadcastInDim S32x1 ![] bcast_S_S32x1 main_c
  let main_v3 : IVec S32x1 32 := muli main_v2 main_v1
  let main_v4 : IVec S1024x1 32 := (extractStridedSlice S1024x1 ![0, 0] · slices_S1024x2_S1024x1_0_0) main_arg2
  let main_v5 : IVec S1024 32 := shapeCast S1024 main_v4 shapeCasts_S1024x1_S1024
  let main_v6 : IVec S1x1024 32 := broadcastInDim S1x1024 ![1] bcast_S1024_S1x1024_1 main_v5
  let main_v7 : IVec S1024x1 32 := (extractStridedSlice S1024x1 ![0, 1] · slices_S1024x2_S1024x1_0_1) main_arg2
  let main_v8 : IVec S1024 32 := shapeCast S1024 main_v7 shapeCasts_S1024x1_S1024
  let main_v9 : IVec S1x1024 32 := broadcastInDim S1x1024 ![1] bcast_S1024_S1x1024_1 main_v8
  let main_v10 : IVec S32x1024 32 := broadcastInDim S32x1024 ![0, 1] bcast_S32x1_S32x1024_0_1 main_v3
  let main_v11 : IVec S32x1024 32 := broadcastInDim S32x1024 ![0, 1] bcast_S1x1024_S32x1024_0_1 main_v6
  let main_v12 : IVec S32x1024 1 := cmpi .sle main_v10 main_v11
  let main_c_0 : IVec S_ 32 := constantI S_ 32 4#32
  let main_v13 : IVec S32x1 32 := broadcastInDim S32x1 ![] bcast_S_S32x1 main_c_0
  let main_v14 : IVec S32x1 32 := addi main_v3 main_v13
  let main_v15 : IVec S32x1024 32 := broadcastInDim S32x1024 ![0, 1] bcast_S1x1024_S32x1024_0_1 main_v6
  let main_v16 : IVec S32x1024 32 := broadcastInDim S32x1024 ![0, 1] bcast_S32x1_S32x1024_0_1 main_v14
  let main_v17 : IVec S32x1024 1 := cmpi .slt main_v15 main_v16
  let main_v18 : IVec S32x1024 1 := andi main_v12 main_v17
  let main_v19 : IVec S32x1024 32 := broadcastInDim S32x1024 ![0, 1] bcast_S32x1_S32x1024_0_1 main_v3
  let main_v20 : IVec S32x1024 32 := broadcastInDim S32x1024 ![0, 1] bcast_S1x1024_S32x1024_0_1 main_v9
  let main_v21 : IVec S32x1024 1 := cmpi .sle main_v19 main_v20
  fn_part1 (F := F) main_arg0 main_arg1 main_arg2 main_v3 main_v9 main_v18 main_v21
-- ==== Pre_capacity_kept_ReferenceIdeal.lean ====
abbrev S1024x512 : Shape := ⟨2, ![1024, 512]⟩
abbrev S512x128 : Shape := ⟨2, ![512, 128]⟩
abbrev S1024x2 : Shape := ⟨2, ![1024, 2]⟩
abbrev S128x512x1024 : Shape := ⟨3, ![128, 512, 1024]⟩
abbrev S32 : Shape := ⟨1, ![32]⟩
abbrev S32x1 : Shape := ⟨2, ![32, 1]⟩
abbrev S_ : Shape := ⟨0, ![]⟩
abbrev S1024x1 : Shape := ⟨2, ![1024, 1]⟩
abbrev S1024 : Shape := ⟨1, ![1024]⟩
abbrev S1x1024 : Shape := ⟨2, ![1, 1024]⟩
abbrev S32x1024 : Shape := ⟨2, ![32, 1024]⟩
abbrev S1024x32 : Shape := ⟨2, ![1024, 32]⟩

class Facts : Prop where
  bcast_S32_S32x1_0 : S32.BroadcastsInDim S32x1 (![0] : Fin 1 → Fin S32x1.rank)
  bcast_S_S32x1 : S_.BroadcastsInDim S32x1 (![] : Fin 0 → Fin S32x1.rank)
  slices_S1024x2_S1024x1_0_0 : S1024x2.Slices ![0, 0] S1024x1
  shapeCasts_S1024x1_S1024 : S1024x1.ShapeCasts S1024
  bcast_S1024_S1x1024_1 : S1024.BroadcastsInDim S1x1024 (![1] : Fin 1 → Fin S1x1024.rank)
  slices_S1024x2_S1024x1_0_1 : S1024x2.Slices ![0, 1] S1024x1
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  shapeCasts_S32x1024_S1024x32 : S32x1024.ShapeCasts S1024x32
  natLt_1_32 : 1 < 32
  reducesTo_S1024x32_S1024_d1 : S1024x32.ReducesTo [1] S1024
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg2 : IVec S1024x2 32) (main_v31 : IVec S1024 32) (main_v35 : IVec S_ 1) (main_v39 : IVec S_ 1) : IVec S_ 1 :=
  let main_v40 : IVec S_ 1 := andi main_v35 main_v39
  let main_c_6 : IVec S_ 32 := constantI S_ 32 0#32
  let main_v41 : IVec S1024x2 32 := broadcastInDim S1024x2 ![] bcast_S_S1024x2 main_c_6
  let main_v42 : IVec S1024x2 1 := cmpi .sge main_arg2 main_v41
  let main_c_7 : IVec S_ 32 := constantI S_ 32 128#32
  let main_v43 : IVec S1024x2 32 := broadcastInDim S1024x2 ![] bcast_S_S1024x2 main_c_7
  let main_v44 : IVec S1024x2 1 := cmpi .slt main_arg2 main_v43
  let main_v45 : IVec S1024x2 1 := andi main_v42 main_v44
  let main_c_8 : IVec S_ 1 := constantI S_ 1 1#1
  let main_v46 : IVec S_ 1 := (fun x v => Host.reduce IntOp.andi x v reducesTo_S1024x2_S_d0_1 h_S_) main_v45 main_c_8
  let main_v47 : IVec S_ 1 := andi main_v40 main_v46
  let main_c_9 : IVec S_ 32 := constantI S_ 32 16#32
  let main_v48 : IVec S1024 32 := broadcastInDim S1024 ![] bcast_S_S1024 main_c_9
  let main_v49 : IVec S1024 1 := cmpi .sle main_v31 main_v48
  let main_c_10 : IVec S_ 1 := constantI S_ 1 1#1
  let main_v50 : IVec S_ 1 := (fun x v => Host.reduce IntOp.andi x v reducesTo_S1024_S_d0 h_S_) main_v49 main_c_10
  let main_v51 : IVec S_ 1 := andi main_v47 main_v50
  main_v51

def fn_part1 {F : FTy → Type} [FloatOps F] (main_arg0 : FVec F S1024x512 .bf16) (main_arg1 : FVec F S512x128 .bf16) (main_arg2 : IVec S1024x2 32) (main_v3 : IVec S32x1 32) (main_v9 : IVec S1x1024 32) (main_v18 : IVec S32x1024 1) (main_v21 : IVec S32x1024 1) : IVec S_ 1 :=
  let main_c_1 : IVec S_ 32 := constantI S_ 32 4#32
  let main_v22 : IVec S32x1 32 := broadcastInDim S32x1 ![] bcast_S_S32x1 main_c_1
  let main_v23 : IVec S32x1 32 := addi main_v3 main_v22
  let main_v24 : IVec S32x1024 32 := broadcastInDim S32x1024 ![0, 1] bcast_S1x1024_S32x1024_0_1 main_v9
  let main_v25 : IVec S32x1024 32 := broadcastInDim S32x1024 ![0, 1] bcast_S32x1_S32x1024_0_1 main_v23
  let main_v26 : IVec S32x1024 1 := cmpi .slt main_v24 main_v25
  let main_v27 : IVec S32x1024 1 := andi main_v21 main_v26
  let main_v28 : IVec S32x1024 1 := ori main_v18 main_v27
  let main_v29 : IVec S1024x32 1 := shapeCast S1024x32 main_v28 shapeCasts_S32x1024_S1024x32
  let main_v30 : IVec S1024x32 32 := (extui 32 · natLt_1_32) main_v29
  let main_c_2 : IVec S_ 32 := constantI S_ 32 0#32
  let main_v31 : IVec S1024 32 := (fun x v => Host.reduce IntOp.addi x v reducesTo_S1024x32_S1024_d1 h_S_) main_v30 main_c_2
  let main_v32 : FVec F S1024x512 .bf16 := Host.absf main_arg0
  let main_cst : FVec F S_ .bf16 := constant S_ .bf16 0x7F80#16
  let main_v33 : FVec F S1024x512 .bf16 := broadcastInDim S1024x512 ![] bcast_S_S1024x512 main_cst
  let main_v34 : IVec S1024x512 1 := cmpf .olt main_v32 main_v33
  let main_c_3 : IVec S_ 1 := constantI S_ 1 1#1
  let main_v35 : IVec S_ 1 := (fun x v => Host.reduce IntOp.andi x v reducesTo_S1024x512_S_d0_1 h_S_) main_v34 main_c_3
  let main_v36 : FVec F S512x128 .bf16 := Host.absf main_arg1
  let main_cst_4 : FVec F S_ .bf16 := constant S_ .bf16 0x7F80#16
  let main_v37 : FVec F S512x128 .bf16 := broadcastInDim S512x128 ![] bcast_S_S512x128 main_cst_4
  let main_v38 : IVec S512x128 1 := cmpf .olt main_v36 main_v37
  let main_c_5 : IVec S_ 1 := constantI S_ 1 1#1
  let main_v39 : IVec S_ 1 := (fun x v => Host.reduce IntOp.andi x v reducesTo_S512x128_S_d0_1 h_S_) main_v38 main_c_5
  fn_part2 (F := F) main_arg2 main_v31 main_v35 main_v39

def fn {F : FTy → Type} [FloatOps F] (main_arg0 : FVec F S1024x512 .bf16) (main_arg1 : FVec F S512x128 .bf16) (main_arg2 : IVec S1024x2 32) (main_arg3 : FVec F S128x512x1024 .bf16) : IVec S_ 1 :=
  let main_v0 : IVec S32 32 := iotaInDim S32 32 0
  let main_v1 : IVec S32x1 32 := broadcastInDim S32x1 ![0] bcast_S32_S32x1_0 main_v0
  let main_c : IVec S_ 32 := constantI S_ 32 4#32
  let main_v2 : IVec S32x1 32 := broadcastInDim S32x1 ![] bcast_S_S32x1 main_c
  let main_v3 : IVec S32x1 32 := muli main_v2 main_v1
  let main_v4 : IVec S1024x1 32 := (extractStridedSlice S1024x1 ![0, 0] · slices_S1024x2_S1024x1_0_0) main_arg2
  let main_v5 : IVec S1024 32 := shapeCast S1024 main_v4 shapeCasts_S1024x1_S1024
  let main_v6 : IVec S1x1024 32 := broadcastInDim S1x1024 ![1] bcast_S1024_S1x1024_1 main_v5
  let main_v7 : IVec S1024x1 32 := (extractStridedSlice S1024x1 ![0, 1] · slices_S1024x2_S1024x1_0_1) main_arg2
  let main_v8 : IVec S1024 32 := shapeCast S1024 main_v7 shapeCasts_S1024x1_S1024
  let main_v9 : IVec S1x1024 32 := broadcastInDim S1x1024 ![1] bcast_S1024_S1x1024_1 main_v8
  let main_v10 : IVec S32x1024 32 := broadcastInDim S32x1024 ![0, 1] bcast_S32x1_S32x1024_0_1 main_v3
  let main_v11 : IVec S32x1024 32 := broadcastInDim S32x1024 ![0, 1] bcast_S1x1024_S32x1024_0_1 main_v6
  let main_v12 : IVec S32x1024 1 := cmpi .sle main_v10 main_v11
  let main_c_0 : IVec S_ 32 := constantI S_ 32 4#32
  let main_v13 : IVec S32x1 32 := broadcastInDim S32x1 ![] bcast_S_S32x1 main_c_0
  let main_v14 : IVec S32x1 32 := addi main_v3 main_v13
  let main_v15 : IVec S32x1024 32 := broadcastInDim S32x1024 ![0, 1] bcast_S1x1024_S32x1024_0_1 main_v6
  let main_v16 : IVec S32x1024 32 := broadcastInDim S32x1024 ![0, 1] bcast_S32x1_S32x1024_0_1 main_v14
  let main_v17 : IVec S32x1024 1 := cmpi .slt main_v15 main_v16
  let main_v18 : IVec S32x1024 1 := andi main_v12 main_v17
  let main_v19 : IVec S32x1024 32 := broadcastInDim S32x1024 ![0, 1] bcast_S32x1_S32x1024_0_1 main_v3
  let main_v20 : IVec S32x1024 32 := broadcastInDim S32x1024 ![0, 1] bcast_S1x1024_S32x1024_0_1 main_v9
  let main_v21 : IVec S32x1024 1 := cmpi .sle main_v19 main_v20
  fn_part1 (F := F) main_arg0 main_arg1 main_arg2 main_v3 main_v9 main_v18 main_v21
-- ==== Kernel.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S32x1024 : Shape := ⟨2, ![32, 1024]⟩
abbrev S512x1024 : Shape := ⟨2, ![512, 1024]⟩
abbrev S32 : Shape := ⟨1, ![32]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1024x4 : Shape := ⟨2, ![1024, 4]⟩
abbrev S1x512x1024 : Shape := ⟨3, ![1, 512, 1024]⟩
abbrev S128x512 : Shape := ⟨2, ![128, 512]⟩
abbrev S128x4 : Shape := ⟨2, ![128, 4]⟩
abbrev S128x1024 : Shape := ⟨2, ![128, 1024]⟩
abbrev S128x1 : Shape := ⟨2, ![128, 1]⟩
abbrev S1 : Shape := ⟨1, ![1]⟩
abbrev S16x1024 : Shape := ⟨2, ![16, 1024]⟩
abbrev S32x1 : Shape := ⟨2, ![32, 1]⟩
abbrev S32x512 : Shape := ⟨2, ![32, 512]⟩
abbrev S32x32 : Shape := ⟨2, ![32, 32]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x2, .i32⟩
  | .hbm, ⟨3, _⟩ => ⟨S4x512x1024, .bf16⟩
  | .hbm, ⟨4, _⟩ => ⟨S32x1024, .f32⟩
  | .local _ .vmem, ⟨0, _⟩ => ⟨S1024x512, .bf16⟩
  | .local _ .vmem, ⟨1, _⟩ => ⟨S512x128, .bf16⟩
  | .local _ .vmem, ⟨2, _⟩ => ⟨S1024x2, .i32⟩
  | .local _ .vmem, ⟨3, _⟩ => ⟨S4x512x1024, .bf16⟩
  | .local _ .vmem, ⟨4, _⟩ => ⟨S32x1024, .f32⟩
  | .local _ .vmem, ⟨5, _⟩ => ⟨S512x1024, .bf16⟩
  | .local _ .vmem, ⟨6, _⟩ => ⟨S512x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_cond1 (d0 : Dev nD) : BitVec 1 :=
  let c0_i32_393 : BitVec 32 := 0#32
  let c8_i32_392 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_386 : BitVec 32 := 0#32
  let v730 : BitVec 1 := Scalar.cmpi .sgt v2 c0_i32_386
  let v731 : BitVec 32 := Scalar.extui v730
  let c0_i32_387 : BitVec 32 := 0#32
  let v732 : BitVec 1 := Scalar.cmpi .slt v2 c0_i32_387
  let v733 : BitVec 32 := Scalar.extui v732
  let v734 : BitVec 32 := Scalar.subi v731 v733
  let c8_i32_385 : BitVec 32 := 8#32
  let c0_i32_388 : BitVec 32 := 0#32
  let v735 : BitVec 1 := Scalar.cmpi .sgt c8_i32_385 c0_i32_388
  let v736 : BitVec 32 := Scalar.extui v735
  let c0_i32_389 : BitVec 32 := 0#32
  let v737 : BitVec 1 := Scalar.cmpi .slt c8_i32_385 c0_i32_389
  let v738 : BitVec 32 := Scalar.extui v737
  let v739 : BitVec 32 := Scalar.subi v736 v738
  let v740 : BitVec 1 := Scalar.cmpi .ne v734 v739
  let v741 : BitVec 32 := Scalar.remsi v2 c8_i32_385
  let c0_i32_390 : BitVec 32 := 0#32
  let v742 : BitVec 1 := Scalar.cmpi .ne v741 c0_i32_390
  let v743 : BitVec 1 := Scalar.andi v740 v742
  let v729 : BitVec 32 := Scalar.divsi v2 c8_i32_385
  let c1_i32_391 : BitVec 32 := 1#32
  let v744 : BitVec 32 := Scalar.subi v729 c1_i32_391
  let v745 : BitVec 32 := Scalar.select v743 v744 v729
  let v746 : BitVec 32 := Scalar.muli c8_i32_392 v745
  let v747 : BitVec 32 := Scalar.addi c0_i32_393 v746
  let c32_i32_394 : BitVec 32 := 32#32
  let c0_i32_395 : BitVec 32 := 0#32
  let v748 : BitVec 1 := Scalar.cmpi .eq c32_i32_394 c0_i32_395
  let c1_i32_396 : BitVec 32 := 1#32
  let v749 : BitVec 32 := Scalar.select v748 c1_i32_396 c32_i32_394
  let v750 : BitVec 32 := Scalar.remsi v747 v749
  let c0_i32_398 : BitVec 32 := 0#32
  let v752 : BitVec 1 := Scalar.cmpi .slt v750 c0_i32_398
  let c0_i32_399 : BitVec 32 := 0#32
  let v753 : BitVec 1 := Scalar.cmpi .slt v749 c0_i32_399
  let v754 : BitVec 1 := Scalar.xori v752 v753
  let c0_i32_397 : BitVec 32 := 0#32
  let v751 : BitVec 1 := Scalar.cmpi .ne v750 c0_i32_397
  let v755 : BitVec 1 := Scalar.andi v754 v751
  let v756 : BitVec 32 := Scalar.addi v750 v749
  let v757 : BitVec 32 := Scalar.select v755 v756 v750
  let v758 : BitVec 1 := Scalar.cmpi .ne v757 v2
  let v759 : BitVec 32 := Scalar.extui v758
  let c0_i32_400 : BitVec 32 := 0#32
  let v760 : BitVec 1 := Scalar.cmpi .ne v759 c0_i32_400
  v760

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev32 (d0 : Dev nD) : Nat :=
  let c0_i32_1914 : BitVec 32 := 0#32
  let c0_i32_393 : BitVec 32 := 0#32
  let c8_i32_392 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_386 : BitVec 32 := 0#32
  let v730 : BitVec 1 := Scalar.cmpi .sgt v2 c0_i32_386
  let v731 : BitVec 32 := Scalar.extui v730
  let c0_i32_387 : BitVec 32 := 0#32
  let v732 : BitVec 1 := Scalar.cmpi .slt v2 c0_i32_387
  let v733 : BitVec 32 := Scalar.extui v732
  let v734 : BitVec 32 := Scalar.subi v731 v733
  let c8_i32_385 : BitVec 32 := 8#32
  let c0_i32_388 : BitVec 32 := 0#32
  let v735 : BitVec 1 := Scalar.cmpi .sgt c8_i32_385 c0_i32_388
  let v736 : BitVec 32 := Scalar.extui v735
  let c0_i32_389 : BitVec 32 := 0#32
  let v737 : BitVec 1 := Scalar.cmpi .slt c8_i32_385 c0_i32_389
  let v738 : BitVec 32 := Scalar.extui v737
  let v739 : BitVec 32 := Scalar.subi v736 v738
  let v740 : BitVec 1 := Scalar.cmpi .ne v734 v739
  let v741 : BitVec 32 := Scalar.remsi v2 c8_i32_385
  let c0_i32_390 : BitVec 32 := 0#32
  let v742 : BitVec 1 := Scalar.cmpi .ne v741 c0_i32_390
  let v743 : BitVec 1 := Scalar.andi v740 v742
  let v729 : BitVec 32 := Scalar.divsi v2 c8_i32_385
  let c1_i32_391 : BitVec 32 := 1#32
  let v744 : BitVec 32 := Scalar.subi v729 c1_i32_391
  let v745 : BitVec 32 := Scalar.select v743 v744 v729
  let v746 : BitVec 32 := Scalar.muli c8_i32_392 v745
  let v747 : BitVec 32 := Scalar.addi c0_i32_393 v746
  let c32_i32_394 : BitVec 32 := 32#32
  let c0_i32_395 : BitVec 32 := 0#32
  let v748 : BitVec 1 := Scalar.cmpi .eq c32_i32_394 c0_i32_395
  let c1_i32_396 : BitVec 32 := 1#32
  let v749 : BitVec 32 := Scalar.select v748 c1_i32_396 c32_i32_394
  let v750 : BitVec 32 := Scalar.remsi v747 v749
  let c0_i32_398 : BitVec 32 := 0#32
  let v752 : BitVec 1 := Scalar.cmpi .slt v750 c0_i32_398
  let c0_i32_399 : BitVec 32 := 0#32
  let v753 : BitVec 1 := Scalar.cmpi .slt v749 c0_i32_399
  let v754 : BitVec 1 := Scalar.xori v752 v753
  let c0_i32_397 : BitVec 32 := 0#32
  let v751 : BitVec 1 := Scalar.cmpi .ne v750 c0_i32_397
  let v755 : BitVec 1 := Scalar.andi v754 v751
  let v756 : BitVec 32 := Scalar.addi v750 v749
  let v757 : BitVec 32 := Scalar.select v755 v756 v750
  let c1_i32_1913 : BitVec 32 := 1#32
  let v3683 : BitVec 32 := Scalar.muli v757 c1_i32_1913
  let v3684 : BitVec 32 := Scalar.addi c0_i32_1914 v3683
  v3684.toNat
def k0_cond2 (d0 : Dev nD) : BitVec 1 :=
  let c0_i32_393 : BitVec 32 := 0#32
  let c8_i32_392 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_386 : BitVec 32 := 0#32
  let v730 : BitVec 1 := Scalar.cmpi .sgt v2 c0_i32_386
  let v731 : BitVec 32 := Scalar.extui v730
  let c0_i32_387 : BitVec 32 := 0#32
  let v732 : BitVec 1 := Scalar.cmpi .slt v2 c0_i32_387
  let v733 : BitVec 32 := Scalar.extui v732
  let v734 : BitVec 32 := Scalar.subi v731 v733
  let c8_i32_385 : BitVec 32 := 8#32
  let c0_i32_388 : BitVec 32 := 0#32
  let v735 : BitVec 1 := Scalar.cmpi .sgt c8_i32_385 c0_i32_388
  let v736 : BitVec 32 := Scalar.extui v735
  let c0_i32_389 : BitVec 32 := 0#32
  let v737 : BitVec 1 := Scalar.cmpi .slt c8_i32_385 c0_i32_389
  let v738 : BitVec 32 := Scalar.extui v737
  let v739 : BitVec 32 := Scalar.subi v736 v738
  let v740 : BitVec 1 := Scalar.cmpi .ne v734 v739
  let v741 : BitVec 32 := Scalar.remsi v2 c8_i32_385
  let c0_i32_390 : BitVec 32 := 0#32
  let v742 : BitVec 1 := Scalar.cmpi .ne v741 c0_i32_390
  let v743 : BitVec 1 := Scalar.andi v740 v742
  let v729 : BitVec 32 := Scalar.divsi v2 c8_i32_385
  let c1_i32_391 : BitVec 32 := 1#32
  let v744 : BitVec 32 := Scalar.subi v729 c1_i32_391
  let v745 : BitVec 32 := Scalar.select v743 v744 v729
  let v746 : BitVec 32 := Scalar.muli c8_i32_392 v745
  let v747 : BitVec 32 := Scalar.addi c0_i32_393 v746
  let c32_i32_394 : BitVec 32 := 32#32
  let c0_i32_395 : BitVec 32 := 0#32
  let v748 : BitVec 1 := Scalar.cmpi .eq c32_i32_394 c0_i32_395
  let c1_i32_396 : BitVec 32 := 1#32
  let v749 : BitVec 32 := Scalar.select v748 c1_i32_396 c32_i32_394
  let v750 : BitVec 32 := Scalar.remsi v747 v749
  let c0_i32_398 : BitVec 32 := 0#32
  let v752 : BitVec 1 := Scalar.cmpi .slt v750 c0_i32_398
  let c0_i32_399 : BitVec 32 := 0#32
  let v753 : BitVec 1 := Scalar.cmpi .slt v749 c0_i32_399
  let v754 : BitVec 1 := Scalar.xori v752 v753
  let c0_i32_397 : BitVec 32 := 0#32
  let v751 : BitVec 1 := Scalar.cmpi .ne v750 c0_i32_397
  let v755 : BitVec 1 := Scalar.andi v754 v751
  let v756 : BitVec 32 := Scalar.addi v750 v749
  let v757 : BitVec 32 := Scalar.select v755 v756 v750
  let v761 : BitVec 1 := Scalar.cmpi .eq v757 v2
  let v762 : BitVec 32 := Scalar.extui v761
  let c0_i32_401 : BitVec 32 := 0#32
  let v763 : BitVec 1 := Scalar.cmpi .ne v762 c0_i32_401
  v763

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1913 : BitVec 32 := 16#32
  let v3683 : BitVec 32 := Scalar.muli v2 c16_i32_1913
  let v3684 : Index := Scalar.indexCast v3683
  let c0_1914 : Index := 0#32
  ![v3684.toNat, 0]
def k0_cond3 (d0 : Dev nD) : BitVec 1 :=
  let c1_i32_410 : BitVec 32 := 1#32
  let c8_i32_409 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_403 : BitVec 32 := 0#32
  let v765 : BitVec 1 := Scalar.cmpi .sgt v2 c0_i32_403
  let v766 : BitVec 32 := Scalar.extui v765
  let c0_i32_404 : BitVec 32 := 0#32
  let v767 : BitVec 1 := Scalar.cmpi .slt v2 c0_i32_404
  let v768 : BitVec 32 := Scalar.extui v767
  let v769 : BitVec 32 := Scalar.subi v766 v768
  let c8_i32_402 : BitVec 32 := 8#32
  let c0_i32_405 : BitVec 32 := 0#32
  let v770 : BitVec 1 := Scalar.cmpi .sgt c8_i32_402 c0_i32_405
  let v771 : BitVec 32 := Scalar.extui v770
  let c0_i32_406 : BitVec 32 := 0#32
  let v772 : BitVec 1 := Scalar.cmpi .slt c8_i32_402 c0_i32_406
  let v773 : BitVec 32 := Scalar.extui v772
  let v774 : BitVec 32 := Scalar.subi v771 v773
  let v775 : BitVec 1 := Scalar.cmpi .ne v769 v774
  let v776 : BitVec 32 := Scalar.remsi v2 c8_i32_402
  let c0_i32_407 : BitVec 32 := 0#32
  let v777 : BitVec 1 := Scalar.cmpi .ne v776 c0_i32_407
  let v778 : BitVec 1 := Scalar.andi v775 v777
  let v764 : BitVec 32 := Scalar.divsi v2 c8_i32_402
  let c1_i32_408 : BitVec 32 := 1#32
  let v779 : BitVec 32 := Scalar.subi v764 c1_i32_408
  let v780 : BitVec 32 := Scalar.select v778 v779 v764
  let v781 : BitVec 32 := Scalar.muli c8_i32_409 v780
  let v782 : BitVec 32 := Scalar.addi c1_i32_410 v781
  let c32_i32_411 : BitVec 32 := 32#32
  let c0_i32_412 : BitVec 32 := 0#32
  let v783 : BitVec 1 := Scalar.cmpi .eq c32_i32_411 c0_i32_412
  let c1_i32_413 : BitVec 32 := 1#32
  let v784 : BitVec 32 := Scalar.select v783 c1_i32_413 c32_i32_411
  let v785 : BitVec 32 := Scalar.remsi v782 v784
  let c0_i32_415 : BitVec 32 := 0#32
  let v787 : BitVec 1 := Scalar.cmpi .slt v785 c0_i32_415
  let c0_i32_416 : BitVec 32 := 0#32
  let v788 : BitVec 1 := Scalar.cmpi .slt v784 c0_i32_416
  let v789 : BitVec 1 := Scalar.xori v787 v788
  let c0_i32_414 : BitVec 32 := 0#32
  let v786 : BitVec 1 := Scalar.cmpi .ne v785 c0_i32_414
  let v790 : BitVec 1 := Scalar.andi v789 v786
  let v791 : BitVec 32 := Scalar.addi v785 v784
  let v792 : BitVec 32 := Scalar.select v790 v791 v785
  let v793 : BitVec 1 := Scalar.cmpi .ne v792 v2
  let v794 : BitVec 32 := Scalar.extui v793
  let c0_i32_417 : BitVec 32 := 0#32
  let v795 : BitVec 1 := Scalar.cmpi .ne v794 c0_i32_417
  v795

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev33 (d0 : Dev nD) : Nat :=
  let c0_i32_1914 : BitVec 32 := 0#32
  let c1_i32_410 : BitVec 32 := 1#32
  let c8_i32_409 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_403 : BitVec 32 := 0#32
  let v765 : BitVec 1 := Scalar.cmpi .sgt v2 c0_i32_403
  let v766 : BitVec 32 := Scalar.extui v765
  let c0_i32_404 : BitVec 32 := 0#32
  let v767 : BitVec 1 := Scalar.cmpi .slt v2 c0_i32_404
  let v768 : BitVec 32 := Scalar.extui v767
  let v769 : BitVec 32 := Scalar.subi v766 v768
  let c8_i32_402 : BitVec 32 := 8#32
  let c0_i32_405 : BitVec 32 := 0#32
  let v770 : BitVec 1 := Scalar.cmpi .sgt c8_i32_402 c0_i32_405
  let v771 : BitVec 32 := Scalar.extui v770
  let c0_i32_406 : BitVec 32 := 0#32
  let v772 : BitVec 1 := Scalar.cmpi .slt c8_i32_402 c0_i32_406
  let v773 : BitVec 32 := Scalar.extui v772
  let v774 : BitVec 32 := Scalar.subi v771 v773
  let v775 : BitVec 1 := Scalar.cmpi .ne v769 v774
  let v776 : BitVec 32 := Scalar.remsi v2 c8_i32_402
  let c0_i32_407 : BitVec 32 := 0#32
  let v777 : BitVec 1 := Scalar.cmpi .ne v776 c0_i32_407
  let v778 : BitVec 1 := Scalar.andi v775 v777
  let v764 : BitVec 32 := Scalar.divsi v2 c8_i32_402
  let c1_i32_408 : BitVec 32 := 1#32
  let v779 : BitVec 32 := Scalar.subi v764 c1_i32_408
  let v780 : BitVec 32 := Scalar.select v778 v779 v764
  let v781 : BitVec 32 := Scalar.muli c8_i32_409 v780
  let v782 : BitVec 32 := Scalar.addi c1_i32_410 v781
  let c32_i32_411 : BitVec 32 := 32#32
  let c0_i32_412 : BitVec 32 := 0#32
  let v783 : BitVec 1 := Scalar.cmpi .eq c32_i32_411 c0_i32_412
  let c1_i32_413 : BitVec 32 := 1#32
  let v784 : BitVec 32 := Scalar.select v783 c1_i32_413 c32_i32_411
  let v785 : BitVec 32 := Scalar.remsi v782 v784
  let c0_i32_415 : BitVec 32 := 0#32
  let v787 : BitVec 1 := Scalar.cmpi .slt v785 c0_i32_415
  let c0_i32_416 : BitVec 32 := 0#32
  let v788 : BitVec 1 := Scalar.cmpi .slt v784 c0_i32_416
  let v789 : BitVec 1 := Scalar.xori v787 v788
  let c0_i32_414 : BitVec 32 := 0#32
  let v786 : BitVec 1 := Scalar.cmpi .ne v785 c0_i32_414
  let v790 : BitVec 1 := Scalar.andi v789 v786
  let v791 : BitVec 32 := Scalar.addi v785 v784
  let v792 : BitVec 32 := Scalar.select v790 v791 v785
  let c1_i32_1913 : BitVec 32 := 1#32
  let v3683 : BitVec 32 := Scalar.muli v792 c1_i32_1913
  let v3684 : BitVec 32 := Scalar.addi c0_i32_1914 v3683
  v3684.toNat
def k0_cond4 (d0 : Dev nD) : BitVec 1 :=
  let c1_i32_410 : BitVec 32 := 1#32
  let c8_i32_409 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_403 : BitVec 32 := 0#32
  let v765 : BitVec 1 := Scalar.cmpi .sgt v2 c0_i32_403
  let v766 : BitVec 32 := Scalar.extui v765
  let c0_i32_404 : BitVec 32 := 0#32
  let v767 : BitVec 1 := Scalar.cmpi .slt v2 c0_i32_404
  let v768 : BitVec 32 := Scalar.extui v767
  let v769 : BitVec 32 := Scalar.subi v766 v768
  let c8_i32_402 : BitVec 32 := 8#32
  let c0_i32_405 : BitVec 32 := 0#32
  let v770 : BitVec 1 := Scalar.cmpi .sgt c8_i32_402 c0_i32_405
  let v771 : BitVec 32 := Scalar.extui v770
  let c0_i32_406 : BitVec 32 := 0#32
  let v772 : BitVec 1 := Scalar.cmpi .slt c8_i32_402 c0_i32_406
  let v773 : BitVec 32 := Scalar.extui v772
  let v774 : BitVec 32 := Scalar.subi v771 v773
  let v775 : BitVec 1 := Scalar.cmpi .ne v769 v774
  let v776 : BitVec 32 := Scalar.remsi v2 c8_i32_402
  let c0_i32_407 : BitVec 32 := 0#32
  let v777 : BitVec 1 := Scalar.cmpi .ne v776 c0_i32_407
  let v778 : BitVec 1 := Scalar.andi v775 v777
  let v764 : BitVec 32 := Scalar.divsi v2 c8_i32_402
  let c1_i32_408 : BitVec 32 := 1#32
  let v779 : BitVec 32 := Scalar.subi v764 c1_i32_408
  let v780 : BitVec 32 := Scalar.select v778 v779 v764
  let v781 : BitVec 32 := Scalar.muli c8_i32_409 v780
  let v782 : BitVec 32 := Scalar.addi c1_i32_410 v781
  let c32_i32_411 : BitVec 32 := 32#32
  let c0_i32_412 : BitVec 32 := 0#32
  let v783 : BitVec 1 := Scalar.cmpi .eq c32_i32_411 c0_i32_412
  let c1_i32_413 : BitVec 32 := 1#32
  let v784 : BitVec 32 := Scalar.select v783 c1_i32_413 c32_i32_411
  let v785 : BitVec 32 := Scalar.remsi v782 v784
  let c0_i32_415 : BitVec 32 := 0#32
  let v787 : BitVec 1 := Scalar.cmpi .slt v785 c0_i32_415
  let c0_i32_416 : BitVec 32 := 0#32
  let v788 : BitVec 1 := Scalar.cmpi .slt v784 c0_i32_416
  let v789 : BitVec 1 := Scalar.xori v787 v788
  let c0_i32_414 : BitVec 32 := 0#32
  let v786 : BitVec 1 := Scalar.cmpi .ne v785 c0_i32_414
  let v790 : BitVec 1 := Scalar.andi v789 v786
  let v791 : BitVec 32 := Scalar.addi v785 v784
  let v792 : BitVec 32 := Scalar.select v790 v791 v785
  let v796 : BitVec 1 := Scalar.cmpi .eq v792 v2
  let v797 : BitVec 32 := Scalar.extui v796
  let c0_i32_418 : BitVec 32 := 0#32
  let v798 : BitVec 1 := Scalar.cmpi .ne v797 c0_i32_418
  v798

def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond5 (d0 : Dev nD) : BitVec 1 :=
  let c2_i32_427 : BitVec 32 := 2#32
  let c8_i32_426 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_420 : BitVec 32 := 0#32
  let v800 : BitVec 1 := Scalar.cmpi .sgt v2 c0_i32_420
  let v801 : BitVec 32 := Scalar.extui v800
  let c0_i32_421 : BitVec 32 := 0#32
  let v802 : BitVec 1 := Scalar.cmpi .slt v2 c0_i32_421
  let v803 : BitVec 32 := Scalar.extui v802
  let v804 : BitVec 32 := Scalar.subi v801 v803
  let c8_i32_419 : BitVec 32 := 8#32
  let c0_i32_422 : BitVec 32 := 0#32
  let v805 : BitVec 1 := Scalar.cmpi .sgt c8_i32_419 c0_i32_422
  let v806 : BitVec 32 := Scalar.extui v805
  let c0_i32_423 : BitVec 32 := 0#32
  let v807 : BitVec 1 := Scalar.cmpi .slt c8_i32_419 c0_i32_423
  let v808 : BitVec 32 := Scalar.extui v807
  let v809 : BitVec 32 := Scalar.subi v806 v808
  let v810 : BitVec 1 := Scalar.cmpi .ne v804 v809
  let v811 : BitVec 32 := Scalar.remsi v2 c8_i32_419
  let c0_i32_424 : BitVec 32 := 0#32
  let v812 : BitVec 1 := Scalar.cmpi .ne v811 c0_i32_424
  let v813 : BitVec 1 := Scalar.andi v810 v812
  let v799 : BitVec 32 := Scalar.divsi v2 c8_i32_419
  let c1_i32_425 : BitVec 32 := 1#32
  let v814 : BitVec 32 := Scalar.subi v799 c1_i32_425
  let v815 : BitVec 32 := Scalar.select v813 v814 v799
  let v816 : BitVec 32 := Scalar.muli c8_i32_426 v815
  let v817 : BitVec 32 := Scalar.addi c2_i32_427 v816
  let c32_i32_428 : BitVec 32 := 32#32
  let c0_i32_429 : BitVec 32 := 0#32
  let v818 : BitVec 1 := Scalar.cmpi .eq c32_i32_428 c0_i32_429
  let c1_i32_430 : BitVec 32 := 1#32
  let v819 : BitVec 32 := Scalar.select v818 c1_i32_430 c32_i32_428
  let v820 : BitVec 32 := Scalar.remsi v817 v819
  let c0_i32_432 : BitVec 32 := 0#32
  let v822 : BitVec 1 := Scalar.cmpi .slt v820 c0_i32_432
  let c0_i32_433 : BitVec 32 := 0#32
  let v823 : BitVec 1 := Scalar.cmpi .slt v819 c0_i32_433
  let v824 : BitVec 1 := Scalar.xori v822 v823
  let c0_i32_431 : BitVec 32 := 0#32
  let v821 : BitVec 1 := Scalar.cmpi .ne v820 c0_i32_431
  let v825 : BitVec 1 := Scalar.andi v824 v821
  let v826 : BitVec 32 := Scalar.addi v820 v819
  let v827 : BitVec 32 := Scalar.select v825 v826 v820
  let v828 : BitVec 1 := Scalar.cmpi .ne v827 v2
  let v829 : BitVec 32 := Scalar.extui v828
  let c0_i32_434 : BitVec 32 := 0#32
  let v830 : BitVec 1 := Scalar.cmpi .ne v829 c0_i32_434
  v830

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev34 (d0 : Dev nD) : Nat :=
  let c0_i32_1914 : BitVec 32 := 0#32
  let c2_i32_427 : BitVec 32 := 2#32
  let c8_i32_426 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_420 : BitVec 32 := 0#32
  let v800 : BitVec 1 := Scalar.cmpi .sgt v2 c0_i32_420
  let v801 : BitVec 32 := Scalar.extui v800
  let c0_i32_421 : BitVec 32 := 0#32
  let v802 : BitVec 1 := Scalar.cmpi .slt v2 c0_i32_421
  let v803 : BitVec 32 := Scalar.extui v802
  let v804 : BitVec 32 := Scalar.subi v801 v803
  let c8_i32_419 : BitVec 32 := 8#32
  let c0_i32_422 : BitVec 32 := 0#32
  let v805 : BitVec 1 := Scalar.cmpi .sgt c8_i32_419 c0_i32_422
  let v806 : BitVec 32 := Scalar.extui v805
  let c0_i32_423 : BitVec 32 := 0#32
  let v807 : BitVec 1 := Scalar.cmpi .slt c8_i32_419 c0_i32_423
  let v808 : BitVec 32 := Scalar.extui v807
  let v809 : BitVec 32 := Scalar.subi v806 v808
  let v810 : BitVec 1 := Scalar.cmpi .ne v804 v809
  let v811 : BitVec 32 := Scalar.remsi v2 c8_i32_419
  let c0_i32_424 : BitVec 32 := 0#32
  let v812 : BitVec 1 := Scalar.cmpi .ne v811 c0_i32_424
  let v813 : BitVec 1 := Scalar.andi v810 v812
  let v799 : BitVec 32 := Scalar.divsi v2 c8_i32_419
  let c1_i32_425 : BitVec 32 := 1#32
  let v814 : BitVec 32 := Scalar.subi v799 c1_i32_425
  let v815 : BitVec 32 := Scalar.select v813 v814 v799
  let v816 : BitVec 32 := Scalar.muli c8_i32_426 v815
  let v817 : BitVec 32 := Scalar.addi c2_i32_427 v816
  let c32_i32_428 : BitVec 32 := 32#32
  let c0_i32_429 : BitVec 32 := 0#32
  let v818 : BitVec 1 := Scalar.cmpi .eq c32_i32_428 c0_i32_429
  let c1_i32_430 : BitVec 32 := 1#32
  let v819 : BitVec 32 := Scalar.select v818 c1_i32_430 c32_i32_428
  let v820 : BitVec 32 := Scalar.remsi v817 v819
  let c0_i32_432 : BitVec 32 := 0#32
  let v822 : BitVec 1 := Scalar.cmpi .slt v820 c0_i32_432
  let c0_i32_433 : BitVec 32 := 0#32
  let v823 : BitVec 1 := Scalar.cmpi .slt v819 c0_i32_433
  let v824 : BitVec 1 := Scalar.xori v822 v823
  let c0_i32_431 : BitVec 32 := 0#32
  let v821 : BitVec 1 := Scalar.cmpi .ne v820 c0_i32_431
  let v825 : BitVec 1 := Scalar.andi v824 v821
  let v826 : BitVec 32 := Scalar.addi v820 v819
  let v827 : BitVec 32 := Scalar.select v825 v826 v820
  let c1_i32_1913 : BitVec 32 := 1#32
  let v3683 : BitVec 32 := Scalar.muli v827 c1_i32_1913
  let v3684 : BitVec 32 := Scalar.addi c0_i32_1914 v3683
  v3684.toNat
def k0_cond6 (d0 : Dev nD) : BitVec 1 :=
  let c2_i32_427 : BitVec 32 := 2#32
  let c8_i32_426 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_420 : BitVec 32 := 0#32
  let v800 : BitVec 1 := Scalar.cmpi .sgt v2 c0_i32_420
  let v801 : BitVec 32 := Scalar.extui v800
  let c0_i32_421 : BitVec 32 := 0#32
  let v802 : BitVec 1 := Scalar.cmpi .slt v2 c0_i32_421
  let v803 : BitVec 32 := Scalar.extui v802
  let v804 : BitVec 32 := Scalar.subi v801 v803
  let c8_i32_419 : BitVec 32 := 8#32
  let c0_i32_422 : BitVec 32 := 0#32
  let v805 : BitVec 1 := Scalar.cmpi .sgt c8_i32_419 c0_i32_422
  let v806 : BitVec 32 := Scalar.extui v805
  let c0_i32_423 : BitVec 32 := 0#32
  let v807 : BitVec 1 := Scalar.cmpi .slt c8_i32_419 c0_i32_423
  let v808 : BitVec 32 := Scalar.extui v807
  let v809 : BitVec 32 := Scalar.subi v806 v808
  let v810 : BitVec 1 := Scalar.cmpi .ne v804 v809
  let v811 : BitVec 32 := Scalar.remsi v2 c8_i32_419
  let c0_i32_424 : BitVec 32 := 0#32
  let v812 : BitVec 1 := Scalar.cmpi .ne v811 c0_i32_424
  let v813 : BitVec 1 := Scalar.andi v810 v812
  let v799 : BitVec 32 := Scalar.divsi v2 c8_i32_419
  let c1_i32_425 : BitVec 32 := 1#32
  let v814 : BitVec 32 := Scalar.subi v799 c1_i32_425
  let v815 : BitVec 32 := Scalar.select v813 v814 v799
  let v816 : BitVec 32 := Scalar.muli c8_i32_426 v815
  let v817 : BitVec 32 := Scalar.addi c2_i32_427 v816
  let c32_i32_428 : BitVec 32 := 32#32
  let c0_i32_429 : BitVec 32 := 0#32
  let v818 : BitVec 1 := Scalar.cmpi .eq c32_i32_428 c0_i32_429
  let c1_i32_430 : BitVec 32 := 1#32
  let v819 : BitVec 32 := Scalar.select v818 c1_i32_430 c32_i32_428
  let v820 : BitVec 32 := Scalar.remsi v817 v819
  let c0_i32_432 : BitVec 32 := 0#32
  let v822 : BitVec 1 := Scalar.cmpi .slt v820 c0_i32_432
  let c0_i32_433 : BitVec 32 := 0#32
  let v823 : BitVec 1 := Scalar.cmpi .slt v819 c0_i32_433
  let v824 : BitVec 1 := Scalar.xori v822 v823
  let c0_i32_431 : BitVec 32 := 0#32
  let v821 : BitVec 1 := Scalar.cmpi .ne v820 c0_i32_431
  let v825 : BitVec 1 := Scalar.andi v824 v821
  let v826 : BitVec 32 := Scalar.addi v820 v819
  let v827 : BitVec 32 := Scalar.select v825 v826 v820
  let v831 : BitVec 1 := Scalar.cmpi .eq v827 v2
  let v832 : BitVec 32 := Scalar.extui v831
  let c0_i32_435 : BitVec 32 := 0#32
  let v833 : BitVec 1 := Scalar.cmpi .ne v832 c0_i32_435
  v833

def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond7 (d0 : Dev nD) : BitVec 1 :=
  let c3_i32_444 : BitVec 32 := 3#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_437 : BitVec 32 := 0#32
  let v835 : BitVec 1 := Scalar.cmpi .sgt v2 c0_i32_437
  let v836 : BitVec 32 := Scalar.extui v835
  let c0_i32_438 : BitVec 32 := 0#32
  let v837 : BitVec 1 := Scalar.cmpi .slt v2 c0_i32_438
  let v838 : BitVec 32 := Scalar.extui v837
  let v839 : BitVec 32 := Scalar.subi v836 v838
  let c8_i32_436 : BitVec 32 := 8#32
  let c0_i32_439 : BitVec 32 := 0#32
  let v840 : BitVec 1 := Scalar.cmpi .sgt c8_i32_436 c0_i32_439
  let v841 : BitVec 32 := Scalar.extui v840
  let c0_i32_440 : BitVec 32 := 0#32
  let v842 : BitVec 1 := Scalar.cmpi .slt c8_i32_436 c0_i32_440
  let v843 : BitVec 32 := Scalar.extui v842
  let v844 : BitVec 32 := Scalar.subi v841 v843
  let v845 : BitVec 1 := Scalar.cmpi .ne v839 v844
  let v846 : BitVec 32 := Scalar.remsi v2 c8_i32_436
  let c0_i32_441 : BitVec 32 := 0#32
  let v847 : BitVec 1 := Scalar.cmpi .ne v846 c0_i32_441
  let v848 : BitVec 1 := Scalar.andi v845 v847
  let v834 : BitVec 32 := Scalar.divsi v2 c8_i32_436
  let c1_i32_442 : BitVec 32 := 1#32
  let v849 : BitVec 32 := Scalar.subi v834 c1_i32_442
  let v850 : BitVec 32 := Scalar.select v848 v849 v834
  let v851 : BitVec 32 := Scalar.muli c8_i32_443 v850
  let v852 : BitVec 32 := Scalar.addi c3_i32_444 v851
  let c32_i32_445 : BitVec 32 := 32#32
  let c0_i32_446 : BitVec 32 := 0#32
  let v853 : BitVec 1 := Scalar.cmpi .eq c32_i32_445 c0_i32_446
  let c1_i32_447 : BitVec 32 := 1#32
  let v854 : BitVec 32 := Scalar.select v853 c1_i32_447 c32_i32_445
  let v855 : BitVec 32 := Scalar.remsi v852 v854
  let c0_i32_449 : BitVec 32 := 0#32
  let v857 : BitVec 1 := Scalar.cmpi .slt v855 c0_i32_449
  let c0_i32_450 : BitVec 32 := 0#32
  let v858 : BitVec 1 := Scalar.cmpi .slt v854 c0_i32_450
  let v859 : BitVec 1 := Scalar.xori v857 v858
  let c0_i32_448 : BitVec 32 := 0#32
  let v856 : BitVec 1 := Scalar.cmpi .ne v855 c0_i32_448
  let v860 : BitVec 1 := Scalar.andi v859 v856
  let v861 : BitVec 32 := Scalar.addi v855 v854
  let v862 : BitVec 32 := Scalar.select v860 v861 v855
  let v863 : BitVec 1 := Scalar.cmpi .ne v862 v2
  let v864 : BitVec 32 := Scalar.extui v863
  let c0_i32_451 : BitVec 32 := 0#32
  let v865 : BitVec 1 := Scalar.cmpi .ne v864 c0_i32_451
  v865

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev35 (d0 : Dev nD) : Nat :=
  let c0_i32_1914 : BitVec 32 := 0#32
  let c3_i32_444 : BitVec 32 := 3#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_437 : BitVec 32 := 0#32
  let v835 : BitVec 1 := Scalar.cmpi .sgt v2 c0_i32_437
  let v836 : BitVec 32 := Scalar.extui v835
  let c0_i32_438 : BitVec 32 := 0#32
  let v837 : BitVec 1 := Scalar.cmpi .slt v2 c0_i32_438
  let v838 : BitVec 32 := Scalar.extui v837
  let v839 : BitVec 32 := Scalar.subi v836 v838
  let c8_i32_436 : BitVec 32 := 8#32
  let c0_i32_439 : BitVec 32 := 0#32
  let v840 : BitVec 1 := Scalar.cmpi .sgt c8_i32_436 c0_i32_439
  let v841 : BitVec 32 := Scalar.extui v840
  let c0_i32_440 : BitVec 32 := 0#32
  let v842 : BitVec 1 := Scalar.cmpi .slt c8_i32_436 c0_i32_440
  let v843 : BitVec 32 := Scalar.extui v842
  let v844 : BitVec 32 := Scalar.subi v841 v843
  let v845 : BitVec 1 := Scalar.cmpi .ne v839 v844
  let v846 : BitVec 32 := Scalar.remsi v2 c8_i32_436
  let c0_i32_441 : BitVec 32 := 0#32
  let v847 : BitVec 1 := Scalar.cmpi .ne v846 c0_i32_441
  let v848 : BitVec 1 := Scalar.andi v845 v847
  let v834 : BitVec 32 := Scalar.divsi v2 c8_i32_436
  let c1_i32_442 : BitVec 32 := 1#32
  let v849 : BitVec 32 := Scalar.subi v834 c1_i32_442
  let v850 : BitVec 32 := Scalar.select v848 v849 v834
  let v851 : BitVec 32 := Scalar.muli c8_i32_443 v850
  let v852 : BitVec 32 := Scalar.addi c3_i32_444 v851
  let c32_i32_445 : BitVec 32 := 32#32
  let c0_i32_446 : BitVec 32 := 0#32
  let v853 : BitVec 1 := Scalar.cmpi .eq c32_i32_445 c0_i32_446
  let c1_i32_447 : BitVec 32 := 1#32
  let v854 : BitVec 32 := Scalar.select v853 c1_i32_447 c32_i32_445
  let v855 : BitVec 32 := Scalar.remsi v852 v854
  let c0_i32_449 : BitVec 32 := 0#32
  let v857 : BitVec 1 := Scalar.cmpi .slt v855 c0_i32_449
  let c0_i32_450 : BitVec 32 := 0#32
  let v858 : BitVec 1 := Scalar.cmpi .slt v854 c0_i32_450
  let v859 : BitVec 1 := Scalar.xori v857 v858
  let c0_i32_448 : BitVec 32 := 0#32
  let v856 : BitVec 1 := Scalar.cmpi .ne v855 c0_i32_448
  let v860 : BitVec 1 := Scalar.andi v859 v856
  let v861 : BitVec 32 := Scalar.addi v855 v854
  let v862 : BitVec 32 := Scalar.select v860 v861 v855
  let c1_i32_1913 : BitVec 32 := 1#32
  let v3683 : BitVec 32 := Scalar.muli v862 c1_i32_1913
  let v3684 : BitVec 32 := Scalar.addi c0_i32_1914 v3683
  v3684.toNat
def k0_cond8 (d0 : Dev nD) : BitVec 1 :=
  let c3_i32_444 : BitVec 32 := 3#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_437 : BitVec 32 := 0#32
  let v835 : BitVec 1 := Scalar.cmpi .sgt v2 c0_i32_437
  let v836 : BitVec 32 := Scalar.extui v835
  let c0_i32_438 : BitVec 32 := 0#32
  let v837 : BitVec 1 := Scalar.cmpi .slt v2 c0_i32_438
  let v838 : BitVec 32 := Scalar.extui v837
  let v839 : BitVec 32 := Scalar.subi v836 v838
  let c8_i32_436 : BitVec 32 := 8#32
  let c0_i32_439 : BitVec 32 := 0#32
  let v840 : BitVec 1 := Scalar.cmpi .sgt c8_i32_436 c0_i32_439
  let v841 : BitVec 32 := Scalar.extui v840
  let c0_i32_440 : BitVec 32 := 0#32
  let v842 : BitVec 1 := Scalar.cmpi .slt c8_i32_436 c0_i32_440
  let v843 : BitVec 32 := Scalar.extui v842
  let v844 : BitVec 32 := Scalar.subi v841 v843
  let v845 : BitVec 1 := Scalar.cmpi .ne v839 v844
  let v846 : BitVec 32 := Scalar.remsi v2 c8_i32_436
  let c0_i32_441 : BitVec 32 := 0#32
  let v847 : BitVec 1 := Scalar.cmpi .ne v846 c0_i32_441
  let v848 : BitVec 1 := Scalar.andi v845 v847
  let v834 : BitVec 32 := Scalar.divsi v2 c8_i32_436
  let c1_i32_442 : BitVec 32 := 1#32
  let v849 : BitVec 32 := Scalar.subi v834 c1_i32_442
  let v850 : BitVec 32 := Scalar.select v848 v849 v834
  let v851 : BitVec 32 := Scalar.muli c8_i32_443 v850
  let v852 : BitVec 32 := Scalar.addi c3_i32_444 v851
  let c32_i32_445 : BitVec 32 := 32#32
  let c0_i32_446 : BitVec 32 := 0#32
  let v853 : BitVec 1 := Scalar.cmpi .eq c32_i32_445 c0_i32_446
  let c1_i32_447 : BitVec 32 := 1#32
  let v854 : BitVec 32 := Scalar.select v853 c1_i32_447 c32_i32_445
  let v855 : BitVec 32 := Scalar.remsi v852 v854
  let c0_i32_449 : BitVec 32 := 0#32
  let v857 : BitVec 1 := Scalar.cmpi .slt v855 c0_i32_449
  let c0_i32_450 : BitVec 32 := 0#32
  let v858 : BitVec 1 := Scalar.cmpi .slt v854 c0_i32_450
  let v859 : BitVec 1 := Scalar.xori v857 v858
  let c0_i32_448 : BitVec 32 := 0#32
  let v856 : BitVec 1 := Scalar.cmpi .ne v855 c0_i32_448
  let v860 : BitVec 1 := Scalar.andi v859 v856
  let v861 : BitVec 32 := Scalar.addi v855 v854
  let v862 : BitVec 32 := Scalar.select v860 v861 v855
  let v866 : BitVec 1 := Scalar.cmpi .eq v862 v2
  let v867 : BitVec 32 := Scalar.extui v866
  let c0_i32_452 : BitVec 32 := 0#32
  let v868 : BitVec 1 := Scalar.cmpi .ne v867 c0_i32_452
  v868

def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond9 (d0 : Dev nD) : BitVec 1 :=
  let c4_i32_461 : BitVec 32 := 4#32
  let c8_i32_460 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_454 : BitVec 32 := 0#32
  let v870 : BitVec 1 := Scalar.cmpi .sgt v2 c0_i32_454
  let v871 : BitVec 32 := Scalar.extui v870
  let c0_i32_455 : BitVec 32 := 0#32
  let v872 : BitVec 1 := Scalar.cmpi .slt v2 c0_i32_455
  let v873 : BitVec 32 := Scalar.extui v872
  let v874 : BitVec 32 := Scalar.subi v871 v873
  let c8_i32_453 : BitVec 32 := 8#32
  let c0_i32_456 : BitVec 32 := 0#32
  let v875 : BitVec 1 := Scalar.cmpi .sgt c8_i32_453 c0_i32_456
  let v876 : BitVec 32 := Scalar.extui v875
  let c0_i32_457 : BitVec 32 := 0#32
  let v877 : BitVec 1 := Scalar.cmpi .slt c8_i32_453 c0_i32_457
  let v878 : BitVec 32 := Scalar.extui v877
  let v879 : BitVec 32 := Scalar.subi v876 v878
  let v880 : BitVec 1 := Scalar.cmpi .ne v874 v879
  let v881 : BitVec 32 := Scalar.remsi v2 c8_i32_453
  let c0_i32_458 : BitVec 32 := 0#32
  let v882 : BitVec 1 := Scalar.cmpi .ne v881 c0_i32_458
  let v883 : BitVec 1 := Scalar.andi v880 v882
  let v869 : BitVec 32 := Scalar.divsi v2 c8_i32_453
  let c1_i32_459 : BitVec 32 := 1#32
  let v884 : BitVec 32 := Scalar.subi v869 c1_i32_459
  let v885 : BitVec 32 := Scalar.select v883 v884 v869
  let v886 : BitVec 32 := Scalar.muli c8_i32_460 v885
  let v887 : BitVec 32 := Scalar.addi c4_i32_461 v886
  let c32_i32_462 : BitVec 32 := 32#32
  let c0_i32_463 : BitVec 32 := 0#32
  let v888 : BitVec 1 := Scalar.cmpi .eq c32_i32_462 c0_i32_463
  let c1_i32_464 : BitVec 32 := 1#32
  let v889 : BitVec 32 := Scalar.select v888 c1_i32_464 c32_i32_462
  let v890 : BitVec 32 := Scalar.remsi v887 v889
  let c0_i32_466 : BitVec 32 := 0#32
  let v892 : BitVec 1 := Scalar.cmpi .slt v890 c0_i32_466
  let c0_i32_467 : BitVec 32 := 0#32
  let v893 : BitVec 1 := Scalar.cmpi .slt v889 c0_i32_467
  let v894 : BitVec 1 := Scalar.xori v892 v893
  let c0_i32_465 : BitVec 32 := 0#32
  let v891 : BitVec 1 := Scalar.cmpi .ne v890 c0_i32_465
  let v895 : BitVec 1 := Scalar.andi v894 v891
  let v896 : BitVec 32 := Scalar.addi v890 v889
  let v897 : BitVec 32 := Scalar.select v895 v896 v890
  let v898 : BitVec 1 := Scalar.cmpi .ne v897 v2
  let v899 : BitVec 32 := Scalar.extui v898
  let c0_i32_468 : BitVec 32 := 0#32
  let v900 : BitVec 1 := Scalar.cmpi .ne v899 c0_i32_468
  v900

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev36 (d0 : Dev nD) : Nat :=
  let c0_i32_1914 : BitVec 32 := 0#32
  let c4_i32_461 : BitVec 32 := 4#32
  let c8_i32_460 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_454 : BitVec 32 := 0#32
  let v870 : BitVec 1 := Scalar.cmpi .sgt v2 c0_i32_454
  let v871 : BitVec 32 := Scalar.extui v870
  let c0_i32_455 : BitVec 32 := 0#32
  let v872 : BitVec 1 := Scalar.cmpi .slt v2 c0_i32_455
  let v873 : BitVec 32 := Scalar.extui v872
  let v874 : BitVec 32 := Scalar.subi v871 v873
  let c8_i32_453 : BitVec 32 := 8#32
  let c0_i32_456 : BitVec 32 := 0#32
  let v875 : BitVec 1 := Scalar.cmpi .sgt c8_i32_453 c0_i32_456
  let v876 : BitVec 32 := Scalar.extui v875
  let c0_i32_457 : BitVec 32 := 0#32
  let v877 : BitVec 1 := Scalar.cmpi .slt c8_i32_453 c0_i32_457
  let v878 : BitVec 32 := Scalar.extui v877
  let v879 : BitVec 32 := Scalar.subi v876 v878
  let v880 : BitVec 1 := Scalar.cmpi .ne v874 v879
  let v881 : BitVec 32 := Scalar.remsi v2 c8_i32_453
  let c0_i32_458 : BitVec 32 := 0#32
  let v882 : BitVec 1 := Scalar.cmpi .ne v881 c0_i32_458
  let v883 : BitVec 1 := Scalar.andi v880 v882
  let v869 : BitVec 32 := Scalar.divsi v2 c8_i32_453
  let c1_i32_459 : BitVec 32 := 1#32
  let v884 : BitVec 32 := Scalar.subi v869 c1_i32_459
  let v885 : BitVec 32 := Scalar.select v883 v884 v869
  let v886 : BitVec 32 := Scalar.muli c8_i32_460 v885
  let v887 : BitVec 32 := Scalar.addi c4_i32_461 v886
  let c32_i32_462 : BitVec 32 := 32#32
  let c0_i32_463 : BitVec 32 := 0#32
  let v888 : BitVec 1 := Scalar.cmpi .eq c32_i32_462 c0_i32_463
  let c1_i32_464 : BitVec 32 := 1#32
  let v889 : BitVec 32 := Scalar.select v888 c1_i32_464 c32_i32_462
  let v890 : BitVec 32 := Scalar.remsi v887 v889
  let c0_i32_466 : BitVec 32 := 0#32
  let v892 : BitVec 1 := Scalar.cmpi .slt v890 c0_i32_466
  let c0_i32_467 : BitVec 32 := 0#32
  let v893 : BitVec 1 := Scalar.cmpi .slt v889 c0_i32_467
  let v894 : BitVec 1 := Scalar.xori v892 v893
  let c0_i32_465 : BitVec 32 := 0#32
  let v891 : BitVec 1 := Scalar.cmpi .ne v890 c0_i32_465
  let v895 : BitVec 1 := Scalar.andi v894 v891
  let v896 : BitVec 32 := Scalar.addi v890 v889
  let v897 : BitVec 32 := Scalar.select v895 v896 v890
  let c1_i32_1913 : BitVec 32 := 1#32
  let v3683 : BitVec 32 := Scalar.muli v897 c1_i32_1913
  let v3684 : BitVec 32 := Scalar.addi c0_i32_1914 v3683
  v3684.toNat
def k0_cond10 (d0 : Dev nD) : BitVec 1 :=
  let c4_i32_461 : BitVec 32 := 4#32
  let c8_i32_460 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_454 : BitVec 32 := 0#32
  let v870 : BitVec 1 := Scalar.cmpi .sgt v2 c0_i32_454
  let v871 : BitVec 32 := Scalar.extui v870
  let c0_i32_455 : BitVec 32 := 0#32
  let v872 : BitVec 1 := Scalar.cmpi .slt v2 c0_i32_455
  let v873 : BitVec 32 := Scalar.extui v872
  let v874 : BitVec 32 := Scalar.subi v871 v873
  let c8_i32_453 : BitVec 32 := 8#32
  let c0_i32_456 : BitVec 32 := 0#32
  let v875 : BitVec 1 := Scalar.cmpi .sgt c8_i32_453 c0_i32_456
  let v876 : BitVec 32 := Scalar.extui v875
  let c0_i32_457 : BitVec 32 := 0#32
  let v877 : BitVec 1 := Scalar.cmpi .slt c8_i32_453 c0_i32_457
  let v878 : BitVec 32 := Scalar.extui v877
  let v879 : BitVec 32 := Scalar.subi v876 v878
  let v880 : BitVec 1 := Scalar.cmpi .ne v874 v879
  let v881 : BitVec 32 := Scalar.remsi v2 c8_i32_453
  let c0_i32_458 : BitVec 32 := 0#32
  let v882 : BitVec 1 := Scalar.cmpi .ne v881 c0_i32_458
  let v883 : BitVec 1 := Scalar.andi v880 v882
  let v869 : BitVec 32 := Scalar.divsi v2 c8_i32_453
  let c1_i32_459 : BitVec 32 := 1#32
  let v884 : BitVec 32 := Scalar.subi v869 c1_i32_459
  let v885 : BitVec 32 := Scalar.select v883 v884 v869
  let v886 : BitVec 32 := Scalar.muli c8_i32_460 v885
  let v887 : BitVec 32 := Scalar.addi c4_i32_461 v886
  let c32_i32_462 : BitVec 32 := 32#32
  let c0_i32_463 : BitVec 32 := 0#32
  let v888 : BitVec 1 := Scalar.cmpi .eq c32_i32_462 c0_i32_463
  let c1_i32_464 : BitVec 32 := 1#32
  let v889 : BitVec 32 := Scalar.select v888 c1_i32_464 c32_i32_462
  let v890 : BitVec 32 := Scalar.remsi v887 v889
  let c0_i32_466 : BitVec 32 := 0#32
  let v892 : BitVec 1 := Scalar.cmpi .slt v890 c0_i32_466
  let c0_i32_467 : BitVec 32 := 0#32
  let v893 : BitVec 1 := Scalar.cmpi .slt v889 c0_i32_467
  let v894 : BitVec 1 := Scalar.xori v892 v893
  let c0_i32_465 : BitVec 32 := 0#32
  let v891 : BitVec 1 := Scalar.cmpi .ne v890 c0_i32_465
  let v895 : BitVec 1 := Scalar.andi v894 v891
  let v896 : BitVec 32 := Scalar.addi v890 v889
  let v897 : BitVec 32 := Scalar.select v895 v896 v890
  let v901 : BitVec 1 := Scalar.cmpi .eq v897 v2
  let v902 : BitVec 32 := Scalar.extui v901
  let c0_i32_469 : BitVec 32 := 0#32
  let v903 : BitVec 1 := Scalar.cmpi .ne v902 c0_i32_469
  v903

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond11 (d0 : Dev nD) : BitVec 1 :=
  let c5_i32_478 : BitVec 32 := 5#32
  let c8_i32_477 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_471 : BitVec 32 := 0#32
  let v905 : BitVec 1 := Scalar.cmpi .sgt v2 c0_i32_471
  let v906 : BitVec 32 := Scalar.extui v905
  let c0_i32_472 : BitVec 32 := 0#32
  let v907 : BitVec 1 := Scalar.cmpi .slt v2 c0_i32_472
  let v908 : BitVec 32 := Scalar.extui v907
  let v909 : BitVec 32 := Scalar.subi v906 v908
  let c8_i32_470 : BitVec 32 := 8#32
  let c0_i32_473 : BitVec 32 := 0#32
  let v910 : BitVec 1 := Scalar.cmpi .sgt c8_i32_470 c0_i32_473
  let v911 : BitVec 32 := Scalar.extui v910
  let c0_i32_474 : BitVec 32 := 0#32
  let v912 : BitVec 1 := Scalar.cmpi .slt c8_i32_470 c0_i32_474
  let v913 : BitVec 32 := Scalar.extui v912
  let v914 : BitVec 32 := Scalar.subi v911 v913
  let v915 : BitVec 1 := Scalar.cmpi .ne v909 v914
  let v916 : BitVec 32 := Scalar.remsi v2 c8_i32_470
  let c0_i32_475 : BitVec 32 := 0#32
  let v917 : BitVec 1 := Scalar.cmpi .ne v916 c0_i32_475
  let v918 : BitVec 1 := Scalar.andi v915 v917
  let v904 : BitVec 32 := Scalar.divsi v2 c8_i32_470
  let c1_i32_476 : BitVec 32 := 1#32
  let v919 : BitVec 32 := Scalar.subi v904 c1_i32_476
  let v920 : BitVec 32 := Scalar.select v918 v919 v904
  let v921 : BitVec 32 := Scalar.muli c8_i32_477 v920
  let v922 : BitVec 32 := Scalar.addi c5_i32_478 v921
  let c32_i32_479 : BitVec 32 := 32#32
  let c0_i32_480 : BitVec 32 := 0#32
  let v923 : BitVec 1 := Scalar.cmpi .eq c32_i32_479 c0_i32_480
  let c1_i32_481 : BitVec 32 := 1#32
  let v924 : BitVec 32 := Scalar.select v923 c1_i32_481 c32_i32_479
  let v925 : BitVec 32 := Scalar.remsi v922 v924
  let c0_i32_483 : BitVec 32 := 0#32
  let v927 : BitVec 1 := Scalar.cmpi .slt v925 c0_i32_483
  let c0_i32_484 : BitVec 32 := 0#32
  let v928 : BitVec 1 := Scalar.cmpi .slt v924 c0_i32_484
  let v929 : BitVec 1 := Scalar.xori v927 v928
  let c0_i32_482 : BitVec 32 := 0#32
  let v926 : BitVec 1 := Scalar.cmpi .ne v925 c0_i32_482
  let v930 : BitVec 1 := Scalar.andi v929 v926
  let v931 : BitVec 32 := Scalar.addi v925 v924
  let v932 : BitVec 32 := Scalar.select v930 v931 v925
  let v933 : BitVec 1 := Scalar.cmpi .ne v932 v2
  let v934 : BitVec 32 := Scalar.extui v933
  let c0_i32_485 : BitVec 32 := 0#32
  let v935 : BitVec 1 := Scalar.cmpi .ne v934 c0_i32_485
  v935

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev37 (d0 : Dev nD) : Nat :=
  let c0_i32_1914 : BitVec 32 := 0#32
  let c5_i32_478 : BitVec 32 := 5#32
  let c8_i32_477 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_471 : BitVec 32 := 0#32
  let v905 : BitVec 1 := Scalar.cmpi .sgt v2 c0_i32_471
  let v906 : BitVec 32 := Scalar.extui v905
  let c0_i32_472 : BitVec 32 := 0#32
  let v907 : BitVec 1 := Scalar.cmpi .slt v2 c0_i32_472
  let v908 : BitVec 32 := Scalar.extui v907
  let v909 : BitVec 32 := Scalar.subi v906 v908
  let c8_i32_470 : BitVec 32 := 8#32
  let c0_i32_473 : BitVec 32 := 0#32
  let v910 : BitVec 1 := Scalar.cmpi .sgt c8_i32_470 c0_i32_473
  let v911 : BitVec 32 := Scalar.extui v910
  let c0_i32_474 : BitVec 32 := 0#32
  let v912 : BitVec 1 := Scalar.cmpi .slt c8_i32_470 c0_i32_474
  let v913 : BitVec 32 := Scalar.extui v912
  let v914 : BitVec 32 := Scalar.subi v911 v913
  let v915 : BitVec 1 := Scalar.cmpi .ne v909 v914
  let v916 : BitVec 32 := Scalar.remsi v2 c8_i32_470
  let c0_i32_475 : BitVec 32 := 0#32
  let v917 : BitVec 1 := Scalar.cmpi .ne v916 c0_i32_475
  let v918 : BitVec 1 := Scalar.andi v915 v917
  let v904 : BitVec 32 := Scalar.divsi v2 c8_i32_470
  let c1_i32_476 : BitVec 32 := 1#32
  let v919 : BitVec 32 := Scalar.subi v904 c1_i32_476
  let v920 : BitVec 32 := Scalar.select v918 v919 v904
  let v921 : BitVec 32 := Scalar.muli c8_i32_477 v920
  let v922 : BitVec 32 := Scalar.addi c5_i32_478 v921
  let c32_i32_479 : BitVec 32 := 32#32
  let c0_i32_480 : BitVec 32 := 0#32
  let v923 : BitVec 1 := Scalar.cmpi .eq c32_i32_479 c0_i32_480
  let c1_i32_481 : BitVec 32 := 1#32
  let v924 : BitVec 32 := Scalar.select v923 c1_i32_481 c32_i32_479
  let v925 : BitVec 32 := Scalar.remsi v922 v924
  let c0_i32_483 : BitVec 32 := 0#32
  let v927 : BitVec 1 := Scalar.cmpi .slt v925 c0_i32_483
  let c0_i32_484 : BitVec 32 := 0#32
  let v928 : BitVec 1 := Scalar.cmpi .slt v924 c0_i32_484
  let v929 : BitVec 1 := Scalar.xori v927 v928
  let c0_i32_482 : BitVec 32 := 0#32
  let v926 : BitVec 1 := Scalar.cmpi .ne v925 c0_i32_482
  let v930 : BitVec 1 := Scalar.andi v929 v926
  let v931 : BitVec 32 := Scalar.addi v925 v924
  let v932 : BitVec 32 := Scalar.select v930 v931 v925
  let c1_i32_1913 : BitVec 32 := 1#32
  let v3683 : BitVec 32 := Scalar.muli v932 c1_i32_1913
  let v3684 : BitVec 32 := Scalar.addi c0_i32_1914 v3683
  v3684.toNat
def k0_cond12 (d0 : Dev nD) : BitVec 1 :=
  let c5_i32_478 : BitVec 32 := 5#32
  let c8_i32_477 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_471 : BitVec 32 := 0#32
  let v905 : BitVec 1 := Scalar.cmpi .sgt v2 c0_i32_471
  let v906 : BitVec 32 := Scalar.extui v905
  let c0_i32_472 : BitVec 32 := 0#32
  let v907 : BitVec 1 := Scalar.cmpi .slt v2 c0_i32_472
  let v908 : BitVec 32 := Scalar.extui v907
  let v909 : BitVec 32 := Scalar.subi v906 v908
  let c8_i32_470 : BitVec 32 := 8#32
  let c0_i32_473 : BitVec 32 := 0#32
  let v910 : BitVec 1 := Scalar.cmpi .sgt c8_i32_470 c0_i32_473
  let v911 : BitVec 32 := Scalar.extui v910
  let c0_i32_474 : BitVec 32 := 0#32
  let v912 : BitVec 1 := Scalar.cmpi .slt c8_i32_470 c0_i32_474
  let v913 : BitVec 32 := Scalar.extui v912
  let v914 : BitVec 32 := Scalar.subi v911 v913
  let v915 : BitVec 1 := Scalar.cmpi .ne v909 v914
  let v916 : BitVec 32 := Scalar.remsi v2 c8_i32_470
  let c0_i32_475 : BitVec 32 := 0#32
  let v917 : BitVec 1 := Scalar.cmpi .ne v916 c0_i32_475
  let v918 : BitVec 1 := Scalar.andi v915 v917
  let v904 : BitVec 32 := Scalar.divsi v2 c8_i32_470
  let c1_i32_476 : BitVec 32 := 1#32
  let v919 : BitVec 32 := Scalar.subi v904 c1_i32_476
  let v920 : BitVec 32 := Scalar.select v918 v919 v904
  let v921 : BitVec 32 := Scalar.muli c8_i32_477 v920
  let v922 : BitVec 32 := Scalar.addi c5_i32_478 v921
  let c32_i32_479 : BitVec 32 := 32#32
  let c0_i32_480 : BitVec 32 := 0#32
  let v923 : BitVec 1 := Scalar.cmpi .eq c32_i32_479 c0_i32_480
  let c1_i32_481 : BitVec 32 := 1#32
  let v924 : BitVec 32 := Scalar.select v923 c1_i32_481 c32_i32_479
  let v925 : BitVec 32 := Scalar.remsi v922 v924
  let c0_i32_483 : BitVec 32 := 0#32
  let v927 : BitVec 1 := Scalar.cmpi .slt v925 c0_i32_483
  let c0_i32_484 : BitVec 32 := 0#32
  let v928 : BitVec 1 := Scalar.cmpi .slt v924 c0_i32_484
  let v929 : BitVec 1 := Scalar.xori v927 v928
  let c0_i32_482 : BitVec 32 := 0#32
  let v926 : BitVec 1 := Scalar.cmpi .ne v925 c0_i32_482
  let v930 : BitVec 1 := Scalar.andi v929 v926
  let v931 : BitVec 32 := Scalar.addi v925 v924
  let v932 : BitVec 32 := Scalar.select v930 v931 v925
  let v936 : BitVec 1 := Scalar.cmpi .eq v932 v2
  let v937 : BitVec 32 := Scalar.extui v936
  let c0_i32_486 : BitVec 32 := 0#32
  let v938 : BitVec 1 := Scalar.cmpi .ne v937 c0_i32_486
  v938

def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond13 (d0 : Dev nD) : BitVec 1 :=
  let c6_i32_495 : BitVec 32 := 6#32
  let c8_i32_494 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_488 : BitVec 32 := 0#32
  let v940 : BitVec 1 := Scalar.cmpi .sgt v2 c0_i32_488
  let v941 : BitVec 32 := Scalar.extui v940
  let c0_i32_489 : BitVec 32 := 0#32
  let v942 : BitVec 1 := Scalar.cmpi .slt v2 c0_i32_489
  let v943 : BitVec 32 := Scalar.extui v942
  let v944 : BitVec 32 := Scalar.subi v941 v943
  let c8_i32_487 : BitVec 32 := 8#32
  let c0_i32_490 : BitVec 32 := 0#32
  let v945 : BitVec 1 := Scalar.cmpi .sgt c8_i32_487 c0_i32_490
  let v946 : BitVec 32 := Scalar.extui v945
  let c0_i32_491 : BitVec 32 := 0#32
  let v947 : BitVec 1 := Scalar.cmpi .slt c8_i32_487 c0_i32_491
  let v948 : BitVec 32 := Scalar.extui v947
  let v949 : BitVec 32 := Scalar.subi v946 v948
  let v950 : BitVec 1 := Scalar.cmpi .ne v944 v949
  let v951 : BitVec 32 := Scalar.remsi v2 c8_i32_487
  let c0_i32_492 : BitVec 32 := 0#32
  let v952 : BitVec 1 := Scalar.cmpi .ne v951 c0_i32_492
  let v953 : BitVec 1 := Scalar.andi v950 v952
  let v939 : BitVec 32 := Scalar.divsi v2 c8_i32_487
  let c1_i32_493 : BitVec 32 := 1#32
  let v954 : BitVec 32 := Scalar.subi v939 c1_i32_493
  let v955 : BitVec 32 := Scalar.select v953 v954 v939
  let v956 : BitVec 32 := Scalar.muli c8_i32_494 v955
  let v957 : BitVec 32 := Scalar.addi c6_i32_495 v956
  let c32_i32_496 : BitVec 32 := 32#32
  let c0_i32_497 : BitVec 32 := 0#32
  let v958 : BitVec 1 := Scalar.cmpi .eq c32_i32_496 c0_i32_497
  let c1_i32_498 : BitVec 32 := 1#32
  let v959 : BitVec 32 := Scalar.select v958 c1_i32_498 c32_i32_496
  let v960 : BitVec 32 := Scalar.remsi v957 v959
  let c0_i32_500 : BitVec 32 := 0#32
  let v962 : BitVec 1 := Scalar.cmpi .slt v960 c0_i32_500
  let c0_i32_501 : BitVec 32 := 0#32
  let v963 : BitVec 1 := Scalar.cmpi .slt v959 c0_i32_501
  let v964 : BitVec 1 := Scalar.xori v962 v963
  let c0_i32_499 : BitVec 32 := 0#32
  let v961 : BitVec 1 := Scalar.cmpi .ne v960 c0_i32_499
  let v965 : BitVec 1 := Scalar.andi v964 v961
  let v966 : BitVec 32 := Scalar.addi v960 v959
  let v967 : BitVec 32 := Scalar.select v965 v966 v960
  let v968 : BitVec 1 := Scalar.cmpi .ne v967 v2
  let v969 : BitVec 32 := Scalar.extui v968
  let c0_i32_502 : BitVec 32 := 0#32
  let v970 : BitVec 1 := Scalar.cmpi .ne v969 c0_i32_502
  v970

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev38 (d0 : Dev nD) : Nat :=
  let c0_i32_1914 : BitVec 32 := 0#32
  let c6_i32_495 : BitVec 32 := 6#32
  let c8_i32_494 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_488 : BitVec 32 := 0#32
  let v940 : BitVec 1 := Scalar.cmpi .sgt v2 c0_i32_488
  let v941 : BitVec 32 := Scalar.extui v940
  let c0_i32_489 : BitVec 32 := 0#32
  let v942 : BitVec 1 := Scalar.cmpi .slt v2 c0_i32_489
  let v943 : BitVec 32 := Scalar.extui v942
  let v944 : BitVec 32 := Scalar.subi v941 v943
  let c8_i32_487 : BitVec 32 := 8#32
  let c0_i32_490 : BitVec 32 := 0#32
  let v945 : BitVec 1 := Scalar.cmpi .sgt c8_i32_487 c0_i32_490
  let v946 : BitVec 32 := Scalar.extui v945
  let c0_i32_491 : BitVec 32 := 0#32
  let v947 : BitVec 1 := Scalar.cmpi .slt c8_i32_487 c0_i32_491
  let v948 : BitVec 32 := Scalar.extui v947
  let v949 : BitVec 32 := Scalar.subi v946 v948
  let v950 : BitVec 1 := Scalar.cmpi .ne v944 v949
  let v951 : BitVec 32 := Scalar.remsi v2 c8_i32_487
  let c0_i32_492 : BitVec 32 := 0#32
  let v952 : BitVec 1 := Scalar.cmpi .ne v951 c0_i32_492
  let v953 : BitVec 1 := Scalar.andi v950 v952
  let v939 : BitVec 32 := Scalar.divsi v2 c8_i32_487
  let c1_i32_493 : BitVec 32 := 1#32
  let v954 : BitVec 32 := Scalar.subi v939 c1_i32_493
  let v955 : BitVec 32 := Scalar.select v953 v954 v939
  let v956 : BitVec 32 := Scalar.muli c8_i32_494 v955
  let v957 : BitVec 32 := Scalar.addi c6_i32_495 v956
  let c32_i32_496 : BitVec 32 := 32#32
  let c0_i32_497 : BitVec 32 := 0#32
  let v958 : BitVec 1 := Scalar.cmpi .eq c32_i32_496 c0_i32_497
  let c1_i32_498 : BitVec 32 := 1#32
  let v959 : BitVec 32 := Scalar.select v958 c1_i32_498 c32_i32_496
  let v960 : BitVec 32 := Scalar.remsi v957 v959
  let c0_i32_500 : BitVec 32 := 0#32
  let v962 : BitVec 1 := Scalar.cmpi .slt v960 c0_i32_500
  let c0_i32_501 : BitVec 32 := 0#32
  let v963 : BitVec 1 := Scalar.cmpi .slt v959 c0_i32_501
  let v964 : BitVec 1 := Scalar.xori v962 v963
  let c0_i32_499 : BitVec 32 := 0#32
  let v961 : BitVec 1 := Scalar.cmpi .ne v960 c0_i32_499
  let v965 : BitVec 1 := Scalar.andi v964 v961
  let v966 : BitVec 32 := Scalar.addi v960 v959
  let v967 : BitVec 32 := Scalar.select v965 v966 v960
  let c1_i32_1913 : BitVec 32 := 1#32
  let v3683 : BitVec 32 := Scalar.muli v967 c1_i32_1913
  let v3684 : BitVec 32 := Scalar.addi c0_i32_1914 v3683
  v3684.toNat
def k0_cond14 (d0 : Dev nD) : BitVec 1 :=
  let c6_i32_495 : BitVec 32 := 6#32
  let c8_i32_494 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_488 : BitVec 32 := 0#32
  let v940 : BitVec 1 := Scalar.cmpi .sgt v2 c0_i32_488
  let v941 : BitVec 32 := Scalar.extui v940
  let c0_i32_489 : BitVec 32 := 0#32
  let v942 : BitVec 1 := Scalar.cmpi .slt v2 c0_i32_489
  let v943 : BitVec 32 := Scalar.extui v942
  let v944 : BitVec 32 := Scalar.subi v941 v943
  let c8_i32_487 : BitVec 32 := 8#32
  let c0_i32_490 : BitVec 32 := 0#32
  let v945 : BitVec 1 := Scalar.cmpi .sgt c8_i32_487 c0_i32_490
  let v946 : BitVec 32 := Scalar.extui v945
  let c0_i32_491 : BitVec 32 := 0#32
  let v947 : BitVec 1 := Scalar.cmpi .slt c8_i32_487 c0_i32_491
  let v948 : BitVec 32 := Scalar.extui v947
  let v949 : BitVec 32 := Scalar.subi v946 v948
  let v950 : BitVec 1 := Scalar.cmpi .ne v944 v949
  let v951 : BitVec 32 := Scalar.remsi v2 c8_i32_487
  let c0_i32_492 : BitVec 32 := 0#32
  let v952 : BitVec 1 := Scalar.cmpi .ne v951 c0_i32_492
  let v953 : BitVec 1 := Scalar.andi v950 v952
  let v939 : BitVec 32 := Scalar.divsi v2 c8_i32_487
  let c1_i32_493 : BitVec 32 := 1#32
  let v954 : BitVec 32 := Scalar.subi v939 c1_i32_493
  let v955 : BitVec 32 := Scalar.select v953 v954 v939
  let v956 : BitVec 32 := Scalar.muli c8_i32_494 v955
  let v957 : BitVec 32 := Scalar.addi c6_i32_495 v956
  let c32_i32_496 : BitVec 32 := 32#32
  let c0_i32_497 : BitVec 32 := 0#32
  let v958 : BitVec 1 := Scalar.cmpi .eq c32_i32_496 c0_i32_497
  let c1_i32_498 : BitVec 32 := 1#32
  let v959 : BitVec 32 := Scalar.select v958 c1_i32_498 c32_i32_496
  let v960 : BitVec 32 := Scalar.remsi v957 v959
  let c0_i32_500 : BitVec 32 := 0#32
  let v962 : BitVec 1 := Scalar.cmpi .slt v960 c0_i32_500
  let c0_i32_501 : BitVec 32 := 0#32
  let v963 : BitVec 1 := Scalar.cmpi .slt v959 c0_i32_501
  let v964 : BitVec 1 := Scalar.xori v962 v963
  let c0_i32_499 : BitVec 32 := 0#32
  let v961 : BitVec 1 := Scalar.cmpi .ne v960 c0_i32_499
  let v965 : BitVec 1 := Scalar.andi v964 v961
  let v966 : BitVec 32 := Scalar.addi v960 v959
  let v967 : BitVec 32 := Scalar.select v965 v966 v960
  let v971 : BitVec 1 := Scalar.cmpi .eq v967 v2
  let v972 : BitVec 32 := Scalar.extui v971
  let c0_i32_503 : BitVec 32 := 0#32
  let v973 : BitVec 1 := Scalar.cmpi .ne v972 c0_i32_503
  v973

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond15 (d0 : Dev nD) : BitVec 1 :=
  let c7_i32_512 : BitVec 32 := 7#32
  let c8_i32_511 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_505 : BitVec 32 := 0#32
  let v975 : BitVec 1 := Scalar.cmpi .sgt v2 c0_i32_505
  let v976 : BitVec 32 := Scalar.extui v975
  let c0_i32_506 : BitVec 32 := 0#32
  let v977 : BitVec 1 := Scalar.cmpi .slt v2 c0_i32_506
  let v978 : BitVec 32 := Scalar.extui v977
  let v979 : BitVec 32 := Scalar.subi v976 v978
  let c8_i32_504 : BitVec 32 := 8#32
  let c0_i32_507 : BitVec 32 := 0#32
  let v980 : BitVec 1 := Scalar.cmpi .sgt c8_i32_504 c0_i32_507
  let v981 : BitVec 32 := Scalar.extui v980
  let c0_i32_508 : BitVec 32 := 0#32
  let v982 : BitVec 1 := Scalar.cmpi .slt c8_i32_504 c0_i32_508
  let v983 : BitVec 32 := Scalar.extui v982
  let v984 : BitVec 32 := Scalar.subi v981 v983
  let v985 : BitVec 1 := Scalar.cmpi .ne v979 v984
  let v986 : BitVec 32 := Scalar.remsi v2 c8_i32_504
  let c0_i32_509 : BitVec 32 := 0#32
  let v987 : BitVec 1 := Scalar.cmpi .ne v986 c0_i32_509
  let v988 : BitVec 1 := Scalar.andi v985 v987
  let v974 : BitVec 32 := Scalar.divsi v2 c8_i32_504
  let c1_i32_510 : BitVec 32 := 1#32
  let v989 : BitVec 32 := Scalar.subi v974 c1_i32_510
  let v990 : BitVec 32 := Scalar.select v988 v989 v974
  let v991 : BitVec 32 := Scalar.muli c8_i32_511 v990
  let v992 : BitVec 32 := Scalar.addi c7_i32_512 v991
  let c32_i32_513 : BitVec 32 := 32#32
  let c0_i32_514 : BitVec 32 := 0#32
  let v993 : BitVec 1 := Scalar.cmpi .eq c32_i32_513 c0_i32_514
  let c1_i32_515 : BitVec 32 := 1#32
  let v994 : BitVec 32 := Scalar.select v993 c1_i32_515 c32_i32_513
  let v995 : BitVec 32 := Scalar.remsi v992 v994
  let c0_i32_517 : BitVec 32 := 0#32
  let v997 : BitVec 1 := Scalar.cmpi .slt v995 c0_i32_517
  let c0_i32_518 : BitVec 32 := 0#32
  let v998 : BitVec 1 := Scalar.cmpi .slt v994 c0_i32_518
  let v999 : BitVec 1 := Scalar.xori v997 v998
  let c0_i32_516 : BitVec 32 := 0#32
  let v996 : BitVec 1 := Scalar.cmpi .ne v995 c0_i32_516
  let v1000 : BitVec 1 := Scalar.andi v999 v996
  let v1001 : BitVec 32 := Scalar.addi v995 v994
  let v1002 : BitVec 32 := Scalar.select v1000 v1001 v995
  let v1003 : BitVec 1 := Scalar.cmpi .ne v1002 v2
  let v1004 : BitVec 32 := Scalar.extui v1003
  let c0_i32_519 : BitVec 32 := 0#32
  let v1005 : BitVec 1 := Scalar.cmpi .ne v1004 c0_i32_519
  v1005

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev39 (d0 : Dev nD) : Nat :=
  let c0_i32_1914 : BitVec 32 := 0#32
  let c7_i32_512 : BitVec 32 := 7#32
  let c8_i32_511 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_505 : BitVec 32 := 0#32
  let v975 : BitVec 1 := Scalar.cmpi .sgt v2 c0_i32_505
  let v976 : BitVec 32 := Scalar.extui v975
  let c0_i32_506 : BitVec 32 := 0#32
  let v977 : BitVec 1 := Scalar.cmpi .slt v2 c0_i32_506
  let v978 : BitVec 32 := Scalar.extui v977
  let v979 : BitVec 32 := Scalar.subi v976 v978
  let c8_i32_504 : BitVec 32 := 8#32
  let c0_i32_507 : BitVec 32 := 0#32
  let v980 : BitVec 1 := Scalar.cmpi .sgt c8_i32_504 c0_i32_507
  let v981 : BitVec 32 := Scalar.extui v980
  let c0_i32_508 : BitVec 32 := 0#32
  let v982 : BitVec 1 := Scalar.cmpi .slt c8_i32_504 c0_i32_508
  let v983 : BitVec 32 := Scalar.extui v982
  let v984 : BitVec 32 := Scalar.subi v981 v983
  let v985 : BitVec 1 := Scalar.cmpi .ne v979 v984
  let v986 : BitVec 32 := Scalar.remsi v2 c8_i32_504
  let c0_i32_509 : BitVec 32 := 0#32
  let v987 : BitVec 1 := Scalar.cmpi .ne v986 c0_i32_509
  let v988 : BitVec 1 := Scalar.andi v985 v987
  let v974 : BitVec 32 := Scalar.divsi v2 c8_i32_504
  let c1_i32_510 : BitVec 32 := 1#32
  let v989 : BitVec 32 := Scalar.subi v974 c1_i32_510
  let v990 : BitVec 32 := Scalar.select v988 v989 v974
  let v991 : BitVec 32 := Scalar.muli c8_i32_511 v990
  let v992 : BitVec 32 := Scalar.addi c7_i32_512 v991
  let c32_i32_513 : BitVec 32 := 32#32
  let c0_i32_514 : BitVec 32 := 0#32
  let v993 : BitVec 1 := Scalar.cmpi .eq c32_i32_513 c0_i32_514
  let c1_i32_515 : BitVec 32 := 1#32
  let v994 : BitVec 32 := Scalar.select v993 c1_i32_515 c32_i32_513
  let v995 : BitVec 32 := Scalar.remsi v992 v994
  let c0_i32_517 : BitVec 32 := 0#32
  let v997 : BitVec 1 := Scalar.cmpi .slt v995 c0_i32_517
  let c0_i32_518 : BitVec 32 := 0#32
  let v998 : BitVec 1 := Scalar.cmpi .slt v994 c0_i32_518
  let v999 : BitVec 1 := Scalar.xori v997 v998
  let c0_i32_516 : BitVec 32 := 0#32
  let v996 : BitVec 1 := Scalar.cmpi .ne v995 c0_i32_516
  let v1000 : BitVec 1 := Scalar.andi v999 v996
  let v1001 : BitVec 32 := Scalar.addi v995 v994
  let v1002 : BitVec 32 := Scalar.select v1000 v1001 v995
  let c1_i32_1913 : BitVec 32 := 1#32
  let v3683 : BitVec 32 := Scalar.muli v1002 c1_i32_1913
  let v3684 : BitVec 32 := Scalar.addi c0_i32_1914 v3683
  v3684.toNat
def k0_cond16 (d0 : Dev nD) : BitVec 1 :=
  let c7_i32_512 : BitVec 32 := 7#32
  let c8_i32_511 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_505 : BitVec 32 := 0#32
  let v975 : BitVec 1 := Scalar.cmpi .sgt v2 c0_i32_505
  let v976 : BitVec 32 := Scalar.extui v975
  let c0_i32_506 : BitVec 32 := 0#32
  let v977 : BitVec 1 := Scalar.cmpi .slt v2 c0_i32_506
  let v978 : BitVec 32 := Scalar.extui v977
  let v979 : BitVec 32 := Scalar.subi v976 v978
  let c8_i32_504 : BitVec 32 := 8#32
  let c0_i32_507 : BitVec 32 := 0#32
  let v980 : BitVec 1 := Scalar.cmpi .sgt c8_i32_504 c0_i32_507
  let v981 : BitVec 32 := Scalar.extui v980
  let c0_i32_508 : BitVec 32 := 0#32
  let v982 : BitVec 1 := Scalar.cmpi .slt c8_i32_504 c0_i32_508
  let v983 : BitVec 32 := Scalar.extui v982
  let v984 : BitVec 32 := Scalar.subi v981 v983
  let v985 : BitVec 1 := Scalar.cmpi .ne v979 v984
  let v986 : BitVec 32 := Scalar.remsi v2 c8_i32_504
  let c0_i32_509 : BitVec 32 := 0#32
  let v987 : BitVec 1 := Scalar.cmpi .ne v986 c0_i32_509
  let v988 : BitVec 1 := Scalar.andi v985 v987
  let v974 : BitVec 32 := Scalar.divsi v2 c8_i32_504
  let c1_i32_510 : BitVec 32 := 1#32
  let v989 : BitVec 32 := Scalar.subi v974 c1_i32_510
  let v990 : BitVec 32 := Scalar.select v988 v989 v974
  let v991 : BitVec 32 := Scalar.muli c8_i32_511 v990
  let v992 : BitVec 32 := Scalar.addi c7_i32_512 v991
  let c32_i32_513 : BitVec 32 := 32#32
  let c0_i32_514 : BitVec 32 := 0#32
  let v993 : BitVec 1 := Scalar.cmpi .eq c32_i32_513 c0_i32_514
  let c1_i32_515 : BitVec 32 := 1#32
  let v994 : BitVec 32 := Scalar.select v993 c1_i32_515 c32_i32_513
  let v995 : BitVec 32 := Scalar.remsi v992 v994
  let c0_i32_517 : BitVec 32 := 0#32
  let v997 : BitVec 1 := Scalar.cmpi .slt v995 c0_i32_517
  let c0_i32_518 : BitVec 32 := 0#32
  let v998 : BitVec 1 := Scalar.cmpi .slt v994 c0_i32_518
  let v999 : BitVec 1 := Scalar.xori v997 v998
  let c0_i32_516 : BitVec 32 := 0#32
  let v996 : BitVec 1 := Scalar.cmpi .ne v995 c0_i32_516
  let v1000 : BitVec 1 := Scalar.andi v999 v996
  let v1001 : BitVec 32 := Scalar.addi v995 v994
  let v1002 : BitVec 32 := Scalar.select v1000 v1001 v995
  let v1006 : BitVec 1 := Scalar.cmpi .eq v1002 v2
  let v1007 : BitVec 32 := Scalar.extui v1006
  let c0_i32_520 : BitVec 32 := 0#32
  let v1008 : BitVec 1 := Scalar.cmpi .ne v1007 c0_i32_520
  v1008

def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond17 (d0 : Dev nD) : BitVec 1 :=
  let c8_i32_537 : BitVec 32 := 8#32
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_530 : BitVec 32 := 0#32
  let v1042 : BitVec 1 := Scalar.cmpi .sgt v2 c0_i32_530
  let v1043 : BitVec 32 := Scalar.extui v1042
  let c0_i32_531 : BitVec 32 := 0#32
  let v1044 : BitVec 1 := Scalar.cmpi .slt v2 c0_i32_531
  let v1045 : BitVec 32 := Scalar.extui v1044
  let v1046 : BitVec 32 := Scalar.subi v1043 v1045
  let c8_i32_529 : BitVec 32 := 8#32
  let c0_i32_532 : BitVec 32 := 0#32
  let v1047 : BitVec 1 := Scalar.cmpi .sgt c8_i32_529 c0_i32_532
  let v1048 : BitVec 32 := Scalar.extui v1047
  let c0_i32_533 : BitVec 32 := 0#32
  let v1049 : BitVec 1 := Scalar.cmpi .slt c8_i32_529 c0_i32_533
  let v1050 : BitVec 32 := Scalar.extui v1049
  let v1051 : BitVec 32 := Scalar.subi v1048 v1050
  let v1052 : BitVec 1 := Scalar.cmpi .ne v1046 v1051
  let v1053 : BitVec 32 := Scalar.remsi v2 c8_i32_529
  let c0_i32_534 : BitVec 32 := 0#32
  let v1054 : BitVec 1 := Scalar.cmpi .ne v1053 c0_i32_534
  let v1055 : BitVec 1 := Scalar.andi v1052 v1054
  let v1041 : BitVec 32 := Scalar.divsi v2 c8_i32_529
  let c1_i32_535 : BitVec 32 := 1#32
  let v1056 : BitVec 32 := Scalar.subi v1041 c1_i32_535
  let v1057 : BitVec 32 := Scalar.select v1055 v1056 v1041
  let v1058 : BitVec 32 := Scalar.muli c8_i32_536 v1057
  let v1059 : BitVec 32 := Scalar.addi c8_i32_537 v1058
  let c32_i32_538 : BitVec 32 := 32#32
  let c0_i32_539 : BitVec 32 := 0#32
  let v1060 : BitVec 1 := Scalar.cmpi .eq c32_i32_538 c0_i32_539
  let c1_i32_540 : BitVec 32 := 1#32
  let v1061 : BitVec 32 := Scalar.select v1060 c1_i32_540 c32_i32_538
  let v1062 : BitVec 32 := Scalar.remsi v1059 v1061
  let c0_i32_542 : BitVec 32 := 0#32
  let v1064 : BitVec 1 := Scalar.cmpi .slt v1062 c0_i32_542
  let c0_i32_543 : BitVec 32 := 0#32
  let v1065 : BitVec 1 := Scalar.cmpi .slt v1061 c0_i32_543
  let v1066 : BitVec 1 := Scalar.xori v1064 v1065
  let c0_i32_541 : BitVec 32 := 0#32
  let v1063 : BitVec 1 := Scalar.cmpi .ne v1062 c0_i32_541
  let v1067 : BitVec 1 := Scalar.andi v1066 v1063
  let v1068 : BitVec 32 := Scalar.addi v1062 v1061
  let v1069 : BitVec 32 := Scalar.select v1067 v1068 v1062
  let v1070 : BitVec 1 := Scalar.cmpi .ne v1069 v2
  let v1071 : BitVec 32 := Scalar.extui v1070
  let c0_i32_544 : BitVec 32 := 0#32
  let v1072 : BitVec 1 := Scalar.cmpi .ne v1071 c0_i32_544
  v1072

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev40 (d0 : Dev nD) : Nat :=
  let c0_i32_1914 : BitVec 32 := 0#32
  let c8_i32_537 : BitVec 32 := 8#32
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_530 : BitVec 32 := 0#32
  let v1042 : BitVec 1 := Scalar.cmpi .sgt v2 c0_i32_530
  let v1043 : BitVec 32 := Scalar.extui v1042
  let c0_i32_531 : BitVec 32 := 0#32
  let v1044 : BitVec 1 := Scalar.cmpi .slt v2 c0_i32_531
  let v1045 : BitVec 32 := Scalar.extui v1044
  let v1046 : BitVec 32 := Scalar.subi v1043 v1045
  let c8_i32_529 : BitVec 32 := 8#32
  let c0_i32_532 : BitVec 32 := 0#32
  let v1047 : BitVec 1 := Scalar.cmpi .sgt c8_i32_529 c0_i32_532
  let v1048 : BitVec 32 := Scalar.extui v1047
  let c0_i32_533 : BitVec 32 := 0#32
  let v1049 : BitVec 1 := Scalar.cmpi .slt c8_i32_529 c0_i32_533
  let v1050 : BitVec 32 := Scalar.extui v1049
  let v1051 : BitVec 32 := Scalar.subi v1048 v1050
  let v1052 : BitVec 1 := Scalar.cmpi .ne v1046 v1051
  let v1053 : BitVec 32 := Scalar.remsi v2 c8_i32_529
  let c0_i32_534 : BitVec 32 := 0#32
  let v1054 : BitVec 1 := Scalar.cmpi .ne v1053 c0_i32_534
  let v1055 : BitVec 1 := Scalar.andi v1052 v1054
  let v1041 : BitVec 32 := Scalar.divsi v2 c8_i32_529
  let c1_i32_535 : BitVec 32 := 1#32
  let v1056 : BitVec 32 := Scalar.subi v1041 c1_i32_535
  let v1057 : BitVec 32 := Scalar.select v1055 v1056 v1041
  let v1058 : BitVec 32 := Scalar.muli c8_i32_536 v1057
  let v1059 : BitVec 32 := Scalar.addi c8_i32_537 v1058
  let c32_i32_538 : BitVec 32 := 32#32
  let c0_i32_539 : BitVec 32 := 0#32
  let v1060 : BitVec 1 := Scalar.cmpi .eq c32_i32_538 c0_i32_539
  let c1_i32_540 : BitVec 32 := 1#32
  let v1061 : BitVec 32 := Scalar.select v1060 c1_i32_540 c32_i32_538
  let v1062 : BitVec 32 := Scalar.remsi v1059 v1061
  let c0_i32_542 : BitVec 32 := 0#32
  let v1064 : BitVec 1 := Scalar.cmpi .slt v1062 c0_i32_542
  let c0_i32_543 : BitVec 32 := 0#32
  let v1065 : BitVec 1 := Scalar.cmpi .slt v1061 c0_i32_543
  let v1066 : BitVec 1 := Scalar.xori v1064 v1065
  let c0_i32_541 : BitVec 32 := 0#32
  let v1063 : BitVec 1 := Scalar.cmpi .ne v1062 c0_i32_541
  let v1067 : BitVec 1 := Scalar.andi v1066 v1063
  let v1068 : BitVec 32 := Scalar.addi v1062 v1061
  let v1069 : BitVec 32 := Scalar.select v1067 v1068 v1062
  let c1_i32_1913 : BitVec 32 := 1#32
  let v3683 : BitVec 32 := Scalar.muli v1069 c1_i32_1913
  let v3684 : BitVec 32 := Scalar.addi c0_i32_1914 v3683
  v3684.toNat
def k0_cond18 (d0 : Dev nD) : BitVec 1 :=
  let c8_i32_537 : BitVec 32 := 8#32
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_530 : BitVec 32 := 0#32
  let v1042 : BitVec 1 := Scalar.cmpi .sgt v2 c0_i32_530
  let v1043 : BitVec 32 := Scalar.extui v1042
  let c0_i32_531 : BitVec 32 := 0#32
  let v1044 : BitVec 1 := Scalar.cmpi .slt v2 c0_i32_531
  let v1045 : BitVec 32 := Scalar.extui v1044
  let v1046 : BitVec 32 := Scalar.subi v1043 v1045
  let c8_i32_529 : BitVec 32 := 8#32
  let c0_i32_532 : BitVec 32 := 0#32
  let v1047 : BitVec 1 := Scalar.cmpi .sgt c8_i32_529 c0_i32_532
  let v1048 : BitVec 32 := Scalar.extui v1047
  let c0_i32_533 : BitVec 32 := 0#32
  let v1049 : BitVec 1 := Scalar.cmpi .slt c8_i32_529 c0_i32_533
  let v1050 : BitVec 32 := Scalar.extui v1049
  let v1051 : BitVec 32 := Scalar.subi v1048 v1050
  let v1052 : BitVec 1 := Scalar.cmpi .ne v1046 v1051
  let v1053 : BitVec 32 := Scalar.remsi v2 c8_i32_529
  let c0_i32_534 : BitVec 32 := 0#32
  let v1054 : BitVec 1 := Scalar.cmpi .ne v1053 c0_i32_534
  let v1055 : BitVec 1 := Scalar.andi v1052 v1054
  let v1041 : BitVec 32 := Scalar.divsi v2 c8_i32_529
  let c1_i32_535 : BitVec 32 := 1#32
  let v1056 : BitVec 32 := Scalar.subi v1041 c1_i32_535
  let v1057 : BitVec 32 := Scalar.select v1055 v1056 v1041
  let v1058 : BitVec 32 := Scalar.muli c8_i32_536 v1057
  let v1059 : BitVec 32 := Scalar.addi c8_i32_537 v1058
  let c32_i32_538 : BitVec 32 := 32#32
  let c0_i32_539 : BitVec 32 := 0#32
  let v1060 : BitVec 1 := Scalar.cmpi .eq c32_i32_538 c0_i32_539
  let c1_i32_540 : BitVec 32 := 1#32
  let v1061 : BitVec 32 := Scalar.select v1060 c1_i32_540 c32_i32_538
  let v1062 : BitVec 32 := Scalar.remsi v1059 v1061
  let c0_i32_542 : BitVec 32 := 0#32
  let v1064 : BitVec 1 := Scalar.cmpi .slt v1062 c0_i32_542
  let c0_i32_543 : BitVec 32 := 0#32
  let v1065 : BitVec 1 := Scalar.cmpi .slt v1061 c0_i32_543
  let v1066 : BitVec 1 := Scalar.xori v1064 v1065
  let c0_i32_541 : BitVec 32 := 0#32
  let v1063 : BitVec 1 := Scalar.cmpi .ne v1062 c0_i32_541
  let v1067 : BitVec 1 := Scalar.andi v1066 v1063
  let v1068 : BitVec 32 := Scalar.addi v1062 v1061
  let v1069 : BitVec 32 := Scalar.select v1067 v1068 v1062
  let v1073 : BitVec 1 := Scalar.cmpi .eq v1069 v2
  let v1074 : BitVec 32 := Scalar.extui v1073
  let c0_i32_545 : BitVec 32 := 0#32
  let v1075 : BitVec 1 := Scalar.cmpi .ne v1074 c0_i32_545
  v1075

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1913 : BitVec 32 := 16#32
  let v3683 : BitVec 32 := Scalar.muli v2 c16_i32_1913
  let v3684 : Index := Scalar.indexCast v3683
  let c0_1914 : Index := 0#32
  ![v3684.toNat, 0]
def k0_cond19 (d0 : Dev nD) : BitVec 1 :=
  let c9_i32_554 : BitVec 32 := 9#32
  let c8_i32_553 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_547 : BitVec 32 := 0#32
  let v1077 : BitVec 1 := Scalar.cmpi .sgt v2 c0_i32_547
  let v1078 : BitVec 32 := Scalar.extui v1077
  let c0_i32_548 : BitVec 32 := 0#32
  let v1079 : BitVec 1 := Scalar.cmpi .slt v2 c0_i32_548
  let v1080 : BitVec 32 := Scalar.extui v1079
  let v1081 : BitVec 32 := Scalar.subi v1078 v1080
  let c8_i32_546 : BitVec 32 := 8#32
  let c0_i32_549 : BitVec 32 := 0#32
  let v1082 : BitVec 1 := Scalar.cmpi .sgt c8_i32_546 c0_i32_549
  let v1083 : BitVec 32 := Scalar.extui v1082
  let c0_i32_550 : BitVec 32 := 0#32
  let v1084 : BitVec 1 := Scalar.cmpi .slt c8_i32_546 c0_i32_550
  let v1085 : BitVec 32 := Scalar.extui v1084
  let v1086 : BitVec 32 := Scalar.subi v1083 v1085
  let v1087 : BitVec 1 := Scalar.cmpi .ne v1081 v1086
  let v1088 : BitVec 32 := Scalar.remsi v2 c8_i32_546
  let c0_i32_551 : BitVec 32 := 0#32
  let v1089 : BitVec 1 := Scalar.cmpi .ne v1088 c0_i32_551
  let v1090 : BitVec 1 := Scalar.andi v1087 v1089
  let v1076 : BitVec 32 := Scalar.divsi v2 c8_i32_546
  let c1_i32_552 : BitVec 32 := 1#32
  let v1091 : BitVec 32 := Scalar.subi v1076 c1_i32_552
  let v1092 : BitVec 32 := Scalar.select v1090 v1091 v1076
  let v1093 : BitVec 32 := Scalar.muli c8_i32_553 v1092
  let v1094 : BitVec 32 := Scalar.addi c9_i32_554 v1093
  let c32_i32_555 : BitVec 32 := 32#32
  let c0_i32_556 : BitVec 32 := 0#32
  let v1095 : BitVec 1 := Scalar.cmpi .eq c32_i32_555 c0_i32_556
  let c1_i32_557 : BitVec 32 := 1#32
  let v1096 : BitVec 32 := Scalar.select v1095 c1_i32_557 c32_i32_555
  let v1097 : BitVec 32 := Scalar.remsi v1094 v1096
  let c0_i32_559 : BitVec 32 := 0#32
  let v1099 : BitVec 1 := Scalar.cmpi .slt v1097 c0_i32_559
  let c0_i32_560 : BitVec 32 := 0#32
  let v1100 : BitVec 1 := Scalar.cmpi .slt v1096 c0_i32_560
  let v1101 : BitVec 1 := Scalar.xori v1099 v1100
  let c0_i32_558 : BitVec 32 := 0#32
  let v1098 : BitVec 1 := Scalar.cmpi .ne v1097 c0_i32_558
  let v1102 : BitVec 1 := Scalar.andi v1101 v1098
  let v1103 : BitVec 32 := Scalar.addi v1097 v1096
  let v1104 : BitVec 32 := Scalar.select v1102 v1103 v1097
  let v1105 : BitVec 1 := Scalar.cmpi .ne v1104 v2
  let v1106 : BitVec 32 := Scalar.extui v1105
  let c0_i32_561 : BitVec 32 := 0#32
  let v1107 : BitVec 1 := Scalar.cmpi .ne v1106 c0_i32_561
  v1107

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev41 (d0 : Dev nD) : Nat :=
  let c0_i32_1914 : BitVec 32 := 0#32
  let c9_i32_554 : BitVec 32 := 9#32
  let c8_i32_553 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_547 : BitVec 32 := 0#32
  let v1077 : BitVec 1 := Scalar.cmpi .sgt v2 c0_i32_547
  let v1078 : BitVec 32 := Scalar.extui v1077
  let c0_i32_548 : BitVec 32 := 0#32
  let v1079 : BitVec 1 := Scalar.cmpi .slt v2 c0_i32_548
  let v1080 : BitVec 32 := Scalar.extui v1079
  let v1081 : BitVec 32 := Scalar.subi v1078 v1080
  let c8_i32_546 : BitVec 32 := 8#32
  let c0_i32_549 : BitVec 32 := 0#32
  let v1082 : BitVec 1 := Scalar.cmpi .sgt c8_i32_546 c0_i32_549
  let v1083 : BitVec 32 := Scalar.extui v1082
  let c0_i32_550 : BitVec 32 := 0#32
  let v1084 : BitVec 1 := Scalar.cmpi .slt c8_i32_546 c0_i32_550
  let v1085 : BitVec 32 := Scalar.extui v1084
  let v1086 : BitVec 32 := Scalar.subi v1083 v1085
  let v1087 : BitVec 1 := Scalar.cmpi .ne v1081 v1086
  let v1088 : BitVec 32 := Scalar.remsi v2 c8_i32_546
  let c0_i32_551 : BitVec 32 := 0#32
  let v1089 : BitVec 1 := Scalar.cmpi .ne v1088 c0_i32_551
  let v1090 : BitVec 1 := Scalar.andi v1087 v1089
  let v1076 : BitVec 32 := Scalar.divsi v2 c8_i32_546
  let c1_i32_552 : BitVec 32 := 1#32
  let v1091 : BitVec 32 := Scalar.subi v1076 c1_i32_552
  let v1092 : BitVec 32 := Scalar.select v1090 v1091 v1076
  let v1093 : BitVec 32 := Scalar.muli c8_i32_553 v1092
  let v1094 : BitVec 32 := Scalar.addi c9_i32_554 v1093
  let c32_i32_555 : BitVec 32 := 32#32
  let c0_i32_556 : BitVec 32 := 0#32
  let v1095 : BitVec 1 := Scalar.cmpi .eq c32_i32_555 c0_i32_556
  let c1_i32_557 : BitVec 32 := 1#32
  let v1096 : BitVec 32 := Scalar.select v1095 c1_i32_557 c32_i32_555
  let v1097 : BitVec 32 := Scalar.remsi v1094 v1096
  let c0_i32_559 : BitVec 32 := 0#32
  let v1099 : BitVec 1 := Scalar.cmpi .slt v1097 c0_i32_559
  let c0_i32_560 : BitVec 32 := 0#32
  let v1100 : BitVec 1 := Scalar.cmpi .slt v1096 c0_i32_560
  let v1101 : BitVec 1 := Scalar.xori v1099 v1100
  let c0_i32_558 : BitVec 32 := 0#32
  let v1098 : BitVec 1 := Scalar.cmpi .ne v1097 c0_i32_558
  let v1102 : BitVec 1 := Scalar.andi v1101 v1098
  let v1103 : BitVec 32 := Scalar.addi v1097 v1096
  let v1104 : BitVec 32 := Scalar.select v1102 v1103 v1097
  let c1_i32_1913 : BitVec 32 := 1#32
  let v3683 : BitVec 32 := Scalar.muli v1104 c1_i32_1913
  let v3684 : BitVec 32 := Scalar.addi c0_i32_1914 v3683
  v3684.toNat
def k0_cond20 (d0 : Dev nD) : BitVec 1 :=
  let c9_i32_554 : BitVec 32 := 9#32
  let c8_i32_553 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_547 : BitVec 32 := 0#32
  let v1077 : BitVec 1 := Scalar.cmpi .sgt v2 c0_i32_547
  let v1078 : BitVec 32 := Scalar.extui v1077
  let c0_i32_548 : BitVec 32 := 0#32
  let v1079 : BitVec 1 := Scalar.cmpi .slt v2 c0_i32_548
  let v1080 : BitVec 32 := Scalar.extui v1079
  let v1081 : BitVec 32 := Scalar.subi v1078 v1080
  let c8_i32_546 : BitVec 32 := 8#32
  let c0_i32_549 : BitVec 32 := 0#32
  let v1082 : BitVec 1 := Scalar.cmpi .sgt c8_i32_546 c0_i32_549
  let v1083 : BitVec 32 := Scalar.extui v1082
  let c0_i32_550 : BitVec 32 := 0#32
  let v1084 : BitVec 1 := Scalar.cmpi .slt c8_i32_546 c0_i32_550
  let v1085 : BitVec 32 := Scalar.extui v1084
  let v1086 : BitVec 32 := Scalar.subi v1083 v1085
  let v1087 : BitVec 1 := Scalar.cmpi .ne v1081 v1086
  let v1088 : BitVec 32 := Scalar.remsi v2 c8_i32_546
  let c0_i32_551 : BitVec 32 := 0#32
  let v1089 : BitVec 1 := Scalar.cmpi .ne v1088 c0_i32_551
  let v1090 : BitVec 1 := Scalar.andi v1087 v1089
  let v1076 : BitVec 32 := Scalar.divsi v2 c8_i32_546
  let c1_i32_552 : BitVec 32 := 1#32
  let v1091 : BitVec 32 := Scalar.subi v1076 c1_i32_552
  let v1092 : BitVec 32 := Scalar.select v1090 v1091 v1076
  let v1093 : BitVec 32 := Scalar.muli c8_i32_553 v1092
  let v1094 : BitVec 32 := Scalar.addi c9_i32_554 v1093
  let c32_i32_555 : BitVec 32 := 32#32
  let c0_i32_556 : BitVec 32 := 0#32
  let v1095 : BitVec 1 := Scalar.cmpi .eq c32_i32_555 c0_i32_556
  let c1_i32_557 : BitVec 32 := 1#32
  let v1096 : BitVec 32 := Scalar.select v1095 c1_i32_557 c32_i32_555
  let v1097 : BitVec 32 := Scalar.remsi v1094 v1096
  let c0_i32_559 : BitVec 32 := 0#32
  let v1099 : BitVec 1 := Scalar.cmpi .slt v1097 c0_i32_559
  let c0_i32_560 : BitVec 32 := 0#32
  let v1100 : BitVec 1 := Scalar.cmpi .slt v1096 c0_i32_560
  let v1101 : BitVec 1 := Scalar.xori v1099 v1100
  let c0_i32_558 : BitVec 32 := 0#32
  let v1098 : BitVec 1 := Scalar.cmpi .ne v1097 c0_i32_558
  let v1102 : BitVec 1 := Scalar.andi v1101 v1098
  let v1103 : BitVec 32 := Scalar.addi v1097 v1096
  let v1104 : BitVec 32 := Scalar.select v1102 v1103 v1097
  let v1108 : BitVec 1 := Scalar.cmpi .eq v1104 v2
  let v1109 : BitVec 32 := Scalar.extui v1108
  let c0_i32_562 : BitVec 32 := 0#32
  let v1110 : BitVec 1 := Scalar.cmpi .ne v1109 c0_i32_562
  v1110

def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond21 (d0 : Dev nD) : BitVec 1 :=
  let c10_i32_571 : BitVec 32 := 10#32
  let c8_i32_570 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1112 : BitVec 1 := Scalar.cmpi .sgt v2 c0_i32_564
  let v1113 : BitVec 32 := Scalar.extui v1112
  let c0_i32_565 : BitVec 32 := 0#32
  let v1114 : BitVec 1 := Scalar.cmpi .slt v2 c0_i32_565
  let v1115 : BitVec 32 := Scalar.extui v1114
  let v1116 : BitVec 32 := Scalar.subi v1113 v1115
  let c8_i32_563 : BitVec 32 := 8#32
  let c0_i32_566 : BitVec 32 := 0#32
  let v1117 : BitVec 1 := Scalar.cmpi .sgt c8_i32_563 c0_i32_566
  let v1118 : BitVec 32 := Scalar.extui v1117
  let c0_i32_567 : BitVec 32 := 0#32
  let v1119 : BitVec 1 := Scalar.cmpi .slt c8_i32_563 c0_i32_567
  let v1120 : BitVec 32 := Scalar.extui v1119
  let v1121 : BitVec 32 := Scalar.subi v1118 v1120
  let v1122 : BitVec 1 := Scalar.cmpi .ne v1116 v1121
  let v1123 : BitVec 32 := Scalar.remsi v2 c8_i32_563
  let c0_i32_568 : BitVec 32 := 0#32
  let v1124 : BitVec 1 := Scalar.cmpi .ne v1123 c0_i32_568
  let v1125 : BitVec 1 := Scalar.andi v1122 v1124
  let v1111 : BitVec 32 := Scalar.divsi v2 c8_i32_563
  let c1_i32_569 : BitVec 32 := 1#32
  let v1126 : BitVec 32 := Scalar.subi v1111 c1_i32_569
  let v1127 : BitVec 32 := Scalar.select v1125 v1126 v1111
  let v1128 : BitVec 32 := Scalar.muli c8_i32_570 v1127
  let v1129 : BitVec 32 := Scalar.addi c10_i32_571 v1128
  let c32_i32_572 : BitVec 32 := 32#32
  let c0_i32_573 : BitVec 32 := 0#32
  let v1130 : BitVec 1 := Scalar.cmpi .eq c32_i32_572 c0_i32_573
  let c1_i32_574 : BitVec 32 := 1#32
  let v1131 : BitVec 32 := Scalar.select v1130 c1_i32_574 c32_i32_572
  let v1132 : BitVec 32 := Scalar.remsi v1129 v1131
  let c0_i32_576 : BitVec 32 := 0#32
  let v1134 : BitVec 1 := Scalar.cmpi .slt v1132 c0_i32_576
  let c0_i32_577 : BitVec 32 := 0#32
  let v1135 : BitVec 1 := Scalar.cmpi .slt v1131 c0_i32_577
  let v1136 : BitVec 1 := Scalar.xori v1134 v1135
  let c0_i32_575 : BitVec 32 := 0#32
  let v1133 : BitVec 1 := Scalar.cmpi .ne v1132 c0_i32_575
  let v1137 : BitVec 1 := Scalar.andi v1136 v1133
  let v1138 : BitVec 32 := Scalar.addi v1132 v1131
  let v1139 : BitVec 32 := Scalar.select v1137 v1138 v1132
  let v1140 : BitVec 1 := Scalar.cmpi .ne v1139 v2
  let v1141 : BitVec 32 := Scalar.extui v1140
  let c0_i32_578 : BitVec 32 := 0#32
  let v1142 : BitVec 1 := Scalar.cmpi .ne v1141 c0_i32_578
  v1142

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev42 (d0 : Dev nD) : Nat :=
  let c0_i32_1914 : BitVec 32 := 0#32
  let c10_i32_571 : BitVec 32 := 10#32
  let c8_i32_570 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1112 : BitVec 1 := Scalar.cmpi .sgt v2 c0_i32_564
  let v1113 : BitVec 32 := Scalar.extui v1112
  let c0_i32_565 : BitVec 32 := 0#32
  let v1114 : BitVec 1 := Scalar.cmpi .slt v2 c0_i32_565
  let v1115 : BitVec 32 := Scalar.extui v1114
  let v1116 : BitVec 32 := Scalar.subi v1113 v1115
  let c8_i32_563 : BitVec 32 := 8#32
  let c0_i32_566 : BitVec 32 := 0#32
  let v1117 : BitVec 1 := Scalar.cmpi .sgt c8_i32_563 c0_i32_566
  let v1118 : BitVec 32 := Scalar.extui v1117
  let c0_i32_567 : BitVec 32 := 0#32
  let v1119 : BitVec 1 := Scalar.cmpi .slt c8_i32_563 c0_i32_567
  let v1120 : BitVec 32 := Scalar.extui v1119
  let v1121 : BitVec 32 := Scalar.subi v1118 v1120
  let v1122 : BitVec 1 := Scalar.cmpi .ne v1116 v1121
  let v1123 : BitVec 32 := Scalar.remsi v2 c8_i32_563
  let c0_i32_568 : BitVec 32 := 0#32
  let v1124 : BitVec 1 := Scalar.cmpi .ne v1123 c0_i32_568
  let v1125 : BitVec 1 := Scalar.andi v1122 v1124
  let v1111 : BitVec 32 := Scalar.divsi v2 c8_i32_563
  let c1_i32_569 : BitVec 32 := 1#32
  let v1126 : BitVec 32 := Scalar.subi v1111 c1_i32_569
  let v1127 : BitVec 32 := Scalar.select v1125 v1126 v1111
  let v1128 : BitVec 32 := Scalar.muli c8_i32_570 v1127
  let v1129 : BitVec 32 := Scalar.addi c10_i32_571 v1128
  let c32_i32_572 : BitVec 32 := 32#32
  let c0_i32_573 : BitVec 32 := 0#32
  let v1130 : BitVec 1 := Scalar.cmpi .eq c32_i32_572 c0_i32_573
  let c1_i32_574 : BitVec 32 := 1#32
  let v1131 : BitVec 32 := Scalar.select v1130 c1_i32_574 c32_i32_572
  let v1132 : BitVec 32 := Scalar.remsi v1129 v1131
  let c0_i32_576 : BitVec 32 := 0#32
  let v1134 : BitVec 1 := Scalar.cmpi .slt v1132 c0_i32_576
  let c0_i32_577 : BitVec 32 := 0#32
  let v1135 : BitVec 1 := Scalar.cmpi .slt v1131 c0_i32_577
  let v1136 : BitVec 1 := Scalar.xori v1134 v1135
  let c0_i32_575 : BitVec 32 := 0#32
  let v1133 : BitVec 1 := Scalar.cmpi .ne v1132 c0_i32_575
  let v1137 : BitVec 1 := Scalar.andi v1136 v1133
  let v1138 : BitVec 32 := Scalar.addi v1132 v1131
  let v1139 : BitVec 32 := Scalar.select v1137 v1138 v1132
  let c1_i32_1913 : BitVec 32 := 1#32
  let v3683 : BitVec 32 := Scalar.muli v1139 c1_i32_1913
  let v3684 : BitVec 32 := Scalar.addi c0_i32_1914 v3683
  v3684.toNat
def k0_cond22 (d0 : Dev nD) : BitVec 1 :=
  let c10_i32_571 : BitVec 32 := 10#32
  let c8_i32_570 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1112 : BitVec 1 := Scalar.cmpi .sgt v2 c0_i32_564
  let v1113 : BitVec 32 := Scalar.extui v1112
  let c0_i32_565 : BitVec 32 := 0#32
  let v1114 : BitVec 1 := Scalar.cmpi .slt v2 c0_i32_565
  let v1115 : BitVec 32 := Scalar.extui v1114
  let v1116 : BitVec 32 := Scalar.subi v1113 v1115
  let c8_i32_563 : BitVec 32 := 8#32
  let c0_i32_566 : BitVec 32 := 0#32
  let v1117 : BitVec 1 := Scalar.cmpi .sgt c8_i32_563 c0_i32_566
  let v1118 : BitVec 32 := Scalar.extui v1117
  let c0_i32_567 : BitVec 32 := 0#32
  let v1119 : BitVec 1 := Scalar.cmpi .slt c8_i32_563 c0_i32_567
  let v1120 : BitVec 32 := Scalar.extui v1119
  let v1121 : BitVec 32 := Scalar.subi v1118 v1120
  let v1122 : BitVec 1 := Scalar.cmpi .ne v1116 v1121
  let v1123 : BitVec 32 := Scalar.remsi v2 c8_i32_563
  let c0_i32_568 : BitVec 32 := 0#32
  let v1124 : BitVec 1 := Scalar.cmpi .ne v1123 c0_i32_568
  let v1125 : BitVec 1 := Scalar.andi v1122 v1124
  let v1111 : BitVec 32 := Scalar.divsi v2 c8_i32_563
  let c1_i32_569 : BitVec 32 := 1#32
  let v1126 : BitVec 32 := Scalar.subi v1111 c1_i32_569
  let v1127 : BitVec 32 := Scalar.select v1125 v1126 v1111
  let v1128 : BitVec 32 := Scalar.muli c8_i32_570 v1127
  let v1129 : BitVec 32 := Scalar.addi c10_i32_571 v1128
  let c32_i32_572 : BitVec 32 := 32#32
  let c0_i32_573 : BitVec 32 := 0#32
  let v1130 : BitVec 1 := Scalar.cmpi .eq c32_i32_572 c0_i32_573
  let c1_i32_574 : BitVec 32 := 1#32
  let v1131 : BitVec 32 := Scalar.select v1130 c1_i32_574 c32_i32_572
  let v1132 : BitVec 32 := Scalar.remsi v1129 v1131
  let c0_i32_576 : BitVec 32 := 0#32
  let v1134 : BitVec 1 := Scalar.cmpi .slt v1132 c0_i32_576
  let c0_i32_577 : BitVec 32 := 0#32
  let v1135 : BitVec 1 := Scalar.cmpi .slt v1131 c0_i32_577
  let v1136 : BitVec 1 := Scalar.xori v1134 v1135
  let c0_i32_575 : BitVec 32 := 0#32
  let v1133 : BitVec 1 := Scalar.cmpi .ne v1132 c0_i32_575
  let v1137 : BitVec 1 := Scalar.andi v1136 v1133
  let v1138 : BitVec 32 := Scalar.addi v1132 v1131
  let v1139 : BitVec 32 := Scalar.select v1137 v1138 v1132
  let v1143 : BitVec 1 := Scalar.cmpi .eq v1139 v2
  let v1144 : BitVec 32 := Scalar.extui v1143
  let c0_i32_579 : BitVec 32 := 0#32
  let v1145 : BitVec 1 := Scalar.cmpi .ne v1144 c0_i32_579
  v1145

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond23 (d0 : Dev nD) : BitVec 1 :=
  let c11_i32_588 : BitVec 32 := 11#32
  let c8_i32_587 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_581 : BitVec 32 := 0#32
  let v1147 : BitVec 1 := Scalar.cmpi .sgt v2 c0_i32_581
  let v1148 : BitVec 32 := Scalar.extui v1147
  let c0_i32_582 : BitVec 32 := 0#32
  let v1149 : BitVec 1 := Scalar.cmpi .slt v2 c0_i32_582
  let v1150 : BitVec 32 := Scalar.extui v1149
  let v1151 : BitVec 32 := Scalar.subi v1148 v1150
  let c8_i32_580 : BitVec 32 := 8#32
  let c0_i32_583 : BitVec 32 := 0#32
  let v1152 : BitVec 1 := Scalar.cmpi .sgt c8_i32_580 c0_i32_583
  let v1153 : BitVec 32 := Scalar.extui v1152
  let c0_i32_584 : BitVec 32 := 0#32
  let v1154 : BitVec 1 := Scalar.cmpi .slt c8_i32_580 c0_i32_584
  let v1155 : BitVec 32 := Scalar.extui v1154
  let v1156 : BitVec 32 := Scalar.subi v1153 v1155
  let v1157 : BitVec 1 := Scalar.cmpi .ne v1151 v1156
  let v1158 : BitVec 32 := Scalar.remsi v2 c8_i32_580
  let c0_i32_585 : BitVec 32 := 0#32
  let v1159 : BitVec 1 := Scalar.cmpi .ne v1158 c0_i32_585
  let v1160 : BitVec 1 := Scalar.andi v1157 v1159
  let v1146 : BitVec 32 := Scalar.divsi v2 c8_i32_580
  let c1_i32_586 : BitVec 32 := 1#32
  let v1161 : BitVec 32 := Scalar.subi v1146 c1_i32_586
  let v1162 : BitVec 32 := Scalar.select v1160 v1161 v1146
  let v1163 : BitVec 32 := Scalar.muli c8_i32_587 v1162
  let v1164 : BitVec 32 := Scalar.addi c11_i32_588 v1163
  let c32_i32_589 : BitVec 32 := 32#32
  let c0_i32_590 : BitVec 32 := 0#32
  let v1165 : BitVec 1 := Scalar.cmpi .eq c32_i32_589 c0_i32_590
  let c1_i32_591 : BitVec 32 := 1#32
  let v1166 : BitVec 32 := Scalar.select v1165 c1_i32_591 c32_i32_589
  let v1167 : BitVec 32 := Scalar.remsi v1164 v1166
  let c0_i32_593 : BitVec 32 := 0#32
  let v1169 : BitVec 1 := Scalar.cmpi .slt v1167 c0_i32_593
  let c0_i32_594 : BitVec 32 := 0#32
  let v1170 : BitVec 1 := Scalar.cmpi .slt v1166 c0_i32_594
  let v1171 : BitVec 1 := Scalar.xori v1169 v1170
  let c0_i32_592 : BitVec 32 := 0#32
  let v1168 : BitVec 1 := Scalar.cmpi .ne v1167 c0_i32_592
  let v1172 : BitVec 1 := Scalar.andi v1171 v1168
  let v1173 : BitVec 32 := Scalar.addi v1167 v1166
  let v1174 : BitVec 32 := Scalar.select v1172 v1173 v1167
  let v1175 : BitVec 1 := Scalar.cmpi .ne v1174 v2
  let v1176 : BitVec 32 := Scalar.extui v1175
  let c0_i32_595 : BitVec 32 := 0#32
  let v1177 : BitVec 1 := Scalar.cmpi .ne v1176 c0_i32_595
  v1177

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev43 (d0 : Dev nD) : Nat :=
  let c0_i32_1914 : BitVec 32 := 0#32
  let c11_i32_588 : BitVec 32 := 11#32
  let c8_i32_587 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_581 : BitVec 32 := 0#32
  let v1147 : BitVec 1 := Scalar.cmpi .sgt v2 c0_i32_581
  let v1148 : BitVec 32 := Scalar.extui v1147
  let c0_i32_582 : BitVec 32 := 0#32
  let v1149 : BitVec 1 := Scalar.cmpi .slt v2 c0_i32_582
  let v1150 : BitVec 32 := Scalar.extui v1149
  let v1151 : BitVec 32 := Scalar.subi v1148 v1150
  let c8_i32_580 : BitVec 32 := 8#32
  let c0_i32_583 : BitVec 32 := 0#32
  let v1152 : BitVec 1 := Scalar.cmpi .sgt c8_i32_580 c0_i32_583
  let v1153 : BitVec 32 := Scalar.extui v1152
  let c0_i32_584 : BitVec 32 := 0#32
  let v1154 : BitVec 1 := Scalar.cmpi .slt c8_i32_580 c0_i32_584
  let v1155 : BitVec 32 := Scalar.extui v1154
  let v1156 : BitVec 32 := Scalar.subi v1153 v1155
  let v1157 : BitVec 1 := Scalar.cmpi .ne v1151 v1156
  let v1158 : BitVec 32 := Scalar.remsi v2 c8_i32_580
  let c0_i32_585 : BitVec 32 := 0#32
  let v1159 : BitVec 1 := Scalar.cmpi .ne v1158 c0_i32_585
  let v1160 : BitVec 1 := Scalar.andi v1157 v1159
  let v1146 : BitVec 32 := Scalar.divsi v2 c8_i32_580
  let c1_i32_586 : BitVec 32 := 1#32
  let v1161 : BitVec 32 := Scalar.subi v1146 c1_i32_586
  let v1162 : BitVec 32 := Scalar.select v1160 v1161 v1146
  let v1163 : BitVec 32 := Scalar.muli c8_i32_587 v1162
  let v1164 : BitVec 32 := Scalar.addi c11_i32_588 v1163
  let c32_i32_589 : BitVec 32 := 32#32
  let c0_i32_590 : BitVec 32 := 0#32
  let v1165 : BitVec 1 := Scalar.cmpi .eq c32_i32_589 c0_i32_590
  let c1_i32_591 : BitVec 32 := 1#32
  let v1166 : BitVec 32 := Scalar.select v1165 c1_i32_591 c32_i32_589
  let v1167 : BitVec 32 := Scalar.remsi v1164 v1166
  let c0_i32_593 : BitVec 32 := 0#32
  let v1169 : BitVec 1 := Scalar.cmpi .slt v1167 c0_i32_593
  let c0_i32_594 : BitVec 32 := 0#32
  let v1170 : BitVec 1 := Scalar.cmpi .slt v1166 c0_i32_594
  let v1171 : BitVec 1 := Scalar.xori v1169 v1170
  let c0_i32_592 : BitVec 32 := 0#32
  let v1168 : BitVec 1 := Scalar.cmpi .ne v1167 c0_i32_592
  let v1172 : BitVec 1 := Scalar.andi v1171 v1168
  let v1173 : BitVec 32 := Scalar.addi v1167 v1166
  let v1174 : BitVec 32 := Scalar.select v1172 v1173 v1167
  let c1_i32_1913 : BitVec 32 := 1#32
  let v3683 : BitVec 32 := Scalar.muli v1174 c1_i32_1913
  let v3684 : BitVec 32 := Scalar.addi c0_i32_1914 v3683
  v3684.toNat
def k0_cond24 (d0 : Dev nD) : BitVec 1 :=
  let c11_i32_588 : BitVec 32 := 11#32
  let c8_i32_587 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_581 : BitVec 32 := 0#32
  let v1147 : BitVec 1 := Scalar.cmpi .sgt v2 c0_i32_581
  let v1148 : BitVec 32 := Scalar.extui v1147
  let c0_i32_582 : BitVec 32 := 0#32
  let v1149 : BitVec 1 := Scalar.cmpi .slt v2 c0_i32_582
  let v1150 : BitVec 32 := Scalar.extui v1149
  let v1151 : BitVec 32 := Scalar.subi v1148 v1150
  let c8_i32_580 : BitVec 32 := 8#32
  let c0_i32_583 : BitVec 32 := 0#32
  let v1152 : BitVec 1 := Scalar.cmpi .sgt c8_i32_580 c0_i32_583
  let v1153 : BitVec 32 := Scalar.extui v1152
  let c0_i32_584 : BitVec 32 := 0#32
  let v1154 : BitVec 1 := Scalar.cmpi .slt c8_i32_580 c0_i32_584
  let v1155 : BitVec 32 := Scalar.extui v1154
  let v1156 : BitVec 32 := Scalar.subi v1153 v1155
  let v1157 : BitVec 1 := Scalar.cmpi .ne v1151 v1156
  let v1158 : BitVec 32 := Scalar.remsi v2 c8_i32_580
  let c0_i32_585 : BitVec 32 := 0#32
  let v1159 : BitVec 1 := Scalar.cmpi .ne v1158 c0_i32_585
  let v1160 : BitVec 1 := Scalar.andi v1157 v1159
  let v1146 : BitVec 32 := Scalar.divsi v2 c8_i32_580
  let c1_i32_586 : BitVec 32 := 1#32
  let v1161 : BitVec 32 := Scalar.subi v1146 c1_i32_586
  let v1162 : BitVec 32 := Scalar.select v1160 v1161 v1146
  let v1163 : BitVec 32 := Scalar.muli c8_i32_587 v1162
  let v1164 : BitVec 32 := Scalar.addi c11_i32_588 v1163
  let c32_i32_589 : BitVec 32 := 32#32
  let c0_i32_590 : BitVec 32 := 0#32
  let v1165 : BitVec 1 := Scalar.cmpi .eq c32_i32_589 c0_i32_590
  let c1_i32_591 : BitVec 32 := 1#32
  let v1166 : BitVec 32 := Scalar.select v1165 c1_i32_591 c32_i32_589
  let v1167 : BitVec 32 := Scalar.remsi v1164 v1166
  let c0_i32_593 : BitVec 32 := 0#32
  let v1169 : BitVec 1 := Scalar.cmpi .slt v1167 c0_i32_593
  let c0_i32_594 : BitVec 32 := 0#32
  let v1170 : BitVec 1 := Scalar.cmpi .slt v1166 c0_i32_594
  let v1171 : BitVec 1 := Scalar.xori v1169 v1170
  let c0_i32_592 : BitVec 32 := 0#32
  let v1168 : BitVec 1 := Scalar.cmpi .ne v1167 c0_i32_592
  let v1172 : BitVec 1 := Scalar.andi v1171 v1168
  let v1173 : BitVec 32 := Scalar.addi v1167 v1166
  let v1174 : BitVec 32 := Scalar.select v1172 v1173 v1167
  let v1178 : BitVec 1 := Scalar.cmpi .eq v1174 v2
  let v1179 : BitVec 32 := Scalar.extui v1178
  let c0_i32_596 : BitVec 32 := 0#32
  let v1180 : BitVec 1 := Scalar.cmpi .ne v1179 c0_i32_596
  v1180

def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond25 (d0 : Dev nD) : BitVec 1 :=
  let c12_i32_605 : BitVec 32 := 12#32
  let c8_i32_604 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_598 : BitVec 32 := 0#32
  let v1182 : BitVec 1 := Scalar.cmpi .sgt v2 c0_i32_598
  let v1183 : BitVec 32 := Scalar.extui v1182
  let c0_i32_599 : BitVec 32 := 0#32
  let v1184 : BitVec 1 := Scalar.cmpi .slt v2 c0_i32_599
  let v1185 : BitVec 32 := Scalar.extui v1184
  let v1186 : BitVec 32 := Scalar.subi v1183 v1185
  let c8_i32_597 : BitVec 32 := 8#32
  let c0_i32_600 : BitVec 32 := 0#32
  let v1187 : BitVec 1 := Scalar.cmpi .sgt c8_i32_597 c0_i32_600
  let v1188 : BitVec 32 := Scalar.extui v1187
  let c0_i32_601 : BitVec 32 := 0#32
  let v1189 : BitVec 1 := Scalar.cmpi .slt c8_i32_597 c0_i32_601
  let v1190 : BitVec 32 := Scalar.extui v1189
  let v1191 : BitVec 32 := Scalar.subi v1188 v1190
  let v1192 : BitVec 1 := Scalar.cmpi .ne v1186 v1191
  let v1193 : BitVec 32 := Scalar.remsi v2 c8_i32_597
  let c0_i32_602 : BitVec 32 := 0#32
  let v1194 : BitVec 1 := Scalar.cmpi .ne v1193 c0_i32_602
  let v1195 : BitVec 1 := Scalar.andi v1192 v1194
  let v1181 : BitVec 32 := Scalar.divsi v2 c8_i32_597
  let c1_i32_603 : BitVec 32 := 1#32
  let v1196 : BitVec 32 := Scalar.subi v1181 c1_i32_603
  let v1197 : BitVec 32 := Scalar.select v1195 v1196 v1181
  let v1198 : BitVec 32 := Scalar.muli c8_i32_604 v1197
  let v1199 : BitVec 32 := Scalar.addi c12_i32_605 v1198
  let c32_i32_606 : BitVec 32 := 32#32
  let c0_i32_607 : BitVec 32 := 0#32
  let v1200 : BitVec 1 := Scalar.cmpi .eq c32_i32_606 c0_i32_607
  let c1_i32_608 : BitVec 32 := 1#32
  let v1201 : BitVec 32 := Scalar.select v1200 c1_i32_608 c32_i32_606
  let v1202 : BitVec 32 := Scalar.remsi v1199 v1201
  let c0_i32_610 : BitVec 32 := 0#32
  let v1204 : BitVec 1 := Scalar.cmpi .slt v1202 c0_i32_610
  let c0_i32_611 : BitVec 32 := 0#32
  let v1205 : BitVec 1 := Scalar.cmpi .slt v1201 c0_i32_611
  let v1206 : BitVec 1 := Scalar.xori v1204 v1205
  let c0_i32_609 : BitVec 32 := 0#32
  let v1203 : BitVec 1 := Scalar.cmpi .ne v1202 c0_i32_609
  let v1207 : BitVec 1 := Scalar.andi v1206 v1203
  let v1208 : BitVec 32 := Scalar.addi v1202 v1201
  let v1209 : BitVec 32 := Scalar.select v1207 v1208 v1202
  let v1210 : BitVec 1 := Scalar.cmpi .ne v1209 v2
  let v1211 : BitVec 32 := Scalar.extui v1210
  let c0_i32_612 : BitVec 32 := 0#32
  let v1212 : BitVec 1 := Scalar.cmpi .ne v1211 c0_i32_612
  v1212

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev44 (d0 : Dev nD) : Nat :=
  let c0_i32_1914 : BitVec 32 := 0#32
  let c12_i32_605 : BitVec 32 := 12#32
  let c8_i32_604 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_598 : BitVec 32 := 0#32
  let v1182 : BitVec 1 := Scalar.cmpi .sgt v2 c0_i32_598
  let v1183 : BitVec 32 := Scalar.extui v1182
  let c0_i32_599 : BitVec 32 := 0#32
  let v1184 : BitVec 1 := Scalar.cmpi .slt v2 c0_i32_599
  let v1185 : BitVec 32 := Scalar.extui v1184
  let v1186 : BitVec 32 := Scalar.subi v1183 v1185
  let c8_i32_597 : BitVec 32 := 8#32
  let c0_i32_600 : BitVec 32 := 0#32
  let v1187 : BitVec 1 := Scalar.cmpi .sgt c8_i32_597 c0_i32_600
  let v1188 : BitVec 32 := Scalar.extui v1187
  let c0_i32_601 : BitVec 32 := 0#32
  let v1189 : BitVec 1 := Scalar.cmpi .slt c8_i32_597 c0_i32_601
  let v1190 : BitVec 32 := Scalar.extui v1189
  let v1191 : BitVec 32 := Scalar.subi v1188 v1190
  let v1192 : BitVec 1 := Scalar.cmpi .ne v1186 v1191
  let v1193 : BitVec 32 := Scalar.remsi v2 c8_i32_597
  let c0_i32_602 : BitVec 32 := 0#32
  let v1194 : BitVec 1 := Scalar.cmpi .ne v1193 c0_i32_602
  let v1195 : BitVec 1 := Scalar.andi v1192 v1194
  let v1181 : BitVec 32 := Scalar.divsi v2 c8_i32_597
  let c1_i32_603 : BitVec 32 := 1#32
  let v1196 : BitVec 32 := Scalar.subi v1181 c1_i32_603
  let v1197 : BitVec 32 := Scalar.select v1195 v1196 v1181
  let v1198 : BitVec 32 := Scalar.muli c8_i32_604 v1197
  let v1199 : BitVec 32 := Scalar.addi c12_i32_605 v1198
  let c32_i32_606 : BitVec 32 := 32#32
  let c0_i32_607 : BitVec 32 := 0#32
  let v1200 : BitVec 1 := Scalar.cmpi .eq c32_i32_606 c0_i32_607
  let c1_i32_608 : BitVec 32 := 1#32
  let v1201 : BitVec 32 := Scalar.select v1200 c1_i32_608 c32_i32_606
  let v1202 : BitVec 32 := Scalar.remsi v1199 v1201
  let c0_i32_610 : BitVec 32 := 0#32
  let v1204 : BitVec 1 := Scalar.cmpi .slt v1202 c0_i32_610
  let c0_i32_611 : BitVec 32 := 0#32
  let v1205 : BitVec 1 := Scalar.cmpi .slt v1201 c0_i32_611
  let v1206 : BitVec 1 := Scalar.xori v1204 v1205
  let c0_i32_609 : BitVec 32 := 0#32
  let v1203 : BitVec 1 := Scalar.cmpi .ne v1202 c0_i32_609
  let v1207 : BitVec 1 := Scalar.andi v1206 v1203
  let v1208 : BitVec 32 := Scalar.addi v1202 v1201
  let v1209 : BitVec 32 := Scalar.select v1207 v1208 v1202
  let c1_i32_1913 : BitVec 32 := 1#32
  let v3683 : BitVec 32 := Scalar.muli v1209 c1_i32_1913
  let v3684 : BitVec 32 := Scalar.addi c0_i32_1914 v3683
  v3684.toNat
def k0_cond26 (d0 : Dev nD) : BitVec 1 :=
  let c12_i32_605 : BitVec 32 := 12#32
  let c8_i32_604 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_598 : BitVec 32 := 0#32
  let v1182 : BitVec 1 := Scalar.cmpi .sgt v2 c0_i32_598
  let v1183 : BitVec 32 := Scalar.extui v1182
  let c0_i32_599 : BitVec 32 := 0#32
  let v1184 : BitVec 1 := Scalar.cmpi .slt v2 c0_i32_599
  let v1185 : BitVec 32 := Scalar.extui v1184
  let v1186 : BitVec 32 := Scalar.subi v1183 v1185
  let c8_i32_597 : BitVec 32 := 8#32
  let c0_i32_600 : BitVec 32 := 0#32
  let v1187 : BitVec 1 := Scalar.cmpi .sgt c8_i32_597 c0_i32_600
  let v1188 : BitVec 32 := Scalar.extui v1187
  let c0_i32_601 : BitVec 32 := 0#32
  let v1189 : BitVec 1 := Scalar.cmpi .slt c8_i32_597 c0_i32_601
  let v1190 : BitVec 32 := Scalar.extui v1189
  let v1191 : BitVec 32 := Scalar.subi v1188 v1190
  let v1192 : BitVec 1 := Scalar.cmpi .ne v1186 v1191
  let v1193 : BitVec 32 := Scalar.remsi v2 c8_i32_597
  let c0_i32_602 : BitVec 32 := 0#32
  let v1194 : BitVec 1 := Scalar.cmpi .ne v1193 c0_i32_602
  let v1195 : BitVec 1 := Scalar.andi v1192 v1194
  let v1181 : BitVec 32 := Scalar.divsi v2 c8_i32_597
  let c1_i32_603 : BitVec 32 := 1#32
  let v1196 : BitVec 32 := Scalar.subi v1181 c1_i32_603
  let v1197 : BitVec 32 := Scalar.select v1195 v1196 v1181
  let v1198 : BitVec 32 := Scalar.muli c8_i32_604 v1197
  let v1199 : BitVec 32 := Scalar.addi c12_i32_605 v1198
  let c32_i32_606 : BitVec 32 := 32#32
  let c0_i32_607 : BitVec 32 := 0#32
  let v1200 : BitVec 1 := Scalar.cmpi .eq c32_i32_606 c0_i32_607
  let c1_i32_608 : BitVec 32 := 1#32
  let v1201 : BitVec 32 := Scalar.select v1200 c1_i32_608 c32_i32_606
  let v1202 : BitVec 32 := Scalar.remsi v1199 v1201
  let c0_i32_610 : BitVec 32 := 0#32
  let v1204 : BitVec 1 := Scalar.cmpi .slt v1202 c0_i32_610
  let c0_i32_611 : BitVec 32 := 0#32
  let v1205 : BitVec 1 := Scalar.cmpi .slt v1201 c0_i32_611
  let v1206 : BitVec 1 := Scalar.xori v1204 v1205
  let c0_i32_609 : BitVec 32 := 0#32
  let v1203 : BitVec 1 := Scalar.cmpi .ne v1202 c0_i32_609
  let v1207 : BitVec 1 := Scalar.andi v1206 v1203
  let v1208 : BitVec 32 := Scalar.addi v1202 v1201
  let v1209 : BitVec 32 := Scalar.select v1207 v1208 v1202
  let v1213 : BitVec 1 := Scalar.cmpi .eq v1209 v2
  let v1214 : BitVec 32 := Scalar.extui v1213
  let c0_i32_613 : BitVec 32 := 0#32
  let v1215 : BitVec 1 := Scalar.cmpi .ne v1214 c0_i32_613
  v1215

def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond27 (d0 : Dev nD) : BitVec 1 :=
  let c13_i32_622 : BitVec 32 := 13#32
  let c8_i32_621 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_615 : BitVec 32 := 0#32
  let v1217 : BitVec 1 := Scalar.cmpi .sgt v2 c0_i32_615
  let v1218 : BitVec 32 := Scalar.extui v1217
  let c0_i32_616 : BitVec 32 := 0#32
  let v1219 : BitVec 1 := Scalar.cmpi .slt v2 c0_i32_616
  let v1220 : BitVec 32 := Scalar.extui v1219
  let v1221 : BitVec 32 := Scalar.subi v1218 v1220
  let c8_i32_614 : BitVec 32 := 8#32
  let c0_i32_617 : BitVec 32 := 0#32
  let v1222 : BitVec 1 := Scalar.cmpi .sgt c8_i32_614 c0_i32_617
  let v1223 : BitVec 32 := Scalar.extui v1222
  let c0_i32_618 : BitVec 32 := 0#32
  let v1224 : BitVec 1 := Scalar.cmpi .slt c8_i32_614 c0_i32_618
  let v1225 : BitVec 32 := Scalar.extui v1224
  let v1226 : BitVec 32 := Scalar.subi v1223 v1225
  let v1227 : BitVec 1 := Scalar.cmpi .ne v1221 v1226
  let v1228 : BitVec 32 := Scalar.remsi v2 c8_i32_614
  let c0_i32_619 : BitVec 32 := 0#32
  let v1229 : BitVec 1 := Scalar.cmpi .ne v1228 c0_i32_619
  let v1230 : BitVec 1 := Scalar.andi v1227 v1229
  let v1216 : BitVec 32 := Scalar.divsi v2 c8_i32_614
  let c1_i32_620 : BitVec 32 := 1#32
  let v1231 : BitVec 32 := Scalar.subi v1216 c1_i32_620
  let v1232 : BitVec 32 := Scalar.select v1230 v1231 v1216
  let v1233 : BitVec 32 := Scalar.muli c8_i32_621 v1232
  let v1234 : BitVec 32 := Scalar.addi c13_i32_622 v1233
  let c32_i32_623 : BitVec 32 := 32#32
  let c0_i32_624 : BitVec 32 := 0#32
  let v1235 : BitVec 1 := Scalar.cmpi .eq c32_i32_623 c0_i32_624
  let c1_i32_625 : BitVec 32 := 1#32
  let v1236 : BitVec 32 := Scalar.select v1235 c1_i32_625 c32_i32_623
  let v1237 : BitVec 32 := Scalar.remsi v1234 v1236
  let c0_i32_627 : BitVec 32 := 0#32
  let v1239 : BitVec 1 := Scalar.cmpi .slt v1237 c0_i32_627
  let c0_i32_628 : BitVec 32 := 0#32
  let v1240 : BitVec 1 := Scalar.cmpi .slt v1236 c0_i32_628
  let v1241 : BitVec 1 := Scalar.xori v1239 v1240
  let c0_i32_626 : BitVec 32 := 0#32
  let v1238 : BitVec 1 := Scalar.cmpi .ne v1237 c0_i32_626
  let v1242 : BitVec 1 := Scalar.andi v1241 v1238
  let v1243 : BitVec 32 := Scalar.addi v1237 v1236
  let v1244 : BitVec 32 := Scalar.select v1242 v1243 v1237
  let v1245 : BitVec 1 := Scalar.cmpi .ne v1244 v2
  let v1246 : BitVec 32 := Scalar.extui v1245
  let c0_i32_629 : BitVec 32 := 0#32
  let v1247 : BitVec 1 := Scalar.cmpi .ne v1246 c0_i32_629
  v1247

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev45 (d0 : Dev nD) : Nat :=
  let c0_i32_1914 : BitVec 32 := 0#32
  let c13_i32_622 : BitVec 32 := 13#32
  let c8_i32_621 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_615 : BitVec 32 := 0#32
  let v1217 : BitVec 1 := Scalar.cmpi .sgt v2 c0_i32_615
  let v1218 : BitVec 32 := Scalar.extui v1217
  let c0_i32_616 : BitVec 32 := 0#32
  let v1219 : BitVec 1 := Scalar.cmpi .slt v2 c0_i32_616
  let v1220 : BitVec 32 := Scalar.extui v1219
  let v1221 : BitVec 32 := Scalar.subi v1218 v1220
  let c8_i32_614 : BitVec 32 := 8#32
  let c0_i32_617 : BitVec 32 := 0#32
  let v1222 : BitVec 1 := Scalar.cmpi .sgt c8_i32_614 c0_i32_617
  let v1223 : BitVec 32 := Scalar.extui v1222
  let c0_i32_618 : BitVec 32 := 0#32
  let v1224 : BitVec 1 := Scalar.cmpi .slt c8_i32_614 c0_i32_618
  let v1225 : BitVec 32 := Scalar.extui v1224
  let v1226 : BitVec 32 := Scalar.subi v1223 v1225
  let v1227 : BitVec 1 := Scalar.cmpi .ne v1221 v1226
  let v1228 : BitVec 32 := Scalar.remsi v2 c8_i32_614
  let c0_i32_619 : BitVec 32 := 0#32
  let v1229 : BitVec 1 := Scalar.cmpi .ne v1228 c0_i32_619
  let v1230 : BitVec 1 := Scalar.andi v1227 v1229
  let v1216 : BitVec 32 := Scalar.divsi v2 c8_i32_614
  let c1_i32_620 : BitVec 32 := 1#32
  let v1231 : BitVec 32 := Scalar.subi v1216 c1_i32_620
  let v1232 : BitVec 32 := Scalar.select v1230 v1231 v1216
  let v1233 : BitVec 32 := Scalar.muli c8_i32_621 v1232
  let v1234 : BitVec 32 := Scalar.addi c13_i32_622 v1233
  let c32_i32_623 : BitVec 32 := 32#32
  let c0_i32_624 : BitVec 32 := 0#32
  let v1235 : BitVec 1 := Scalar.cmpi .eq c32_i32_623 c0_i32_624
  let c1_i32_625 : BitVec 32 := 1#32
  let v1236 : BitVec 32 := Scalar.select v1235 c1_i32_625 c32_i32_623
  let v1237 : BitVec 32 := Scalar.remsi v1234 v1236
  let c0_i32_627 : BitVec 32 := 0#32
  let v1239 : BitVec 1 := Scalar.cmpi .slt v1237 c0_i32_627
  let c0_i32_628 : BitVec 32 := 0#32
  let v1240 : BitVec 1 := Scalar.cmpi .slt v1236 c0_i32_628
  let v1241 : BitVec 1 := Scalar.xori v1239 v1240
  let c0_i32_626 : BitVec 32 := 0#32
  let v1238 : BitVec 1 := Scalar.cmpi .ne v1237 c0_i32_626
  let v1242 : BitVec 1 := Scalar.andi v1241 v1238
  let v1243 : BitVec 32 := Scalar.addi v1237 v1236
  let v1244 : BitVec 32 := Scalar.select v1242 v1243 v1237
  let c1_i32_1913 : BitVec 32 := 1#32
  let v3683 : BitVec 32 := Scalar.muli v1244 c1_i32_1913
  let v3684 : BitVec 32 := Scalar.addi c0_i32_1914 v3683
  v3684.toNat
def k0_cond28 (d0 : Dev nD) : BitVec 1 :=
  let c13_i32_622 : BitVec 32 := 13#32
  let c8_i32_621 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_615 : BitVec 32 := 0#32
  let v1217 : BitVec 1 := Scalar.cmpi .sgt v2 c0_i32_615
  let v1218 : BitVec 32 := Scalar.extui v1217
  let c0_i32_616 : BitVec 32 := 0#32
  let v1219 : BitVec 1 := Scalar.cmpi .slt v2 c0_i32_616
  let v1220 : BitVec 32 := Scalar.extui v1219
  let v1221 : BitVec 32 := Scalar.subi v1218 v1220
  let c8_i32_614 : BitVec 32 := 8#32
  let c0_i32_617 : BitVec 32 := 0#32
  let v1222 : BitVec 1 := Scalar.cmpi .sgt c8_i32_614 c0_i32_617
  let v1223 : BitVec 32 := Scalar.extui v1222
  let c0_i32_618 : BitVec 32 := 0#32
  let v1224 : BitVec 1 := Scalar.cmpi .slt c8_i32_614 c0_i32_618
  let v1225 : BitVec 32 := Scalar.extui v1224
  let v1226 : BitVec 32 := Scalar.subi v1223 v1225
  let v1227 : BitVec 1 := Scalar.cmpi .ne v1221 v1226
  let v1228 : BitVec 32 := Scalar.remsi v2 c8_i32_614
  let c0_i32_619 : BitVec 32 := 0#32
  let v1229 : BitVec 1 := Scalar.cmpi .ne v1228 c0_i32_619
  let v1230 : BitVec 1 := Scalar.andi v1227 v1229
  let v1216 : BitVec 32 := Scalar.divsi v2 c8_i32_614
  let c1_i32_620 : BitVec 32 := 1#32
  let v1231 : BitVec 32 := Scalar.subi v1216 c1_i32_620
  let v1232 : BitVec 32 := Scalar.select v1230 v1231 v1216
  let v1233 : BitVec 32 := Scalar.muli c8_i32_621 v1232
  let v1234 : BitVec 32 := Scalar.addi c13_i32_622 v1233
  let c32_i32_623 : BitVec 32 := 32#32
  let c0_i32_624 : BitVec 32 := 0#32
  let v1235 : BitVec 1 := Scalar.cmpi .eq c32_i32_623 c0_i32_624
  let c1_i32_625 : BitVec 32 := 1#32
  let v1236 : BitVec 32 := Scalar.select v1235 c1_i32_625 c32_i32_623
  let v1237 : BitVec 32 := Scalar.remsi v1234 v1236
  let c0_i32_627 : BitVec 32 := 0#32
  let v1239 : BitVec 1 := Scalar.cmpi .slt v1237 c0_i32_627
  let c0_i32_628 : BitVec 32 := 0#32
  let v1240 : BitVec 1 := Scalar.cmpi .slt v1236 c0_i32_628
  let v1241 : BitVec 1 := Scalar.xori v1239 v1240
  let c0_i32_626 : BitVec 32 := 0#32
  let v1238 : BitVec 1 := Scalar.cmpi .ne v1237 c0_i32_626
  let v1242 : BitVec 1 := Scalar.andi v1241 v1238
  let v1243 : BitVec 32 := Scalar.addi v1237 v1236
  let v1244 : BitVec 32 := Scalar.select v1242 v1243 v1237
  let v1248 : BitVec 1 := Scalar.cmpi .eq v1244 v2
  let v1249 : BitVec 32 := Scalar.extui v1248
  let c0_i32_630 : BitVec 32 := 0#32
  let v1250 : BitVec 1 := Scalar.cmpi .ne v1249 c0_i32_630
  v1250

def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond29 (d0 : Dev nD) : BitVec 1 :=
  let c14_i32_639 : BitVec 32 := 14#32
  let c8_i32_638 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_632 : BitVec 32 := 0#32
  let v1252 : BitVec 1 := Scalar.cmpi .sgt v2 c0_i32_632
  let v1253 : BitVec 32 := Scalar.extui v1252
  let c0_i32_633 : BitVec 32 := 0#32
  let v1254 : BitVec 1 := Scalar.cmpi .slt v2 c0_i32_633
  let v1255 : BitVec 32 := Scalar.extui v1254
  let v1256 : BitVec 32 := Scalar.subi v1253 v1255
  let c8_i32_631 : BitVec 32 := 8#32
  let c0_i32_634 : BitVec 32 := 0#32
  let v1257 : BitVec 1 := Scalar.cmpi .sgt c8_i32_631 c0_i32_634
  let v1258 : BitVec 32 := Scalar.extui v1257
  let c0_i32_635 : BitVec 32 := 0#32
  let v1259 : BitVec 1 := Scalar.cmpi .slt c8_i32_631 c0_i32_635
  let v1260 : BitVec 32 := Scalar.extui v1259
  let v1261 : BitVec 32 := Scalar.subi v1258 v1260
  let v1262 : BitVec 1 := Scalar.cmpi .ne v1256 v1261
  let v1263 : BitVec 32 := Scalar.remsi v2 c8_i32_631
  let c0_i32_636 : BitVec 32 := 0#32
  let v1264 : BitVec 1 := Scalar.cmpi .ne v1263 c0_i32_636
  let v1265 : BitVec 1 := Scalar.andi v1262 v1264
  let v1251 : BitVec 32 := Scalar.divsi v2 c8_i32_631
  let c1_i32_637 : BitVec 32 := 1#32
  let v1266 : BitVec 32 := Scalar.subi v1251 c1_i32_637
  let v1267 : BitVec 32 := Scalar.select v1265 v1266 v1251
  let v1268 : BitVec 32 := Scalar.muli c8_i32_638 v1267
  let v1269 : BitVec 32 := Scalar.addi c14_i32_639 v1268
  let c32_i32_640 : BitVec 32 := 32#32
  let c0_i32_641 : BitVec 32 := 0#32
  let v1270 : BitVec 1 := Scalar.cmpi .eq c32_i32_640 c0_i32_641
  let c1_i32_642 : BitVec 32 := 1#32
  let v1271 : BitVec 32 := Scalar.select v1270 c1_i32_642 c32_i32_640
  let v1272 : BitVec 32 := Scalar.remsi v1269 v1271
  let c0_i32_644 : BitVec 32 := 0#32
  let v1274 : BitVec 1 := Scalar.cmpi .slt v1272 c0_i32_644
  let c0_i32_645 : BitVec 32 := 0#32
  let v1275 : BitVec 1 := Scalar.cmpi .slt v1271 c0_i32_645
  let v1276 : BitVec 1 := Scalar.xori v1274 v1275
  let c0_i32_643 : BitVec 32 := 0#32
  let v1273 : BitVec 1 := Scalar.cmpi .ne v1272 c0_i32_643
  let v1277 : BitVec 1 := Scalar.andi v1276 v1273
  let v1278 : BitVec 32 := Scalar.addi v1272 v1271
  let v1279 : BitVec 32 := Scalar.select v1277 v1278 v1272
  let v1280 : BitVec 1 := Scalar.cmpi .ne v1279 v2
  let v1281 : BitVec 32 := Scalar.extui v1280
  let c0_i32_646 : BitVec 32 := 0#32
  let v1282 : BitVec 1 := Scalar.cmpi .ne v1281 c0_i32_646
  v1282

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev46 (d0 : Dev nD) : Nat :=
  let c0_i32_1914 : BitVec 32 := 0#32
  let c14_i32_639 : BitVec 32 := 14#32
  let c8_i32_638 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_632 : BitVec 32 := 0#32
  let v1252 : BitVec 1 := Scalar.cmpi .sgt v2 c0_i32_632
  let v1253 : BitVec 32 := Scalar.extui v1252
  let c0_i32_633 : BitVec 32 := 0#32
  let v1254 : BitVec 1 := Scalar.cmpi .slt v2 c0_i32_633
  let v1255 : BitVec 32 := Scalar.extui v1254
  let v1256 : BitVec 32 := Scalar.subi v1253 v1255
  let c8_i32_631 : BitVec 32 := 8#32
  let c0_i32_634 : BitVec 32 := 0#32
  let v1257 : BitVec 1 := Scalar.cmpi .sgt c8_i32_631 c0_i32_634
  let v1258 : BitVec 32 := Scalar.extui v1257
  let c0_i32_635 : BitVec 32 := 0#32
  let v1259 : BitVec 1 := Scalar.cmpi .slt c8_i32_631 c0_i32_635
  let v1260 : BitVec 32 := Scalar.extui v1259
  let v1261 : BitVec 32 := Scalar.subi v1258 v1260
  let v1262 : BitVec 1 := Scalar.cmpi .ne v1256 v1261
  let v1263 : BitVec 32 := Scalar.remsi v2 c8_i32_631
  let c0_i32_636 : BitVec 32 := 0#32
  let v1264 : BitVec 1 := Scalar.cmpi .ne v1263 c0_i32_636
  let v1265 : BitVec 1 := Scalar.andi v1262 v1264
  let v1251 : BitVec 32 := Scalar.divsi v2 c8_i32_631
  let c1_i32_637 : BitVec 32 := 1#32
  let v1266 : BitVec 32 := Scalar.subi v1251 c1_i32_637
  let v1267 : BitVec 32 := Scalar.select v1265 v1266 v1251
  let v1268 : BitVec 32 := Scalar.muli c8_i32_638 v1267
  let v1269 : BitVec 32 := Scalar.addi c14_i32_639 v1268
  let c32_i32_640 : BitVec 32 := 32#32
  let c0_i32_641 : BitVec 32 := 0#32
  let v1270 : BitVec 1 := Scalar.cmpi .eq c32_i32_640 c0_i32_641
  let c1_i32_642 : BitVec 32 := 1#32
  let v1271 : BitVec 32 := Scalar.select v1270 c1_i32_642 c32_i32_640
  let v1272 : BitVec 32 := Scalar.remsi v1269 v1271
  let c0_i32_644 : BitVec 32 := 0#32
  let v1274 : BitVec 1 := Scalar.cmpi .slt v1272 c0_i32_644
  let c0_i32_645 : BitVec 32 := 0#32
  let v1275 : BitVec 1 := Scalar.cmpi .slt v1271 c0_i32_645
  let v1276 : BitVec 1 := Scalar.xori v1274 v1275
  let c0_i32_643 : BitVec 32 := 0#32
  let v1273 : BitVec 1 := Scalar.cmpi .ne v1272 c0_i32_643
  let v1277 : BitVec 1 := Scalar.andi v1276 v1273
  let v1278 : BitVec 32 := Scalar.addi v1272 v1271
  let v1279 : BitVec 32 := Scalar.select v1277 v1278 v1272
  let c1_i32_1913 : BitVec 32 := 1#32
  let v3683 : BitVec 32 := Scalar.muli v1279 c1_i32_1913
  let v3684 : BitVec 32 := Scalar.addi c0_i32_1914 v3683
  v3684.toNat
def k0_cond30 (d0 : Dev nD) : BitVec 1 :=
  let c14_i32_639 : BitVec 32 := 14#32
  let c8_i32_638 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_632 : BitVec 32 := 0#32
  let v1252 : BitVec 1 := Scalar.cmpi .sgt v2 c0_i32_632
  let v1253 : BitVec 32 := Scalar.extui v1252
  let c0_i32_633 : BitVec 32 := 0#32
  let v1254 : BitVec 1 := Scalar.cmpi .slt v2 c0_i32_633
  let v1255 : BitVec 32 := Scalar.extui v1254
  let v1256 : BitVec 32 := Scalar.subi v1253 v1255
  let c8_i32_631 : BitVec 32 := 8#32
  let c0_i32_634 : BitVec 32 := 0#32
  let v1257 : BitVec 1 := Scalar.cmpi .sgt c8_i32_631 c0_i32_634
  let v1258 : BitVec 32 := Scalar.extui v1257
  let c0_i32_635 : BitVec 32 := 0#32
  let v1259 : BitVec 1 := Scalar.cmpi .slt c8_i32_631 c0_i32_635
  let v1260 : BitVec 32 := Scalar.extui v1259
  let v1261 : BitVec 32 := Scalar.subi v1258 v1260
  let v1262 : BitVec 1 := Scalar.cmpi .ne v1256 v1261
  let v1263 : BitVec 32 := Scalar.remsi v2 c8_i32_631
  let c0_i32_636 : BitVec 32 := 0#32
  let v1264 : BitVec 1 := Scalar.cmpi .ne v1263 c0_i32_636
  let v1265 : BitVec 1 := Scalar.andi v1262 v1264
  let v1251 : BitVec 32 := Scalar.divsi v2 c8_i32_631
  let c1_i32_637 : BitVec 32 := 1#32
  let v1266 : BitVec 32 := Scalar.subi v1251 c1_i32_637
  let v1267 : BitVec 32 := Scalar.select v1265 v1266 v1251
  let v1268 : BitVec 32 := Scalar.muli c8_i32_638 v1267
  let v1269 : BitVec 32 := Scalar.addi c14_i32_639 v1268
  let c32_i32_640 : BitVec 32 := 32#32
  let c0_i32_641 : BitVec 32 := 0#32
  let v1270 : BitVec 1 := Scalar.cmpi .eq c32_i32_640 c0_i32_641
  let c1_i32_642 : BitVec 32 := 1#32
  let v1271 : BitVec 32 := Scalar.select v1270 c1_i32_642 c32_i32_640
  let v1272 : BitVec 32 := Scalar.remsi v1269 v1271
  let c0_i32_644 : BitVec 32 := 0#32
  let v1274 : BitVec 1 := Scalar.cmpi .slt v1272 c0_i32_644
  let c0_i32_645 : BitVec 32 := 0#32
  let v1275 : BitVec 1 := Scalar.cmpi .slt v1271 c0_i32_645
  let v1276 : BitVec 1 := Scalar.xori v1274 v1275
  let c0_i32_643 : BitVec 32 := 0#32
  let v1273 : BitVec 1 := Scalar.cmpi .ne v1272 c0_i32_643
  let v1277 : BitVec 1 := Scalar.andi v1276 v1273
  let v1278 : BitVec 32 := Scalar.addi v1272 v1271
  let v1279 : BitVec 32 := Scalar.select v1277 v1278 v1272
  let v1283 : BitVec 1 := Scalar.cmpi .eq v1279 v2
  let v1284 : BitVec 32 := Scalar.extui v1283
  let c0_i32_647 : BitVec 32 := 0#32
  let v1285 : BitVec 1 := Scalar.cmpi .ne v1284 c0_i32_647
  v1285

def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond31 (d0 : Dev nD) : BitVec 1 :=
  let c15_i32_656 : BitVec 32 := 15#32
  let c8_i32_655 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_649 : BitVec 32 := 0#32
  let v1287 : BitVec 1 := Scalar.cmpi .sgt v2 c0_i32_649
  let v1288 : BitVec 32 := Scalar.extui v1287
  let c0_i32_650 : BitVec 32 := 0#32
  let v1289 : BitVec 1 := Scalar.cmpi .slt v2 c0_i32_650
  let v1290 : BitVec 32 := Scalar.extui v1289
  let v1291 : BitVec 32 := Scalar.subi v1288 v1290
  let c8_i32_648 : BitVec 32 := 8#32
  let c0_i32_651 : BitVec 32 := 0#32
  let v1292 : BitVec 1 := Scalar.cmpi .sgt c8_i32_648 c0_i32_651
  let v1293 : BitVec 32 := Scalar.extui v1292
  let c0_i32_652 : BitVec 32 := 0#32
  let v1294 : BitVec 1 := Scalar.cmpi .slt c8_i32_648 c0_i32_652
  let v1295 : BitVec 32 := Scalar.extui v1294
  let v1296 : BitVec 32 := Scalar.subi v1293 v1295
  let v1297 : BitVec 1 := Scalar.cmpi .ne v1291 v1296
  let v1298 : BitVec 32 := Scalar.remsi v2 c8_i32_648
  let c0_i32_653 : BitVec 32 := 0#32
  let v1299 : BitVec 1 := Scalar.cmpi .ne v1298 c0_i32_653
  let v1300 : BitVec 1 := Scalar.andi v1297 v1299
  let v1286 : BitVec 32 := Scalar.divsi v2 c8_i32_648
  let c1_i32_654 : BitVec 32 := 1#32
  let v1301 : BitVec 32 := Scalar.subi v1286 c1_i32_654
  let v1302 : BitVec 32 := Scalar.select v1300 v1301 v1286
  let v1303 : BitVec 32 := Scalar.muli c8_i32_655 v1302
  let v1304 : BitVec 32 := Scalar.addi c15_i32_656 v1303
  let c32_i32_657 : BitVec 32 := 32#32
  let c0_i32_658 : BitVec 32 := 0#32
  let v1305 : BitVec 1 := Scalar.cmpi .eq c32_i32_657 c0_i32_658
  let c1_i32_659 : BitVec 32 := 1#32
  let v1306 : BitVec 32 := Scalar.select v1305 c1_i32_659 c32_i32_657
  let v1307 : BitVec 32 := Scalar.remsi v1304 v1306
  let c0_i32_661 : BitVec 32 := 0#32
  let v1309 : BitVec 1 := Scalar.cmpi .slt v1307 c0_i32_661
  let c0_i32_662 : BitVec 32 := 0#32
  let v1310 : BitVec 1 := Scalar.cmpi .slt v1306 c0_i32_662
  let v1311 : BitVec 1 := Scalar.xori v1309 v1310
  let c0_i32_660 : BitVec 32 := 0#32
  let v1308 : BitVec 1 := Scalar.cmpi .ne v1307 c0_i32_660
  let v1312 : BitVec 1 := Scalar.andi v1311 v1308
  let v1313 : BitVec 32 := Scalar.addi v1307 v1306
  let v1314 : BitVec 32 := Scalar.select v1312 v1313 v1307
  let v1315 : BitVec 1 := Scalar.cmpi .ne v1314 v2
  let v1316 : BitVec 32 := Scalar.extui v1315
  let c0_i32_663 : BitVec 32 := 0#32
  let v1317 : BitVec 1 := Scalar.cmpi .ne v1316 c0_i32_663
  v1317

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev47 (d0 : Dev nD) : Nat :=
  let c0_i32_1914 : BitVec 32 := 0#32
  let c15_i32_656 : BitVec 32 := 15#32
  let c8_i32_655 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_649 : BitVec 32 := 0#32
  let v1287 : BitVec 1 := Scalar.cmpi .sgt v2 c0_i32_649
  let v1288 : BitVec 32 := Scalar.extui v1287
  let c0_i32_650 : BitVec 32 := 0#32
  let v1289 : BitVec 1 := Scalar.cmpi .slt v2 c0_i32_650
  let v1290 : BitVec 32 := Scalar.extui v1289
  let v1291 : BitVec 32 := Scalar.subi v1288 v1290
  let c8_i32_648 : BitVec 32 := 8#32
  let c0_i32_651 : BitVec 32 := 0#32
  let v1292 : BitVec 1 := Scalar.cmpi .sgt c8_i32_648 c0_i32_651
  let v1293 : BitVec 32 := Scalar.extui v1292
  let c0_i32_652 : BitVec 32 := 0#32
  let v1294 : BitVec 1 := Scalar.cmpi .slt c8_i32_648 c0_i32_652
  let v1295 : BitVec 32 := Scalar.extui v1294
  let v1296 : BitVec 32 := Scalar.subi v1293 v1295
  let v1297 : BitVec 1 := Scalar.cmpi .ne v1291 v1296
  let v1298 : BitVec 32 := Scalar.remsi v2 c8_i32_648
  let c0_i32_653 : BitVec 32 := 0#32
  let v1299 : BitVec 1 := Scalar.cmpi .ne v1298 c0_i32_653
  let v1300 : BitVec 1 := Scalar.andi v1297 v1299
  let v1286 : BitVec 32 := Scalar.divsi v2 c8_i32_648
  let c1_i32_654 : BitVec 32 := 1#32
  let v1301 : BitVec 32 := Scalar.subi v1286 c1_i32_654
  let v1302 : BitVec 32 := Scalar.select v1300 v1301 v1286
  let v1303 : BitVec 32 := Scalar.muli c8_i32_655 v1302
  let v1304 : BitVec 32 := Scalar.addi c15_i32_656 v1303
  let c32_i32_657 : BitVec 32 := 32#32
  let c0_i32_658 : BitVec 32 := 0#32
  let v1305 : BitVec 1 := Scalar.cmpi .eq c32_i32_657 c0_i32_658
  let c1_i32_659 : BitVec 32 := 1#32
  let v1306 : BitVec 32 := Scalar.select v1305 c1_i32_659 c32_i32_657
  let v1307 : BitVec 32 := Scalar.remsi v1304 v1306
  let c0_i32_661 : BitVec 32 := 0#32
  let v1309 : BitVec 1 := Scalar.cmpi .slt v1307 c0_i32_661
  let c0_i32_662 : BitVec 32 := 0#32
  let v1310 : BitVec 1 := Scalar.cmpi .slt v1306 c0_i32_662
  let v1311 : BitVec 1 := Scalar.xori v1309 v1310
  let c0_i32_660 : BitVec 32 := 0#32
  let v1308 : BitVec 1 := Scalar.cmpi .ne v1307 c0_i32_660
  let v1312 : BitVec 1 := Scalar.andi v1311 v1308
  let v1313 : BitVec 32 := Scalar.addi v1307 v1306
  let v1314 : BitVec 32 := Scalar.select v1312 v1313 v1307
  let c1_i32_1913 : BitVec 32 := 1#32
  let v3683 : BitVec 32 := Scalar.muli v1314 c1_i32_1913
  let v3684 : BitVec 32 := Scalar.addi c0_i32_1914 v3683
  v3684.toNat
def k0_cond32 (d0 : Dev nD) : BitVec 1 :=
  let c15_i32_656 : BitVec 32 := 15#32
  let c8_i32_655 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_649 : BitVec 32 := 0#32
  let v1287 : BitVec 1 := Scalar.cmpi .sgt v2 c0_i32_649
  let v1288 : BitVec 32 := Scalar.extui v1287
  let c0_i32_650 : BitVec 32 := 0#32
  let v1289 : BitVec 1 := Scalar.cmpi .slt v2 c0_i32_650
  let v1290 : BitVec 32 := Scalar.extui v1289
  let v1291 : BitVec 32 := Scalar.subi v1288 v1290
  let c8_i32_648 : BitVec 32 := 8#32
  let c0_i32_651 : BitVec 32 := 0#32
  let v1292 : BitVec 1 := Scalar.cmpi .sgt c8_i32_648 c0_i32_651
  let v1293 : BitVec 32 := Scalar.extui v1292
  let c0_i32_652 : BitVec 32 := 0#32
  let v1294 : BitVec 1 := Scalar.cmpi .slt c8_i32_648 c0_i32_652
  let v1295 : BitVec 32 := Scalar.extui v1294
  let v1296 : BitVec 32 := Scalar.subi v1293 v1295
  let v1297 : BitVec 1 := Scalar.cmpi .ne v1291 v1296
  let v1298 : BitVec 32 := Scalar.remsi v2 c8_i32_648
  let c0_i32_653 : BitVec 32 := 0#32
  let v1299 : BitVec 1 := Scalar.cmpi .ne v1298 c0_i32_653
  let v1300 : BitVec 1 := Scalar.andi v1297 v1299
  let v1286 : BitVec 32 := Scalar.divsi v2 c8_i32_648
  let c1_i32_654 : BitVec 32 := 1#32
  let v1301 : BitVec 32 := Scalar.subi v1286 c1_i32_654
  let v1302 : BitVec 32 := Scalar.select v1300 v1301 v1286
  let v1303 : BitVec 32 := Scalar.muli c8_i32_655 v1302
  let v1304 : BitVec 32 := Scalar.addi c15_i32_656 v1303
  let c32_i32_657 : BitVec 32 := 32#32
  let c0_i32_658 : BitVec 32 := 0#32
  let v1305 : BitVec 1 := Scalar.cmpi .eq c32_i32_657 c0_i32_658
  let c1_i32_659 : BitVec 32 := 1#32
  let v1306 : BitVec 32 := Scalar.select v1305 c1_i32_659 c32_i32_657
  let v1307 : BitVec 32 := Scalar.remsi v1304 v1306
  let c0_i32_661 : BitVec 32 := 0#32
  let v1309 : BitVec 1 := Scalar.cmpi .slt v1307 c0_i32_661
  let c0_i32_662 : BitVec 32 := 0#32
  let v1310 : BitVec 1 := Scalar.cmpi .slt v1306 c0_i32_662
  let v1311 : BitVec 1 := Scalar.xori v1309 v1310
  let c0_i32_660 : BitVec 32 := 0#32
  let v1308 : BitVec 1 := Scalar.cmpi .ne v1307 c0_i32_660
  let v1312 : BitVec 1 := Scalar.andi v1311 v1308
  let v1313 : BitVec 32 := Scalar.addi v1307 v1306
  let v1314 : BitVec 32 := Scalar.select v1312 v1313 v1307
  let v1318 : BitVec 1 := Scalar.cmpi .eq v1314 v2
  let v1319 : BitVec 32 := Scalar.extui v1318
  let c0_i32_664 : BitVec 32 := 0#32
  let v1320 : BitVec 1 := Scalar.cmpi .ne v1319 c0_i32_664
  v1320

def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond33 (d0 : Dev nD) : BitVec 1 :=
  let c16_i32_681 : BitVec 32 := 16#32
  let c8_i32_680 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_674 : BitVec 32 := 0#32
  let v1354 : BitVec 1 := Scalar.cmpi .sgt v2 c0_i32_674
  let v1355 : BitVec 32 := Scalar.extui v1354
  let c0_i32_675 : BitVec 32 := 0#32
  let v1356 : BitVec 1 := Scalar.cmpi .slt v2 c0_i32_675
  let v1357 : BitVec 32 := Scalar.extui v1356
  let v1358 : BitVec 32 := Scalar.subi v1355 v1357
  let c8_i32_673 : BitVec 32 := 8#32
  let c0_i32_676 : BitVec 32 := 0#32
  let v1359 : BitVec 1 := Scalar.cmpi .sgt c8_i32_673 c0_i32_676
  let v1360 : BitVec 32 := Scalar.extui v1359
  let c0_i32_677 : BitVec 32 := 0#32
  let v1361 : BitVec 1 := Scalar.cmpi .slt c8_i32_673 c0_i32_677
  let v1362 : BitVec 32 := Scalar.extui v1361
  let v1363 : BitVec 32 := Scalar.subi v1360 v1362
  let v1364 : BitVec 1 := Scalar.cmpi .ne v1358 v1363
  let v1365 : BitVec 32 := Scalar.remsi v2 c8_i32_673
  let c0_i32_678 : BitVec 32 := 0#32
  let v1366 : BitVec 1 := Scalar.cmpi .ne v1365 c0_i32_678
  let v1367 : BitVec 1 := Scalar.andi v1364 v1366
  let v1353 : BitVec 32 := Scalar.divsi v2 c8_i32_673
  let c1_i32_679 : BitVec 32 := 1#32
  let v1368 : BitVec 32 := Scalar.subi v1353 c1_i32_679
  let v1369 : BitVec 32 := Scalar.select v1367 v1368 v1353
  let v1370 : BitVec 32 := Scalar.muli c8_i32_680 v1369
  let v1371 : BitVec 32 := Scalar.addi c16_i32_681 v1370
  let c32_i32_682 : BitVec 32 := 32#32
  let c0_i32_683 : BitVec 32 := 0#32
  let v1372 : BitVec 1 := Scalar.cmpi .eq c32_i32_682 c0_i32_683
  let c1_i32_684 : BitVec 32 := 1#32
  let v1373 : BitVec 32 := Scalar.select v1372 c1_i32_684 c32_i32_682
  let v1374 : BitVec 32 := Scalar.remsi v1371 v1373
  let c0_i32_686 : BitVec 32 := 0#32
  let v1376 : BitVec 1 := Scalar.cmpi .slt v1374 c0_i32_686
  let c0_i32_687 : BitVec 32 := 0#32
  let v1377 : BitVec 1 := Scalar.cmpi .slt v1373 c0_i32_687
  let v1378 : BitVec 1 := Scalar.xori v1376 v1377
  let c0_i32_685 : BitVec 32 := 0#32
  let v1375 : BitVec 1 := Scalar.cmpi .ne v1374 c0_i32_685
  let v1379 : BitVec 1 := Scalar.andi v1378 v1375
  let v1380 : BitVec 32 := Scalar.addi v1374 v1373
  let v1381 : BitVec 32 := Scalar.select v1379 v1380 v1374
  let v1382 : BitVec 1 := Scalar.cmpi .ne v1381 v2
  let v1383 : BitVec 32 := Scalar.extui v1382
  let c0_i32_688 : BitVec 32 := 0#32
  let v1384 : BitVec 1 := Scalar.cmpi .ne v1383 c0_i32_688
  v1384

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev48 (d0 : Dev nD) : Nat :=
  let c0_i32_1914 : BitVec 32 := 0#32
  let c16_i32_681 : BitVec 32 := 16#32
  let c8_i32_680 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_674 : BitVec 32 := 0#32
  let v1354 : BitVec 1 := Scalar.cmpi .sgt v2 c0_i32_674
  let v1355 : BitVec 32 := Scalar.extui v1354
  let c0_i32_675 : BitVec 32 := 0#32
  let v1356 : BitVec 1 := Scalar.cmpi .slt v2 c0_i32_675
  let v1357 : BitVec 32 := Scalar.extui v1356
  let v1358 : BitVec 32 := Scalar.subi v1355 v1357
  let c8_i32_673 : BitVec 32 := 8#32
  let c0_i32_676 : BitVec 32 := 0#32
  let v1359 : BitVec 1 := Scalar.cmpi .sgt c8_i32_673 c0_i32_676
  let v1360 : BitVec 32 := Scalar.extui v1359
  let c0_i32_677 : BitVec 32 := 0#32
  let v1361 : BitVec 1 := Scalar.cmpi .slt c8_i32_673 c0_i32_677
  let v1362 : BitVec 32 := Scalar.extui v1361
  let v1363 : BitVec 32 := Scalar.subi v1360 v1362
  let v1364 : BitVec 1 := Scalar.cmpi .ne v1358 v1363
  let v1365 : BitVec 32 := Scalar.remsi v2 c8_i32_673
  let c0_i32_678 : BitVec 32 := 0#32
  let v1366 : BitVec 1 := Scalar.cmpi .ne v1365 c0_i32_678
  let v1367 : BitVec 1 := Scalar.andi v1364 v1366
  let v1353 : BitVec 32 := Scalar.divsi v2 c8_i32_673
  let c1_i32_679 : BitVec 32 := 1#32
  let v1368 : BitVec 32 := Scalar.subi v1353 c1_i32_679
  let v1369 : BitVec 32 := Scalar.select v1367 v1368 v1353
  let v1370 : BitVec 32 := Scalar.muli c8_i32_680 v1369
  let v1371 : BitVec 32 := Scalar.addi c16_i32_681 v1370
  let c32_i32_682 : BitVec 32 := 32#32
  let c0_i32_683 : BitVec 32 := 0#32
  let v1372 : BitVec 1 := Scalar.cmpi .eq c32_i32_682 c0_i32_683
  let c1_i32_684 : BitVec 32 := 1#32
  let v1373 : BitVec 32 := Scalar.select v1372 c1_i32_684 c32_i32_682
  let v1374 : BitVec 32 := Scalar.remsi v1371 v1373
  let c0_i32_686 : BitVec 32 := 0#32
  let v1376 : BitVec 1 := Scalar.cmpi .slt v1374 c0_i32_686
  let c0_i32_687 : BitVec 32 := 0#32
  let v1377 : BitVec 1 := Scalar.cmpi .slt v1373 c0_i32_687
  let v1378 : BitVec 1 := Scalar.xori v1376 v1377
  let c0_i32_685 : BitVec 32 := 0#32
  let v1375 : BitVec 1 := Scalar.cmpi .ne v1374 c0_i32_685
  let v1379 : BitVec 1 := Scalar.andi v1378 v1375
  let v1380 : BitVec 32 := Scalar.addi v1374 v1373
  let v1381 : BitVec 32 := Scalar.select v1379 v1380 v1374
  let c1_i32_1913 : BitVec 32 := 1#32
  let v3683 : BitVec 32 := Scalar.muli v1381 c1_i32_1913
  let v3684 : BitVec 32 := Scalar.addi c0_i32_1914 v3683
  v3684.toNat
def k0_cond34 (d0 : Dev nD) : BitVec 1 :=
  let c16_i32_681 : BitVec 32 := 16#32
  let c8_i32_680 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_674 : BitVec 32 := 0#32
  let v1354 : BitVec 1 := Scalar.cmpi .sgt v2 c0_i32_674
  let v1355 : BitVec 32 := Scalar.extui v1354
  let c0_i32_675 : BitVec 32 := 0#32
  let v1356 : BitVec 1 := Scalar.cmpi .slt v2 c0_i32_675
  let v1357 : BitVec 32 := Scalar.extui v1356
  let v1358 : BitVec 32 := Scalar.subi v1355 v1357
  let c8_i32_673 : BitVec 32 := 8#32
  let c0_i32_676 : BitVec 32 := 0#32
  let v1359 : BitVec 1 := Scalar.cmpi .sgt c8_i32_673 c0_i32_676
  let v1360 : BitVec 32 := Scalar.extui v1359
  let c0_i32_677 : BitVec 32 := 0#32
  let v1361 : BitVec 1 := Scalar.cmpi .slt c8_i32_673 c0_i32_677
  let v1362 : BitVec 32 := Scalar.extui v1361
  let v1363 : BitVec 32 := Scalar.subi v1360 v1362
  let v1364 : BitVec 1 := Scalar.cmpi .ne v1358 v1363
  let v1365 : BitVec 32 := Scalar.remsi v2 c8_i32_673
  let c0_i32_678 : BitVec 32 := 0#32
  let v1366 : BitVec 1 := Scalar.cmpi .ne v1365 c0_i32_678
  let v1367 : BitVec 1 := Scalar.andi v1364 v1366
  let v1353 : BitVec 32 := Scalar.divsi v2 c8_i32_673
  let c1_i32_679 : BitVec 32 := 1#32
  let v1368 : BitVec 32 := Scalar.subi v1353 c1_i32_679
  let v1369 : BitVec 32 := Scalar.select v1367 v1368 v1353
  let v1370 : BitVec 32 := Scalar.muli c8_i32_680 v1369
  let v1371 : BitVec 32 := Scalar.addi c16_i32_681 v1370
  let c32_i32_682 : BitVec 32 := 32#32
  let c0_i32_683 : BitVec 32 := 0#32
  let v1372 : BitVec 1 := Scalar.cmpi .eq c32_i32_682 c0_i32_683
  let c1_i32_684 : BitVec 32 := 1#32
  let v1373 : BitVec 32 := Scalar.select v1372 c1_i32_684 c32_i32_682
  let v1374 : BitVec 32 := Scalar.remsi v1371 v1373
  let c0_i32_686 : BitVec 32 := 0#32
  let v1376 : BitVec 1 := Scalar.cmpi .slt v1374 c0_i32_686
  let c0_i32_687 : BitVec 32 := 0#32
  let v1377 : BitVec 1 := Scalar.cmpi .slt v1373 c0_i32_687
  let v1378 : BitVec 1 := Scalar.xori v1376 v1377
  let c0_i32_685 : BitVec 32 := 0#32
  let v1375 : BitVec 1 := Scalar.cmpi .ne v1374 c0_i32_685
  let v1379 : BitVec 1 := Scalar.andi v1378 v1375
  let v1380 : BitVec 32 := Scalar.addi v1374 v1373
  let v1381 : BitVec 32 := Scalar.select v1379 v1380 v1374
  let v1385 : BitVec 1 := Scalar.cmpi .eq v1381 v2
  let v1386 : BitVec 32 := Scalar.extui v1385
  let c0_i32_689 : BitVec 32 := 0#32
  let v1387 : BitVec 1 := Scalar.cmpi .ne v1386 c0_i32_689
  v1387

def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1913 : BitVec 32 := 16#32
  let v3683 : BitVec 32 := Scalar.muli v2 c16_i32_1913
  let v3684 : Index := Scalar.indexCast v3683
  let c0_1914 : Index := 0#32
  ![v3684.toNat, 0]
def k0_cond35 (d0 : Dev nD) : BitVec 1 :=
  let c17_i32_698 : BitVec 32 := 17#32
  let c8_i32_697 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_691 : BitVec 32 := 0#32
  let v1389 : BitVec 1 := Scalar.cmpi .sgt v2 c0_i32_691
  let v1390 : BitVec 32 := Scalar.extui v1389
  let c0_i32_692 : BitVec 32 := 0#32
  let v1391 : BitVec 1 := Scalar.cmpi .slt v2 c0_i32_692
  let v1392 : BitVec 32 := Scalar.extui v1391
  let v1393 : BitVec 32 := Scalar.subi v1390 v1392
  let c8_i32_690 : BitVec 32 := 8#32
  let c0_i32_693 : BitVec 32 := 0#32
  let v1394 : BitVec 1 := Scalar.cmpi .sgt c8_i32_690 c0_i32_693
  let v1395 : BitVec 32 := Scalar.extui v1394
  let c0_i32_694 : BitVec 32 := 0#32
  let v1396 : BitVec 1 := Scalar.cmpi .slt c8_i32_690 c0_i32_694
  let v1397 : BitVec 32 := Scalar.extui v1396
  let v1398 : BitVec 32 := Scalar.subi v1395 v1397
  let v1399 : BitVec 1 := Scalar.cmpi .ne v1393 v1398
  let v1400 : BitVec 32 := Scalar.remsi v2 c8_i32_690
  let c0_i32_695 : BitVec 32 := 0#32
  let v1401 : BitVec 1 := Scalar.cmpi .ne v1400 c0_i32_695
  let v1402 : BitVec 1 := Scalar.andi v1399 v1401
  let v1388 : BitVec 32 := Scalar.divsi v2 c8_i32_690
  let c1_i32_696 : BitVec 32 := 1#32
  let v1403 : BitVec 32 := Scalar.subi v1388 c1_i32_696
  let v1404 : BitVec 32 := Scalar.select v1402 v1403 v1388
  let v1405 : BitVec 32 := Scalar.muli c8_i32_697 v1404
  let v1406 : BitVec 32 := Scalar.addi c17_i32_698 v1405
  let c32_i32_699 : BitVec 32 := 32#32
  let c0_i32_700 : BitVec 32 := 0#32
  let v1407 : BitVec 1 := Scalar.cmpi .eq c32_i32_699 c0_i32_700
  let c1_i32_701 : BitVec 32 := 1#32
  let v1408 : BitVec 32 := Scalar.select v1407 c1_i32_701 c32_i32_699
  let v1409 : BitVec 32 := Scalar.remsi v1406 v1408
  let c0_i32_703 : BitVec 32 := 0#32
  let v1411 : BitVec 1 := Scalar.cmpi .slt v1409 c0_i32_703
  let c0_i32_704 : BitVec 32 := 0#32
  let v1412 : BitVec 1 := Scalar.cmpi .slt v1408 c0_i32_704
  let v1413 : BitVec 1 := Scalar.xori v1411 v1412
  let c0_i32_702 : BitVec 32 := 0#32
  let v1410 : BitVec 1 := Scalar.cmpi .ne v1409 c0_i32_702
  let v1414 : BitVec 1 := Scalar.andi v1413 v1410
  let v1415 : BitVec 32 := Scalar.addi v1409 v1408
  let v1416 : BitVec 32 := Scalar.select v1414 v1415 v1409
  let v1417 : BitVec 1 := Scalar.cmpi .ne v1416 v2
  let v1418 : BitVec 32 := Scalar.extui v1417
  let c0_i32_705 : BitVec 32 := 0#32
  let v1419 : BitVec 1 := Scalar.cmpi .ne v1418 c0_i32_705
  v1419

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev49 (d0 : Dev nD) : Nat :=
  let c0_i32_1914 : BitVec 32 := 0#32
  let c17_i32_698 : BitVec 32 := 17#32
  let c8_i32_697 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_691 : BitVec 32 := 0#32
  let v1389 : BitVec 1 := Scalar.cmpi .sgt v2 c0_i32_691
  let v1390 : BitVec 32 := Scalar.extui v1389
  let c0_i32_692 : BitVec 32 := 0#32
  let v1391 : BitVec 1 := Scalar.cmpi .slt v2 c0_i32_692
  let v1392 : BitVec 32 := Scalar.extui v1391
  let v1393 : BitVec 32 := Scalar.subi v1390 v1392
  let c8_i32_690 : BitVec 32 := 8#32
  let c0_i32_693 : BitVec 32 := 0#32
  let v1394 : BitVec 1 := Scalar.cmpi .sgt c8_i32_690 c0_i32_693
  let v1395 : BitVec 32 := Scalar.extui v1394
  let c0_i32_694 : BitVec 32 := 0#32
  let v1396 : BitVec 1 := Scalar.cmpi .slt c8_i32_690 c0_i32_694
  let v1397 : BitVec 32 := Scalar.extui v1396
  let v1398 : BitVec 32 := Scalar.subi v1395 v1397
  let v1399 : BitVec 1 := Scalar.cmpi .ne v1393 v1398
  let v1400 : BitVec 32 := Scalar.remsi v2 c8_i32_690
  let c0_i32_695 : BitVec 32 := 0#32
  let v1401 : BitVec 1 := Scalar.cmpi .ne v1400 c0_i32_695
  let v1402 : BitVec 1 := Scalar.andi v1399 v1401
  let v1388 : BitVec 32 := Scalar.divsi v2 c8_i32_690
  let c1_i32_696 : BitVec 32 := 1#32
  let v1403 : BitVec 32 := Scalar.subi v1388 c1_i32_696
  let v1404 : BitVec 32 := Scalar.select v1402 v1403 v1388
  let v1405 : BitVec 32 := Scalar.muli c8_i32_697 v1404
  let v1406 : BitVec 32 := Scalar.addi c17_i32_698 v1405
  let c32_i32_699 : BitVec 32 := 32#32
  let c0_i32_700 : BitVec 32 := 0#32
  let v1407 : BitVec 1 := Scalar.cmpi .eq c32_i32_699 c0_i32_700
  let c1_i32_701 : BitVec 32 := 1#32
  let v1408 : BitVec 32 := Scalar.select v1407 c1_i32_701 c32_i32_699
  let v1409 : BitVec 32 := Scalar.remsi v1406 v1408
  let c0_i32_703 : BitVec 32 := 0#32
  let v1411 : BitVec 1 := Scalar.cmpi .slt v1409 c0_i32_703
  let c0_i32_704 : BitVec 32 := 0#32
  let v1412 : BitVec 1 := Scalar.cmpi .slt v1408 c0_i32_704
  let v1413 : BitVec 1 := Scalar.xori v1411 v1412
  let c0_i32_702 : BitVec 32 := 0#32
  let v1410 : BitVec 1 := Scalar.cmpi .ne v1409 c0_i32_702
  let v1414 : BitVec 1 := Scalar.andi v1413 v1410
  let v1415 : BitVec 32 := Scalar.addi v1409 v1408
  let v1416 : BitVec 32 := Scalar.select v1414 v1415 v1409
  let c1_i32_1913 : BitVec 32 := 1#32
  let v3683 : BitVec 32 := Scalar.muli v1416 c1_i32_1913
  let v3684 : BitVec 32 := Scalar.addi c0_i32_1914 v3683
  v3684.toNat
def k0_cond36 (d0 : Dev nD) : BitVec 1 :=
  let c17_i32_698 : BitVec 32 := 17#32
  let c8_i32_697 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_691 : BitVec 32 := 0#32
  let v1389 : BitVec 1 := Scalar.cmpi .sgt v2 c0_i32_691
  let v1390 : BitVec 32 := Scalar.extui v1389
  let c0_i32_692 : BitVec 32 := 0#32
  let v1391 : BitVec 1 := Scalar.cmpi .slt v2 c0_i32_692
  let v1392 : BitVec 32 := Scalar.extui v1391
  let v1393 : BitVec 32 := Scalar.subi v1390 v1392
  let c8_i32_690 : BitVec 32 := 8#32
  let c0_i32_693 : BitVec 32 := 0#32
  let v1394 : BitVec 1 := Scalar.cmpi .sgt c8_i32_690 c0_i32_693
  let v1395 : BitVec 32 := Scalar.extui v1394
  let c0_i32_694 : BitVec 32 := 0#32
  let v1396 : BitVec 1 := Scalar.cmpi .slt c8_i32_690 c0_i32_694
  let v1397 : BitVec 32 := Scalar.extui v1396
  let v1398 : BitVec 32 := Scalar.subi v1395 v1397
  let v1399 : BitVec 1 := Scalar.cmpi .ne v1393 v1398
  let v1400 : BitVec 32 := Scalar.remsi v2 c8_i32_690
  let c0_i32_695 : BitVec 32 := 0#32
  let v1401 : BitVec 1 := Scalar.cmpi .ne v1400 c0_i32_695
  let v1402 : BitVec 1 := Scalar.andi v1399 v1401
  let v1388 : BitVec 32 := Scalar.divsi v2 c8_i32_690
  let c1_i32_696 : BitVec 32 := 1#32
  let v1403 : BitVec 32 := Scalar.subi v1388 c1_i32_696
  let v1404 : BitVec 32 := Scalar.select v1402 v1403 v1388
  let v1405 : BitVec 32 := Scalar.muli c8_i32_697 v1404
  let v1406 : BitVec 32 := Scalar.addi c17_i32_698 v1405
  let c32_i32_699 : BitVec 32 := 32#32
  let c0_i32_700 : BitVec 32 := 0#32
  let v1407 : BitVec 1 := Scalar.cmpi .eq c32_i32_699 c0_i32_700
  let c1_i32_701 : BitVec 32 := 1#32
  let v1408 : BitVec 32 := Scalar.select v1407 c1_i32_701 c32_i32_699
  let v1409 : BitVec 32 := Scalar.remsi v1406 v1408
  let c0_i32_703 : BitVec 32 := 0#32
  let v1411 : BitVec 1 := Scalar.cmpi .slt v1409 c0_i32_703
  let c0_i32_704 : BitVec 32 := 0#32
  let v1412 : BitVec 1 := Scalar.cmpi .slt v1408 c0_i32_704
  let v1413 : BitVec 1 := Scalar.xori v1411 v1412
  let c0_i32_702 : BitVec 32 := 0#32
  let v1410 : BitVec 1 := Scalar.cmpi .ne v1409 c0_i32_702
  let v1414 : BitVec 1 := Scalar.andi v1413 v1410
  let v1415 : BitVec 32 := Scalar.addi v1409 v1408
  let v1416 : BitVec 32 := Scalar.select v1414 v1415 v1409
  let v1420 : BitVec 1 := Scalar.cmpi .eq v1416 v2
  let v1421 : BitVec 32 := Scalar.extui v1420
  let c0_i32_706 : BitVec 32 := 0#32
  let v1422 : BitVec 1 := Scalar.cmpi .ne v1421 c0_i32_706
  v1422

def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond37 (d0 : Dev nD) : BitVec 1 :=
  let c18_i32_715 : BitVec 32 := 18#32
  let c8_i32_714 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_708 : BitVec 32 := 0#32
  let v1424 : BitVec 1 := Scalar.cmpi .sgt v2 c0_i32_708
  let v1425 : BitVec 32 := Scalar.extui v1424
  let c0_i32_709 : BitVec 32 := 0#32
  let v1426 : BitVec 1 := Scalar.cmpi .slt v2 c0_i32_709
  let v1427 : BitVec 32 := Scalar.extui v1426
  let v1428 : BitVec 32 := Scalar.subi v1425 v1427
  let c8_i32_707 : BitVec 32 := 8#32
  let c0_i32_710 : BitVec 32 := 0#32
  let v1429 : BitVec 1 := Scalar.cmpi .sgt c8_i32_707 c0_i32_710
  let v1430 : BitVec 32 := Scalar.extui v1429
  let c0_i32_711 : BitVec 32 := 0#32
  let v1431 : BitVec 1 := Scalar.cmpi .slt c8_i32_707 c0_i32_711
  let v1432 : BitVec 32 := Scalar.extui v1431
  let v1433 : BitVec 32 := Scalar.subi v1430 v1432
  let v1434 : BitVec 1 := Scalar.cmpi .ne v1428 v1433
  let v1435 : BitVec 32 := Scalar.remsi v2 c8_i32_707
  let c0_i32_712 : BitVec 32 := 0#32
  let v1436 : BitVec 1 := Scalar.cmpi .ne v1435 c0_i32_712
  let v1437 : BitVec 1 := Scalar.andi v1434 v1436
  let v1423 : BitVec 32 := Scalar.divsi v2 c8_i32_707
  let c1_i32_713 : BitVec 32 := 1#32
  let v1438 : BitVec 32 := Scalar.subi v1423 c1_i32_713
  let v1439 : BitVec 32 := Scalar.select v1437 v1438 v1423
  let v1440 : BitVec 32 := Scalar.muli c8_i32_714 v1439
  let v1441 : BitVec 32 := Scalar.addi c18_i32_715 v1440
  let c32_i32_716 : BitVec 32 := 32#32
  let c0_i32_717 : BitVec 32 := 0#32
  let v1442 : BitVec 1 := Scalar.cmpi .eq c32_i32_716 c0_i32_717
  let c1_i32_718 : BitVec 32 := 1#32
  let v1443 : BitVec 32 := Scalar.select v1442 c1_i32_718 c32_i32_716
  let v1444 : BitVec 32 := Scalar.remsi v1441 v1443
  let c0_i32_720 : BitVec 32 := 0#32
  let v1446 : BitVec 1 := Scalar.cmpi .slt v1444 c0_i32_720
  let c0_i32_721 : BitVec 32 := 0#32
  let v1447 : BitVec 1 := Scalar.cmpi .slt v1443 c0_i32_721
  let v1448 : BitVec 1 := Scalar.xori v1446 v1447
  let c0_i32_719 : BitVec 32 := 0#32
  let v1445 : BitVec 1 := Scalar.cmpi .ne v1444 c0_i32_719
  let v1449 : BitVec 1 := Scalar.andi v1448 v1445
  let v1450 : BitVec 32 := Scalar.addi v1444 v1443
  let v1451 : BitVec 32 := Scalar.select v1449 v1450 v1444
  let v1452 : BitVec 1 := Scalar.cmpi .ne v1451 v2
  let v1453 : BitVec 32 := Scalar.extui v1452
  let c0_i32_722 : BitVec 32 := 0#32
  let v1454 : BitVec 1 := Scalar.cmpi .ne v1453 c0_i32_722
  v1454

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev50 (d0 : Dev nD) : Nat :=
  let c0_i32_1914 : BitVec 32 := 0#32
  let c18_i32_715 : BitVec 32 := 18#32
  let c8_i32_714 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_708 : BitVec 32 := 0#32
  let v1424 : BitVec 1 := Scalar.cmpi .sgt v2 c0_i32_708
  let v1425 : BitVec 32 := Scalar.extui v1424
  let c0_i32_709 : BitVec 32 := 0#32
  let v1426 : BitVec 1 := Scalar.cmpi .slt v2 c0_i32_709
  let v1427 : BitVec 32 := Scalar.extui v1426
  let v1428 : BitVec 32 := Scalar.subi v1425 v1427
  let c8_i32_707 : BitVec 32 := 8#32
  let c0_i32_710 : BitVec 32 := 0#32
  let v1429 : BitVec 1 := Scalar.cmpi .sgt c8_i32_707 c0_i32_710
  let v1430 : BitVec 32 := Scalar.extui v1429
  let c0_i32_711 : BitVec 32 := 0#32
  let v1431 : BitVec 1 := Scalar.cmpi .slt c8_i32_707 c0_i32_711
  let v1432 : BitVec 32 := Scalar.extui v1431
  let v1433 : BitVec 32 := Scalar.subi v1430 v1432
  let v1434 : BitVec 1 := Scalar.cmpi .ne v1428 v1433
  let v1435 : BitVec 32 := Scalar.remsi v2 c8_i32_707
  let c0_i32_712 : BitVec 32 := 0#32
  let v1436 : BitVec 1 := Scalar.cmpi .ne v1435 c0_i32_712
  let v1437 : BitVec 1 := Scalar.andi v1434 v1436
  let v1423 : BitVec 32 := Scalar.divsi v2 c8_i32_707
  let c1_i32_713 : BitVec 32 := 1#32
  let v1438 : BitVec 32 := Scalar.subi v1423 c1_i32_713
  let v1439 : BitVec 32 := Scalar.select v1437 v1438 v1423
  let v1440 : BitVec 32 := Scalar.muli c8_i32_714 v1439
  let v1441 : BitVec 32 := Scalar.addi c18_i32_715 v1440
  let c32_i32_716 : BitVec 32 := 32#32
  let c0_i32_717 : BitVec 32 := 0#32
  let v1442 : BitVec 1 := Scalar.cmpi .eq c32_i32_716 c0_i32_717
  let c1_i32_718 : BitVec 32 := 1#32
  let v1443 : BitVec 32 := Scalar.select v1442 c1_i32_718 c32_i32_716
  let v1444 : BitVec 32 := Scalar.remsi v1441 v1443
  let c0_i32_720 : BitVec 32 := 0#32
  let v1446 : BitVec 1 := Scalar.cmpi .slt v1444 c0_i32_720
  let c0_i32_721 : BitVec 32 := 0#32
  let v1447 : BitVec 1 := Scalar.cmpi .slt v1443 c0_i32_721
  let v1448 : BitVec 1 := Scalar.xori v1446 v1447
  let c0_i32_719 : BitVec 32 := 0#32
  let v1445 : BitVec 1 := Scalar.cmpi .ne v1444 c0_i32_719
  let v1449 : BitVec 1 := Scalar.andi v1448 v1445
  let v1450 : BitVec 32 := Scalar.addi v1444 v1443
  let v1451 : BitVec 32 := Scalar.select v1449 v1450 v1444
  let c1_i32_1913 : BitVec 32 := 1#32
  let v3683 : BitVec 32 := Scalar.muli v1451 c1_i32_1913
  let v3684 : BitVec 32 := Scalar.addi c0_i32_1914 v3683
  v3684.toNat
def k0_cond38 (d0 : Dev nD) : BitVec 1 :=
  let c18_i32_715 : BitVec 32 := 18#32
  let c8_i32_714 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_708 : BitVec 32 := 0#32
  let v1424 : BitVec 1 := Scalar.cmpi .sgt v2 c0_i32_708
  let v1425 : BitVec 32 := Scalar.extui v1424
  let c0_i32_709 : BitVec 32 := 0#32
  let v1426 : BitVec 1 := Scalar.cmpi .slt v2 c0_i32_709
  let v1427 : BitVec 32 := Scalar.extui v1426
  let v1428 : BitVec 32 := Scalar.subi v1425 v1427
  let c8_i32_707 : BitVec 32 := 8#32
  let c0_i32_710 : BitVec 32 := 0#32
  let v1429 : BitVec 1 := Scalar.cmpi .sgt c8_i32_707 c0_i32_710
  let v1430 : BitVec 32 := Scalar.extui v1429
  let c0_i32_711 : BitVec 32 := 0#32
  let v1431 : BitVec 1 := Scalar.cmpi .slt c8_i32_707 c0_i32_711
  let v1432 : BitVec 32 := Scalar.extui v1431
  let v1433 : BitVec 32 := Scalar.subi v1430 v1432
  let v1434 : BitVec 1 := Scalar.cmpi .ne v1428 v1433
  let v1435 : BitVec 32 := Scalar.remsi v2 c8_i32_707
  let c0_i32_712 : BitVec 32 := 0#32
  let v1436 : BitVec 1 := Scalar.cmpi .ne v1435 c0_i32_712
  let v1437 : BitVec 1 := Scalar.andi v1434 v1436
  let v1423 : BitVec 32 := Scalar.divsi v2 c8_i32_707
  let c1_i32_713 : BitVec 32 := 1#32
  let v1438 : BitVec 32 := Scalar.subi v1423 c1_i32_713
  let v1439 : BitVec 32 := Scalar.select v1437 v1438 v1423
  let v1440 : BitVec 32 := Scalar.muli c8_i32_714 v1439
  let v1441 : BitVec 32 := Scalar.addi c18_i32_715 v1440
  let c32_i32_716 : BitVec 32 := 32#32
  let c0_i32_717 : BitVec 32 := 0#32
  let v1442 : BitVec 1 := Scalar.cmpi .eq c32_i32_716 c0_i32_717
  let c1_i32_718 : BitVec 32 := 1#32
  let v1443 : BitVec 32 := Scalar.select v1442 c1_i32_718 c32_i32_716
  let v1444 : BitVec 32 := Scalar.remsi v1441 v1443
  let c0_i32_720 : BitVec 32 := 0#32
  let v1446 : BitVec 1 := Scalar.cmpi .slt v1444 c0_i32_720
  let c0_i32_721 : BitVec 32 := 0#32
  let v1447 : BitVec 1 := Scalar.cmpi .slt v1443 c0_i32_721
  let v1448 : BitVec 1 := Scalar.xori v1446 v1447
  let c0_i32_719 : BitVec 32 := 0#32
  let v1445 : BitVec 1 := Scalar.cmpi .ne v1444 c0_i32_719
  let v1449 : BitVec 1 := Scalar.andi v1448 v1445
  let v1450 : BitVec 32 := Scalar.addi v1444 v1443
  let v1451 : BitVec 32 := Scalar.select v1449 v1450 v1444
  let v1455 : BitVec 1 := Scalar.cmpi .eq v1451 v2
  let v1456 : BitVec 32 := Scalar.extui v1455
  let c0_i32_723 : BitVec 32 := 0#32
  let v1457 : BitVec 1 := Scalar.cmpi .ne v1456 c0_i32_723
  v1457

def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond39 (d0 : Dev nD) : BitVec 1 :=
  let c19_i32_732 : BitVec 32 := 19#32
  let c8_i32_731 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_725 : BitVec 32 := 0#32
  let v1459 : BitVec 1 := Scalar.cmpi .sgt v2 c0_i32_725
  let v1460 : BitVec 32 := Scalar.extui v1459
  let c0_i32_726 : BitVec 32 := 0#32
  let v1461 : BitVec 1 := Scalar.cmpi .slt v2 c0_i32_726
  let v1462 : BitVec 32 := Scalar.extui v1461
  let v1463 : BitVec 32 := Scalar.subi v1460 v1462
  let c8_i32_724 : BitVec 32 := 8#32
  let c0_i32_727 : BitVec 32 := 0#32
  let v1464 : BitVec 1 := Scalar.cmpi .sgt c8_i32_724 c0_i32_727
  let v1465 : BitVec 32 := Scalar.extui v1464
  let c0_i32_728 : BitVec 32 := 0#32
  let v1466 : BitVec 1 := Scalar.cmpi .slt c8_i32_724 c0_i32_728
  let v1467 : BitVec 32 := Scalar.extui v1466
  let v1468 : BitVec 32 := Scalar.subi v1465 v1467
  let v1469 : BitVec 1 := Scalar.cmpi .ne v1463 v1468
  let v1470 : BitVec 32 := Scalar.remsi v2 c8_i32_724
  let c0_i32_729 : BitVec 32 := 0#32
  let v1471 : BitVec 1 := Scalar.cmpi .ne v1470 c0_i32_729
  let v1472 : BitVec 1 := Scalar.andi v1469 v1471
  let v1458 : BitVec 32 := Scalar.divsi v2 c8_i32_724
  let c1_i32_730 : BitVec 32 := 1#32
  let v1473 : BitVec 32 := Scalar.subi v1458 c1_i32_730
  let v1474 : BitVec 32 := Scalar.select v1472 v1473 v1458
  let v1475 : BitVec 32 := Scalar.muli c8_i32_731 v1474
  let v1476 : BitVec 32 := Scalar.addi c19_i32_732 v1475
  let c32_i32_733 : BitVec 32 := 32#32
  let c0_i32_734 : BitVec 32 := 0#32
  let v1477 : BitVec 1 := Scalar.cmpi .eq c32_i32_733 c0_i32_734
  let c1_i32_735 : BitVec 32 := 1#32
  let v1478 : BitVec 32 := Scalar.select v1477 c1_i32_735 c32_i32_733
  let v1479 : BitVec 32 := Scalar.remsi v1476 v1478
  let c0_i32_737 : BitVec 32 := 0#32
  let v1481 : BitVec 1 := Scalar.cmpi .slt v1479 c0_i32_737
  let c0_i32_738 : BitVec 32 := 0#32
  let v1482 : BitVec 1 := Scalar.cmpi .slt v1478 c0_i32_738
  let v1483 : BitVec 1 := Scalar.xori v1481 v1482
  let c0_i32_736 : BitVec 32 := 0#32
  let v1480 : BitVec 1 := Scalar.cmpi .ne v1479 c0_i32_736
  let v1484 : BitVec 1 := Scalar.andi v1483 v1480
  let v1485 : BitVec 32 := Scalar.addi v1479 v1478
  let v1486 : BitVec 32 := Scalar.select v1484 v1485 v1479
  let v1487 : BitVec 1 := Scalar.cmpi .ne v1486 v2
  let v1488 : BitVec 32 := Scalar.extui v1487
  let c0_i32_739 : BitVec 32 := 0#32
  let v1489 : BitVec 1 := Scalar.cmpi .ne v1488 c0_i32_739
  v1489

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev51 (d0 : Dev nD) : Nat :=
  let c0_i32_1914 : BitVec 32 := 0#32
  let c19_i32_732 : BitVec 32 := 19#32
  let c8_i32_731 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_725 : BitVec 32 := 0#32
  let v1459 : BitVec 1 := Scalar.cmpi .sgt v2 c0_i32_725
  let v1460 : BitVec 32 := Scalar.extui v1459
  let c0_i32_726 : BitVec 32 := 0#32
  let v1461 : BitVec 1 := Scalar.cmpi .slt v2 c0_i32_726
  let v1462 : BitVec 32 := Scalar.extui v1461
  let v1463 : BitVec 32 := Scalar.subi v1460 v1462
  let c8_i32_724 : BitVec 32 := 8#32
  let c0_i32_727 : BitVec 32 := 0#32
  let v1464 : BitVec 1 := Scalar.cmpi .sgt c8_i32_724 c0_i32_727
  let v1465 : BitVec 32 := Scalar.extui v1464
  let c0_i32_728 : BitVec 32 := 0#32
  let v1466 : BitVec 1 := Scalar.cmpi .slt c8_i32_724 c0_i32_728
  let v1467 : BitVec 32 := Scalar.extui v1466
  let v1468 : BitVec 32 := Scalar.subi v1465 v1467
  let v1469 : BitVec 1 := Scalar.cmpi .ne v1463 v1468
  let v1470 : BitVec 32 := Scalar.remsi v2 c8_i32_724
  let c0_i32_729 : BitVec 32 := 0#32
  let v1471 : BitVec 1 := Scalar.cmpi .ne v1470 c0_i32_729
  let v1472 : BitVec 1 := Scalar.andi v1469 v1471
  let v1458 : BitVec 32 := Scalar.divsi v2 c8_i32_724
  let c1_i32_730 : BitVec 32 := 1#32
  let v1473 : BitVec 32 := Scalar.subi v1458 c1_i32_730
  let v1474 : BitVec 32 := Scalar.select v1472 v1473 v1458
  let v1475 : BitVec 32 := Scalar.muli c8_i32_731 v1474
  let v1476 : BitVec 32 := Scalar.addi c19_i32_732 v1475
  let c32_i32_733 : BitVec 32 := 32#32
  let c0_i32_734 : BitVec 32 := 0#32
  let v1477 : BitVec 1 := Scalar.cmpi .eq c32_i32_733 c0_i32_734
  let c1_i32_735 : BitVec 32 := 1#32
  let v1478 : BitVec 32 := Scalar.select v1477 c1_i32_735 c32_i32_733
  let v1479 : BitVec 32 := Scalar.remsi v1476 v1478
  let c0_i32_737 : BitVec 32 := 0#32
  let v1481 : BitVec 1 := Scalar.cmpi .slt v1479 c0_i32_737
  let c0_i32_738 : BitVec 32 := 0#32
  let v1482 : BitVec 1 := Scalar.cmpi .slt v1478 c0_i32_738
  let v1483 : BitVec 1 := Scalar.xori v1481 v1482
  let c0_i32_736 : BitVec 32 := 0#32
  let v1480 : BitVec 1 := Scalar.cmpi .ne v1479 c0_i32_736
  let v1484 : BitVec 1 := Scalar.andi v1483 v1480
  let v1485 : BitVec 32 := Scalar.addi v1479 v1478
  let v1486 : BitVec 32 := Scalar.select v1484 v1485 v1479
  let c1_i32_1913 : BitVec 32 := 1#32
  let v3683 : BitVec 32 := Scalar.muli v1486 c1_i32_1913
  let v3684 : BitVec 32 := Scalar.addi c0_i32_1914 v3683
  v3684.toNat
def k0_cond40 (d0 : Dev nD) : BitVec 1 :=
  let c19_i32_732 : BitVec 32 := 19#32
  let c8_i32_731 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_725 : BitVec 32 := 0#32
  let v1459 : BitVec 1 := Scalar.cmpi .sgt v2 c0_i32_725
  let v1460 : BitVec 32 := Scalar.extui v1459
  let c0_i32_726 : BitVec 32 := 0#32
  let v1461 : BitVec 1 := Scalar.cmpi .slt v2 c0_i32_726
  let v1462 : BitVec 32 := Scalar.extui v1461
  let v1463 : BitVec 32 := Scalar.subi v1460 v1462
  let c8_i32_724 : BitVec 32 := 8#32
  let c0_i32_727 : BitVec 32 := 0#32
  let v1464 : BitVec 1 := Scalar.cmpi .sgt c8_i32_724 c0_i32_727
  let v1465 : BitVec 32 := Scalar.extui v1464
  let c0_i32_728 : BitVec 32 := 0#32
  let v1466 : BitVec 1 := Scalar.cmpi .slt c8_i32_724 c0_i32_728
  let v1467 : BitVec 32 := Scalar.extui v1466
  let v1468 : BitVec 32 := Scalar.subi v1465 v1467
  let v1469 : BitVec 1 := Scalar.cmpi .ne v1463 v1468
  let v1470 : BitVec 32 := Scalar.remsi v2 c8_i32_724
  let c0_i32_729 : BitVec 32 := 0#32
  let v1471 : BitVec 1 := Scalar.cmpi .ne v1470 c0_i32_729
  let v1472 : BitVec 1 := Scalar.andi v1469 v1471
  let v1458 : BitVec 32 := Scalar.divsi v2 c8_i32_724
  let c1_i32_730 : BitVec 32 := 1#32
  let v1473 : BitVec 32 := Scalar.subi v1458 c1_i32_730
  let v1474 : BitVec 32 := Scalar.select v1472 v1473 v1458
  let v1475 : BitVec 32 := Scalar.muli c8_i32_731 v1474
  let v1476 : BitVec 32 := Scalar.addi c19_i32_732 v1475
  let c32_i32_733 : BitVec 32 := 32#32
  let c0_i32_734 : BitVec 32 := 0#32
  let v1477 : BitVec 1 := Scalar.cmpi .eq c32_i32_733 c0_i32_734
  let c1_i32_735 : BitVec 32 := 1#32
  let v1478 : BitVec 32 := Scalar.select v1477 c1_i32_735 c32_i32_733
  let v1479 : BitVec 32 := Scalar.remsi v1476 v1478
  let c0_i32_737 : BitVec 32 := 0#32
  let v1481 : BitVec 1 := Scalar.cmpi .slt v1479 c0_i32_737
  let c0_i32_738 : BitVec 32 := 0#32
  let v1482 : BitVec 1 := Scalar.cmpi .slt v1478 c0_i32_738
  let v1483 : BitVec 1 := Scalar.xori v1481 v1482
  let c0_i32_736 : BitVec 32 := 0#32
  let v1480 : BitVec 1 := Scalar.cmpi .ne v1479 c0_i32_736
  let v1484 : BitVec 1 := Scalar.andi v1483 v1480
  let v1485 : BitVec 32 := Scalar.addi v1479 v1478
  let v1486 : BitVec 32 := Scalar.select v1484 v1485 v1479
  let v1490 : BitVec 1 := Scalar.cmpi .eq v1486 v2
  let v1491 : BitVec 32 := Scalar.extui v1490
  let c0_i32_740 : BitVec 32 := 0#32
  let v1492 : BitVec 1 := Scalar.cmpi .ne v1491 c0_i32_740
  v1492

def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond41 (d0 : Dev nD) : BitVec 1 :=
  let c20_i32_749 : BitVec 32 := 20#32
  let c8_i32_748 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let v1494 : BitVec 1 := Scalar.cmpi .sgt v2 c0_i32_742
  let v1495 : BitVec 32 := Scalar.extui v1494
  let c0_i32_743 : BitVec 32 := 0#32
  let v1496 : BitVec 1 := Scalar.cmpi .slt v2 c0_i32_743
  let v1497 : BitVec 32 := Scalar.extui v1496
  let v1498 : BitVec 32 := Scalar.subi v1495 v1497
  let c8_i32_741 : BitVec 32 := 8#32
  let c0_i32_744 : BitVec 32 := 0#32
  let v1499 : BitVec 1 := Scalar.cmpi .sgt c8_i32_741 c0_i32_744
  let v1500 : BitVec 32 := Scalar.extui v1499
  let c0_i32_745 : BitVec 32 := 0#32
  let v1501 : BitVec 1 := Scalar.cmpi .slt c8_i32_741 c0_i32_745
  let v1502 : BitVec 32 := Scalar.extui v1501
  let v1503 : BitVec 32 := Scalar.subi v1500 v1502
  let v1504 : BitVec 1 := Scalar.cmpi .ne v1498 v1503
  let v1505 : BitVec 32 := Scalar.remsi v2 c8_i32_741
  let c0_i32_746 : BitVec 32 := 0#32
  let v1506 : BitVec 1 := Scalar.cmpi .ne v1505 c0_i32_746
  let v1507 : BitVec 1 := Scalar.andi v1504 v1506
  let v1493 : BitVec 32 := Scalar.divsi v2 c8_i32_741
  let c1_i32_747 : BitVec 32 := 1#32
  let v1508 : BitVec 32 := Scalar.subi v1493 c1_i32_747
  let v1509 : BitVec 32 := Scalar.select v1507 v1508 v1493
  let v1510 : BitVec 32 := Scalar.muli c8_i32_748 v1509
  let v1511 : BitVec 32 := Scalar.addi c20_i32_749 v1510
  let c32_i32_750 : BitVec 32 := 32#32
  let c0_i32_751 : BitVec 32 := 0#32
  let v1512 : BitVec 1 := Scalar.cmpi .eq c32_i32_750 c0_i32_751
  let c1_i32_752 : BitVec 32 := 1#32
  let v1513 : BitVec 32 := Scalar.select v1512 c1_i32_752 c32_i32_750
  let v1514 : BitVec 32 := Scalar.remsi v1511 v1513
  let c0_i32_754 : BitVec 32 := 0#32
  let v1516 : BitVec 1 := Scalar.cmpi .slt v1514 c0_i32_754
  let c0_i32_755 : BitVec 32 := 0#32
  let v1517 : BitVec 1 := Scalar.cmpi .slt v1513 c0_i32_755
  let v1518 : BitVec 1 := Scalar.xori v1516 v1517
  let c0_i32_753 : BitVec 32 := 0#32
  let v1515 : BitVec 1 := Scalar.cmpi .ne v1514 c0_i32_753
  let v1519 : BitVec 1 := Scalar.andi v1518 v1515
  let v1520 : BitVec 32 := Scalar.addi v1514 v1513
  let v1521 : BitVec 32 := Scalar.select v1519 v1520 v1514
  let v1522 : BitVec 1 := Scalar.cmpi .ne v1521 v2
  let v1523 : BitVec 32 := Scalar.extui v1522
  let c0_i32_756 : BitVec 32 := 0#32
  let v1524 : BitVec 1 := Scalar.cmpi .ne v1523 c0_i32_756
  v1524

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev52 (d0 : Dev nD) : Nat :=
  let c0_i32_1914 : BitVec 32 := 0#32
  let c20_i32_749 : BitVec 32 := 20#32
  let c8_i32_748 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let v1494 : BitVec 1 := Scalar.cmpi .sgt v2 c0_i32_742
  let v1495 : BitVec 32 := Scalar.extui v1494
  let c0_i32_743 : BitVec 32 := 0#32
  let v1496 : BitVec 1 := Scalar.cmpi .slt v2 c0_i32_743
  let v1497 : BitVec 32 := Scalar.extui v1496
  let v1498 : BitVec 32 := Scalar.subi v1495 v1497
  let c8_i32_741 : BitVec 32 := 8#32
  let c0_i32_744 : BitVec 32 := 0#32
  let v1499 : BitVec 1 := Scalar.cmpi .sgt c8_i32_741 c0_i32_744
  let v1500 : BitVec 32 := Scalar.extui v1499
  let c0_i32_745 : BitVec 32 := 0#32
  let v1501 : BitVec 1 := Scalar.cmpi .slt c8_i32_741 c0_i32_745
  let v1502 : BitVec 32 := Scalar.extui v1501
  let v1503 : BitVec 32 := Scalar.subi v1500 v1502
  let v1504 : BitVec 1 := Scalar.cmpi .ne v1498 v1503
  let v1505 : BitVec 32 := Scalar.remsi v2 c8_i32_741
  let c0_i32_746 : BitVec 32 := 0#32
  let v1506 : BitVec 1 := Scalar.cmpi .ne v1505 c0_i32_746
  let v1507 : BitVec 1 := Scalar.andi v1504 v1506
  let v1493 : BitVec 32 := Scalar.divsi v2 c8_i32_741
  let c1_i32_747 : BitVec 32 := 1#32
  let v1508 : BitVec 32 := Scalar.subi v1493 c1_i32_747
  let v1509 : BitVec 32 := Scalar.select v1507 v1508 v1493
  let v1510 : BitVec 32 := Scalar.muli c8_i32_748 v1509
  let v1511 : BitVec 32 := Scalar.addi c20_i32_749 v1510
  let c32_i32_750 : BitVec 32 := 32#32
  let c0_i32_751 : BitVec 32 := 0#32
  let v1512 : BitVec 1 := Scalar.cmpi .eq c32_i32_750 c0_i32_751
  let c1_i32_752 : BitVec 32 := 1#32
  let v1513 : BitVec 32 := Scalar.select v1512 c1_i32_752 c32_i32_750
  let v1514 : BitVec 32 := Scalar.remsi v1511 v1513
  let c0_i32_754 : BitVec 32 := 0#32
  let v1516 : BitVec 1 := Scalar.cmpi .slt v1514 c0_i32_754
  let c0_i32_755 : BitVec 32 := 0#32
  let v1517 : BitVec 1 := Scalar.cmpi .slt v1513 c0_i32_755
  let v1518 : BitVec 1 := Scalar.xori v1516 v1517
  let c0_i32_753 : BitVec 32 := 0#32
  let v1515 : BitVec 1 := Scalar.cmpi .ne v1514 c0_i32_753
  let v1519 : BitVec 1 := Scalar.andi v1518 v1515
  let v1520 : BitVec 32 := Scalar.addi v1514 v1513
  let v1521 : BitVec 32 := Scalar.select v1519 v1520 v1514
  let c1_i32_1913 : BitVec 32 := 1#32
  let v3683 : BitVec 32 := Scalar.muli v1521 c1_i32_1913
  let v3684 : BitVec 32 := Scalar.addi c0_i32_1914 v3683
  v3684.toNat
def k0_cond42 (d0 : Dev nD) : BitVec 1 :=
  let c20_i32_749 : BitVec 32 := 20#32
  let c8_i32_748 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_742 : BitVec 32 := 0#32
  let v1494 : BitVec 1 := Scalar.cmpi .sgt v2 c0_i32_742
  let v1495 : BitVec 32 := Scalar.extui v1494
  let c0_i32_743 : BitVec 32 := 0#32
  let v1496 : BitVec 1 := Scalar.cmpi .slt v2 c0_i32_743
  let v1497 : BitVec 32 := Scalar.extui v1496
  let v1498 : BitVec 32 := Scalar.subi v1495 v1497
  let c8_i32_741 : BitVec 32 := 8#32
  let c0_i32_744 : BitVec 32 := 0#32
  let v1499 : BitVec 1 := Scalar.cmpi .sgt c8_i32_741 c0_i32_744
  let v1500 : BitVec 32 := Scalar.extui v1499
  let c0_i32_745 : BitVec 32 := 0#32
  let v1501 : BitVec 1 := Scalar.cmpi .slt c8_i32_741 c0_i32_745
  let v1502 : BitVec 32 := Scalar.extui v1501
  let v1503 : BitVec 32 := Scalar.subi v1500 v1502
  let v1504 : BitVec 1 := Scalar.cmpi .ne v1498 v1503
  let v1505 : BitVec 32 := Scalar.remsi v2 c8_i32_741
  let c0_i32_746 : BitVec 32 := 0#32
  let v1506 : BitVec 1 := Scalar.cmpi .ne v1505 c0_i32_746
  let v1507 : BitVec 1 := Scalar.andi v1504 v1506
  let v1493 : BitVec 32 := Scalar.divsi v2 c8_i32_741
  let c1_i32_747 : BitVec 32 := 1#32
  let v1508 : BitVec 32 := Scalar.subi v1493 c1_i32_747
  let v1509 : BitVec 32 := Scalar.select v1507 v1508 v1493
  let v1510 : BitVec 32 := Scalar.muli c8_i32_748 v1509
  let v1511 : BitVec 32 := Scalar.addi c20_i32_749 v1510
  let c32_i32_750 : BitVec 32 := 32#32
  let c0_i32_751 : BitVec 32 := 0#32
  let v1512 : BitVec 1 := Scalar.cmpi .eq c32_i32_750 c0_i32_751
  let c1_i32_752 : BitVec 32 := 1#32
  let v1513 : BitVec 32 := Scalar.select v1512 c1_i32_752 c32_i32_750
  let v1514 : BitVec 32 := Scalar.remsi v1511 v1513
  let c0_i32_754 : BitVec 32 := 0#32
  let v1516 : BitVec 1 := Scalar.cmpi .slt v1514 c0_i32_754
  let c0_i32_755 : BitVec 32 := 0#32
  let v1517 : BitVec 1 := Scalar.cmpi .slt v1513 c0_i32_755
  let v1518 : BitVec 1 := Scalar.xori v1516 v1517
  let c0_i32_753 : BitVec 32 := 0#32
  let v1515 : BitVec 1 := Scalar.cmpi .ne v1514 c0_i32_753
  let v1519 : BitVec 1 := Scalar.andi v1518 v1515
  let v1520 : BitVec 32 := Scalar.addi v1514 v1513
  let v1521 : BitVec 32 := Scalar.select v1519 v1520 v1514
  let v1525 : BitVec 1 := Scalar.cmpi .eq v1521 v2
  let v1526 : BitVec 32 := Scalar.extui v1525
  let c0_i32_757 : BitVec 32 := 0#32
  let v1527 : BitVec 1 := Scalar.cmpi .ne v1526 c0_i32_757
  v1527

def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond43 (d0 : Dev nD) : BitVec 1 :=
  let c21_i32_766 : BitVec 32 := 21#32
  let c8_i32_765 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_759 : BitVec 32 := 0#32
  let v1529 : BitVec 1 := Scalar.cmpi .sgt v2 c0_i32_759
  let v1530 : BitVec 32 := Scalar.extui v1529
  let c0_i32_760 : BitVec 32 := 0#32
  let v1531 : BitVec 1 := Scalar.cmpi .slt v2 c0_i32_760
  let v1532 : BitVec 32 := Scalar.extui v1531
  let v1533 : BitVec 32 := Scalar.subi v1530 v1532
  let c8_i32_758 : BitVec 32 := 8#32
  let c0_i32_761 : BitVec 32 := 0#32
  let v1534 : BitVec 1 := Scalar.cmpi .sgt c8_i32_758 c0_i32_761
  let v1535 : BitVec 32 := Scalar.extui v1534
  let c0_i32_762 : BitVec 32 := 0#32
  let v1536 : BitVec 1 := Scalar.cmpi .slt c8_i32_758 c0_i32_762
  let v1537 : BitVec 32 := Scalar.extui v1536
  let v1538 : BitVec 32 := Scalar.subi v1535 v1537
  let v1539 : BitVec 1 := Scalar.cmpi .ne v1533 v1538
  let v1540 : BitVec 32 := Scalar.remsi v2 c8_i32_758
  let c0_i32_763 : BitVec 32 := 0#32
  let v1541 : BitVec 1 := Scalar.cmpi .ne v1540 c0_i32_763
  let v1542 : BitVec 1 := Scalar.andi v1539 v1541
  let v1528 : BitVec 32 := Scalar.divsi v2 c8_i32_758
  let c1_i32_764 : BitVec 32 := 1#32
  let v1543 : BitVec 32 := Scalar.subi v1528 c1_i32_764
  let v1544 : BitVec 32 := Scalar.select v1542 v1543 v1528
  let v1545 : BitVec 32 := Scalar.muli c8_i32_765 v1544
  let v1546 : BitVec 32 := Scalar.addi c21_i32_766 v1545
  let c32_i32_767 : BitVec 32 := 32#32
  let c0_i32_768 : BitVec 32 := 0#32
  let v1547 : BitVec 1 := Scalar.cmpi .eq c32_i32_767 c0_i32_768
  let c1_i32_769 : BitVec 32 := 1#32
  let v1548 : BitVec 32 := Scalar.select v1547 c1_i32_769 c32_i32_767
  let v1549 : BitVec 32 := Scalar.remsi v1546 v1548
  let c0_i32_771 : BitVec 32 := 0#32
  let v1551 : BitVec 1 := Scalar.cmpi .slt v1549 c0_i32_771
  let c0_i32_772 : BitVec 32 := 0#32
  let v1552 : BitVec 1 := Scalar.cmpi .slt v1548 c0_i32_772
  let v1553 : BitVec 1 := Scalar.xori v1551 v1552
  let c0_i32_770 : BitVec 32 := 0#32
  let v1550 : BitVec 1 := Scalar.cmpi .ne v1549 c0_i32_770
  let v1554 : BitVec 1 := Scalar.andi v1553 v1550
  let v1555 : BitVec 32 := Scalar.addi v1549 v1548
  let v1556 : BitVec 32 := Scalar.select v1554 v1555 v1549
  let v1557 : BitVec 1 := Scalar.cmpi .ne v1556 v2
  let v1558 : BitVec 32 := Scalar.extui v1557
  let c0_i32_773 : BitVec 32 := 0#32
  let v1559 : BitVec 1 := Scalar.cmpi .ne v1558 c0_i32_773
  v1559

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev53 (d0 : Dev nD) : Nat :=
  let c0_i32_1914 : BitVec 32 := 0#32
  let c21_i32_766 : BitVec 32 := 21#32
  let c8_i32_765 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_759 : BitVec 32 := 0#32
  let v1529 : BitVec 1 := Scalar.cmpi .sgt v2 c0_i32_759
  let v1530 : BitVec 32 := Scalar.extui v1529
  let c0_i32_760 : BitVec 32 := 0#32
  let v1531 : BitVec 1 := Scalar.cmpi .slt v2 c0_i32_760
  let v1532 : BitVec 32 := Scalar.extui v1531
  let v1533 : BitVec 32 := Scalar.subi v1530 v1532
  let c8_i32_758 : BitVec 32 := 8#32
  let c0_i32_761 : BitVec 32 := 0#32
  let v1534 : BitVec 1 := Scalar.cmpi .sgt c8_i32_758 c0_i32_761
  let v1535 : BitVec 32 := Scalar.extui v1534
  let c0_i32_762 : BitVec 32 := 0#32
  let v1536 : BitVec 1 := Scalar.cmpi .slt c8_i32_758 c0_i32_762
  let v1537 : BitVec 32 := Scalar.extui v1536
  let v1538 : BitVec 32 := Scalar.subi v1535 v1537
  let v1539 : BitVec 1 := Scalar.cmpi .ne v1533 v1538
  let v1540 : BitVec 32 := Scalar.remsi v2 c8_i32_758
  let c0_i32_763 : BitVec 32 := 0#32
  let v1541 : BitVec 1 := Scalar.cmpi .ne v1540 c0_i32_763
  let v1542 : BitVec 1 := Scalar.andi v1539 v1541
  let v1528 : BitVec 32 := Scalar.divsi v2 c8_i32_758
  let c1_i32_764 : BitVec 32 := 1#32
  let v1543 : BitVec 32 := Scalar.subi v1528 c1_i32_764
  let v1544 : BitVec 32 := Scalar.select v1542 v1543 v1528
  let v1545 : BitVec 32 := Scalar.muli c8_i32_765 v1544
  let v1546 : BitVec 32 := Scalar.addi c21_i32_766 v1545
  let c32_i32_767 : BitVec 32 := 32#32
  let c0_i32_768 : BitVec 32 := 0#32
  let v1547 : BitVec 1 := Scalar.cmpi .eq c32_i32_767 c0_i32_768
  let c1_i32_769 : BitVec 32 := 1#32
  let v1548 : BitVec 32 := Scalar.select v1547 c1_i32_769 c32_i32_767
  let v1549 : BitVec 32 := Scalar.remsi v1546 v1548
  let c0_i32_771 : BitVec 32 := 0#32
  let v1551 : BitVec 1 := Scalar.cmpi .slt v1549 c0_i32_771
  let c0_i32_772 : BitVec 32 := 0#32
  let v1552 : BitVec 1 := Scalar.cmpi .slt v1548 c0_i32_772
  let v1553 : BitVec 1 := Scalar.xori v1551 v1552
  let c0_i32_770 : BitVec 32 := 0#32
  let v1550 : BitVec 1 := Scalar.cmpi .ne v1549 c0_i32_770
  let v1554 : BitVec 1 := Scalar.andi v1553 v1550
  let v1555 : BitVec 32 := Scalar.addi v1549 v1548
  let v1556 : BitVec 32 := Scalar.select v1554 v1555 v1549
  let c1_i32_1913 : BitVec 32 := 1#32
  let v3683 : BitVec 32 := Scalar.muli v1556 c1_i32_1913
  let v3684 : BitVec 32 := Scalar.addi c0_i32_1914 v3683
  v3684.toNat
def k0_cond44 (d0 : Dev nD) : BitVec 1 :=
  let c21_i32_766 : BitVec 32 := 21#32
  let c8_i32_765 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_759 : BitVec 32 := 0#32
  let v1529 : BitVec 1 := Scalar.cmpi .sgt v2 c0_i32_759
  let v1530 : BitVec 32 := Scalar.extui v1529
  let c0_i32_760 : BitVec 32 := 0#32
  let v1531 : BitVec 1 := Scalar.cmpi .slt v2 c0_i32_760
  let v1532 : BitVec 32 := Scalar.extui v1531
  let v1533 : BitVec 32 := Scalar.subi v1530 v1532
  let c8_i32_758 : BitVec 32 := 8#32
  let c0_i32_761 : BitVec 32 := 0#32
  let v1534 : BitVec 1 := Scalar.cmpi .sgt c8_i32_758 c0_i32_761
  let v1535 : BitVec 32 := Scalar.extui v1534
  let c0_i32_762 : BitVec 32 := 0#32
  let v1536 : BitVec 1 := Scalar.cmpi .slt c8_i32_758 c0_i32_762
  let v1537 : BitVec 32 := Scalar.extui v1536
  let v1538 : BitVec 32 := Scalar.subi v1535 v1537
  let v1539 : BitVec 1 := Scalar.cmpi .ne v1533 v1538
  let v1540 : BitVec 32 := Scalar.remsi v2 c8_i32_758
  let c0_i32_763 : BitVec 32 := 0#32
  let v1541 : BitVec 1 := Scalar.cmpi .ne v1540 c0_i32_763
  let v1542 : BitVec 1 := Scalar.andi v1539 v1541
  let v1528 : BitVec 32 := Scalar.divsi v2 c8_i32_758
  let c1_i32_764 : BitVec 32 := 1#32
  let v1543 : BitVec 32 := Scalar.subi v1528 c1_i32_764
  let v1544 : BitVec 32 := Scalar.select v1542 v1543 v1528
  let v1545 : BitVec 32 := Scalar.muli c8_i32_765 v1544
  let v1546 : BitVec 32 := Scalar.addi c21_i32_766 v1545
  let c32_i32_767 : BitVec 32 := 32#32
  let c0_i32_768 : BitVec 32 := 0#32
  let v1547 : BitVec 1 := Scalar.cmpi .eq c32_i32_767 c0_i32_768
  let c1_i32_769 : BitVec 32 := 1#32
  let v1548 : BitVec 32 := Scalar.select v1547 c1_i32_769 c32_i32_767
  let v1549 : BitVec 32 := Scalar.remsi v1546 v1548
  let c0_i32_771 : BitVec 32 := 0#32
  let v1551 : BitVec 1 := Scalar.cmpi .slt v1549 c0_i32_771
  let c0_i32_772 : BitVec 32 := 0#32
  let v1552 : BitVec 1 := Scalar.cmpi .slt v1548 c0_i32_772
  let v1553 : BitVec 1 := Scalar.xori v1551 v1552
  let c0_i32_770 : BitVec 32 := 0#32
  let v1550 : BitVec 1 := Scalar.cmpi .ne v1549 c0_i32_770
  let v1554 : BitVec 1 := Scalar.andi v1553 v1550
  let v1555 : BitVec 32 := Scalar.addi v1549 v1548
  let v1556 : BitVec 32 := Scalar.select v1554 v1555 v1549
  let v1560 : BitVec 1 := Scalar.cmpi .eq v1556 v2
  let v1561 : BitVec 32 := Scalar.extui v1560
  let c0_i32_774 : BitVec 32 := 0#32
  let v1562 : BitVec 1 := Scalar.cmpi .ne v1561 c0_i32_774
  v1562

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond45 (d0 : Dev nD) : BitVec 1 :=
  let c22_i32_783 : BitVec 32 := 22#32
  let c8_i32_782 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_776 : BitVec 32 := 0#32
  let v1564 : BitVec 1 := Scalar.cmpi .sgt v2 c0_i32_776
  let v1565 : BitVec 32 := Scalar.extui v1564
  let c0_i32_777 : BitVec 32 := 0#32
  let v1566 : BitVec 1 := Scalar.cmpi .slt v2 c0_i32_777
  let v1567 : BitVec 32 := Scalar.extui v1566
  let v1568 : BitVec 32 := Scalar.subi v1565 v1567
  let c8_i32_775 : BitVec 32 := 8#32
  let c0_i32_778 : BitVec 32 := 0#32
  let v1569 : BitVec 1 := Scalar.cmpi .sgt c8_i32_775 c0_i32_778
  let v1570 : BitVec 32 := Scalar.extui v1569
  let c0_i32_779 : BitVec 32 := 0#32
  let v1571 : BitVec 1 := Scalar.cmpi .slt c8_i32_775 c0_i32_779
  let v1572 : BitVec 32 := Scalar.extui v1571
  let v1573 : BitVec 32 := Scalar.subi v1570 v1572
  let v1574 : BitVec 1 := Scalar.cmpi .ne v1568 v1573
  let v1575 : BitVec 32 := Scalar.remsi v2 c8_i32_775
  let c0_i32_780 : BitVec 32 := 0#32
  let v1576 : BitVec 1 := Scalar.cmpi .ne v1575 c0_i32_780
  let v1577 : BitVec 1 := Scalar.andi v1574 v1576
  let v1563 : BitVec 32 := Scalar.divsi v2 c8_i32_775
  let c1_i32_781 : BitVec 32 := 1#32
  let v1578 : BitVec 32 := Scalar.subi v1563 c1_i32_781
  let v1579 : BitVec 32 := Scalar.select v1577 v1578 v1563
  let v1580 : BitVec 32 := Scalar.muli c8_i32_782 v1579
  let v1581 : BitVec 32 := Scalar.addi c22_i32_783 v1580
  let c32_i32_784 : BitVec 32 := 32#32
  let c0_i32_785 : BitVec 32 := 0#32
  let v1582 : BitVec 1 := Scalar.cmpi .eq c32_i32_784 c0_i32_785
  let c1_i32_786 : BitVec 32 := 1#32
  let v1583 : BitVec 32 := Scalar.select v1582 c1_i32_786 c32_i32_784
  let v1584 : BitVec 32 := Scalar.remsi v1581 v1583
  let c0_i32_788 : BitVec 32 := 0#32
  let v1586 : BitVec 1 := Scalar.cmpi .slt v1584 c0_i32_788
  let c0_i32_789 : BitVec 32 := 0#32
  let v1587 : BitVec 1 := Scalar.cmpi .slt v1583 c0_i32_789
  let v1588 : BitVec 1 := Scalar.xori v1586 v1587
  let c0_i32_787 : BitVec 32 := 0#32
  let v1585 : BitVec 1 := Scalar.cmpi .ne v1584 c0_i32_787
  let v1589 : BitVec 1 := Scalar.andi v1588 v1585
  let v1590 : BitVec 32 := Scalar.addi v1584 v1583
  let v1591 : BitVec 32 := Scalar.select v1589 v1590 v1584
  let v1592 : BitVec 1 := Scalar.cmpi .ne v1591 v2
  let v1593 : BitVec 32 := Scalar.extui v1592
  let c0_i32_790 : BitVec 32 := 0#32
  let v1594 : BitVec 1 := Scalar.cmpi .ne v1593 c0_i32_790
  v1594

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev54 (d0 : Dev nD) : Nat :=
  let c0_i32_1914 : BitVec 32 := 0#32
  let c22_i32_783 : BitVec 32 := 22#32
  let c8_i32_782 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_776 : BitVec 32 := 0#32
  let v1564 : BitVec 1 := Scalar.cmpi .sgt v2 c0_i32_776
  let v1565 : BitVec 32 := Scalar.extui v1564
  let c0_i32_777 : BitVec 32 := 0#32
  let v1566 : BitVec 1 := Scalar.cmpi .slt v2 c0_i32_777
  let v1567 : BitVec 32 := Scalar.extui v1566
  let v1568 : BitVec 32 := Scalar.subi v1565 v1567
  let c8_i32_775 : BitVec 32 := 8#32
  let c0_i32_778 : BitVec 32 := 0#32
  let v1569 : BitVec 1 := Scalar.cmpi .sgt c8_i32_775 c0_i32_778
  let v1570 : BitVec 32 := Scalar.extui v1569
  let c0_i32_779 : BitVec 32 := 0#32
  let v1571 : BitVec 1 := Scalar.cmpi .slt c8_i32_775 c0_i32_779
  let v1572 : BitVec 32 := Scalar.extui v1571
  let v1573 : BitVec 32 := Scalar.subi v1570 v1572
  let v1574 : BitVec 1 := Scalar.cmpi .ne v1568 v1573
  let v1575 : BitVec 32 := Scalar.remsi v2 c8_i32_775
  let c0_i32_780 : BitVec 32 := 0#32
  let v1576 : BitVec 1 := Scalar.cmpi .ne v1575 c0_i32_780
  let v1577 : BitVec 1 := Scalar.andi v1574 v1576
  let v1563 : BitVec 32 := Scalar.divsi v2 c8_i32_775
  let c1_i32_781 : BitVec 32 := 1#32
  let v1578 : BitVec 32 := Scalar.subi v1563 c1_i32_781
  let v1579 : BitVec 32 := Scalar.select v1577 v1578 v1563
  let v1580 : BitVec 32 := Scalar.muli c8_i32_782 v1579
  let v1581 : BitVec 32 := Scalar.addi c22_i32_783 v1580
  let c32_i32_784 : BitVec 32 := 32#32
  let c0_i32_785 : BitVec 32 := 0#32
  let v1582 : BitVec 1 := Scalar.cmpi .eq c32_i32_784 c0_i32_785
  let c1_i32_786 : BitVec 32 := 1#32
  let v1583 : BitVec 32 := Scalar.select v1582 c1_i32_786 c32_i32_784
  let v1584 : BitVec 32 := Scalar.remsi v1581 v1583
  let c0_i32_788 : BitVec 32 := 0#32
  let v1586 : BitVec 1 := Scalar.cmpi .slt v1584 c0_i32_788
  let c0_i32_789 : BitVec 32 := 0#32
  let v1587 : BitVec 1 := Scalar.cmpi .slt v1583 c0_i32_789
  let v1588 : BitVec 1 := Scalar.xori v1586 v1587
  let c0_i32_787 : BitVec 32 := 0#32
  let v1585 : BitVec 1 := Scalar.cmpi .ne v1584 c0_i32_787
  let v1589 : BitVec 1 := Scalar.andi v1588 v1585
  let v1590 : BitVec 32 := Scalar.addi v1584 v1583
  let v1591 : BitVec 32 := Scalar.select v1589 v1590 v1584
  let c1_i32_1913 : BitVec 32 := 1#32
  let v3683 : BitVec 32 := Scalar.muli v1591 c1_i32_1913
  let v3684 : BitVec 32 := Scalar.addi c0_i32_1914 v3683
  v3684.toNat
def k0_cond46 (d0 : Dev nD) : BitVec 1 :=
  let c22_i32_783 : BitVec 32 := 22#32
  let c8_i32_782 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_776 : BitVec 32 := 0#32
  let v1564 : BitVec 1 := Scalar.cmpi .sgt v2 c0_i32_776
  let v1565 : BitVec 32 := Scalar.extui v1564
  let c0_i32_777 : BitVec 32 := 0#32
  let v1566 : BitVec 1 := Scalar.cmpi .slt v2 c0_i32_777
  let v1567 : BitVec 32 := Scalar.extui v1566
  let v1568 : BitVec 32 := Scalar.subi v1565 v1567
  let c8_i32_775 : BitVec 32 := 8#32
  let c0_i32_778 : BitVec 32 := 0#32
  let v1569 : BitVec 1 := Scalar.cmpi .sgt c8_i32_775 c0_i32_778
  let v1570 : BitVec 32 := Scalar.extui v1569
  let c0_i32_779 : BitVec 32 := 0#32
  let v1571 : BitVec 1 := Scalar.cmpi .slt c8_i32_775 c0_i32_779
  let v1572 : BitVec 32 := Scalar.extui v1571
  let v1573 : BitVec 32 := Scalar.subi v1570 v1572
  let v1574 : BitVec 1 := Scalar.cmpi .ne v1568 v1573
  let v1575 : BitVec 32 := Scalar.remsi v2 c8_i32_775
  let c0_i32_780 : BitVec 32 := 0#32
  let v1576 : BitVec 1 := Scalar.cmpi .ne v1575 c0_i32_780
  let v1577 : BitVec 1 := Scalar.andi v1574 v1576
  let v1563 : BitVec 32 := Scalar.divsi v2 c8_i32_775
  let c1_i32_781 : BitVec 32 := 1#32
  let v1578 : BitVec 32 := Scalar.subi v1563 c1_i32_781
  let v1579 : BitVec 32 := Scalar.select v1577 v1578 v1563
  let v1580 : BitVec 32 := Scalar.muli c8_i32_782 v1579
  let v1581 : BitVec 32 := Scalar.addi c22_i32_783 v1580
  let c32_i32_784 : BitVec 32 := 32#32
  let c0_i32_785 : BitVec 32 := 0#32
  let v1582 : BitVec 1 := Scalar.cmpi .eq c32_i32_784 c0_i32_785
  let c1_i32_786 : BitVec 32 := 1#32
  let v1583 : BitVec 32 := Scalar.select v1582 c1_i32_786 c32_i32_784
  let v1584 : BitVec 32 := Scalar.remsi v1581 v1583
  let c0_i32_788 : BitVec 32 := 0#32
  let v1586 : BitVec 1 := Scalar.cmpi .slt v1584 c0_i32_788
  let c0_i32_789 : BitVec 32 := 0#32
  let v1587 : BitVec 1 := Scalar.cmpi .slt v1583 c0_i32_789
  let v1588 : BitVec 1 := Scalar.xori v1586 v1587
  let c0_i32_787 : BitVec 32 := 0#32
  let v1585 : BitVec 1 := Scalar.cmpi .ne v1584 c0_i32_787
  let v1589 : BitVec 1 := Scalar.andi v1588 v1585
  let v1590 : BitVec 32 := Scalar.addi v1584 v1583
  let v1591 : BitVec 32 := Scalar.select v1589 v1590 v1584
  let v1595 : BitVec 1 := Scalar.cmpi .eq v1591 v2
  let v1596 : BitVec 32 := Scalar.extui v1595
  let c0_i32_791 : BitVec 32 := 0#32
  let v1597 : BitVec 1 := Scalar.cmpi .ne v1596 c0_i32_791
  v1597

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond47 (d0 : Dev nD) : BitVec 1 :=
  let c23_i32_800 : BitVec 32 := 23#32
  let c8_i32_799 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_793 : BitVec 32 := 0#32
  let v1599 : BitVec 1 := Scalar.cmpi .sgt v2 c0_i32_793
  let v1600 : BitVec 32 := Scalar.extui v1599
  let c0_i32_794 : BitVec 32 := 0#32
  let v1601 : BitVec 1 := Scalar.cmpi .slt v2 c0_i32_794
  let v1602 : BitVec 32 := Scalar.extui v1601
  let v1603 : BitVec 32 := Scalar.subi v1600 v1602
  let c8_i32_792 : BitVec 32 := 8#32
  let c0_i32_795 : BitVec 32 := 0#32
  let v1604 : BitVec 1 := Scalar.cmpi .sgt c8_i32_792 c0_i32_795
  let v1605 : BitVec 32 := Scalar.extui v1604
  let c0_i32_796 : BitVec 32 := 0#32
  let v1606 : BitVec 1 := Scalar.cmpi .slt c8_i32_792 c0_i32_796
  let v1607 : BitVec 32 := Scalar.extui v1606
  let v1608 : BitVec 32 := Scalar.subi v1605 v1607
  let v1609 : BitVec 1 := Scalar.cmpi .ne v1603 v1608
  let v1610 : BitVec 32 := Scalar.remsi v2 c8_i32_792
  let c0_i32_797 : BitVec 32 := 0#32
  let v1611 : BitVec 1 := Scalar.cmpi .ne v1610 c0_i32_797
  let v1612 : BitVec 1 := Scalar.andi v1609 v1611
  let v1598 : BitVec 32 := Scalar.divsi v2 c8_i32_792
  let c1_i32_798 : BitVec 32 := 1#32
  let v1613 : BitVec 32 := Scalar.subi v1598 c1_i32_798
  let v1614 : BitVec 32 := Scalar.select v1612 v1613 v1598
  let v1615 : BitVec 32 := Scalar.muli c8_i32_799 v1614
  let v1616 : BitVec 32 := Scalar.addi c23_i32_800 v1615
  let c32_i32_801 : BitVec 32 := 32#32
  let c0_i32_802 : BitVec 32 := 0#32
  let v1617 : BitVec 1 := Scalar.cmpi .eq c32_i32_801 c0_i32_802
  let c1_i32_803 : BitVec 32 := 1#32
  let v1618 : BitVec 32 := Scalar.select v1617 c1_i32_803 c32_i32_801
  let v1619 : BitVec 32 := Scalar.remsi v1616 v1618
  let c0_i32_805 : BitVec 32 := 0#32
  let v1621 : BitVec 1 := Scalar.cmpi .slt v1619 c0_i32_805
  let c0_i32_806 : BitVec 32 := 0#32
  let v1622 : BitVec 1 := Scalar.cmpi .slt v1618 c0_i32_806
  let v1623 : BitVec 1 := Scalar.xori v1621 v1622
  let c0_i32_804 : BitVec 32 := 0#32
  let v1620 : BitVec 1 := Scalar.cmpi .ne v1619 c0_i32_804
  let v1624 : BitVec 1 := Scalar.andi v1623 v1620
  let v1625 : BitVec 32 := Scalar.addi v1619 v1618
  let v1626 : BitVec 32 := Scalar.select v1624 v1625 v1619
  let v1627 : BitVec 1 := Scalar.cmpi .ne v1626 v2
  let v1628 : BitVec 32 := Scalar.extui v1627
  let c0_i32_807 : BitVec 32 := 0#32
  let v1629 : BitVec 1 := Scalar.cmpi .ne v1628 c0_i32_807
  v1629

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev55 (d0 : Dev nD) : Nat :=
  let c0_i32_1914 : BitVec 32 := 0#32
  let c23_i32_800 : BitVec 32 := 23#32
  let c8_i32_799 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_793 : BitVec 32 := 0#32
  let v1599 : BitVec 1 := Scalar.cmpi .sgt v2 c0_i32_793
  let v1600 : BitVec 32 := Scalar.extui v1599
  let c0_i32_794 : BitVec 32 := 0#32
  let v1601 : BitVec 1 := Scalar.cmpi .slt v2 c0_i32_794
  let v1602 : BitVec 32 := Scalar.extui v1601
  let v1603 : BitVec 32 := Scalar.subi v1600 v1602
  let c8_i32_792 : BitVec 32 := 8#32
  let c0_i32_795 : BitVec 32 := 0#32
  let v1604 : BitVec 1 := Scalar.cmpi .sgt c8_i32_792 c0_i32_795
  let v1605 : BitVec 32 := Scalar.extui v1604
  let c0_i32_796 : BitVec 32 := 0#32
  let v1606 : BitVec 1 := Scalar.cmpi .slt c8_i32_792 c0_i32_796
  let v1607 : BitVec 32 := Scalar.extui v1606
  let v1608 : BitVec 32 := Scalar.subi v1605 v1607
  let v1609 : BitVec 1 := Scalar.cmpi .ne v1603 v1608
  let v1610 : BitVec 32 := Scalar.remsi v2 c8_i32_792
  let c0_i32_797 : BitVec 32 := 0#32
  let v1611 : BitVec 1 := Scalar.cmpi .ne v1610 c0_i32_797
  let v1612 : BitVec 1 := Scalar.andi v1609 v1611
  let v1598 : BitVec 32 := Scalar.divsi v2 c8_i32_792
  let c1_i32_798 : BitVec 32 := 1#32
  let v1613 : BitVec 32 := Scalar.subi v1598 c1_i32_798
  let v1614 : BitVec 32 := Scalar.select v1612 v1613 v1598
  let v1615 : BitVec 32 := Scalar.muli c8_i32_799 v1614
  let v1616 : BitVec 32 := Scalar.addi c23_i32_800 v1615
  let c32_i32_801 : BitVec 32 := 32#32
  let c0_i32_802 : BitVec 32 := 0#32
  let v1617 : BitVec 1 := Scalar.cmpi .eq c32_i32_801 c0_i32_802
  let c1_i32_803 : BitVec 32 := 1#32
  let v1618 : BitVec 32 := Scalar.select v1617 c1_i32_803 c32_i32_801
  let v1619 : BitVec 32 := Scalar.remsi v1616 v1618
  let c0_i32_805 : BitVec 32 := 0#32
  let v1621 : BitVec 1 := Scalar.cmpi .slt v1619 c0_i32_805
  let c0_i32_806 : BitVec 32 := 0#32
  let v1622 : BitVec 1 := Scalar.cmpi .slt v1618 c0_i32_806
  let v1623 : BitVec 1 := Scalar.xori v1621 v1622
  let c0_i32_804 : BitVec 32 := 0#32
  let v1620 : BitVec 1 := Scalar.cmpi .ne v1619 c0_i32_804
  let v1624 : BitVec 1 := Scalar.andi v1623 v1620
  let v1625 : BitVec 32 := Scalar.addi v1619 v1618
  let v1626 : BitVec 32 := Scalar.select v1624 v1625 v1619
  let c1_i32_1913 : BitVec 32 := 1#32
  let v3683 : BitVec 32 := Scalar.muli v1626 c1_i32_1913
  let v3684 : BitVec 32 := Scalar.addi c0_i32_1914 v3683
  v3684.toNat
def k0_cond48 (d0 : Dev nD) : BitVec 1 :=
  let c23_i32_800 : BitVec 32 := 23#32
  let c8_i32_799 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_793 : BitVec 32 := 0#32
  let v1599 : BitVec 1 := Scalar.cmpi .sgt v2 c0_i32_793
  let v1600 : BitVec 32 := Scalar.extui v1599
  let c0_i32_794 : BitVec 32 := 0#32
  let v1601 : BitVec 1 := Scalar.cmpi .slt v2 c0_i32_794
  let v1602 : BitVec 32 := Scalar.extui v1601
  let v1603 : BitVec 32 := Scalar.subi v1600 v1602
  let c8_i32_792 : BitVec 32 := 8#32
  let c0_i32_795 : BitVec 32 := 0#32
  let v1604 : BitVec 1 := Scalar.cmpi .sgt c8_i32_792 c0_i32_795
  let v1605 : BitVec 32 := Scalar.extui v1604
  let c0_i32_796 : BitVec 32 := 0#32
  let v1606 : BitVec 1 := Scalar.cmpi .slt c8_i32_792 c0_i32_796
  let v1607 : BitVec 32 := Scalar.extui v1606
  let v1608 : BitVec 32 := Scalar.subi v1605 v1607
  let v1609 : BitVec 1 := Scalar.cmpi .ne v1603 v1608
  let v1610 : BitVec 32 := Scalar.remsi v2 c8_i32_792
  let c0_i32_797 : BitVec 32 := 0#32
  let v1611 : BitVec 1 := Scalar.cmpi .ne v1610 c0_i32_797
  let v1612 : BitVec 1 := Scalar.andi v1609 v1611
  let v1598 : BitVec 32 := Scalar.divsi v2 c8_i32_792
  let c1_i32_798 : BitVec 32 := 1#32
  let v1613 : BitVec 32 := Scalar.subi v1598 c1_i32_798
  let v1614 : BitVec 32 := Scalar.select v1612 v1613 v1598
  let v1615 : BitVec 32 := Scalar.muli c8_i32_799 v1614
  let v1616 : BitVec 32 := Scalar.addi c23_i32_800 v1615
  let c32_i32_801 : BitVec 32 := 32#32
  let c0_i32_802 : BitVec 32 := 0#32
  let v1617 : BitVec 1 := Scalar.cmpi .eq c32_i32_801 c0_i32_802
  let c1_i32_803 : BitVec 32 := 1#32
  let v1618 : BitVec 32 := Scalar.select v1617 c1_i32_803 c32_i32_801
  let v1619 : BitVec 32 := Scalar.remsi v1616 v1618
  let c0_i32_805 : BitVec 32 := 0#32
  let v1621 : BitVec 1 := Scalar.cmpi .slt v1619 c0_i32_805
  let c0_i32_806 : BitVec 32 := 0#32
  let v1622 : BitVec 1 := Scalar.cmpi .slt v1618 c0_i32_806
  let v1623 : BitVec 1 := Scalar.xori v1621 v1622
  let c0_i32_804 : BitVec 32 := 0#32
  let v1620 : BitVec 1 := Scalar.cmpi .ne v1619 c0_i32_804
  let v1624 : BitVec 1 := Scalar.andi v1623 v1620
  let v1625 : BitVec 32 := Scalar.addi v1619 v1618
  let v1626 : BitVec 32 := Scalar.select v1624 v1625 v1619
  let v1630 : BitVec 1 := Scalar.cmpi .eq v1626 v2
  let v1631 : BitVec 32 := Scalar.extui v1630
  let c0_i32_808 : BitVec 32 := 0#32
  let v1632 : BitVec 1 := Scalar.cmpi .ne v1631 c0_i32_808
  v1632

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond49 (d0 : Dev nD) : BitVec 1 :=
  let c24_i32_825 : BitVec 32 := 24#32
  let c8_i32_824 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_818 : BitVec 32 := 0#32
  let v1666 : BitVec 1 := Scalar.cmpi .sgt v2 c0_i32_818
  let v1667 : BitVec 32 := Scalar.extui v1666
  let c0_i32_819 : BitVec 32 := 0#32
  let v1668 : BitVec 1 := Scalar.cmpi .slt v2 c0_i32_819
  let v1669 : BitVec 32 := Scalar.extui v1668
  let v1670 : BitVec 32 := Scalar.subi v1667 v1669
  let c8_i32_817 : BitVec 32 := 8#32
  let c0_i32_820 : BitVec 32 := 0#32
  let v1671 : BitVec 1 := Scalar.cmpi .sgt c8_i32_817 c0_i32_820
  let v1672 : BitVec 32 := Scalar.extui v1671
  let c0_i32_821 : BitVec 32 := 0#32
  let v1673 : BitVec 1 := Scalar.cmpi .slt c8_i32_817 c0_i32_821
  let v1674 : BitVec 32 := Scalar.extui v1673
  let v1675 : BitVec 32 := Scalar.subi v1672 v1674
  let v1676 : BitVec 1 := Scalar.cmpi .ne v1670 v1675
  let v1677 : BitVec 32 := Scalar.remsi v2 c8_i32_817
  let c0_i32_822 : BitVec 32 := 0#32
  let v1678 : BitVec 1 := Scalar.cmpi .ne v1677 c0_i32_822
  let v1679 : BitVec 1 := Scalar.andi v1676 v1678
  let v1665 : BitVec 32 := Scalar.divsi v2 c8_i32_817
  let c1_i32_823 : BitVec 32 := 1#32
  let v1680 : BitVec 32 := Scalar.subi v1665 c1_i32_823
  let v1681 : BitVec 32 := Scalar.select v1679 v1680 v1665
  let v1682 : BitVec 32 := Scalar.muli c8_i32_824 v1681
  let v1683 : BitVec 32 := Scalar.addi c24_i32_825 v1682
  let c32_i32_826 : BitVec 32 := 32#32
  let c0_i32_827 : BitVec 32 := 0#32
  let v1684 : BitVec 1 := Scalar.cmpi .eq c32_i32_826 c0_i32_827
  let c1_i32_828 : BitVec 32 := 1#32
  let v1685 : BitVec 32 := Scalar.select v1684 c1_i32_828 c32_i32_826
  let v1686 : BitVec 32 := Scalar.remsi v1683 v1685
  let c0_i32_830 : BitVec 32 := 0#32
  let v1688 : BitVec 1 := Scalar.cmpi .slt v1686 c0_i32_830
  let c0_i32_831 : BitVec 32 := 0#32
  let v1689 : BitVec 1 := Scalar.cmpi .slt v1685 c0_i32_831
  let v1690 : BitVec 1 := Scalar.xori v1688 v1689
  let c0_i32_829 : BitVec 32 := 0#32
  let v1687 : BitVec 1 := Scalar.cmpi .ne v1686 c0_i32_829
  let v1691 : BitVec 1 := Scalar.andi v1690 v1687
  let v1692 : BitVec 32 := Scalar.addi v1686 v1685
  let v1693 : BitVec 32 := Scalar.select v1691 v1692 v1686
  let v1694 : BitVec 1 := Scalar.cmpi .ne v1693 v2
  let v1695 : BitVec 32 := Scalar.extui v1694
  let c0_i32_832 : BitVec 32 := 0#32
  let v1696 : BitVec 1 := Scalar.cmpi .ne v1695 c0_i32_832
  v1696

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev56 (d0 : Dev nD) : Nat :=
  let c0_i32_1914 : BitVec 32 := 0#32
  let c24_i32_825 : BitVec 32 := 24#32
  let c8_i32_824 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_818 : BitVec 32 := 0#32
  let v1666 : BitVec 1 := Scalar.cmpi .sgt v2 c0_i32_818
  let v1667 : BitVec 32 := Scalar.extui v1666
  let c0_i32_819 : BitVec 32 := 0#32
  let v1668 : BitVec 1 := Scalar.cmpi .slt v2 c0_i32_819
  let v1669 : BitVec 32 := Scalar.extui v1668
  let v1670 : BitVec 32 := Scalar.subi v1667 v1669
  let c8_i32_817 : BitVec 32 := 8#32
  let c0_i32_820 : BitVec 32 := 0#32
  let v1671 : BitVec 1 := Scalar.cmpi .sgt c8_i32_817 c0_i32_820
  let v1672 : BitVec 32 := Scalar.extui v1671
  let c0_i32_821 : BitVec 32 := 0#32
  let v1673 : BitVec 1 := Scalar.cmpi .slt c8_i32_817 c0_i32_821
  let v1674 : BitVec 32 := Scalar.extui v1673
  let v1675 : BitVec 32 := Scalar.subi v1672 v1674
  let v1676 : BitVec 1 := Scalar.cmpi .ne v1670 v1675
  let v1677 : BitVec 32 := Scalar.remsi v2 c8_i32_817
  let c0_i32_822 : BitVec 32 := 0#32
  let v1678 : BitVec 1 := Scalar.cmpi .ne v1677 c0_i32_822
  let v1679 : BitVec 1 := Scalar.andi v1676 v1678
  let v1665 : BitVec 32 := Scalar.divsi v2 c8_i32_817
  let c1_i32_823 : BitVec 32 := 1#32
  let v1680 : BitVec 32 := Scalar.subi v1665 c1_i32_823
  let v1681 : BitVec 32 := Scalar.select v1679 v1680 v1665
  let v1682 : BitVec 32 := Scalar.muli c8_i32_824 v1681
  let v1683 : BitVec 32 := Scalar.addi c24_i32_825 v1682
  let c32_i32_826 : BitVec 32 := 32#32
  let c0_i32_827 : BitVec 32 := 0#32
  let v1684 : BitVec 1 := Scalar.cmpi .eq c32_i32_826 c0_i32_827
  let c1_i32_828 : BitVec 32 := 1#32
  let v1685 : BitVec 32 := Scalar.select v1684 c1_i32_828 c32_i32_826
  let v1686 : BitVec 32 := Scalar.remsi v1683 v1685
  let c0_i32_830 : BitVec 32 := 0#32
  let v1688 : BitVec 1 := Scalar.cmpi .slt v1686 c0_i32_830
  let c0_i32_831 : BitVec 32 := 0#32
  let v1689 : BitVec 1 := Scalar.cmpi .slt v1685 c0_i32_831
  let v1690 : BitVec 1 := Scalar.xori v1688 v1689
  let c0_i32_829 : BitVec 32 := 0#32
  let v1687 : BitVec 1 := Scalar.cmpi .ne v1686 c0_i32_829
  let v1691 : BitVec 1 := Scalar.andi v1690 v1687
  let v1692 : BitVec 32 := Scalar.addi v1686 v1685
  let v1693 : BitVec 32 := Scalar.select v1691 v1692 v1686
  let c1_i32_1913 : BitVec 32 := 1#32
  let v3683 : BitVec 32 := Scalar.muli v1693 c1_i32_1913
  let v3684 : BitVec 32 := Scalar.addi c0_i32_1914 v3683
  v3684.toNat
def k0_cond50 (d0 : Dev nD) : BitVec 1 :=
  let c24_i32_825 : BitVec 32 := 24#32
  let c8_i32_824 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_818 : BitVec 32 := 0#32
  let v1666 : BitVec 1 := Scalar.cmpi .sgt v2 c0_i32_818
  let v1667 : BitVec 32 := Scalar.extui v1666
  let c0_i32_819 : BitVec 32 := 0#32
  let v1668 : BitVec 1 := Scalar.cmpi .slt v2 c0_i32_819
  let v1669 : BitVec 32 := Scalar.extui v1668
  let v1670 : BitVec 32 := Scalar.subi v1667 v1669
  let c8_i32_817 : BitVec 32 := 8#32
  let c0_i32_820 : BitVec 32 := 0#32
  let v1671 : BitVec 1 := Scalar.cmpi .sgt c8_i32_817 c0_i32_820
  let v1672 : BitVec 32 := Scalar.extui v1671
  let c0_i32_821 : BitVec 32 := 0#32
  let v1673 : BitVec 1 := Scalar.cmpi .slt c8_i32_817 c0_i32_821
  let v1674 : BitVec 32 := Scalar.extui v1673
  let v1675 : BitVec 32 := Scalar.subi v1672 v1674
  let v1676 : BitVec 1 := Scalar.cmpi .ne v1670 v1675
  let v1677 : BitVec 32 := Scalar.remsi v2 c8_i32_817
  let c0_i32_822 : BitVec 32 := 0#32
  let v1678 : BitVec 1 := Scalar.cmpi .ne v1677 c0_i32_822
  let v1679 : BitVec 1 := Scalar.andi v1676 v1678
  let v1665 : BitVec 32 := Scalar.divsi v2 c8_i32_817
  let c1_i32_823 : BitVec 32 := 1#32
  let v1680 : BitVec 32 := Scalar.subi v1665 c1_i32_823
  let v1681 : BitVec 32 := Scalar.select v1679 v1680 v1665
  let v1682 : BitVec 32 := Scalar.muli c8_i32_824 v1681
  let v1683 : BitVec 32 := Scalar.addi c24_i32_825 v1682
  let c32_i32_826 : BitVec 32 := 32#32
  let c0_i32_827 : BitVec 32 := 0#32
  let v1684 : BitVec 1 := Scalar.cmpi .eq c32_i32_826 c0_i32_827
  let c1_i32_828 : BitVec 32 := 1#32
  let v1685 : BitVec 32 := Scalar.select v1684 c1_i32_828 c32_i32_826
  let v1686 : BitVec 32 := Scalar.remsi v1683 v1685
  let c0_i32_830 : BitVec 32 := 0#32
  let v1688 : BitVec 1 := Scalar.cmpi .slt v1686 c0_i32_830
  let c0_i32_831 : BitVec 32 := 0#32
  let v1689 : BitVec 1 := Scalar.cmpi .slt v1685 c0_i32_831
  let v1690 : BitVec 1 := Scalar.xori v1688 v1689
  let c0_i32_829 : BitVec 32 := 0#32
  let v1687 : BitVec 1 := Scalar.cmpi .ne v1686 c0_i32_829
  let v1691 : BitVec 1 := Scalar.andi v1690 v1687
  let v1692 : BitVec 32 := Scalar.addi v1686 v1685
  let v1693 : BitVec 32 := Scalar.select v1691 v1692 v1686
  let v1697 : BitVec 1 := Scalar.cmpi .eq v1693 v2
  let v1698 : BitVec 32 := Scalar.extui v1697
  let c0_i32_833 : BitVec 32 := 0#32
  let v1699 : BitVec 1 := Scalar.cmpi .ne v1698 c0_i32_833
  v1699

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1913 : BitVec 32 := 16#32
  let v3683 : BitVec 32 := Scalar.muli v2 c16_i32_1913
  let v3684 : Index := Scalar.indexCast v3683
  let c0_1914 : Index := 0#32
  ![v3684.toNat, 0]
def k0_cond51 (d0 : Dev nD) : BitVec 1 :=
  let c25_i32_842 : BitVec 32 := 25#32
  let c8_i32_841 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_835 : BitVec 32 := 0#32
  let v1701 : BitVec 1 := Scalar.cmpi .sgt v2 c0_i32_835
  let v1702 : BitVec 32 := Scalar.extui v1701
  let c0_i32_836 : BitVec 32 := 0#32
  let v1703 : BitVec 1 := Scalar.cmpi .slt v2 c0_i32_836
  let v1704 : BitVec 32 := Scalar.extui v1703
  let v1705 : BitVec 32 := Scalar.subi v1702 v1704
  let c8_i32_834 : BitVec 32 := 8#32
  let c0_i32_837 : BitVec 32 := 0#32
  let v1706 : BitVec 1 := Scalar.cmpi .sgt c8_i32_834 c0_i32_837
  let v1707 : BitVec 32 := Scalar.extui v1706
  let c0_i32_838 : BitVec 32 := 0#32
  let v1708 : BitVec 1 := Scalar.cmpi .slt c8_i32_834 c0_i32_838
  let v1709 : BitVec 32 := Scalar.extui v1708
  let v1710 : BitVec 32 := Scalar.subi v1707 v1709
  let v1711 : BitVec 1 := Scalar.cmpi .ne v1705 v1710
  let v1712 : BitVec 32 := Scalar.remsi v2 c8_i32_834
  let c0_i32_839 : BitVec 32 := 0#32
  let v1713 : BitVec 1 := Scalar.cmpi .ne v1712 c0_i32_839
  let v1714 : BitVec 1 := Scalar.andi v1711 v1713
  let v1700 : BitVec 32 := Scalar.divsi v2 c8_i32_834
  let c1_i32_840 : BitVec 32 := 1#32
  let v1715 : BitVec 32 := Scalar.subi v1700 c1_i32_840
  let v1716 : BitVec 32 := Scalar.select v1714 v1715 v1700
  let v1717 : BitVec 32 := Scalar.muli c8_i32_841 v1716
  let v1718 : BitVec 32 := Scalar.addi c25_i32_842 v1717
  let c32_i32_843 : BitVec 32 := 32#32
  let c0_i32_844 : BitVec 32 := 0#32
  let v1719 : BitVec 1 := Scalar.cmpi .eq c32_i32_843 c0_i32_844
  let c1_i32_845 : BitVec 32 := 1#32
  let v1720 : BitVec 32 := Scalar.select v1719 c1_i32_845 c32_i32_843
  let v1721 : BitVec 32 := Scalar.remsi v1718 v1720
  let c0_i32_847 : BitVec 32 := 0#32
  let v1723 : BitVec 1 := Scalar.cmpi .slt v1721 c0_i32_847
  let c0_i32_848 : BitVec 32 := 0#32
  let v1724 : BitVec 1 := Scalar.cmpi .slt v1720 c0_i32_848
  let v1725 : BitVec 1 := Scalar.xori v1723 v1724
  let c0_i32_846 : BitVec 32 := 0#32
  let v1722 : BitVec 1 := Scalar.cmpi .ne v1721 c0_i32_846
  let v1726 : BitVec 1 := Scalar.andi v1725 v1722
  let v1727 : BitVec 32 := Scalar.addi v1721 v1720
  let v1728 : BitVec 32 := Scalar.select v1726 v1727 v1721
  let v1729 : BitVec 1 := Scalar.cmpi .ne v1728 v2
  let v1730 : BitVec 32 := Scalar.extui v1729
  let c0_i32_849 : BitVec 32 := 0#32
  let v1731 : BitVec 1 := Scalar.cmpi .ne v1730 c0_i32_849
  v1731

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev57 (d0 : Dev nD) : Nat :=
  let c0_i32_1914 : BitVec 32 := 0#32
  let c25_i32_842 : BitVec 32 := 25#32
  let c8_i32_841 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_835 : BitVec 32 := 0#32
  let v1701 : BitVec 1 := Scalar.cmpi .sgt v2 c0_i32_835
  let v1702 : BitVec 32 := Scalar.extui v1701
  let c0_i32_836 : BitVec 32 := 0#32
  let v1703 : BitVec 1 := Scalar.cmpi .slt v2 c0_i32_836
  let v1704 : BitVec 32 := Scalar.extui v1703
  let v1705 : BitVec 32 := Scalar.subi v1702 v1704
  let c8_i32_834 : BitVec 32 := 8#32
  let c0_i32_837 : BitVec 32 := 0#32
  let v1706 : BitVec 1 := Scalar.cmpi .sgt c8_i32_834 c0_i32_837
  let v1707 : BitVec 32 := Scalar.extui v1706
  let c0_i32_838 : BitVec 32 := 0#32
  let v1708 : BitVec 1 := Scalar.cmpi .slt c8_i32_834 c0_i32_838
  let v1709 : BitVec 32 := Scalar.extui v1708
  let v1710 : BitVec 32 := Scalar.subi v1707 v1709
  let v1711 : BitVec 1 := Scalar.cmpi .ne v1705 v1710
  let v1712 : BitVec 32 := Scalar.remsi v2 c8_i32_834
  let c0_i32_839 : BitVec 32 := 0#32
  let v1713 : BitVec 1 := Scalar.cmpi .ne v1712 c0_i32_839
  let v1714 : BitVec 1 := Scalar.andi v1711 v1713
  let v1700 : BitVec 32 := Scalar.divsi v2 c8_i32_834
  let c1_i32_840 : BitVec 32 := 1#32
  let v1715 : BitVec 32 := Scalar.subi v1700 c1_i32_840
  let v1716 : BitVec 32 := Scalar.select v1714 v1715 v1700
  let v1717 : BitVec 32 := Scalar.muli c8_i32_841 v1716
  let v1718 : BitVec 32 := Scalar.addi c25_i32_842 v1717
  let c32_i32_843 : BitVec 32 := 32#32
  let c0_i32_844 : BitVec 32 := 0#32
  let v1719 : BitVec 1 := Scalar.cmpi .eq c32_i32_843 c0_i32_844
  let c1_i32_845 : BitVec 32 := 1#32
  let v1720 : BitVec 32 := Scalar.select v1719 c1_i32_845 c32_i32_843
  let v1721 : BitVec 32 := Scalar.remsi v1718 v1720
  let c0_i32_847 : BitVec 32 := 0#32
  let v1723 : BitVec 1 := Scalar.cmpi .slt v1721 c0_i32_847
  let c0_i32_848 : BitVec 32 := 0#32
  let v1724 : BitVec 1 := Scalar.cmpi .slt v1720 c0_i32_848
  let v1725 : BitVec 1 := Scalar.xori v1723 v1724
  let c0_i32_846 : BitVec 32 := 0#32
  let v1722 : BitVec 1 := Scalar.cmpi .ne v1721 c0_i32_846
  let v1726 : BitVec 1 := Scalar.andi v1725 v1722
  let v1727 : BitVec 32 := Scalar.addi v1721 v1720
  let v1728 : BitVec 32 := Scalar.select v1726 v1727 v1721
  let c1_i32_1913 : BitVec 32 := 1#32
  let v3683 : BitVec 32 := Scalar.muli v1728 c1_i32_1913
  let v3684 : BitVec 32 := Scalar.addi c0_i32_1914 v3683
  v3684.toNat
def k0_cond52 (d0 : Dev nD) : BitVec 1 :=
  let c25_i32_842 : BitVec 32 := 25#32
  let c8_i32_841 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_835 : BitVec 32 := 0#32
  let v1701 : BitVec 1 := Scalar.cmpi .sgt v2 c0_i32_835
  let v1702 : BitVec 32 := Scalar.extui v1701
  let c0_i32_836 : BitVec 32 := 0#32
  let v1703 : BitVec 1 := Scalar.cmpi .slt v2 c0_i32_836
  let v1704 : BitVec 32 := Scalar.extui v1703
  let v1705 : BitVec 32 := Scalar.subi v1702 v1704
  let c8_i32_834 : BitVec 32 := 8#32
  let c0_i32_837 : BitVec 32 := 0#32
  let v1706 : BitVec 1 := Scalar.cmpi .sgt c8_i32_834 c0_i32_837
  let v1707 : BitVec 32 := Scalar.extui v1706
  let c0_i32_838 : BitVec 32 := 0#32
  let v1708 : BitVec 1 := Scalar.cmpi .slt c8_i32_834 c0_i32_838
  let v1709 : BitVec 32 := Scalar.extui v1708
  let v1710 : BitVec 32 := Scalar.subi v1707 v1709
  let v1711 : BitVec 1 := Scalar.cmpi .ne v1705 v1710
  let v1712 : BitVec 32 := Scalar.remsi v2 c8_i32_834
  let c0_i32_839 : BitVec 32 := 0#32
  let v1713 : BitVec 1 := Scalar.cmpi .ne v1712 c0_i32_839
  let v1714 : BitVec 1 := Scalar.andi v1711 v1713
  let v1700 : BitVec 32 := Scalar.divsi v2 c8_i32_834
  let c1_i32_840 : BitVec 32 := 1#32
  let v1715 : BitVec 32 := Scalar.subi v1700 c1_i32_840
  let v1716 : BitVec 32 := Scalar.select v1714 v1715 v1700
  let v1717 : BitVec 32 := Scalar.muli c8_i32_841 v1716
  let v1718 : BitVec 32 := Scalar.addi c25_i32_842 v1717
  let c32_i32_843 : BitVec 32 := 32#32
  let c0_i32_844 : BitVec 32 := 0#32
  let v1719 : BitVec 1 := Scalar.cmpi .eq c32_i32_843 c0_i32_844
  let c1_i32_845 : BitVec 32 := 1#32
  let v1720 : BitVec 32 := Scalar.select v1719 c1_i32_845 c32_i32_843
  let v1721 : BitVec 32 := Scalar.remsi v1718 v1720
  let c0_i32_847 : BitVec 32 := 0#32
  let v1723 : BitVec 1 := Scalar.cmpi .slt v1721 c0_i32_847
  let c0_i32_848 : BitVec 32 := 0#32
  let v1724 : BitVec 1 := Scalar.cmpi .slt v1720 c0_i32_848
  let v1725 : BitVec 1 := Scalar.xori v1723 v1724
  let c0_i32_846 : BitVec 32 := 0#32
  let v1722 : BitVec 1 := Scalar.cmpi .ne v1721 c0_i32_846
  let v1726 : BitVec 1 := Scalar.andi v1725 v1722
  let v1727 : BitVec 32 := Scalar.addi v1721 v1720
  let v1728 : BitVec 32 := Scalar.select v1726 v1727 v1721
  let v1732 : BitVec 1 := Scalar.cmpi .eq v1728 v2
  let v1733 : BitVec 32 := Scalar.extui v1732
  let c0_i32_850 : BitVec 32 := 0#32
  let v1734 : BitVec 1 := Scalar.cmpi .ne v1733 c0_i32_850
  v1734

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond53 (d0 : Dev nD) : BitVec 1 :=
  let c26_i32_859 : BitVec 32 := 26#32
  let c8_i32_858 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_852 : BitVec 32 := 0#32
  let v1736 : BitVec 1 := Scalar.cmpi .sgt v2 c0_i32_852
  let v1737 : BitVec 32 := Scalar.extui v1736
  let c0_i32_853 : BitVec 32 := 0#32
  let v1738 : BitVec 1 := Scalar.cmpi .slt v2 c0_i32_853
  let v1739 : BitVec 32 := Scalar.extui v1738
  let v1740 : BitVec 32 := Scalar.subi v1737 v1739
  let c8_i32_851 : BitVec 32 := 8#32
  let c0_i32_854 : BitVec 32 := 0#32
  let v1741 : BitVec 1 := Scalar.cmpi .sgt c8_i32_851 c0_i32_854
  let v1742 : BitVec 32 := Scalar.extui v1741
  let c0_i32_855 : BitVec 32 := 0#32
  let v1743 : BitVec 1 := Scalar.cmpi .slt c8_i32_851 c0_i32_855
  let v1744 : BitVec 32 := Scalar.extui v1743
  let v1745 : BitVec 32 := Scalar.subi v1742 v1744
  let v1746 : BitVec 1 := Scalar.cmpi .ne v1740 v1745
  let v1747 : BitVec 32 := Scalar.remsi v2 c8_i32_851
  let c0_i32_856 : BitVec 32 := 0#32
  let v1748 : BitVec 1 := Scalar.cmpi .ne v1747 c0_i32_856
  let v1749 : BitVec 1 := Scalar.andi v1746 v1748
  let v1735 : BitVec 32 := Scalar.divsi v2 c8_i32_851
  let c1_i32_857 : BitVec 32 := 1#32
  let v1750 : BitVec 32 := Scalar.subi v1735 c1_i32_857
  let v1751 : BitVec 32 := Scalar.select v1749 v1750 v1735
  let v1752 : BitVec 32 := Scalar.muli c8_i32_858 v1751
  let v1753 : BitVec 32 := Scalar.addi c26_i32_859 v1752
  let c32_i32_860 : BitVec 32 := 32#32
  let c0_i32_861 : BitVec 32 := 0#32
  let v1754 : BitVec 1 := Scalar.cmpi .eq c32_i32_860 c0_i32_861
  let c1_i32_862 : BitVec 32 := 1#32
  let v1755 : BitVec 32 := Scalar.select v1754 c1_i32_862 c32_i32_860
  let v1756 : BitVec 32 := Scalar.remsi v1753 v1755
  let c0_i32_864 : BitVec 32 := 0#32
  let v1758 : BitVec 1 := Scalar.cmpi .slt v1756 c0_i32_864
  let c0_i32_865 : BitVec 32 := 0#32
  let v1759 : BitVec 1 := Scalar.cmpi .slt v1755 c0_i32_865
  let v1760 : BitVec 1 := Scalar.xori v1758 v1759
  let c0_i32_863 : BitVec 32 := 0#32
  let v1757 : BitVec 1 := Scalar.cmpi .ne v1756 c0_i32_863
  let v1761 : BitVec 1 := Scalar.andi v1760 v1757
  let v1762 : BitVec 32 := Scalar.addi v1756 v1755
  let v1763 : BitVec 32 := Scalar.select v1761 v1762 v1756
  let v1764 : BitVec 1 := Scalar.cmpi .ne v1763 v2
  let v1765 : BitVec 32 := Scalar.extui v1764
  let c0_i32_866 : BitVec 32 := 0#32
  let v1766 : BitVec 1 := Scalar.cmpi .ne v1765 c0_i32_866
  v1766

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev58 (d0 : Dev nD) : Nat :=
  let c0_i32_1914 : BitVec 32 := 0#32
  let c26_i32_859 : BitVec 32 := 26#32
  let c8_i32_858 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_852 : BitVec 32 := 0#32
  let v1736 : BitVec 1 := Scalar.cmpi .sgt v2 c0_i32_852
  let v1737 : BitVec 32 := Scalar.extui v1736
  let c0_i32_853 : BitVec 32 := 0#32
  let v1738 : BitVec 1 := Scalar.cmpi .slt v2 c0_i32_853
  let v1739 : BitVec 32 := Scalar.extui v1738
  let v1740 : BitVec 32 := Scalar.subi v1737 v1739
  let c8_i32_851 : BitVec 32 := 8#32
  let c0_i32_854 : BitVec 32 := 0#32
  let v1741 : BitVec 1 := Scalar.cmpi .sgt c8_i32_851 c0_i32_854
  let v1742 : BitVec 32 := Scalar.extui v1741
  let c0_i32_855 : BitVec 32 := 0#32
  let v1743 : BitVec 1 := Scalar.cmpi .slt c8_i32_851 c0_i32_855
  let v1744 : BitVec 32 := Scalar.extui v1743
  let v1745 : BitVec 32 := Scalar.subi v1742 v1744
  let v1746 : BitVec 1 := Scalar.cmpi .ne v1740 v1745
  let v1747 : BitVec 32 := Scalar.remsi v2 c8_i32_851
  let c0_i32_856 : BitVec 32 := 0#32
  let v1748 : BitVec 1 := Scalar.cmpi .ne v1747 c0_i32_856
  let v1749 : BitVec 1 := Scalar.andi v1746 v1748
  let v1735 : BitVec 32 := Scalar.divsi v2 c8_i32_851
  let c1_i32_857 : BitVec 32 := 1#32
  let v1750 : BitVec 32 := Scalar.subi v1735 c1_i32_857
  let v1751 : BitVec 32 := Scalar.select v1749 v1750 v1735
  let v1752 : BitVec 32 := Scalar.muli c8_i32_858 v1751
  let v1753 : BitVec 32 := Scalar.addi c26_i32_859 v1752
  let c32_i32_860 : BitVec 32 := 32#32
  let c0_i32_861 : BitVec 32 := 0#32
  let v1754 : BitVec 1 := Scalar.cmpi .eq c32_i32_860 c0_i32_861
  let c1_i32_862 : BitVec 32 := 1#32
  let v1755 : BitVec 32 := Scalar.select v1754 c1_i32_862 c32_i32_860
  let v1756 : BitVec 32 := Scalar.remsi v1753 v1755
  let c0_i32_864 : BitVec 32 := 0#32
  let v1758 : BitVec 1 := Scalar.cmpi .slt v1756 c0_i32_864
  let c0_i32_865 : BitVec 32 := 0#32
  let v1759 : BitVec 1 := Scalar.cmpi .slt v1755 c0_i32_865
  let v1760 : BitVec 1 := Scalar.xori v1758 v1759
  let c0_i32_863 : BitVec 32 := 0#32
  let v1757 : BitVec 1 := Scalar.cmpi .ne v1756 c0_i32_863
  let v1761 : BitVec 1 := Scalar.andi v1760 v1757
  let v1762 : BitVec 32 := Scalar.addi v1756 v1755
  let v1763 : BitVec 32 := Scalar.select v1761 v1762 v1756
  let c1_i32_1913 : BitVec 32 := 1#32
  let v3683 : BitVec 32 := Scalar.muli v1763 c1_i32_1913
  let v3684 : BitVec 32 := Scalar.addi c0_i32_1914 v3683
  v3684.toNat
def k0_cond54 (d0 : Dev nD) : BitVec 1 :=
  let c26_i32_859 : BitVec 32 := 26#32
  let c8_i32_858 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_852 : BitVec 32 := 0#32
  let v1736 : BitVec 1 := Scalar.cmpi .sgt v2 c0_i32_852
  let v1737 : BitVec 32 := Scalar.extui v1736
  let c0_i32_853 : BitVec 32 := 0#32
  let v1738 : BitVec 1 := Scalar.cmpi .slt v2 c0_i32_853
  let v1739 : BitVec 32 := Scalar.extui v1738
  let v1740 : BitVec 32 := Scalar.subi v1737 v1739
  let c8_i32_851 : BitVec 32 := 8#32
  let c0_i32_854 : BitVec 32 := 0#32
  let v1741 : BitVec 1 := Scalar.cmpi .sgt c8_i32_851 c0_i32_854
  let v1742 : BitVec 32 := Scalar.extui v1741
  let c0_i32_855 : BitVec 32 := 0#32
  let v1743 : BitVec 1 := Scalar.cmpi .slt c8_i32_851 c0_i32_855
  let v1744 : BitVec 32 := Scalar.extui v1743
  let v1745 : BitVec 32 := Scalar.subi v1742 v1744
  let v1746 : BitVec 1 := Scalar.cmpi .ne v1740 v1745
  let v1747 : BitVec 32 := Scalar.remsi v2 c8_i32_851
  let c0_i32_856 : BitVec 32 := 0#32
  let v1748 : BitVec 1 := Scalar.cmpi .ne v1747 c0_i32_856
  let v1749 : BitVec 1 := Scalar.andi v1746 v1748
  let v1735 : BitVec 32 := Scalar.divsi v2 c8_i32_851
  let c1_i32_857 : BitVec 32 := 1#32
  let v1750 : BitVec 32 := Scalar.subi v1735 c1_i32_857
  let v1751 : BitVec 32 := Scalar.select v1749 v1750 v1735
  let v1752 : BitVec 32 := Scalar.muli c8_i32_858 v1751
  let v1753 : BitVec 32 := Scalar.addi c26_i32_859 v1752
  let c32_i32_860 : BitVec 32 := 32#32
  let c0_i32_861 : BitVec 32 := 0#32
  let v1754 : BitVec 1 := Scalar.cmpi .eq c32_i32_860 c0_i32_861
  let c1_i32_862 : BitVec 32 := 1#32
  let v1755 : BitVec 32 := Scalar.select v1754 c1_i32_862 c32_i32_860
  let v1756 : BitVec 32 := Scalar.remsi v1753 v1755
  let c0_i32_864 : BitVec 32 := 0#32
  let v1758 : BitVec 1 := Scalar.cmpi .slt v1756 c0_i32_864
  let c0_i32_865 : BitVec 32 := 0#32
  let v1759 : BitVec 1 := Scalar.cmpi .slt v1755 c0_i32_865
  let v1760 : BitVec 1 := Scalar.xori v1758 v1759
  let c0_i32_863 : BitVec 32 := 0#32
  let v1757 : BitVec 1 := Scalar.cmpi .ne v1756 c0_i32_863
  let v1761 : BitVec 1 := Scalar.andi v1760 v1757
  let v1762 : BitVec 32 := Scalar.addi v1756 v1755
  let v1763 : BitVec 32 := Scalar.select v1761 v1762 v1756
  let v1767 : BitVec 1 := Scalar.cmpi .eq v1763 v2
  let v1768 : BitVec 32 := Scalar.extui v1767
  let c0_i32_867 : BitVec 32 := 0#32
  let v1769 : BitVec 1 := Scalar.cmpi .ne v1768 c0_i32_867
  v1769

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond55 (d0 : Dev nD) : BitVec 1 :=
  let c27_i32_876 : BitVec 32 := 27#32
  let c8_i32_875 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_869 : BitVec 32 := 0#32
  let v1771 : BitVec 1 := Scalar.cmpi .sgt v2 c0_i32_869
  let v1772 : BitVec 32 := Scalar.extui v1771
  let c0_i32_870 : BitVec 32 := 0#32
  let v1773 : BitVec 1 := Scalar.cmpi .slt v2 c0_i32_870
  let v1774 : BitVec 32 := Scalar.extui v1773
  let v1775 : BitVec 32 := Scalar.subi v1772 v1774
  let c8_i32_868 : BitVec 32 := 8#32
  let c0_i32_871 : BitVec 32 := 0#32
  let v1776 : BitVec 1 := Scalar.cmpi .sgt c8_i32_868 c0_i32_871
  let v1777 : BitVec 32 := Scalar.extui v1776
  let c0_i32_872 : BitVec 32 := 0#32
  let v1778 : BitVec 1 := Scalar.cmpi .slt c8_i32_868 c0_i32_872
  let v1779 : BitVec 32 := Scalar.extui v1778
  let v1780 : BitVec 32 := Scalar.subi v1777 v1779
  let v1781 : BitVec 1 := Scalar.cmpi .ne v1775 v1780
  let v1782 : BitVec 32 := Scalar.remsi v2 c8_i32_868
  let c0_i32_873 : BitVec 32 := 0#32
  let v1783 : BitVec 1 := Scalar.cmpi .ne v1782 c0_i32_873
  let v1784 : BitVec 1 := Scalar.andi v1781 v1783
  let v1770 : BitVec 32 := Scalar.divsi v2 c8_i32_868
  let c1_i32_874 : BitVec 32 := 1#32
  let v1785 : BitVec 32 := Scalar.subi v1770 c1_i32_874
  let v1786 : BitVec 32 := Scalar.select v1784 v1785 v1770
  let v1787 : BitVec 32 := Scalar.muli c8_i32_875 v1786
  let v1788 : BitVec 32 := Scalar.addi c27_i32_876 v1787
  let c32_i32_877 : BitVec 32 := 32#32
  let c0_i32_878 : BitVec 32 := 0#32
  let v1789 : BitVec 1 := Scalar.cmpi .eq c32_i32_877 c0_i32_878
  let c1_i32_879 : BitVec 32 := 1#32
  let v1790 : BitVec 32 := Scalar.select v1789 c1_i32_879 c32_i32_877
  let v1791 : BitVec 32 := Scalar.remsi v1788 v1790
  let c0_i32_881 : BitVec 32 := 0#32
  let v1793 : BitVec 1 := Scalar.cmpi .slt v1791 c0_i32_881
  let c0_i32_882 : BitVec 32 := 0#32
  let v1794 : BitVec 1 := Scalar.cmpi .slt v1790 c0_i32_882
  let v1795 : BitVec 1 := Scalar.xori v1793 v1794
  let c0_i32_880 : BitVec 32 := 0#32
  let v1792 : BitVec 1 := Scalar.cmpi .ne v1791 c0_i32_880
  let v1796 : BitVec 1 := Scalar.andi v1795 v1792
  let v1797 : BitVec 32 := Scalar.addi v1791 v1790
  let v1798 : BitVec 32 := Scalar.select v1796 v1797 v1791
  let v1799 : BitVec 1 := Scalar.cmpi .ne v1798 v2
  let v1800 : BitVec 32 := Scalar.extui v1799
  let c0_i32_883 : BitVec 32 := 0#32
  let v1801 : BitVec 1 := Scalar.cmpi .ne v1800 c0_i32_883
  v1801

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev59 (d0 : Dev nD) : Nat :=
  let c0_i32_1914 : BitVec 32 := 0#32
  let c27_i32_876 : BitVec 32 := 27#32
  let c8_i32_875 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_869 : BitVec 32 := 0#32
  let v1771 : BitVec 1 := Scalar.cmpi .sgt v2 c0_i32_869
  let v1772 : BitVec 32 := Scalar.extui v1771
  let c0_i32_870 : BitVec 32 := 0#32
  let v1773 : BitVec 1 := Scalar.cmpi .slt v2 c0_i32_870
  let v1774 : BitVec 32 := Scalar.extui v1773
  let v1775 : BitVec 32 := Scalar.subi v1772 v1774
  let c8_i32_868 : BitVec 32 := 8#32
  let c0_i32_871 : BitVec 32 := 0#32
  let v1776 : BitVec 1 := Scalar.cmpi .sgt c8_i32_868 c0_i32_871
  let v1777 : BitVec 32 := Scalar.extui v1776
  let c0_i32_872 : BitVec 32 := 0#32
  let v1778 : BitVec 1 := Scalar.cmpi .slt c8_i32_868 c0_i32_872
  let v1779 : BitVec 32 := Scalar.extui v1778
  let v1780 : BitVec 32 := Scalar.subi v1777 v1779
  let v1781 : BitVec 1 := Scalar.cmpi .ne v1775 v1780
  let v1782 : BitVec 32 := Scalar.remsi v2 c8_i32_868
  let c0_i32_873 : BitVec 32 := 0#32
  let v1783 : BitVec 1 := Scalar.cmpi .ne v1782 c0_i32_873
  let v1784 : BitVec 1 := Scalar.andi v1781 v1783
  let v1770 : BitVec 32 := Scalar.divsi v2 c8_i32_868
  let c1_i32_874 : BitVec 32 := 1#32
  let v1785 : BitVec 32 := Scalar.subi v1770 c1_i32_874
  let v1786 : BitVec 32 := Scalar.select v1784 v1785 v1770
  let v1787 : BitVec 32 := Scalar.muli c8_i32_875 v1786
  let v1788 : BitVec 32 := Scalar.addi c27_i32_876 v1787
  let c32_i32_877 : BitVec 32 := 32#32
  let c0_i32_878 : BitVec 32 := 0#32
  let v1789 : BitVec 1 := Scalar.cmpi .eq c32_i32_877 c0_i32_878
  let c1_i32_879 : BitVec 32 := 1#32
  let v1790 : BitVec 32 := Scalar.select v1789 c1_i32_879 c32_i32_877
  let v1791 : BitVec 32 := Scalar.remsi v1788 v1790
  let c0_i32_881 : BitVec 32 := 0#32
  let v1793 : BitVec 1 := Scalar.cmpi .slt v1791 c0_i32_881
  let c0_i32_882 : BitVec 32 := 0#32
  let v1794 : BitVec 1 := Scalar.cmpi .slt v1790 c0_i32_882
  let v1795 : BitVec 1 := Scalar.xori v1793 v1794
  let c0_i32_880 : BitVec 32 := 0#32
  let v1792 : BitVec 1 := Scalar.cmpi .ne v1791 c0_i32_880
  let v1796 : BitVec 1 := Scalar.andi v1795 v1792
  let v1797 : BitVec 32 := Scalar.addi v1791 v1790
  let v1798 : BitVec 32 := Scalar.select v1796 v1797 v1791
  let c1_i32_1913 : BitVec 32 := 1#32
  let v3683 : BitVec 32 := Scalar.muli v1798 c1_i32_1913
  let v3684 : BitVec 32 := Scalar.addi c0_i32_1914 v3683
  v3684.toNat
def k0_cond56 (d0 : Dev nD) : BitVec 1 :=
  let c27_i32_876 : BitVec 32 := 27#32
  let c8_i32_875 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_869 : BitVec 32 := 0#32
  let v1771 : BitVec 1 := Scalar.cmpi .sgt v2 c0_i32_869
  let v1772 : BitVec 32 := Scalar.extui v1771
  let c0_i32_870 : BitVec 32 := 0#32
  let v1773 : BitVec 1 := Scalar.cmpi .slt v2 c0_i32_870
  let v1774 : BitVec 32 := Scalar.extui v1773
  let v1775 : BitVec 32 := Scalar.subi v1772 v1774
  let c8_i32_868 : BitVec 32 := 8#32
  let c0_i32_871 : BitVec 32 := 0#32
  let v1776 : BitVec 1 := Scalar.cmpi .sgt c8_i32_868 c0_i32_871
  let v1777 : BitVec 32 := Scalar.extui v1776
  let c0_i32_872 : BitVec 32 := 0#32
  let v1778 : BitVec 1 := Scalar.cmpi .slt c8_i32_868 c0_i32_872
  let v1779 : BitVec 32 := Scalar.extui v1778
  let v1780 : BitVec 32 := Scalar.subi v1777 v1779
  let v1781 : BitVec 1 := Scalar.cmpi .ne v1775 v1780
  let v1782 : BitVec 32 := Scalar.remsi v2 c8_i32_868
  let c0_i32_873 : BitVec 32 := 0#32
  let v1783 : BitVec 1 := Scalar.cmpi .ne v1782 c0_i32_873
  let v1784 : BitVec 1 := Scalar.andi v1781 v1783
  let v1770 : BitVec 32 := Scalar.divsi v2 c8_i32_868
  let c1_i32_874 : BitVec 32 := 1#32
  let v1785 : BitVec 32 := Scalar.subi v1770 c1_i32_874
  let v1786 : BitVec 32 := Scalar.select v1784 v1785 v1770
  let v1787 : BitVec 32 := Scalar.muli c8_i32_875 v1786
  let v1788 : BitVec 32 := Scalar.addi c27_i32_876 v1787
  let c32_i32_877 : BitVec 32 := 32#32
  let c0_i32_878 : BitVec 32 := 0#32
  let v1789 : BitVec 1 := Scalar.cmpi .eq c32_i32_877 c0_i32_878
  let c1_i32_879 : BitVec 32 := 1#32
  let v1790 : BitVec 32 := Scalar.select v1789 c1_i32_879 c32_i32_877
  let v1791 : BitVec 32 := Scalar.remsi v1788 v1790
  let c0_i32_881 : BitVec 32 := 0#32
  let v1793 : BitVec 1 := Scalar.cmpi .slt v1791 c0_i32_881
  let c0_i32_882 : BitVec 32 := 0#32
  let v1794 : BitVec 1 := Scalar.cmpi .slt v1790 c0_i32_882
  let v1795 : BitVec 1 := Scalar.xori v1793 v1794
  let c0_i32_880 : BitVec 32 := 0#32
  let v1792 : BitVec 1 := Scalar.cmpi .ne v1791 c0_i32_880
  let v1796 : BitVec 1 := Scalar.andi v1795 v1792
  let v1797 : BitVec 32 := Scalar.addi v1791 v1790
  let v1798 : BitVec 32 := Scalar.select v1796 v1797 v1791
  let v1802 : BitVec 1 := Scalar.cmpi .eq v1798 v2
  let v1803 : BitVec 32 := Scalar.extui v1802
  let c0_i32_884 : BitVec 32 := 0#32
  let v1804 : BitVec 1 := Scalar.cmpi .ne v1803 c0_i32_884
  v1804

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond57 (d0 : Dev nD) : BitVec 1 :=
  let c28_i32_893 : BitVec 32 := 28#32
  let c8_i32_892 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_886 : BitVec 32 := 0#32
  let v1806 : BitVec 1 := Scalar.cmpi .sgt v2 c0_i32_886
  let v1807 : BitVec 32 := Scalar.extui v1806
  let c0_i32_887 : BitVec 32 := 0#32
  let v1808 : BitVec 1 := Scalar.cmpi .slt v2 c0_i32_887
  let v1809 : BitVec 32 := Scalar.extui v1808
  let v1810 : BitVec 32 := Scalar.subi v1807 v1809
  let c8_i32_885 : BitVec 32 := 8#32
  let c0_i32_888 : BitVec 32 := 0#32
  let v1811 : BitVec 1 := Scalar.cmpi .sgt c8_i32_885 c0_i32_888
  let v1812 : BitVec 32 := Scalar.extui v1811
  let c0_i32_889 : BitVec 32 := 0#32
  let v1813 : BitVec 1 := Scalar.cmpi .slt c8_i32_885 c0_i32_889
  let v1814 : BitVec 32 := Scalar.extui v1813
  let v1815 : BitVec 32 := Scalar.subi v1812 v1814
  let v1816 : BitVec 1 := Scalar.cmpi .ne v1810 v1815
  let v1817 : BitVec 32 := Scalar.remsi v2 c8_i32_885
  let c0_i32_890 : BitVec 32 := 0#32
  let v1818 : BitVec 1 := Scalar.cmpi .ne v1817 c0_i32_890
  let v1819 : BitVec 1 := Scalar.andi v1816 v1818
  let v1805 : BitVec 32 := Scalar.divsi v2 c8_i32_885
  let c1_i32_891 : BitVec 32 := 1#32
  let v1820 : BitVec 32 := Scalar.subi v1805 c1_i32_891
  let v1821 : BitVec 32 := Scalar.select v1819 v1820 v1805
  let v1822 : BitVec 32 := Scalar.muli c8_i32_892 v1821
  let v1823 : BitVec 32 := Scalar.addi c28_i32_893 v1822
  let c32_i32_894 : BitVec 32 := 32#32
  let c0_i32_895 : BitVec 32 := 0#32
  let v1824 : BitVec 1 := Scalar.cmpi .eq c32_i32_894 c0_i32_895
  let c1_i32_896 : BitVec 32 := 1#32
  let v1825 : BitVec 32 := Scalar.select v1824 c1_i32_896 c32_i32_894
  let v1826 : BitVec 32 := Scalar.remsi v1823 v1825
  let c0_i32_898 : BitVec 32 := 0#32
  let v1828 : BitVec 1 := Scalar.cmpi .slt v1826 c0_i32_898
  let c0_i32_899 : BitVec 32 := 0#32
  let v1829 : BitVec 1 := Scalar.cmpi .slt v1825 c0_i32_899
  let v1830 : BitVec 1 := Scalar.xori v1828 v1829
  let c0_i32_897 : BitVec 32 := 0#32
  let v1827 : BitVec 1 := Scalar.cmpi .ne v1826 c0_i32_897
  let v1831 : BitVec 1 := Scalar.andi v1830 v1827
  let v1832 : BitVec 32 := Scalar.addi v1826 v1825
  let v1833 : BitVec 32 := Scalar.select v1831 v1832 v1826
  let v1834 : BitVec 1 := Scalar.cmpi .ne v1833 v2
  let v1835 : BitVec 32 := Scalar.extui v1834
  let c0_i32_900 : BitVec 32 := 0#32
  let v1836 : BitVec 1 := Scalar.cmpi .ne v1835 c0_i32_900
  v1836

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev60 (d0 : Dev nD) : Nat :=
  let c0_i32_1914 : BitVec 32 := 0#32
  let c28_i32_893 : BitVec 32 := 28#32
  let c8_i32_892 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_886 : BitVec 32 := 0#32
  let v1806 : BitVec 1 := Scalar.cmpi .sgt v2 c0_i32_886
  let v1807 : BitVec 32 := Scalar.extui v1806
  let c0_i32_887 : BitVec 32 := 0#32
  let v1808 : BitVec 1 := Scalar.cmpi .slt v2 c0_i32_887
  let v1809 : BitVec 32 := Scalar.extui v1808
  let v1810 : BitVec 32 := Scalar.subi v1807 v1809
  let c8_i32_885 : BitVec 32 := 8#32
  let c0_i32_888 : BitVec 32 := 0#32
  let v1811 : BitVec 1 := Scalar.cmpi .sgt c8_i32_885 c0_i32_888
  let v1812 : BitVec 32 := Scalar.extui v1811
  let c0_i32_889 : BitVec 32 := 0#32
  let v1813 : BitVec 1 := Scalar.cmpi .slt c8_i32_885 c0_i32_889
  let v1814 : BitVec 32 := Scalar.extui v1813
  let v1815 : BitVec 32 := Scalar.subi v1812 v1814
  let v1816 : BitVec 1 := Scalar.cmpi .ne v1810 v1815
  let v1817 : BitVec 32 := Scalar.remsi v2 c8_i32_885
  let c0_i32_890 : BitVec 32 := 0#32
  let v1818 : BitVec 1 := Scalar.cmpi .ne v1817 c0_i32_890
  let v1819 : BitVec 1 := Scalar.andi v1816 v1818
  let v1805 : BitVec 32 := Scalar.divsi v2 c8_i32_885
  let c1_i32_891 : BitVec 32 := 1#32
  let v1820 : BitVec 32 := Scalar.subi v1805 c1_i32_891
  let v1821 : BitVec 32 := Scalar.select v1819 v1820 v1805
  let v1822 : BitVec 32 := Scalar.muli c8_i32_892 v1821
  let v1823 : BitVec 32 := Scalar.addi c28_i32_893 v1822
  let c32_i32_894 : BitVec 32 := 32#32
  let c0_i32_895 : BitVec 32 := 0#32
  let v1824 : BitVec 1 := Scalar.cmpi .eq c32_i32_894 c0_i32_895
  let c1_i32_896 : BitVec 32 := 1#32
  let v1825 : BitVec 32 := Scalar.select v1824 c1_i32_896 c32_i32_894
  let v1826 : BitVec 32 := Scalar.remsi v1823 v1825
  let c0_i32_898 : BitVec 32 := 0#32
  let v1828 : BitVec 1 := Scalar.cmpi .slt v1826 c0_i32_898
  let c0_i32_899 : BitVec 32 := 0#32
  let v1829 : BitVec 1 := Scalar.cmpi .slt v1825 c0_i32_899
  let v1830 : BitVec 1 := Scalar.xori v1828 v1829
  let c0_i32_897 : BitVec 32 := 0#32
  let v1827 : BitVec 1 := Scalar.cmpi .ne v1826 c0_i32_897
  let v1831 : BitVec 1 := Scalar.andi v1830 v1827
  let v1832 : BitVec 32 := Scalar.addi v1826 v1825
  let v1833 : BitVec 32 := Scalar.select v1831 v1832 v1826
  let c1_i32_1913 : BitVec 32 := 1#32
  let v3683 : BitVec 32 := Scalar.muli v1833 c1_i32_1913
  let v3684 : BitVec 32 := Scalar.addi c0_i32_1914 v3683
  v3684.toNat
def k0_cond58 (d0 : Dev nD) : BitVec 1 :=
  let c28_i32_893 : BitVec 32 := 28#32
  let c8_i32_892 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_886 : BitVec 32 := 0#32
  let v1806 : BitVec 1 := Scalar.cmpi .sgt v2 c0_i32_886
  let v1807 : BitVec 32 := Scalar.extui v1806
  let c0_i32_887 : BitVec 32 := 0#32
  let v1808 : BitVec 1 := Scalar.cmpi .slt v2 c0_i32_887
  let v1809 : BitVec 32 := Scalar.extui v1808
  let v1810 : BitVec 32 := Scalar.subi v1807 v1809
  let c8_i32_885 : BitVec 32 := 8#32
  let c0_i32_888 : BitVec 32 := 0#32
  let v1811 : BitVec 1 := Scalar.cmpi .sgt c8_i32_885 c0_i32_888
  let v1812 : BitVec 32 := Scalar.extui v1811
  let c0_i32_889 : BitVec 32 := 0#32
  let v1813 : BitVec 1 := Scalar.cmpi .slt c8_i32_885 c0_i32_889
  let v1814 : BitVec 32 := Scalar.extui v1813
  let v1815 : BitVec 32 := Scalar.subi v1812 v1814
  let v1816 : BitVec 1 := Scalar.cmpi .ne v1810 v1815
  let v1817 : BitVec 32 := Scalar.remsi v2 c8_i32_885
  let c0_i32_890 : BitVec 32 := 0#32
  let v1818 : BitVec 1 := Scalar.cmpi .ne v1817 c0_i32_890
  let v1819 : BitVec 1 := Scalar.andi v1816 v1818
  let v1805 : BitVec 32 := Scalar.divsi v2 c8_i32_885
  let c1_i32_891 : BitVec 32 := 1#32
  let v1820 : BitVec 32 := Scalar.subi v1805 c1_i32_891
  let v1821 : BitVec 32 := Scalar.select v1819 v1820 v1805
  let v1822 : BitVec 32 := Scalar.muli c8_i32_892 v1821
  let v1823 : BitVec 32 := Scalar.addi c28_i32_893 v1822
  let c32_i32_894 : BitVec 32 := 32#32
  let c0_i32_895 : BitVec 32 := 0#32
  let v1824 : BitVec 1 := Scalar.cmpi .eq c32_i32_894 c0_i32_895
  let c1_i32_896 : BitVec 32 := 1#32
  let v1825 : BitVec 32 := Scalar.select v1824 c1_i32_896 c32_i32_894
  let v1826 : BitVec 32 := Scalar.remsi v1823 v1825
  let c0_i32_898 : BitVec 32 := 0#32
  let v1828 : BitVec 1 := Scalar.cmpi .slt v1826 c0_i32_898
  let c0_i32_899 : BitVec 32 := 0#32
  let v1829 : BitVec 1 := Scalar.cmpi .slt v1825 c0_i32_899
  let v1830 : BitVec 1 := Scalar.xori v1828 v1829
  let c0_i32_897 : BitVec 32 := 0#32
  let v1827 : BitVec 1 := Scalar.cmpi .ne v1826 c0_i32_897
  let v1831 : BitVec 1 := Scalar.andi v1830 v1827
  let v1832 : BitVec 32 := Scalar.addi v1826 v1825
  let v1833 : BitVec 32 := Scalar.select v1831 v1832 v1826
  let v1837 : BitVec 1 := Scalar.cmpi .eq v1833 v2
  let v1838 : BitVec 32 := Scalar.extui v1837
  let c0_i32_901 : BitVec 32 := 0#32
  let v1839 : BitVec 1 := Scalar.cmpi .ne v1838 c0_i32_901
  v1839

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond59 (d0 : Dev nD) : BitVec 1 :=
  let c29_i32_910 : BitVec 32 := 29#32
  let c8_i32_909 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let v1841 : BitVec 1 := Scalar.cmpi .sgt v2 c0_i32_903
  let v1842 : BitVec 32 := Scalar.extui v1841
  let c0_i32_904 : BitVec 32 := 0#32
  let v1843 : BitVec 1 := Scalar.cmpi .slt v2 c0_i32_904
  let v1844 : BitVec 32 := Scalar.extui v1843
  let v1845 : BitVec 32 := Scalar.subi v1842 v1844
  let c8_i32_902 : BitVec 32 := 8#32
  let c0_i32_905 : BitVec 32 := 0#32
  let v1846 : BitVec 1 := Scalar.cmpi .sgt c8_i32_902 c0_i32_905
  let v1847 : BitVec 32 := Scalar.extui v1846
  let c0_i32_906 : BitVec 32 := 0#32
  let v1848 : BitVec 1 := Scalar.cmpi .slt c8_i32_902 c0_i32_906
  let v1849 : BitVec 32 := Scalar.extui v1848
  let v1850 : BitVec 32 := Scalar.subi v1847 v1849
  let v1851 : BitVec 1 := Scalar.cmpi .ne v1845 v1850
  let v1852 : BitVec 32 := Scalar.remsi v2 c8_i32_902
  let c0_i32_907 : BitVec 32 := 0#32
  let v1853 : BitVec 1 := Scalar.cmpi .ne v1852 c0_i32_907
  let v1854 : BitVec 1 := Scalar.andi v1851 v1853
  let v1840 : BitVec 32 := Scalar.divsi v2 c8_i32_902
  let c1_i32_908 : BitVec 32 := 1#32
  let v1855 : BitVec 32 := Scalar.subi v1840 c1_i32_908
  let v1856 : BitVec 32 := Scalar.select v1854 v1855 v1840
  let v1857 : BitVec 32 := Scalar.muli c8_i32_909 v1856
  let v1858 : BitVec 32 := Scalar.addi c29_i32_910 v1857
  let c32_i32_911 : BitVec 32 := 32#32
  let c0_i32_912 : BitVec 32 := 0#32
  let v1859 : BitVec 1 := Scalar.cmpi .eq c32_i32_911 c0_i32_912
  let c1_i32_913 : BitVec 32 := 1#32
  let v1860 : BitVec 32 := Scalar.select v1859 c1_i32_913 c32_i32_911
  let v1861 : BitVec 32 := Scalar.remsi v1858 v1860
  let c0_i32_915 : BitVec 32 := 0#32
  let v1863 : BitVec 1 := Scalar.cmpi .slt v1861 c0_i32_915
  let c0_i32_916 : BitVec 32 := 0#32
  let v1864 : BitVec 1 := Scalar.cmpi .slt v1860 c0_i32_916
  let v1865 : BitVec 1 := Scalar.xori v1863 v1864
  let c0_i32_914 : BitVec 32 := 0#32
  let v1862 : BitVec 1 := Scalar.cmpi .ne v1861 c0_i32_914
  let v1866 : BitVec 1 := Scalar.andi v1865 v1862
  let v1867 : BitVec 32 := Scalar.addi v1861 v1860
  let v1868 : BitVec 32 := Scalar.select v1866 v1867 v1861
  let v1869 : BitVec 1 := Scalar.cmpi .ne v1868 v2
  let v1870 : BitVec 32 := Scalar.extui v1869
  let c0_i32_917 : BitVec 32 := 0#32
  let v1871 : BitVec 1 := Scalar.cmpi .ne v1870 c0_i32_917
  v1871

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev61 (d0 : Dev nD) : Nat :=
  let c0_i32_1914 : BitVec 32 := 0#32
  let c29_i32_910 : BitVec 32 := 29#32
  let c8_i32_909 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let v1841 : BitVec 1 := Scalar.cmpi .sgt v2 c0_i32_903
  let v1842 : BitVec 32 := Scalar.extui v1841
  let c0_i32_904 : BitVec 32 := 0#32
  let v1843 : BitVec 1 := Scalar.cmpi .slt v2 c0_i32_904
  let v1844 : BitVec 32 := Scalar.extui v1843
  let v1845 : BitVec 32 := Scalar.subi v1842 v1844
  let c8_i32_902 : BitVec 32 := 8#32
  let c0_i32_905 : BitVec 32 := 0#32
  let v1846 : BitVec 1 := Scalar.cmpi .sgt c8_i32_902 c0_i32_905
  let v1847 : BitVec 32 := Scalar.extui v1846
  let c0_i32_906 : BitVec 32 := 0#32
  let v1848 : BitVec 1 := Scalar.cmpi .slt c8_i32_902 c0_i32_906
  let v1849 : BitVec 32 := Scalar.extui v1848
  let v1850 : BitVec 32 := Scalar.subi v1847 v1849
  let v1851 : BitVec 1 := Scalar.cmpi .ne v1845 v1850
  let v1852 : BitVec 32 := Scalar.remsi v2 c8_i32_902
  let c0_i32_907 : BitVec 32 := 0#32
  let v1853 : BitVec 1 := Scalar.cmpi .ne v1852 c0_i32_907
  let v1854 : BitVec 1 := Scalar.andi v1851 v1853
  let v1840 : BitVec 32 := Scalar.divsi v2 c8_i32_902
  let c1_i32_908 : BitVec 32 := 1#32
  let v1855 : BitVec 32 := Scalar.subi v1840 c1_i32_908
  let v1856 : BitVec 32 := Scalar.select v1854 v1855 v1840
  let v1857 : BitVec 32 := Scalar.muli c8_i32_909 v1856
  let v1858 : BitVec 32 := Scalar.addi c29_i32_910 v1857
  let c32_i32_911 : BitVec 32 := 32#32
  let c0_i32_912 : BitVec 32 := 0#32
  let v1859 : BitVec 1 := Scalar.cmpi .eq c32_i32_911 c0_i32_912
  let c1_i32_913 : BitVec 32 := 1#32
  let v1860 : BitVec 32 := Scalar.select v1859 c1_i32_913 c32_i32_911
  let v1861 : BitVec 32 := Scalar.remsi v1858 v1860
  let c0_i32_915 : BitVec 32 := 0#32
  let v1863 : BitVec 1 := Scalar.cmpi .slt v1861 c0_i32_915
  let c0_i32_916 : BitVec 32 := 0#32
  let v1864 : BitVec 1 := Scalar.cmpi .slt v1860 c0_i32_916
  let v1865 : BitVec 1 := Scalar.xori v1863 v1864
  let c0_i32_914 : BitVec 32 := 0#32
  let v1862 : BitVec 1 := Scalar.cmpi .ne v1861 c0_i32_914
  let v1866 : BitVec 1 := Scalar.andi v1865 v1862
  let v1867 : BitVec 32 := Scalar.addi v1861 v1860
  let v1868 : BitVec 32 := Scalar.select v1866 v1867 v1861
  let c1_i32_1913 : BitVec 32 := 1#32
  let v3683 : BitVec 32 := Scalar.muli v1868 c1_i32_1913
  let v3684 : BitVec 32 := Scalar.addi c0_i32_1914 v3683
  v3684.toNat
def k0_cond60 (d0 : Dev nD) : BitVec 1 :=
  let c29_i32_910 : BitVec 32 := 29#32
  let c8_i32_909 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let v1841 : BitVec 1 := Scalar.cmpi .sgt v2 c0_i32_903
  let v1842 : BitVec 32 := Scalar.extui v1841
  let c0_i32_904 : BitVec 32 := 0#32
  let v1843 : BitVec 1 := Scalar.cmpi .slt v2 c0_i32_904
  let v1844 : BitVec 32 := Scalar.extui v1843
  let v1845 : BitVec 32 := Scalar.subi v1842 v1844
  let c8_i32_902 : BitVec 32 := 8#32
  let c0_i32_905 : BitVec 32 := 0#32
  let v1846 : BitVec 1 := Scalar.cmpi .sgt c8_i32_902 c0_i32_905
  let v1847 : BitVec 32 := Scalar.extui v1846
  let c0_i32_906 : BitVec 32 := 0#32
  let v1848 : BitVec 1 := Scalar.cmpi .slt c8_i32_902 c0_i32_906
  let v1849 : BitVec 32 := Scalar.extui v1848
  let v1850 : BitVec 32 := Scalar.subi v1847 v1849
  let v1851 : BitVec 1 := Scalar.cmpi .ne v1845 v1850
  let v1852 : BitVec 32 := Scalar.remsi v2 c8_i32_902
  let c0_i32_907 : BitVec 32 := 0#32
  let v1853 : BitVec 1 := Scalar.cmpi .ne v1852 c0_i32_907
  let v1854 : BitVec 1 := Scalar.andi v1851 v1853
  let v1840 : BitVec 32 := Scalar.divsi v2 c8_i32_902
  let c1_i32_908 : BitVec 32 := 1#32
  let v1855 : BitVec 32 := Scalar.subi v1840 c1_i32_908
  let v1856 : BitVec 32 := Scalar.select v1854 v1855 v1840
  let v1857 : BitVec 32 := Scalar.muli c8_i32_909 v1856
  let v1858 : BitVec 32 := Scalar.addi c29_i32_910 v1857
  let c32_i32_911 : BitVec 32 := 32#32
  let c0_i32_912 : BitVec 32 := 0#32
  let v1859 : BitVec 1 := Scalar.cmpi .eq c32_i32_911 c0_i32_912
  let c1_i32_913 : BitVec 32 := 1#32
  let v1860 : BitVec 32 := Scalar.select v1859 c1_i32_913 c32_i32_911
  let v1861 : BitVec 32 := Scalar.remsi v1858 v1860
  let c0_i32_915 : BitVec 32 := 0#32
  let v1863 : BitVec 1 := Scalar.cmpi .slt v1861 c0_i32_915
  let c0_i32_916 : BitVec 32 := 0#32
  let v1864 : BitVec 1 := Scalar.cmpi .slt v1860 c0_i32_916
  let v1865 : BitVec 1 := Scalar.xori v1863 v1864
  let c0_i32_914 : BitVec 32 := 0#32
  let v1862 : BitVec 1 := Scalar.cmpi .ne v1861 c0_i32_914
  let v1866 : BitVec 1 := Scalar.andi v1865 v1862
  let v1867 : BitVec 32 := Scalar.addi v1861 v1860
  let v1868 : BitVec 32 := Scalar.select v1866 v1867 v1861
  let v1872 : BitVec 1 := Scalar.cmpi .eq v1868 v2
  let v1873 : BitVec 32 := Scalar.extui v1872
  let c0_i32_918 : BitVec 32 := 0#32
  let v1874 : BitVec 1 := Scalar.cmpi .ne v1873 c0_i32_918
  v1874

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond61 (d0 : Dev nD) : BitVec 1 :=
  let c30_i32_927 : BitVec 32 := 30#32
  let c8_i32_926 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_920 : BitVec 32 := 0#32
  let v1876 : BitVec 1 := Scalar.cmpi .sgt v2 c0_i32_920
  let v1877 : BitVec 32 := Scalar.extui v1876
  let c0_i32_921 : BitVec 32 := 0#32
  let v1878 : BitVec 1 := Scalar.cmpi .slt v2 c0_i32_921
  let v1879 : BitVec 32 := Scalar.extui v1878
  let v1880 : BitVec 32 := Scalar.subi v1877 v1879
  let c8_i32_919 : BitVec 32 := 8#32
  let c0_i32_922 : BitVec 32 := 0#32
  let v1881 : BitVec 1 := Scalar.cmpi .sgt c8_i32_919 c0_i32_922
  let v1882 : BitVec 32 := Scalar.extui v1881
  let c0_i32_923 : BitVec 32 := 0#32
  let v1883 : BitVec 1 := Scalar.cmpi .slt c8_i32_919 c0_i32_923
  let v1884 : BitVec 32 := Scalar.extui v1883
  let v1885 : BitVec 32 := Scalar.subi v1882 v1884
  let v1886 : BitVec 1 := Scalar.cmpi .ne v1880 v1885
  let v1887 : BitVec 32 := Scalar.remsi v2 c8_i32_919
  let c0_i32_924 : BitVec 32 := 0#32
  let v1888 : BitVec 1 := Scalar.cmpi .ne v1887 c0_i32_924
  let v1889 : BitVec 1 := Scalar.andi v1886 v1888
  let v1875 : BitVec 32 := Scalar.divsi v2 c8_i32_919
  let c1_i32_925 : BitVec 32 := 1#32
  let v1890 : BitVec 32 := Scalar.subi v1875 c1_i32_925
  let v1891 : BitVec 32 := Scalar.select v1889 v1890 v1875
  let v1892 : BitVec 32 := Scalar.muli c8_i32_926 v1891
  let v1893 : BitVec 32 := Scalar.addi c30_i32_927 v1892
  let c32_i32_928 : BitVec 32 := 32#32
  let c0_i32_929 : BitVec 32 := 0#32
  let v1894 : BitVec 1 := Scalar.cmpi .eq c32_i32_928 c0_i32_929
  let c1_i32_930 : BitVec 32 := 1#32
  let v1895 : BitVec 32 := Scalar.select v1894 c1_i32_930 c32_i32_928
  let v1896 : BitVec 32 := Scalar.remsi v1893 v1895
  let c0_i32_932 : BitVec 32 := 0#32
  let v1898 : BitVec 1 := Scalar.cmpi .slt v1896 c0_i32_932
  let c0_i32_933 : BitVec 32 := 0#32
  let v1899 : BitVec 1 := Scalar.cmpi .slt v1895 c0_i32_933
  let v1900 : BitVec 1 := Scalar.xori v1898 v1899
  let c0_i32_931 : BitVec 32 := 0#32
  let v1897 : BitVec 1 := Scalar.cmpi .ne v1896 c0_i32_931
  let v1901 : BitVec 1 := Scalar.andi v1900 v1897
  let v1902 : BitVec 32 := Scalar.addi v1896 v1895
  let v1903 : BitVec 32 := Scalar.select v1901 v1902 v1896
  let v1904 : BitVec 1 := Scalar.cmpi .ne v1903 v2
  let v1905 : BitVec 32 := Scalar.extui v1904
  let c0_i32_934 : BitVec 32 := 0#32
  let v1906 : BitVec 1 := Scalar.cmpi .ne v1905 c0_i32_934
  v1906

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev62 (d0 : Dev nD) : Nat :=
  let c0_i32_1914 : BitVec 32 := 0#32
  let c30_i32_927 : BitVec 32 := 30#32
  let c8_i32_926 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_920 : BitVec 32 := 0#32
  let v1876 : BitVec 1 := Scalar.cmpi .sgt v2 c0_i32_920
  let v1877 : BitVec 32 := Scalar.extui v1876
  let c0_i32_921 : BitVec 32 := 0#32
  let v1878 : BitVec 1 := Scalar.cmpi .slt v2 c0_i32_921
  let v1879 : BitVec 32 := Scalar.extui v1878
  let v1880 : BitVec 32 := Scalar.subi v1877 v1879
  let c8_i32_919 : BitVec 32 := 8#32
  let c0_i32_922 : BitVec 32 := 0#32
  let v1881 : BitVec 1 := Scalar.cmpi .sgt c8_i32_919 c0_i32_922
  let v1882 : BitVec 32 := Scalar.extui v1881
  let c0_i32_923 : BitVec 32 := 0#32
  let v1883 : BitVec 1 := Scalar.cmpi .slt c8_i32_919 c0_i32_923
  let v1884 : BitVec 32 := Scalar.extui v1883
  let v1885 : BitVec 32 := Scalar.subi v1882 v1884
  let v1886 : BitVec 1 := Scalar.cmpi .ne v1880 v1885
  let v1887 : BitVec 32 := Scalar.remsi v2 c8_i32_919
  let c0_i32_924 : BitVec 32 := 0#32
  let v1888 : BitVec 1 := Scalar.cmpi .ne v1887 c0_i32_924
  let v1889 : BitVec 1 := Scalar.andi v1886 v1888
  let v1875 : BitVec 32 := Scalar.divsi v2 c8_i32_919
  let c1_i32_925 : BitVec 32 := 1#32
  let v1890 : BitVec 32 := Scalar.subi v1875 c1_i32_925
  let v1891 : BitVec 32 := Scalar.select v1889 v1890 v1875
  let v1892 : BitVec 32 := Scalar.muli c8_i32_926 v1891
  let v1893 : BitVec 32 := Scalar.addi c30_i32_927 v1892
  let c32_i32_928 : BitVec 32 := 32#32
  let c0_i32_929 : BitVec 32 := 0#32
  let v1894 : BitVec 1 := Scalar.cmpi .eq c32_i32_928 c0_i32_929
  let c1_i32_930 : BitVec 32 := 1#32
  let v1895 : BitVec 32 := Scalar.select v1894 c1_i32_930 c32_i32_928
  let v1896 : BitVec 32 := Scalar.remsi v1893 v1895
  let c0_i32_932 : BitVec 32 := 0#32
  let v1898 : BitVec 1 := Scalar.cmpi .slt v1896 c0_i32_932
  let c0_i32_933 : BitVec 32 := 0#32
  let v1899 : BitVec 1 := Scalar.cmpi .slt v1895 c0_i32_933
  let v1900 : BitVec 1 := Scalar.xori v1898 v1899
  let c0_i32_931 : BitVec 32 := 0#32
  let v1897 : BitVec 1 := Scalar.cmpi .ne v1896 c0_i32_931
  let v1901 : BitVec 1 := Scalar.andi v1900 v1897
  let v1902 : BitVec 32 := Scalar.addi v1896 v1895
  let v1903 : BitVec 32 := Scalar.select v1901 v1902 v1896
  let c1_i32_1913 : BitVec 32 := 1#32
  let v3683 : BitVec 32 := Scalar.muli v1903 c1_i32_1913
  let v3684 : BitVec 32 := Scalar.addi c0_i32_1914 v3683
  v3684.toNat
def k0_cond62 (d0 : Dev nD) : BitVec 1 :=
  let c30_i32_927 : BitVec 32 := 30#32
  let c8_i32_926 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_920 : BitVec 32 := 0#32
  let v1876 : BitVec 1 := Scalar.cmpi .sgt v2 c0_i32_920
  let v1877 : BitVec 32 := Scalar.extui v1876
  let c0_i32_921 : BitVec 32 := 0#32
  let v1878 : BitVec 1 := Scalar.cmpi .slt v2 c0_i32_921
  let v1879 : BitVec 32 := Scalar.extui v1878
  let v1880 : BitVec 32 := Scalar.subi v1877 v1879
  let c8_i32_919 : BitVec 32 := 8#32
  let c0_i32_922 : BitVec 32 := 0#32
  let v1881 : BitVec 1 := Scalar.cmpi .sgt c8_i32_919 c0_i32_922
  let v1882 : BitVec 32 := Scalar.extui v1881
  let c0_i32_923 : BitVec 32 := 0#32
  let v1883 : BitVec 1 := Scalar.cmpi .slt c8_i32_919 c0_i32_923
  let v1884 : BitVec 32 := Scalar.extui v1883
  let v1885 : BitVec 32 := Scalar.subi v1882 v1884
  let v1886 : BitVec 1 := Scalar.cmpi .ne v1880 v1885
  let v1887 : BitVec 32 := Scalar.remsi v2 c8_i32_919
  let c0_i32_924 : BitVec 32 := 0#32
  let v1888 : BitVec 1 := Scalar.cmpi .ne v1887 c0_i32_924
  let v1889 : BitVec 1 := Scalar.andi v1886 v1888
  let v1875 : BitVec 32 := Scalar.divsi v2 c8_i32_919
  let c1_i32_925 : BitVec 32 := 1#32
  let v1890 : BitVec 32 := Scalar.subi v1875 c1_i32_925
  let v1891 : BitVec 32 := Scalar.select v1889 v1890 v1875
  let v1892 : BitVec 32 := Scalar.muli c8_i32_926 v1891
  let v1893 : BitVec 32 := Scalar.addi c30_i32_927 v1892
  let c32_i32_928 : BitVec 32 := 32#32
  let c0_i32_929 : BitVec 32 := 0#32
  let v1894 : BitVec 1 := Scalar.cmpi .eq c32_i32_928 c0_i32_929
  let c1_i32_930 : BitVec 32 := 1#32
  let v1895 : BitVec 32 := Scalar.select v1894 c1_i32_930 c32_i32_928
  let v1896 : BitVec 32 := Scalar.remsi v1893 v1895
  let c0_i32_932 : BitVec 32 := 0#32
  let v1898 : BitVec 1 := Scalar.cmpi .slt v1896 c0_i32_932
  let c0_i32_933 : BitVec 32 := 0#32
  let v1899 : BitVec 1 := Scalar.cmpi .slt v1895 c0_i32_933
  let v1900 : BitVec 1 := Scalar.xori v1898 v1899
  let c0_i32_931 : BitVec 32 := 0#32
  let v1897 : BitVec 1 := Scalar.cmpi .ne v1896 c0_i32_931
  let v1901 : BitVec 1 := Scalar.andi v1900 v1897
  let v1902 : BitVec 32 := Scalar.addi v1896 v1895
  let v1903 : BitVec 32 := Scalar.select v1901 v1902 v1896
  let v1907 : BitVec 1 := Scalar.cmpi .eq v1903 v2
  let v1908 : BitVec 32 := Scalar.extui v1907
  let c0_i32_935 : BitVec 32 := 0#32
  let v1909 : BitVec 1 := Scalar.cmpi .ne v1908 c0_i32_935
  v1909

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_cond63 (d0 : Dev nD) : BitVec 1 :=
  let c31_i32_944 : BitVec 32 := 31#32
  let c8_i32_943 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_937 : BitVec 32 := 0#32
  let v1911 : BitVec 1 := Scalar.cmpi .sgt v2 c0_i32_937
  let v1912 : BitVec 32 := Scalar.extui v1911
  let c0_i32_938 : BitVec 32 := 0#32
  let v1913 : BitVec 1 := Scalar.cmpi .slt v2 c0_i32_938
  let v1914 : BitVec 32 := Scalar.extui v1913
  let v1915 : BitVec 32 := Scalar.subi v1912 v1914
  let c8_i32_936 : BitVec 32 := 8#32
  let c0_i32_939 : BitVec 32 := 0#32
  let v1916 : BitVec 1 := Scalar.cmpi .sgt c8_i32_936 c0_i32_939
  let v1917 : BitVec 32 := Scalar.extui v1916
  let c0_i32_940 : BitVec 32 := 0#32
  let v1918 : BitVec 1 := Scalar.cmpi .slt c8_i32_936 c0_i32_940
  let v1919 : BitVec 32 := Scalar.extui v1918
  let v1920 : BitVec 32 := Scalar.subi v1917 v1919
  let v1921 : BitVec 1 := Scalar.cmpi .ne v1915 v1920
  let v1922 : BitVec 32 := Scalar.remsi v2 c8_i32_936
  let c0_i32_941 : BitVec 32 := 0#32
  let v1923 : BitVec 1 := Scalar.cmpi .ne v1922 c0_i32_941
  let v1924 : BitVec 1 := Scalar.andi v1921 v1923
  let v1910 : BitVec 32 := Scalar.divsi v2 c8_i32_936
  let c1_i32_942 : BitVec 32 := 1#32
  let v1925 : BitVec 32 := Scalar.subi v1910 c1_i32_942
  let v1926 : BitVec 32 := Scalar.select v1924 v1925 v1910
  let v1927 : BitVec 32 := Scalar.muli c8_i32_943 v1926
  let v1928 : BitVec 32 := Scalar.addi c31_i32_944 v1927
  let c32_i32_945 : BitVec 32 := 32#32
  let c0_i32_946 : BitVec 32 := 0#32
  let v1929 : BitVec 1 := Scalar.cmpi .eq c32_i32_945 c0_i32_946
  let c1_i32_947 : BitVec 32 := 1#32
  let v1930 : BitVec 32 := Scalar.select v1929 c1_i32_947 c32_i32_945
  let v1931 : BitVec 32 := Scalar.remsi v1928 v1930
  let c0_i32_949 : BitVec 32 := 0#32
  let v1933 : BitVec 1 := Scalar.cmpi .slt v1931 c0_i32_949
  let c0_i32_950 : BitVec 32 := 0#32
  let v1934 : BitVec 1 := Scalar.cmpi .slt v1930 c0_i32_950
  let v1935 : BitVec 1 := Scalar.xori v1933 v1934
  let c0_i32_948 : BitVec 32 := 0#32
  let v1932 : BitVec 1 := Scalar.cmpi .ne v1931 c0_i32_948
  let v1936 : BitVec 1 := Scalar.andi v1935 v1932
  let v1937 : BitVec 32 := Scalar.addi v1931 v1930
  let v1938 : BitVec 32 := Scalar.select v1936 v1937 v1931
  let v1939 : BitVec 1 := Scalar.cmpi .ne v1938 v2
  let v1940 : BitVec 32 := Scalar.extui v1939
  let c0_i32_951 : BitVec 32 := 0#32
  let v1941 : BitVec 1 := Scalar.cmpi .ne v1940 c0_i32_951
  v1941

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_dev63 (d0 : Dev nD) : Nat :=
  let c0_i32_1914 : BitVec 32 := 0#32
  let c31_i32_944 : BitVec 32 := 31#32
  let c8_i32_943 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_937 : BitVec 32 := 0#32
  let v1911 : BitVec 1 := Scalar.cmpi .sgt v2 c0_i32_937
  let v1912 : BitVec 32 := Scalar.extui v1911
  let c0_i32_938 : BitVec 32 := 0#32
  let v1913 : BitVec 1 := Scalar.cmpi .slt v2 c0_i32_938
  let v1914 : BitVec 32 := Scalar.extui v1913
  let v1915 : BitVec 32 := Scalar.subi v1912 v1914
  let c8_i32_936 : BitVec 32 := 8#32
  let c0_i32_939 : BitVec 32 := 0#32
  let v1916 : BitVec 1 := Scalar.cmpi .sgt c8_i32_936 c0_i32_939
  let v1917 : BitVec 32 := Scalar.extui v1916
  let c0_i32_940 : BitVec 32 := 0#32
  let v1918 : BitVec 1 := Scalar.cmpi .slt c8_i32_936 c0_i32_940
  let v1919 : BitVec 32 := Scalar.extui v1918
  let v1920 : BitVec 32 := Scalar.subi v1917 v1919
  let v1921 : BitVec 1 := Scalar.cmpi .ne v1915 v1920
  let v1922 : BitVec 32 := Scalar.remsi v2 c8_i32_936
  let c0_i32_941 : BitVec 32 := 0#32
  let v1923 : BitVec 1 := Scalar.cmpi .ne v1922 c0_i32_941
  let v1924 : BitVec 1 := Scalar.andi v1921 v1923
  let v1910 : BitVec 32 := Scalar.divsi v2 c8_i32_936
  let c1_i32_942 : BitVec 32 := 1#32
  let v1925 : BitVec 32 := Scalar.subi v1910 c1_i32_942
  let v1926 : BitVec 32 := Scalar.select v1924 v1925 v1910
  let v1927 : BitVec 32 := Scalar.muli c8_i32_943 v1926
  let v1928 : BitVec 32 := Scalar.addi c31_i32_944 v1927
  let c32_i32_945 : BitVec 32 := 32#32
  let c0_i32_946 : BitVec 32 := 0#32
  let v1929 : BitVec 1 := Scalar.cmpi .eq c32_i32_945 c0_i32_946
  let c1_i32_947 : BitVec 32 := 1#32
  let v1930 : BitVec 32 := Scalar.select v1929 c1_i32_947 c32_i32_945
  let v1931 : BitVec 32 := Scalar.remsi v1928 v1930
  let c0_i32_949 : BitVec 32 := 0#32
  let v1933 : BitVec 1 := Scalar.cmpi .slt v1931 c0_i32_949
  let c0_i32_950 : BitVec 32 := 0#32
  let v1934 : BitVec 1 := Scalar.cmpi .slt v1930 c0_i32_950
  let v1935 : BitVec 1 := Scalar.xori v1933 v1934
  let c0_i32_948 : BitVec 32 := 0#32
  let v1932 : BitVec 1 := Scalar.cmpi .ne v1931 c0_i32_948
  let v1936 : BitVec 1 := Scalar.andi v1935 v1932
  let v1937 : BitVec 32 := Scalar.addi v1931 v1930
  let v1938 : BitVec 32 := Scalar.select v1936 v1937 v1931
  let c1_i32_1913 : BitVec 32 := 1#32
  let v3683 : BitVec 32 := Scalar.muli v1938 c1_i32_1913
  let v3684 : BitVec 32 := Scalar.addi c0_i32_1914 v3683
  v3684.toNat
def k0_cond64 (d0 : Dev nD) : BitVec 1 :=
  let c31_i32_944 : BitVec 32 := 31#32
  let c8_i32_943 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_937 : BitVec 32 := 0#32
  let v1911 : BitVec 1 := Scalar.cmpi .sgt v2 c0_i32_937
  let v1912 : BitVec 32 := Scalar.extui v1911
  let c0_i32_938 : BitVec 32 := 0#32
  let v1913 : BitVec 1 := Scalar.cmpi .slt v2 c0_i32_938
  let v1914 : BitVec 32 := Scalar.extui v1913
  let v1915 : BitVec 32 := Scalar.subi v1912 v1914
  let c8_i32_936 : BitVec 32 := 8#32
  let c0_i32_939 : BitVec 32 := 0#32
  let v1916 : BitVec 1 := Scalar.cmpi .sgt c8_i32_936 c0_i32_939
  let v1917 : BitVec 32 := Scalar.extui v1916
  let c0_i32_940 : BitVec 32 := 0#32
  let v1918 : BitVec 1 := Scalar.cmpi .slt c8_i32_936 c0_i32_940
  let v1919 : BitVec 32 := Scalar.extui v1918
  let v1920 : BitVec 32 := Scalar.subi v1917 v1919
  let v1921 : BitVec 1 := Scalar.cmpi .ne v1915 v1920
  let v1922 : BitVec 32 := Scalar.remsi v2 c8_i32_936
  let c0_i32_941 : BitVec 32 := 0#32
  let v1923 : BitVec 1 := Scalar.cmpi .ne v1922 c0_i32_941
  let v1924 : BitVec 1 := Scalar.andi v1921 v1923
  let v1910 : BitVec 32 := Scalar.divsi v2 c8_i32_936
  let c1_i32_942 : BitVec 32 := 1#32
  let v1925 : BitVec 32 := Scalar.subi v1910 c1_i32_942
  let v1926 : BitVec 32 := Scalar.select v1924 v1925 v1910
  let v1927 : BitVec 32 := Scalar.muli c8_i32_943 v1926
  let v1928 : BitVec 32 := Scalar.addi c31_i32_944 v1927
  let c32_i32_945 : BitVec 32 := 32#32
  let c0_i32_946 : BitVec 32 := 0#32
  let v1929 : BitVec 1 := Scalar.cmpi .eq c32_i32_945 c0_i32_946
  let c1_i32_947 : BitVec 32 := 1#32
  let v1930 : BitVec 32 := Scalar.select v1929 c1_i32_947 c32_i32_945
  let v1931 : BitVec 32 := Scalar.remsi v1928 v1930
  let c0_i32_949 : BitVec 32 := 0#32
  let v1933 : BitVec 1 := Scalar.cmpi .slt v1931 c0_i32_949
  let c0_i32_950 : BitVec 32 := 0#32
  let v1934 : BitVec 1 := Scalar.cmpi .slt v1930 c0_i32_950
  let v1935 : BitVec 1 := Scalar.xori v1933 v1934
  let c0_i32_948 : BitVec 32 := 0#32
  let v1932 : BitVec 1 := Scalar.cmpi .ne v1931 c0_i32_948
  let v1936 : BitVec 1 := Scalar.andi v1935 v1932
  let v1937 : BitVec 32 := Scalar.addi v1931 v1930
  let v1938 : BitVec 32 := Scalar.select v1936 v1937 v1931
  let v1942 : BitVec 1 := Scalar.cmpi .eq v1938 v2
  let v1943 : BitVec 32 := Scalar.extui v1942
  let c0_i32_952 : BitVec 32 := 0#32
  let v1944 : BitVec 1 := Scalar.cmpi .ne v1943 c0_i32_952
  v1944

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v3683 : BitVec 32 := Scalar.muli v2 c16_i32_1912
  let v3684 : Index := Scalar.indexCast v3683
  let c0_1913 : Index := 0#32
  ![v3684.toNat, 0]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_953 : BitVec 32 := 32#32
  let v1945 : BitVec 32 := Scalar.muli v2 c32_i32_953
  let v1946 : Index := Scalar.indexCast v1945
  let c0_954 : Index := 0#32
  ![v1946.toNat, 0]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_955 : BitVec 32 := 32#32
  let v1949 : BitVec 32 := Scalar.muli v2 c32_i32_955
  let v1950 : Index := Scalar.indexCast v1949
  let c1_956 : Index := 1#32
  ![v1950.toNat, 1]
def k0_off99 (d0 : Dev nD) (c1_i32_991 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2066 : BitVec 32 := Scalar.addi v2 c1_i32_991
  let c32_i32_992 : BitVec 32 := 32#32
  let c0_i32_993 : BitVec 32 := 0#32
  let v2067 : BitVec 1 := Scalar.cmpi .eq c32_i32_992 c0_i32_993
  let c1_i32_994 : BitVec 32 := 1#32
  let v2068 : BitVec 32 := Scalar.select v2067 c1_i32_994 c32_i32_992
  let v2069 : BitVec 32 := Scalar.remsi v2066 v2068
  let c0_i32_996 : BitVec 32 := 0#32
  let v2071 : BitVec 1 := Scalar.cmpi .slt v2069 c0_i32_996
  let c0_i32_997 : BitVec 32 := 0#32
  let v2072 : BitVec 1 := Scalar.cmpi .slt v2068 c0_i32_997
  let v2073 : BitVec 1 := Scalar.xori v2071 v2072
  let c0_i32_995 : BitVec 32 := 0#32
  let v2070 : BitVec 1 := Scalar.cmpi .ne v2069 c0_i32_995
  let v2074 : BitVec 1 := Scalar.andi v2073 v2070
  let v2075 : BitVec 32 := Scalar.addi v2069 v2068
  let v2076 : BitVec 32 := Scalar.select v2074 v2075 v2069
  ![v2076.toNat]
def k0_off100 (d0 : Dev nD) (c1_i32_991 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2066 : BitVec 32 := Scalar.addi v2 c1_i32_991
  let c32_i32_992 : BitVec 32 := 32#32
  let c0_i32_993 : BitVec 32 := 0#32
  let v2067 : BitVec 1 := Scalar.cmpi .eq c32_i32_992 c0_i32_993
  let c1_i32_994 : BitVec 32 := 1#32
  let v2068 : BitVec 32 := Scalar.select v2067 c1_i32_994 c32_i32_992
  let v2069 : BitVec 32 := Scalar.remsi v2066 v2068
  let c0_i32_996 : BitVec 32 := 0#32
  let v2071 : BitVec 1 := Scalar.cmpi .slt v2069 c0_i32_996
  let c0_i32_997 : BitVec 32 := 0#32
  let v2072 : BitVec 1 := Scalar.cmpi .slt v2068 c0_i32_997
  let v2073 : BitVec 1 := Scalar.xori v2071 v2072
  let c0_i32_995 : BitVec 32 := 0#32
  let v2070 : BitVec 1 := Scalar.cmpi .ne v2069 c0_i32_995
  let v2074 : BitVec 1 := Scalar.andi v2073 v2070
  let v2075 : BitVec 32 := Scalar.addi v2069 v2068
  let v2076 : BitVec 32 := Scalar.select v2074 v2075 v2069
  let c16_i32_999 : BitVec 32 := 16#32
  let v2078 : BitVec 32 := Scalar.muli v2076 c16_i32_999
  let c0_i32_1002 : BitVec 32 := 0#32
  ![v2078.toNat, 0]
def k0_cond65 (d0 : Dev nD) : BitVec 1 :=
  let c0_i32_1407 : BitVec 32 := 0#32
  let c8_i32_1406 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1400 : BitVec 32 := 0#32
  let v2659 : BitVec 1 := Scalar.cmpi .sgt v2 c0_i32_1400
  let v2660 : BitVec 32 := Scalar.extui v2659
  let c0_i32_1401 : BitVec 32 := 0#32
  let v2661 : BitVec 1 := Scalar.cmpi .slt v2 c0_i32_1401
  let v2662 : BitVec 32 := Scalar.extui v2661
  let v2663 : BitVec 32 := Scalar.subi v2660 v2662
  let c8_i32_1399 : BitVec 32 := 8#32
  let c0_i32_1402 : BitVec 32 := 0#32
  let v2664 : BitVec 1 := Scalar.cmpi .sgt c8_i32_1399 c0_i32_1402
  let v2665 : BitVec 32 := Scalar.extui v2664
  let c0_i32_1403 : BitVec 32 := 0#32
  let v2666 : BitVec 1 := Scalar.cmpi .slt c8_i32_1399 c0_i32_1403
  let v2667 : BitVec 32 := Scalar.extui v2666
  let v2668 : BitVec 32 := Scalar.subi v2665 v2667
  let v2669 : BitVec 1 := Scalar.cmpi .ne v2663 v2668
  let v2670 : BitVec 32 := Scalar.remsi v2 c8_i32_1399
  let c0_i32_1404 : BitVec 32 := 0#32
  let v2671 : BitVec 1 := Scalar.cmpi .ne v2670 c0_i32_1404
  let v2672 : BitVec 1 := Scalar.andi v2669 v2671
  let v2658 : BitVec 32 := Scalar.divsi v2 c8_i32_1399
  let c1_i32_1405 : BitVec 32 := 1#32
  let v2673 : BitVec 32 := Scalar.subi v2658 c1_i32_1405
  let v2674 : BitVec 32 := Scalar.select v2672 v2673 v2658
  let v2675 : BitVec 32 := Scalar.muli c8_i32_1406 v2674
  let v2676 : BitVec 32 := Scalar.addi c0_i32_1407 v2675
  let c32_i32_1408 : BitVec 32 := 32#32
  let c0_i32_1409 : BitVec 32 := 0#32
  let v2677 : BitVec 1 := Scalar.cmpi .eq c32_i32_1408 c0_i32_1409
  let c1_i32_1410 : BitVec 32 := 1#32
  let v2678 : BitVec 32 := Scalar.select v2677 c1_i32_1410 c32_i32_1408
  let v2679 : BitVec 32 := Scalar.remsi v2676 v2678
  let c0_i32_1412 : BitVec 32 := 0#32
  let v2681 : BitVec 1 := Scalar.cmpi .slt v2679 c0_i32_1412
  let c0_i32_1413 : BitVec 32 := 0#32
  let v2682 : BitVec 1 := Scalar.cmpi .slt v2678 c0_i32_1413
  let v2683 : BitVec 1 := Scalar.xori v2681 v2682
  let c0_i32_1411 : BitVec 32 := 0#32
  let v2680 : BitVec 1 := Scalar.cmpi .ne v2679 c0_i32_1411
  let v2684 : BitVec 1 := Scalar.andi v2683 v2680
  let v2685 : BitVec 32 := Scalar.addi v2679 v2678
  let v2686 : BitVec 32 := Scalar.select v2684 v2685 v2679
  let v2687 : BitVec 1 := Scalar.cmpi .ne v2686 v2
  let v2688 : BitVec 32 := Scalar.extui v2687
  let c0_i32_1414 : BitVec 32 := 0#32
  let v2689 : BitVec 1 := Scalar.cmpi .ne v2688 c0_i32_1414
  v2689

def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1916 : BitVec 32 := 0#32
  ![v3682.toNat, 0]
def k0_cond66 (d0 : Dev nD) : BitVec 1 :=
  let c1_i32_1423 : BitVec 32 := 1#32
  let c8_i32_1422 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1416 : BitVec 32 := 0#32
  let v2691 : BitVec 1 := Scalar.cmpi .sgt v2 c0_i32_1416
  let v2692 : BitVec 32 := Scalar.extui v2691
  let c0_i32_1417 : BitVec 32 := 0#32
  let v2693 : BitVec 1 := Scalar.cmpi .slt v2 c0_i32_1417
  let v2694 : BitVec 32 := Scalar.extui v2693
  let v2695 : BitVec 32 := Scalar.subi v2692 v2694
  let c8_i32_1415 : BitVec 32 := 8#32
  let c0_i32_1418 : BitVec 32 := 0#32
  let v2696 : BitVec 1 := Scalar.cmpi .sgt c8_i32_1415 c0_i32_1418
  let v2697 : BitVec 32 := Scalar.extui v2696
  let c0_i32_1419 : BitVec 32 := 0#32
  let v2698 : BitVec 1 := Scalar.cmpi .slt c8_i32_1415 c0_i32_1419
  let v2699 : BitVec 32 := Scalar.extui v2698
  let v2700 : BitVec 32 := Scalar.subi v2697 v2699
  let v2701 : BitVec 1 := Scalar.cmpi .ne v2695 v2700
  let v2702 : BitVec 32 := Scalar.remsi v2 c8_i32_1415
  let c0_i32_1420 : BitVec 32 := 0#32
  let v2703 : BitVec 1 := Scalar.cmpi .ne v2702 c0_i32_1420
  let v2704 : BitVec 1 := Scalar.andi v2701 v2703
  let v2690 : BitVec 32 := Scalar.divsi v2 c8_i32_1415
  let c1_i32_1421 : BitVec 32 := 1#32
  let v2705 : BitVec 32 := Scalar.subi v2690 c1_i32_1421
  let v2706 : BitVec 32 := Scalar.select v2704 v2705 v2690
  let v2707 : BitVec 32 := Scalar.muli c8_i32_1422 v2706
  let v2708 : BitVec 32 := Scalar.addi c1_i32_1423 v2707
  let c32_i32_1424 : BitVec 32 := 32#32
  let c0_i32_1425 : BitVec 32 := 0#32
  let v2709 : BitVec 1 := Scalar.cmpi .eq c32_i32_1424 c0_i32_1425
  let c1_i32_1426 : BitVec 32 := 1#32
  let v2710 : BitVec 32 := Scalar.select v2709 c1_i32_1426 c32_i32_1424
  let v2711 : BitVec 32 := Scalar.remsi v2708 v2710
  let c0_i32_1428 : BitVec 32 := 0#32
  let v2713 : BitVec 1 := Scalar.cmpi .slt v2711 c0_i32_1428
  let c0_i32_1429 : BitVec 32 := 0#32
  let v2714 : BitVec 1 := Scalar.cmpi .slt v2710 c0_i32_1429
  let v2715 : BitVec 1 := Scalar.xori v2713 v2714
  let c0_i32_1427 : BitVec 32 := 0#32
  let v2712 : BitVec 1 := Scalar.cmpi .ne v2711 c0_i32_1427
  let v2716 : BitVec 1 := Scalar.andi v2715 v2712
  let v2717 : BitVec 32 := Scalar.addi v2711 v2710
  let v2718 : BitVec 32 := Scalar.select v2716 v2717 v2711
  let v2719 : BitVec 1 := Scalar.cmpi .ne v2718 v2
  let v2720 : BitVec 32 := Scalar.extui v2719
  let c0_i32_1430 : BitVec 32 := 0#32
  let v2721 : BitVec 1 := Scalar.cmpi .ne v2720 c0_i32_1430
  v2721

def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1916 : BitVec 32 := 0#32
  ![v3682.toNat, 0]
def k0_cond67 (d0 : Dev nD) : BitVec 1 :=
  let c2_i32_1439 : BitVec 32 := 2#32
  let c8_i32_1438 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1432 : BitVec 32 := 0#32
  let v2723 : BitVec 1 := Scalar.cmpi .sgt v2 c0_i32_1432
  let v2724 : BitVec 32 := Scalar.extui v2723
  let c0_i32_1433 : BitVec 32 := 0#32
  let v2725 : BitVec 1 := Scalar.cmpi .slt v2 c0_i32_1433
  let v2726 : BitVec 32 := Scalar.extui v2725
  let v2727 : BitVec 32 := Scalar.subi v2724 v2726
  let c8_i32_1431 : BitVec 32 := 8#32
  let c0_i32_1434 : BitVec 32 := 0#32
  let v2728 : BitVec 1 := Scalar.cmpi .sgt c8_i32_1431 c0_i32_1434
  let v2729 : BitVec 32 := Scalar.extui v2728
  let c0_i32_1435 : BitVec 32 := 0#32
  let v2730 : BitVec 1 := Scalar.cmpi .slt c8_i32_1431 c0_i32_1435
  let v2731 : BitVec 32 := Scalar.extui v2730
  let v2732 : BitVec 32 := Scalar.subi v2729 v2731
  let v2733 : BitVec 1 := Scalar.cmpi .ne v2727 v2732
  let v2734 : BitVec 32 := Scalar.remsi v2 c8_i32_1431
  let c0_i32_1436 : BitVec 32 := 0#32
  let v2735 : BitVec 1 := Scalar.cmpi .ne v2734 c0_i32_1436
  let v2736 : BitVec 1 := Scalar.andi v2733 v2735
  let v2722 : BitVec 32 := Scalar.divsi v2 c8_i32_1431
  let c1_i32_1437 : BitVec 32 := 1#32
  let v2737 : BitVec 32 := Scalar.subi v2722 c1_i32_1437
  let v2738 : BitVec 32 := Scalar.select v2736 v2737 v2722
  let v2739 : BitVec 32 := Scalar.muli c8_i32_1438 v2738
  let v2740 : BitVec 32 := Scalar.addi c2_i32_1439 v2739
  let c32_i32_1440 : BitVec 32 := 32#32
  let c0_i32_1441 : BitVec 32 := 0#32
  let v2741 : BitVec 1 := Scalar.cmpi .eq c32_i32_1440 c0_i32_1441
  let c1_i32_1442 : BitVec 32 := 1#32
  let v2742 : BitVec 32 := Scalar.select v2741 c1_i32_1442 c32_i32_1440
  let v2743 : BitVec 32 := Scalar.remsi v2740 v2742
  let c0_i32_1444 : BitVec 32 := 0#32
  let v2745 : BitVec 1 := Scalar.cmpi .slt v2743 c0_i32_1444
  let c0_i32_1445 : BitVec 32 := 0#32
  let v2746 : BitVec 1 := Scalar.cmpi .slt v2742 c0_i32_1445
  let v2747 : BitVec 1 := Scalar.xori v2745 v2746
  let c0_i32_1443 : BitVec 32 := 0#32
  let v2744 : BitVec 1 := Scalar.cmpi .ne v2743 c0_i32_1443
  let v2748 : BitVec 1 := Scalar.andi v2747 v2744
  let v2749 : BitVec 32 := Scalar.addi v2743 v2742
  let v2750 : BitVec 32 := Scalar.select v2748 v2749 v2743
  let v2751 : BitVec 1 := Scalar.cmpi .ne v2750 v2
  let v2752 : BitVec 32 := Scalar.extui v2751
  let c0_i32_1446 : BitVec 32 := 0#32
  let v2753 : BitVec 1 := Scalar.cmpi .ne v2752 c0_i32_1446
  v2753

def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1916 : BitVec 32 := 0#32
  ![v3682.toNat, 0]
def k0_cond68 (d0 : Dev nD) : BitVec 1 :=
  let c3_i32_1455 : BitVec 32 := 3#32
  let c8_i32_1454 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1448 : BitVec 32 := 0#32
  let v2755 : BitVec 1 := Scalar.cmpi .sgt v2 c0_i32_1448
  let v2756 : BitVec 32 := Scalar.extui v2755
  let c0_i32_1449 : BitVec 32 := 0#32
  let v2757 : BitVec 1 := Scalar.cmpi .slt v2 c0_i32_1449
  let v2758 : BitVec 32 := Scalar.extui v2757
  let v2759 : BitVec 32 := Scalar.subi v2756 v2758
  let c8_i32_1447 : BitVec 32 := 8#32
  let c0_i32_1450 : BitVec 32 := 0#32
  let v2760 : BitVec 1 := Scalar.cmpi .sgt c8_i32_1447 c0_i32_1450
  let v2761 : BitVec 32 := Scalar.extui v2760
  let c0_i32_1451 : BitVec 32 := 0#32
  let v2762 : BitVec 1 := Scalar.cmpi .slt c8_i32_1447 c0_i32_1451
  let v2763 : BitVec 32 := Scalar.extui v2762
  let v2764 : BitVec 32 := Scalar.subi v2761 v2763
  let v2765 : BitVec 1 := Scalar.cmpi .ne v2759 v2764
  let v2766 : BitVec 32 := Scalar.remsi v2 c8_i32_1447
  let c0_i32_1452 : BitVec 32 := 0#32
  let v2767 : BitVec 1 := Scalar.cmpi .ne v2766 c0_i32_1452
  let v2768 : BitVec 1 := Scalar.andi v2765 v2767
  let v2754 : BitVec 32 := Scalar.divsi v2 c8_i32_1447
  let c1_i32_1453 : BitVec 32 := 1#32
  let v2769 : BitVec 32 := Scalar.subi v2754 c1_i32_1453
  let v2770 : BitVec 32 := Scalar.select v2768 v2769 v2754
  let v2771 : BitVec 32 := Scalar.muli c8_i32_1454 v2770
  let v2772 : BitVec 32 := Scalar.addi c3_i32_1455 v2771
  let c32_i32_1456 : BitVec 32 := 32#32
  let c0_i32_1457 : BitVec 32 := 0#32
  let v2773 : BitVec 1 := Scalar.cmpi .eq c32_i32_1456 c0_i32_1457
  let c1_i32_1458 : BitVec 32 := 1#32
  let v2774 : BitVec 32 := Scalar.select v2773 c1_i32_1458 c32_i32_1456
  let v2775 : BitVec 32 := Scalar.remsi v2772 v2774
  let c0_i32_1460 : BitVec 32 := 0#32
  let v2777 : BitVec 1 := Scalar.cmpi .slt v2775 c0_i32_1460
  let c0_i32_1461 : BitVec 32 := 0#32
  let v2778 : BitVec 1 := Scalar.cmpi .slt v2774 c0_i32_1461
  let v2779 : BitVec 1 := Scalar.xori v2777 v2778
  let c0_i32_1459 : BitVec 32 := 0#32
  let v2776 : BitVec 1 := Scalar.cmpi .ne v2775 c0_i32_1459
  let v2780 : BitVec 1 := Scalar.andi v2779 v2776
  let v2781 : BitVec 32 := Scalar.addi v2775 v2774
  let v2782 : BitVec 32 := Scalar.select v2780 v2781 v2775
  let v2783 : BitVec 1 := Scalar.cmpi .ne v2782 v2
  let v2784 : BitVec 32 := Scalar.extui v2783
  let c0_i32_1462 : BitVec 32 := 0#32
  let v2785 : BitVec 1 := Scalar.cmpi .ne v2784 c0_i32_1462
  v2785

def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond69 (d0 : Dev nD) : BitVec 1 :=
  let c4_i32_1471 : BitVec 32 := 4#32
  let c8_i32_1470 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1464 : BitVec 32 := 0#32
  let v2787 : BitVec 1 := Scalar.cmpi .sgt v2 c0_i32_1464
  let v2788 : BitVec 32 := Scalar.extui v2787
  let c0_i32_1465 : BitVec 32 := 0#32
  let v2789 : BitVec 1 := Scalar.cmpi .slt v2 c0_i32_1465
  let v2790 : BitVec 32 := Scalar.extui v2789
  let v2791 : BitVec 32 := Scalar.subi v2788 v2790
  let c8_i32_1463 : BitVec 32 := 8#32
  let c0_i32_1466 : BitVec 32 := 0#32
  let v2792 : BitVec 1 := Scalar.cmpi .sgt c8_i32_1463 c0_i32_1466
  let v2793 : BitVec 32 := Scalar.extui v2792
  let c0_i32_1467 : BitVec 32 := 0#32
  let v2794 : BitVec 1 := Scalar.cmpi .slt c8_i32_1463 c0_i32_1467
  let v2795 : BitVec 32 := Scalar.extui v2794
  let v2796 : BitVec 32 := Scalar.subi v2793 v2795
  let v2797 : BitVec 1 := Scalar.cmpi .ne v2791 v2796
  let v2798 : BitVec 32 := Scalar.remsi v2 c8_i32_1463
  let c0_i32_1468 : BitVec 32 := 0#32
  let v2799 : BitVec 1 := Scalar.cmpi .ne v2798 c0_i32_1468
  let v2800 : BitVec 1 := Scalar.andi v2797 v2799
  let v2786 : BitVec 32 := Scalar.divsi v2 c8_i32_1463
  let c1_i32_1469 : BitVec 32 := 1#32
  let v2801 : BitVec 32 := Scalar.subi v2786 c1_i32_1469
  let v2802 : BitVec 32 := Scalar.select v2800 v2801 v2786
  let v2803 : BitVec 32 := Scalar.muli c8_i32_1470 v2802
  let v2804 : BitVec 32 := Scalar.addi c4_i32_1471 v2803
  let c32_i32_1472 : BitVec 32 := 32#32
  let c0_i32_1473 : BitVec 32 := 0#32
  let v2805 : BitVec 1 := Scalar.cmpi .eq c32_i32_1472 c0_i32_1473
  let c1_i32_1474 : BitVec 32 := 1#32
  let v2806 : BitVec 32 := Scalar.select v2805 c1_i32_1474 c32_i32_1472
  let v2807 : BitVec 32 := Scalar.remsi v2804 v2806
  let c0_i32_1476 : BitVec 32 := 0#32
  let v2809 : BitVec 1 := Scalar.cmpi .slt v2807 c0_i32_1476
  let c0_i32_1477 : BitVec 32 := 0#32
  let v2810 : BitVec 1 := Scalar.cmpi .slt v2806 c0_i32_1477
  let v2811 : BitVec 1 := Scalar.xori v2809 v2810
  let c0_i32_1475 : BitVec 32 := 0#32
  let v2808 : BitVec 1 := Scalar.cmpi .ne v2807 c0_i32_1475
  let v2812 : BitVec 1 := Scalar.andi v2811 v2808
  let v2813 : BitVec 32 := Scalar.addi v2807 v2806
  let v2814 : BitVec 32 := Scalar.select v2812 v2813 v2807
  let v2815 : BitVec 1 := Scalar.cmpi .ne v2814 v2
  let v2816 : BitVec 32 := Scalar.extui v2815
  let c0_i32_1478 : BitVec 32 := 0#32
  let v2817 : BitVec 1 := Scalar.cmpi .ne v2816 c0_i32_1478
  v2817

def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond70 (d0 : Dev nD) : BitVec 1 :=
  let c5_i32_1487 : BitVec 32 := 5#32
  let c8_i32_1486 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1480 : BitVec 32 := 0#32
  let v2819 : BitVec 1 := Scalar.cmpi .sgt v2 c0_i32_1480
  let v2820 : BitVec 32 := Scalar.extui v2819
  let c0_i32_1481 : BitVec 32 := 0#32
  let v2821 : BitVec 1 := Scalar.cmpi .slt v2 c0_i32_1481
  let v2822 : BitVec 32 := Scalar.extui v2821
  let v2823 : BitVec 32 := Scalar.subi v2820 v2822
  let c8_i32_1479 : BitVec 32 := 8#32
  let c0_i32_1482 : BitVec 32 := 0#32
  let v2824 : BitVec 1 := Scalar.cmpi .sgt c8_i32_1479 c0_i32_1482
  let v2825 : BitVec 32 := Scalar.extui v2824
  let c0_i32_1483 : BitVec 32 := 0#32
  let v2826 : BitVec 1 := Scalar.cmpi .slt c8_i32_1479 c0_i32_1483
  let v2827 : BitVec 32 := Scalar.extui v2826
  let v2828 : BitVec 32 := Scalar.subi v2825 v2827
  let v2829 : BitVec 1 := Scalar.cmpi .ne v2823 v2828
  let v2830 : BitVec 32 := Scalar.remsi v2 c8_i32_1479
  let c0_i32_1484 : BitVec 32 := 0#32
  let v2831 : BitVec 1 := Scalar.cmpi .ne v2830 c0_i32_1484
  let v2832 : BitVec 1 := Scalar.andi v2829 v2831
  let v2818 : BitVec 32 := Scalar.divsi v2 c8_i32_1479
  let c1_i32_1485 : BitVec 32 := 1#32
  let v2833 : BitVec 32 := Scalar.subi v2818 c1_i32_1485
  let v2834 : BitVec 32 := Scalar.select v2832 v2833 v2818
  let v2835 : BitVec 32 := Scalar.muli c8_i32_1486 v2834
  let v2836 : BitVec 32 := Scalar.addi c5_i32_1487 v2835
  let c32_i32_1488 : BitVec 32 := 32#32
  let c0_i32_1489 : BitVec 32 := 0#32
  let v2837 : BitVec 1 := Scalar.cmpi .eq c32_i32_1488 c0_i32_1489
  let c1_i32_1490 : BitVec 32 := 1#32
  let v2838 : BitVec 32 := Scalar.select v2837 c1_i32_1490 c32_i32_1488
  let v2839 : BitVec 32 := Scalar.remsi v2836 v2838
  let c0_i32_1492 : BitVec 32 := 0#32
  let v2841 : BitVec 1 := Scalar.cmpi .slt v2839 c0_i32_1492
  let c0_i32_1493 : BitVec 32 := 0#32
  let v2842 : BitVec 1 := Scalar.cmpi .slt v2838 c0_i32_1493
  let v2843 : BitVec 1 := Scalar.xori v2841 v2842
  let c0_i32_1491 : BitVec 32 := 0#32
  let v2840 : BitVec 1 := Scalar.cmpi .ne v2839 c0_i32_1491
  let v2844 : BitVec 1 := Scalar.andi v2843 v2840
  let v2845 : BitVec 32 := Scalar.addi v2839 v2838
  let v2846 : BitVec 32 := Scalar.select v2844 v2845 v2839
  let v2847 : BitVec 1 := Scalar.cmpi .ne v2846 v2
  let v2848 : BitVec 32 := Scalar.extui v2847
  let c0_i32_1494 : BitVec 32 := 0#32
  let v2849 : BitVec 1 := Scalar.cmpi .ne v2848 c0_i32_1494
  v2849

def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond71 (d0 : Dev nD) : BitVec 1 :=
  let c6_i32_1503 : BitVec 32 := 6#32
  let c8_i32_1502 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1496 : BitVec 32 := 0#32
  let v2851 : BitVec 1 := Scalar.cmpi .sgt v2 c0_i32_1496
  let v2852 : BitVec 32 := Scalar.extui v2851
  let c0_i32_1497 : BitVec 32 := 0#32
  let v2853 : BitVec 1 := Scalar.cmpi .slt v2 c0_i32_1497
  let v2854 : BitVec 32 := Scalar.extui v2853
  let v2855 : BitVec 32 := Scalar.subi v2852 v2854
  let c8_i32_1495 : BitVec 32 := 8#32
  let c0_i32_1498 : BitVec 32 := 0#32
  let v2856 : BitVec 1 := Scalar.cmpi .sgt c8_i32_1495 c0_i32_1498
  let v2857 : BitVec 32 := Scalar.extui v2856
  let c0_i32_1499 : BitVec 32 := 0#32
  let v2858 : BitVec 1 := Scalar.cmpi .slt c8_i32_1495 c0_i32_1499
  let v2859 : BitVec 32 := Scalar.extui v2858
  let v2860 : BitVec 32 := Scalar.subi v2857 v2859
  let v2861 : BitVec 1 := Scalar.cmpi .ne v2855 v2860
  let v2862 : BitVec 32 := Scalar.remsi v2 c8_i32_1495
  let c0_i32_1500 : BitVec 32 := 0#32
  let v2863 : BitVec 1 := Scalar.cmpi .ne v2862 c0_i32_1500
  let v2864 : BitVec 1 := Scalar.andi v2861 v2863
  let v2850 : BitVec 32 := Scalar.divsi v2 c8_i32_1495
  let c1_i32_1501 : BitVec 32 := 1#32
  let v2865 : BitVec 32 := Scalar.subi v2850 c1_i32_1501
  let v2866 : BitVec 32 := Scalar.select v2864 v2865 v2850
  let v2867 : BitVec 32 := Scalar.muli c8_i32_1502 v2866
  let v2868 : BitVec 32 := Scalar.addi c6_i32_1503 v2867
  let c32_i32_1504 : BitVec 32 := 32#32
  let c0_i32_1505 : BitVec 32 := 0#32
  let v2869 : BitVec 1 := Scalar.cmpi .eq c32_i32_1504 c0_i32_1505
  let c1_i32_1506 : BitVec 32 := 1#32
  let v2870 : BitVec 32 := Scalar.select v2869 c1_i32_1506 c32_i32_1504
  let v2871 : BitVec 32 := Scalar.remsi v2868 v2870
  let c0_i32_1508 : BitVec 32 := 0#32
  let v2873 : BitVec 1 := Scalar.cmpi .slt v2871 c0_i32_1508
  let c0_i32_1509 : BitVec 32 := 0#32
  let v2874 : BitVec 1 := Scalar.cmpi .slt v2870 c0_i32_1509
  let v2875 : BitVec 1 := Scalar.xori v2873 v2874
  let c0_i32_1507 : BitVec 32 := 0#32
  let v2872 : BitVec 1 := Scalar.cmpi .ne v2871 c0_i32_1507
  let v2876 : BitVec 1 := Scalar.andi v2875 v2872
  let v2877 : BitVec 32 := Scalar.addi v2871 v2870
  let v2878 : BitVec 32 := Scalar.select v2876 v2877 v2871
  let v2879 : BitVec 1 := Scalar.cmpi .ne v2878 v2
  let v2880 : BitVec 32 := Scalar.extui v2879
  let c0_i32_1510 : BitVec 32 := 0#32
  let v2881 : BitVec 1 := Scalar.cmpi .ne v2880 c0_i32_1510
  v2881

def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond72 (d0 : Dev nD) : BitVec 1 :=
  let c7_i32_1519 : BitVec 32 := 7#32
  let c8_i32_1518 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1512 : BitVec 32 := 0#32
  let v2883 : BitVec 1 := Scalar.cmpi .sgt v2 c0_i32_1512
  let v2884 : BitVec 32 := Scalar.extui v2883
  let c0_i32_1513 : BitVec 32 := 0#32
  let v2885 : BitVec 1 := Scalar.cmpi .slt v2 c0_i32_1513
  let v2886 : BitVec 32 := Scalar.extui v2885
  let v2887 : BitVec 32 := Scalar.subi v2884 v2886
  let c8_i32_1511 : BitVec 32 := 8#32
  let c0_i32_1514 : BitVec 32 := 0#32
  let v2888 : BitVec 1 := Scalar.cmpi .sgt c8_i32_1511 c0_i32_1514
  let v2889 : BitVec 32 := Scalar.extui v2888
  let c0_i32_1515 : BitVec 32 := 0#32
  let v2890 : BitVec 1 := Scalar.cmpi .slt c8_i32_1511 c0_i32_1515
  let v2891 : BitVec 32 := Scalar.extui v2890
  let v2892 : BitVec 32 := Scalar.subi v2889 v2891
  let v2893 : BitVec 1 := Scalar.cmpi .ne v2887 v2892
  let v2894 : BitVec 32 := Scalar.remsi v2 c8_i32_1511
  let c0_i32_1516 : BitVec 32 := 0#32
  let v2895 : BitVec 1 := Scalar.cmpi .ne v2894 c0_i32_1516
  let v2896 : BitVec 1 := Scalar.andi v2893 v2895
  let v2882 : BitVec 32 := Scalar.divsi v2 c8_i32_1511
  let c1_i32_1517 : BitVec 32 := 1#32
  let v2897 : BitVec 32 := Scalar.subi v2882 c1_i32_1517
  let v2898 : BitVec 32 := Scalar.select v2896 v2897 v2882
  let v2899 : BitVec 32 := Scalar.muli c8_i32_1518 v2898
  let v2900 : BitVec 32 := Scalar.addi c7_i32_1519 v2899
  let c32_i32_1520 : BitVec 32 := 32#32
  let c0_i32_1521 : BitVec 32 := 0#32
  let v2901 : BitVec 1 := Scalar.cmpi .eq c32_i32_1520 c0_i32_1521
  let c1_i32_1522 : BitVec 32 := 1#32
  let v2902 : BitVec 32 := Scalar.select v2901 c1_i32_1522 c32_i32_1520
  let v2903 : BitVec 32 := Scalar.remsi v2900 v2902
  let c0_i32_1524 : BitVec 32 := 0#32
  let v2905 : BitVec 1 := Scalar.cmpi .slt v2903 c0_i32_1524
  let c0_i32_1525 : BitVec 32 := 0#32
  let v2906 : BitVec 1 := Scalar.cmpi .slt v2902 c0_i32_1525
  let v2907 : BitVec 1 := Scalar.xori v2905 v2906
  let c0_i32_1523 : BitVec 32 := 0#32
  let v2904 : BitVec 1 := Scalar.cmpi .ne v2903 c0_i32_1523
  let v2908 : BitVec 1 := Scalar.andi v2907 v2904
  let v2909 : BitVec 32 := Scalar.addi v2903 v2902
  let v2910 : BitVec 32 := Scalar.select v2908 v2909 v2903
  let v2911 : BitVec 1 := Scalar.cmpi .ne v2910 v2
  let v2912 : BitVec 32 := Scalar.extui v2911
  let c0_i32_1526 : BitVec 32 := 0#32
  let v2913 : BitVec 1 := Scalar.cmpi .ne v2912 c0_i32_1526
  v2913

def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond73 (d0 : Dev nD) : BitVec 1 :=
  let c8_i32_1535 : BitVec 32 := 8#32
  let c8_i32_1534 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1528 : BitVec 32 := 0#32
  let v2915 : BitVec 1 := Scalar.cmpi .sgt v2 c0_i32_1528
  let v2916 : BitVec 32 := Scalar.extui v2915
  let c0_i32_1529 : BitVec 32 := 0#32
  let v2917 : BitVec 1 := Scalar.cmpi .slt v2 c0_i32_1529
  let v2918 : BitVec 32 := Scalar.extui v2917
  let v2919 : BitVec 32 := Scalar.subi v2916 v2918
  let c8_i32_1527 : BitVec 32 := 8#32
  let c0_i32_1530 : BitVec 32 := 0#32
  let v2920 : BitVec 1 := Scalar.cmpi .sgt c8_i32_1527 c0_i32_1530
  let v2921 : BitVec 32 := Scalar.extui v2920
  let c0_i32_1531 : BitVec 32 := 0#32
  let v2922 : BitVec 1 := Scalar.cmpi .slt c8_i32_1527 c0_i32_1531
  let v2923 : BitVec 32 := Scalar.extui v2922
  let v2924 : BitVec 32 := Scalar.subi v2921 v2923
  let v2925 : BitVec 1 := Scalar.cmpi .ne v2919 v2924
  let v2926 : BitVec 32 := Scalar.remsi v2 c8_i32_1527
  let c0_i32_1532 : BitVec 32 := 0#32
  let v2927 : BitVec 1 := Scalar.cmpi .ne v2926 c0_i32_1532
  let v2928 : BitVec 1 := Scalar.andi v2925 v2927
  let v2914 : BitVec 32 := Scalar.divsi v2 c8_i32_1527
  let c1_i32_1533 : BitVec 32 := 1#32
  let v2929 : BitVec 32 := Scalar.subi v2914 c1_i32_1533
  let v2930 : BitVec 32 := Scalar.select v2928 v2929 v2914
  let v2931 : BitVec 32 := Scalar.muli c8_i32_1534 v2930
  let v2932 : BitVec 32 := Scalar.addi c8_i32_1535 v2931
  let c32_i32_1536 : BitVec 32 := 32#32
  let c0_i32_1537 : BitVec 32 := 0#32
  let v2933 : BitVec 1 := Scalar.cmpi .eq c32_i32_1536 c0_i32_1537
  let c1_i32_1538 : BitVec 32 := 1#32
  let v2934 : BitVec 32 := Scalar.select v2933 c1_i32_1538 c32_i32_1536
  let v2935 : BitVec 32 := Scalar.remsi v2932 v2934
  let c0_i32_1540 : BitVec 32 := 0#32
  let v2937 : BitVec 1 := Scalar.cmpi .slt v2935 c0_i32_1540
  let c0_i32_1541 : BitVec 32 := 0#32
  let v2938 : BitVec 1 := Scalar.cmpi .slt v2934 c0_i32_1541
  let v2939 : BitVec 1 := Scalar.xori v2937 v2938
  let c0_i32_1539 : BitVec 32 := 0#32
  let v2936 : BitVec 1 := Scalar.cmpi .ne v2935 c0_i32_1539
  let v2940 : BitVec 1 := Scalar.andi v2939 v2936
  let v2941 : BitVec 32 := Scalar.addi v2935 v2934
  let v2942 : BitVec 32 := Scalar.select v2940 v2941 v2935
  let v2943 : BitVec 1 := Scalar.cmpi .ne v2942 v2
  let v2944 : BitVec 32 := Scalar.extui v2943
  let c0_i32_1542 : BitVec 32 := 0#32
  let v2945 : BitVec 1 := Scalar.cmpi .ne v2944 c0_i32_1542
  v2945

def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond74 (d0 : Dev nD) : BitVec 1 :=
  let c9_i32_1551 : BitVec 32 := 9#32
  let c8_i32_1550 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1544 : BitVec 32 := 0#32
  let v2947 : BitVec 1 := Scalar.cmpi .sgt v2 c0_i32_1544
  let v2948 : BitVec 32 := Scalar.extui v2947
  let c0_i32_1545 : BitVec 32 := 0#32
  let v2949 : BitVec 1 := Scalar.cmpi .slt v2 c0_i32_1545
  let v2950 : BitVec 32 := Scalar.extui v2949
  let v2951 : BitVec 32 := Scalar.subi v2948 v2950
  let c8_i32_1543 : BitVec 32 := 8#32
  let c0_i32_1546 : BitVec 32 := 0#32
  let v2952 : BitVec 1 := Scalar.cmpi .sgt c8_i32_1543 c0_i32_1546
  let v2953 : BitVec 32 := Scalar.extui v2952
  let c0_i32_1547 : BitVec 32 := 0#32
  let v2954 : BitVec 1 := Scalar.cmpi .slt c8_i32_1543 c0_i32_1547
  let v2955 : BitVec 32 := Scalar.extui v2954
  let v2956 : BitVec 32 := Scalar.subi v2953 v2955
  let v2957 : BitVec 1 := Scalar.cmpi .ne v2951 v2956
  let v2958 : BitVec 32 := Scalar.remsi v2 c8_i32_1543
  let c0_i32_1548 : BitVec 32 := 0#32
  let v2959 : BitVec 1 := Scalar.cmpi .ne v2958 c0_i32_1548
  let v2960 : BitVec 1 := Scalar.andi v2957 v2959
  let v2946 : BitVec 32 := Scalar.divsi v2 c8_i32_1543
  let c1_i32_1549 : BitVec 32 := 1#32
  let v2961 : BitVec 32 := Scalar.subi v2946 c1_i32_1549
  let v2962 : BitVec 32 := Scalar.select v2960 v2961 v2946
  let v2963 : BitVec 32 := Scalar.muli c8_i32_1550 v2962
  let v2964 : BitVec 32 := Scalar.addi c9_i32_1551 v2963
  let c32_i32_1552 : BitVec 32 := 32#32
  let c0_i32_1553 : BitVec 32 := 0#32
  let v2965 : BitVec 1 := Scalar.cmpi .eq c32_i32_1552 c0_i32_1553
  let c1_i32_1554 : BitVec 32 := 1#32
  let v2966 : BitVec 32 := Scalar.select v2965 c1_i32_1554 c32_i32_1552
  let v2967 : BitVec 32 := Scalar.remsi v2964 v2966
  let c0_i32_1556 : BitVec 32 := 0#32
  let v2969 : BitVec 1 := Scalar.cmpi .slt v2967 c0_i32_1556
  let c0_i32_1557 : BitVec 32 := 0#32
  let v2970 : BitVec 1 := Scalar.cmpi .slt v2966 c0_i32_1557
  let v2971 : BitVec 1 := Scalar.xori v2969 v2970
  let c0_i32_1555 : BitVec 32 := 0#32
  let v2968 : BitVec 1 := Scalar.cmpi .ne v2967 c0_i32_1555
  let v2972 : BitVec 1 := Scalar.andi v2971 v2968
  let v2973 : BitVec 32 := Scalar.addi v2967 v2966
  let v2974 : BitVec 32 := Scalar.select v2972 v2973 v2967
  let v2975 : BitVec 1 := Scalar.cmpi .ne v2974 v2
  let v2976 : BitVec 32 := Scalar.extui v2975
  let c0_i32_1558 : BitVec 32 := 0#32
  let v2977 : BitVec 1 := Scalar.cmpi .ne v2976 c0_i32_1558
  v2977

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond75 (d0 : Dev nD) : BitVec 1 :=
  let c10_i32_1567 : BitVec 32 := 10#32
  let c8_i32_1566 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1560 : BitVec 32 := 0#32
  let v2979 : BitVec 1 := Scalar.cmpi .sgt v2 c0_i32_1560
  let v2980 : BitVec 32 := Scalar.extui v2979
  let c0_i32_1561 : BitVec 32 := 0#32
  let v2981 : BitVec 1 := Scalar.cmpi .slt v2 c0_i32_1561
  let v2982 : BitVec 32 := Scalar.extui v2981
  let v2983 : BitVec 32 := Scalar.subi v2980 v2982
  let c8_i32_1559 : BitVec 32 := 8#32
  let c0_i32_1562 : BitVec 32 := 0#32
  let v2984 : BitVec 1 := Scalar.cmpi .sgt c8_i32_1559 c0_i32_1562
  let v2985 : BitVec 32 := Scalar.extui v2984
  let c0_i32_1563 : BitVec 32 := 0#32
  let v2986 : BitVec 1 := Scalar.cmpi .slt c8_i32_1559 c0_i32_1563
  let v2987 : BitVec 32 := Scalar.extui v2986
  let v2988 : BitVec 32 := Scalar.subi v2985 v2987
  let v2989 : BitVec 1 := Scalar.cmpi .ne v2983 v2988
  let v2990 : BitVec 32 := Scalar.remsi v2 c8_i32_1559
  let c0_i32_1564 : BitVec 32 := 0#32
  let v2991 : BitVec 1 := Scalar.cmpi .ne v2990 c0_i32_1564
  let v2992 : BitVec 1 := Scalar.andi v2989 v2991
  let v2978 : BitVec 32 := Scalar.divsi v2 c8_i32_1559
  let c1_i32_1565 : BitVec 32 := 1#32
  let v2993 : BitVec 32 := Scalar.subi v2978 c1_i32_1565
  let v2994 : BitVec 32 := Scalar.select v2992 v2993 v2978
  let v2995 : BitVec 32 := Scalar.muli c8_i32_1566 v2994
  let v2996 : BitVec 32 := Scalar.addi c10_i32_1567 v2995
  let c32_i32_1568 : BitVec 32 := 32#32
  let c0_i32_1569 : BitVec 32 := 0#32
  let v2997 : BitVec 1 := Scalar.cmpi .eq c32_i32_1568 c0_i32_1569
  let c1_i32_1570 : BitVec 32 := 1#32
  let v2998 : BitVec 32 := Scalar.select v2997 c1_i32_1570 c32_i32_1568
  let v2999 : BitVec 32 := Scalar.remsi v2996 v2998
  let c0_i32_1572 : BitVec 32 := 0#32
  let v3001 : BitVec 1 := Scalar.cmpi .slt v2999 c0_i32_1572
  let c0_i32_1573 : BitVec 32 := 0#32
  let v3002 : BitVec 1 := Scalar.cmpi .slt v2998 c0_i32_1573
  let v3003 : BitVec 1 := Scalar.xori v3001 v3002
  let c0_i32_1571 : BitVec 32 := 0#32
  let v3000 : BitVec 1 := Scalar.cmpi .ne v2999 c0_i32_1571
  let v3004 : BitVec 1 := Scalar.andi v3003 v3000
  let v3005 : BitVec 32 := Scalar.addi v2999 v2998
  let v3006 : BitVec 32 := Scalar.select v3004 v3005 v2999
  let v3007 : BitVec 1 := Scalar.cmpi .ne v3006 v2
  let v3008 : BitVec 32 := Scalar.extui v3007
  let c0_i32_1574 : BitVec 32 := 0#32
  let v3009 : BitVec 1 := Scalar.cmpi .ne v3008 c0_i32_1574
  v3009

def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond76 (d0 : Dev nD) : BitVec 1 :=
  let c11_i32_1583 : BitVec 32 := 11#32
  let c8_i32_1582 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1576 : BitVec 32 := 0#32
  let v3011 : BitVec 1 := Scalar.cmpi .sgt v2 c0_i32_1576
  let v3012 : BitVec 32 := Scalar.extui v3011
  let c0_i32_1577 : BitVec 32 := 0#32
  let v3013 : BitVec 1 := Scalar.cmpi .slt v2 c0_i32_1577
  let v3014 : BitVec 32 := Scalar.extui v3013
  let v3015 : BitVec 32 := Scalar.subi v3012 v3014
  let c8_i32_1575 : BitVec 32 := 8#32
  let c0_i32_1578 : BitVec 32 := 0#32
  let v3016 : BitVec 1 := Scalar.cmpi .sgt c8_i32_1575 c0_i32_1578
  let v3017 : BitVec 32 := Scalar.extui v3016
  let c0_i32_1579 : BitVec 32 := 0#32
  let v3018 : BitVec 1 := Scalar.cmpi .slt c8_i32_1575 c0_i32_1579
  let v3019 : BitVec 32 := Scalar.extui v3018
  let v3020 : BitVec 32 := Scalar.subi v3017 v3019
  let v3021 : BitVec 1 := Scalar.cmpi .ne v3015 v3020
  let v3022 : BitVec 32 := Scalar.remsi v2 c8_i32_1575
  let c0_i32_1580 : BitVec 32 := 0#32
  let v3023 : BitVec 1 := Scalar.cmpi .ne v3022 c0_i32_1580
  let v3024 : BitVec 1 := Scalar.andi v3021 v3023
  let v3010 : BitVec 32 := Scalar.divsi v2 c8_i32_1575
  let c1_i32_1581 : BitVec 32 := 1#32
  let v3025 : BitVec 32 := Scalar.subi v3010 c1_i32_1581
  let v3026 : BitVec 32 := Scalar.select v3024 v3025 v3010
  let v3027 : BitVec 32 := Scalar.muli c8_i32_1582 v3026
  let v3028 : BitVec 32 := Scalar.addi c11_i32_1583 v3027
  let c32_i32_1584 : BitVec 32 := 32#32
  let c0_i32_1585 : BitVec 32 := 0#32
  let v3029 : BitVec 1 := Scalar.cmpi .eq c32_i32_1584 c0_i32_1585
  let c1_i32_1586 : BitVec 32 := 1#32
  let v3030 : BitVec 32 := Scalar.select v3029 c1_i32_1586 c32_i32_1584
  let v3031 : BitVec 32 := Scalar.remsi v3028 v3030
  let c0_i32_1588 : BitVec 32 := 0#32
  let v3033 : BitVec 1 := Scalar.cmpi .slt v3031 c0_i32_1588
  let c0_i32_1589 : BitVec 32 := 0#32
  let v3034 : BitVec 1 := Scalar.cmpi .slt v3030 c0_i32_1589
  let v3035 : BitVec 1 := Scalar.xori v3033 v3034
  let c0_i32_1587 : BitVec 32 := 0#32
  let v3032 : BitVec 1 := Scalar.cmpi .ne v3031 c0_i32_1587
  let v3036 : BitVec 1 := Scalar.andi v3035 v3032
  let v3037 : BitVec 32 := Scalar.addi v3031 v3030
  let v3038 : BitVec 32 := Scalar.select v3036 v3037 v3031
  let v3039 : BitVec 1 := Scalar.cmpi .ne v3038 v2
  let v3040 : BitVec 32 := Scalar.extui v3039
  let c0_i32_1590 : BitVec 32 := 0#32
  let v3041 : BitVec 1 := Scalar.cmpi .ne v3040 c0_i32_1590
  v3041

def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond77 (d0 : Dev nD) : BitVec 1 :=
  let c12_i32_1599 : BitVec 32 := 12#32
  let c8_i32_1598 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1592 : BitVec 32 := 0#32
  let v3043 : BitVec 1 := Scalar.cmpi .sgt v2 c0_i32_1592
  let v3044 : BitVec 32 := Scalar.extui v3043
  let c0_i32_1593 : BitVec 32 := 0#32
  let v3045 : BitVec 1 := Scalar.cmpi .slt v2 c0_i32_1593
  let v3046 : BitVec 32 := Scalar.extui v3045
  let v3047 : BitVec 32 := Scalar.subi v3044 v3046
  let c8_i32_1591 : BitVec 32 := 8#32
  let c0_i32_1594 : BitVec 32 := 0#32
  let v3048 : BitVec 1 := Scalar.cmpi .sgt c8_i32_1591 c0_i32_1594
  let v3049 : BitVec 32 := Scalar.extui v3048
  let c0_i32_1595 : BitVec 32 := 0#32
  let v3050 : BitVec 1 := Scalar.cmpi .slt c8_i32_1591 c0_i32_1595
  let v3051 : BitVec 32 := Scalar.extui v3050
  let v3052 : BitVec 32 := Scalar.subi v3049 v3051
  let v3053 : BitVec 1 := Scalar.cmpi .ne v3047 v3052
  let v3054 : BitVec 32 := Scalar.remsi v2 c8_i32_1591
  let c0_i32_1596 : BitVec 32 := 0#32
  let v3055 : BitVec 1 := Scalar.cmpi .ne v3054 c0_i32_1596
  let v3056 : BitVec 1 := Scalar.andi v3053 v3055
  let v3042 : BitVec 32 := Scalar.divsi v2 c8_i32_1591
  let c1_i32_1597 : BitVec 32 := 1#32
  let v3057 : BitVec 32 := Scalar.subi v3042 c1_i32_1597
  let v3058 : BitVec 32 := Scalar.select v3056 v3057 v3042
  let v3059 : BitVec 32 := Scalar.muli c8_i32_1598 v3058
  let v3060 : BitVec 32 := Scalar.addi c12_i32_1599 v3059
  let c32_i32_1600 : BitVec 32 := 32#32
  let c0_i32_1601 : BitVec 32 := 0#32
  let v3061 : BitVec 1 := Scalar.cmpi .eq c32_i32_1600 c0_i32_1601
  let c1_i32_1602 : BitVec 32 := 1#32
  let v3062 : BitVec 32 := Scalar.select v3061 c1_i32_1602 c32_i32_1600
  let v3063 : BitVec 32 := Scalar.remsi v3060 v3062
  let c0_i32_1604 : BitVec 32 := 0#32
  let v3065 : BitVec 1 := Scalar.cmpi .slt v3063 c0_i32_1604
  let c0_i32_1605 : BitVec 32 := 0#32
  let v3066 : BitVec 1 := Scalar.cmpi .slt v3062 c0_i32_1605
  let v3067 : BitVec 1 := Scalar.xori v3065 v3066
  let c0_i32_1603 : BitVec 32 := 0#32
  let v3064 : BitVec 1 := Scalar.cmpi .ne v3063 c0_i32_1603
  let v3068 : BitVec 1 := Scalar.andi v3067 v3064
  let v3069 : BitVec 32 := Scalar.addi v3063 v3062
  let v3070 : BitVec 32 := Scalar.select v3068 v3069 v3063
  let v3071 : BitVec 1 := Scalar.cmpi .ne v3070 v2
  let v3072 : BitVec 32 := Scalar.extui v3071
  let c0_i32_1606 : BitVec 32 := 0#32
  let v3073 : BitVec 1 := Scalar.cmpi .ne v3072 c0_i32_1606
  v3073

def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond78 (d0 : Dev nD) : BitVec 1 :=
  let c13_i32_1615 : BitVec 32 := 13#32
  let c8_i32_1614 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1608 : BitVec 32 := 0#32
  let v3075 : BitVec 1 := Scalar.cmpi .sgt v2 c0_i32_1608
  let v3076 : BitVec 32 := Scalar.extui v3075
  let c0_i32_1609 : BitVec 32 := 0#32
  let v3077 : BitVec 1 := Scalar.cmpi .slt v2 c0_i32_1609
  let v3078 : BitVec 32 := Scalar.extui v3077
  let v3079 : BitVec 32 := Scalar.subi v3076 v3078
  let c8_i32_1607 : BitVec 32 := 8#32
  let c0_i32_1610 : BitVec 32 := 0#32
  let v3080 : BitVec 1 := Scalar.cmpi .sgt c8_i32_1607 c0_i32_1610
  let v3081 : BitVec 32 := Scalar.extui v3080
  let c0_i32_1611 : BitVec 32 := 0#32
  let v3082 : BitVec 1 := Scalar.cmpi .slt c8_i32_1607 c0_i32_1611
  let v3083 : BitVec 32 := Scalar.extui v3082
  let v3084 : BitVec 32 := Scalar.subi v3081 v3083
  let v3085 : BitVec 1 := Scalar.cmpi .ne v3079 v3084
  let v3086 : BitVec 32 := Scalar.remsi v2 c8_i32_1607
  let c0_i32_1612 : BitVec 32 := 0#32
  let v3087 : BitVec 1 := Scalar.cmpi .ne v3086 c0_i32_1612
  let v3088 : BitVec 1 := Scalar.andi v3085 v3087
  let v3074 : BitVec 32 := Scalar.divsi v2 c8_i32_1607
  let c1_i32_1613 : BitVec 32 := 1#32
  let v3089 : BitVec 32 := Scalar.subi v3074 c1_i32_1613
  let v3090 : BitVec 32 := Scalar.select v3088 v3089 v3074
  let v3091 : BitVec 32 := Scalar.muli c8_i32_1614 v3090
  let v3092 : BitVec 32 := Scalar.addi c13_i32_1615 v3091
  let c32_i32_1616 : BitVec 32 := 32#32
  let c0_i32_1617 : BitVec 32 := 0#32
  let v3093 : BitVec 1 := Scalar.cmpi .eq c32_i32_1616 c0_i32_1617
  let c1_i32_1618 : BitVec 32 := 1#32
  let v3094 : BitVec 32 := Scalar.select v3093 c1_i32_1618 c32_i32_1616
  let v3095 : BitVec 32 := Scalar.remsi v3092 v3094
  let c0_i32_1620 : BitVec 32 := 0#32
  let v3097 : BitVec 1 := Scalar.cmpi .slt v3095 c0_i32_1620
  let c0_i32_1621 : BitVec 32 := 0#32
  let v3098 : BitVec 1 := Scalar.cmpi .slt v3094 c0_i32_1621
  let v3099 : BitVec 1 := Scalar.xori v3097 v3098
  let c0_i32_1619 : BitVec 32 := 0#32
  let v3096 : BitVec 1 := Scalar.cmpi .ne v3095 c0_i32_1619
  let v3100 : BitVec 1 := Scalar.andi v3099 v3096
  let v3101 : BitVec 32 := Scalar.addi v3095 v3094
  let v3102 : BitVec 32 := Scalar.select v3100 v3101 v3095
  let v3103 : BitVec 1 := Scalar.cmpi .ne v3102 v2
  let v3104 : BitVec 32 := Scalar.extui v3103
  let c0_i32_1622 : BitVec 32 := 0#32
  let v3105 : BitVec 1 := Scalar.cmpi .ne v3104 c0_i32_1622
  v3105

def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond79 (d0 : Dev nD) : BitVec 1 :=
  let c14_i32_1631 : BitVec 32 := 14#32
  let c8_i32_1630 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1624 : BitVec 32 := 0#32
  let v3107 : BitVec 1 := Scalar.cmpi .sgt v2 c0_i32_1624
  let v3108 : BitVec 32 := Scalar.extui v3107
  let c0_i32_1625 : BitVec 32 := 0#32
  let v3109 : BitVec 1 := Scalar.cmpi .slt v2 c0_i32_1625
  let v3110 : BitVec 32 := Scalar.extui v3109
  let v3111 : BitVec 32 := Scalar.subi v3108 v3110
  let c8_i32_1623 : BitVec 32 := 8#32
  let c0_i32_1626 : BitVec 32 := 0#32
  let v3112 : BitVec 1 := Scalar.cmpi .sgt c8_i32_1623 c0_i32_1626
  let v3113 : BitVec 32 := Scalar.extui v3112
  let c0_i32_1627 : BitVec 32 := 0#32
  let v3114 : BitVec 1 := Scalar.cmpi .slt c8_i32_1623 c0_i32_1627
  let v3115 : BitVec 32 := Scalar.extui v3114
  let v3116 : BitVec 32 := Scalar.subi v3113 v3115
  let v3117 : BitVec 1 := Scalar.cmpi .ne v3111 v3116
  let v3118 : BitVec 32 := Scalar.remsi v2 c8_i32_1623
  let c0_i32_1628 : BitVec 32 := 0#32
  let v3119 : BitVec 1 := Scalar.cmpi .ne v3118 c0_i32_1628
  let v3120 : BitVec 1 := Scalar.andi v3117 v3119
  let v3106 : BitVec 32 := Scalar.divsi v2 c8_i32_1623
  let c1_i32_1629 : BitVec 32 := 1#32
  let v3121 : BitVec 32 := Scalar.subi v3106 c1_i32_1629
  let v3122 : BitVec 32 := Scalar.select v3120 v3121 v3106
  let v3123 : BitVec 32 := Scalar.muli c8_i32_1630 v3122
  let v3124 : BitVec 32 := Scalar.addi c14_i32_1631 v3123
  let c32_i32_1632 : BitVec 32 := 32#32
  let c0_i32_1633 : BitVec 32 := 0#32
  let v3125 : BitVec 1 := Scalar.cmpi .eq c32_i32_1632 c0_i32_1633
  let c1_i32_1634 : BitVec 32 := 1#32
  let v3126 : BitVec 32 := Scalar.select v3125 c1_i32_1634 c32_i32_1632
  let v3127 : BitVec 32 := Scalar.remsi v3124 v3126
  let c0_i32_1636 : BitVec 32 := 0#32
  let v3129 : BitVec 1 := Scalar.cmpi .slt v3127 c0_i32_1636
  let c0_i32_1637 : BitVec 32 := 0#32
  let v3130 : BitVec 1 := Scalar.cmpi .slt v3126 c0_i32_1637
  let v3131 : BitVec 1 := Scalar.xori v3129 v3130
  let c0_i32_1635 : BitVec 32 := 0#32
  let v3128 : BitVec 1 := Scalar.cmpi .ne v3127 c0_i32_1635
  let v3132 : BitVec 1 := Scalar.andi v3131 v3128
  let v3133 : BitVec 32 := Scalar.addi v3127 v3126
  let v3134 : BitVec 32 := Scalar.select v3132 v3133 v3127
  let v3135 : BitVec 1 := Scalar.cmpi .ne v3134 v2
  let v3136 : BitVec 32 := Scalar.extui v3135
  let c0_i32_1638 : BitVec 32 := 0#32
  let v3137 : BitVec 1 := Scalar.cmpi .ne v3136 c0_i32_1638
  v3137

def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond80 (d0 : Dev nD) : BitVec 1 :=
  let c15_i32_1647 : BitVec 32 := 15#32
  let c8_i32_1646 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1640 : BitVec 32 := 0#32
  let v3139 : BitVec 1 := Scalar.cmpi .sgt v2 c0_i32_1640
  let v3140 : BitVec 32 := Scalar.extui v3139
  let c0_i32_1641 : BitVec 32 := 0#32
  let v3141 : BitVec 1 := Scalar.cmpi .slt v2 c0_i32_1641
  let v3142 : BitVec 32 := Scalar.extui v3141
  let v3143 : BitVec 32 := Scalar.subi v3140 v3142
  let c8_i32_1639 : BitVec 32 := 8#32
  let c0_i32_1642 : BitVec 32 := 0#32
  let v3144 : BitVec 1 := Scalar.cmpi .sgt c8_i32_1639 c0_i32_1642
  let v3145 : BitVec 32 := Scalar.extui v3144
  let c0_i32_1643 : BitVec 32 := 0#32
  let v3146 : BitVec 1 := Scalar.cmpi .slt c8_i32_1639 c0_i32_1643
  let v3147 : BitVec 32 := Scalar.extui v3146
  let v3148 : BitVec 32 := Scalar.subi v3145 v3147
  let v3149 : BitVec 1 := Scalar.cmpi .ne v3143 v3148
  let v3150 : BitVec 32 := Scalar.remsi v2 c8_i32_1639
  let c0_i32_1644 : BitVec 32 := 0#32
  let v3151 : BitVec 1 := Scalar.cmpi .ne v3150 c0_i32_1644
  let v3152 : BitVec 1 := Scalar.andi v3149 v3151
  let v3138 : BitVec 32 := Scalar.divsi v2 c8_i32_1639
  let c1_i32_1645 : BitVec 32 := 1#32
  let v3153 : BitVec 32 := Scalar.subi v3138 c1_i32_1645
  let v3154 : BitVec 32 := Scalar.select v3152 v3153 v3138
  let v3155 : BitVec 32 := Scalar.muli c8_i32_1646 v3154
  let v3156 : BitVec 32 := Scalar.addi c15_i32_1647 v3155
  let c32_i32_1648 : BitVec 32 := 32#32
  let c0_i32_1649 : BitVec 32 := 0#32
  let v3157 : BitVec 1 := Scalar.cmpi .eq c32_i32_1648 c0_i32_1649
  let c1_i32_1650 : BitVec 32 := 1#32
  let v3158 : BitVec 32 := Scalar.select v3157 c1_i32_1650 c32_i32_1648
  let v3159 : BitVec 32 := Scalar.remsi v3156 v3158
  let c0_i32_1652 : BitVec 32 := 0#32
  let v3161 : BitVec 1 := Scalar.cmpi .slt v3159 c0_i32_1652
  let c0_i32_1653 : BitVec 32 := 0#32
  let v3162 : BitVec 1 := Scalar.cmpi .slt v3158 c0_i32_1653
  let v3163 : BitVec 1 := Scalar.xori v3161 v3162
  let c0_i32_1651 : BitVec 32 := 0#32
  let v3160 : BitVec 1 := Scalar.cmpi .ne v3159 c0_i32_1651
  let v3164 : BitVec 1 := Scalar.andi v3163 v3160
  let v3165 : BitVec 32 := Scalar.addi v3159 v3158
  let v3166 : BitVec 32 := Scalar.select v3164 v3165 v3159
  let v3167 : BitVec 1 := Scalar.cmpi .ne v3166 v2
  let v3168 : BitVec 32 := Scalar.extui v3167
  let c0_i32_1654 : BitVec 32 := 0#32
  let v3169 : BitVec 1 := Scalar.cmpi .ne v3168 c0_i32_1654
  v3169

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond81 (d0 : Dev nD) : BitVec 1 :=
  let c16_i32_1663 : BitVec 32 := 16#32
  let c8_i32_1662 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1656 : BitVec 32 := 0#32
  let v3171 : BitVec 1 := Scalar.cmpi .sgt v2 c0_i32_1656
  let v3172 : BitVec 32 := Scalar.extui v3171
  let c0_i32_1657 : BitVec 32 := 0#32
  let v3173 : BitVec 1 := Scalar.cmpi .slt v2 c0_i32_1657
  let v3174 : BitVec 32 := Scalar.extui v3173
  let v3175 : BitVec 32 := Scalar.subi v3172 v3174
  let c8_i32_1655 : BitVec 32 := 8#32
  let c0_i32_1658 : BitVec 32 := 0#32
  let v3176 : BitVec 1 := Scalar.cmpi .sgt c8_i32_1655 c0_i32_1658
  let v3177 : BitVec 32 := Scalar.extui v3176
  let c0_i32_1659 : BitVec 32 := 0#32
  let v3178 : BitVec 1 := Scalar.cmpi .slt c8_i32_1655 c0_i32_1659
  let v3179 : BitVec 32 := Scalar.extui v3178
  let v3180 : BitVec 32 := Scalar.subi v3177 v3179
  let v3181 : BitVec 1 := Scalar.cmpi .ne v3175 v3180
  let v3182 : BitVec 32 := Scalar.remsi v2 c8_i32_1655
  let c0_i32_1660 : BitVec 32 := 0#32
  let v3183 : BitVec 1 := Scalar.cmpi .ne v3182 c0_i32_1660
  let v3184 : BitVec 1 := Scalar.andi v3181 v3183
  let v3170 : BitVec 32 := Scalar.divsi v2 c8_i32_1655
  let c1_i32_1661 : BitVec 32 := 1#32
  let v3185 : BitVec 32 := Scalar.subi v3170 c1_i32_1661
  let v3186 : BitVec 32 := Scalar.select v3184 v3185 v3170
  let v3187 : BitVec 32 := Scalar.muli c8_i32_1662 v3186
  let v3188 : BitVec 32 := Scalar.addi c16_i32_1663 v3187
  let c32_i32_1664 : BitVec 32 := 32#32
  let c0_i32_1665 : BitVec 32 := 0#32
  let v3189 : BitVec 1 := Scalar.cmpi .eq c32_i32_1664 c0_i32_1665
  let c1_i32_1666 : BitVec 32 := 1#32
  let v3190 : BitVec 32 := Scalar.select v3189 c1_i32_1666 c32_i32_1664
  let v3191 : BitVec 32 := Scalar.remsi v3188 v3190
  let c0_i32_1668 : BitVec 32 := 0#32
  let v3193 : BitVec 1 := Scalar.cmpi .slt v3191 c0_i32_1668
  let c0_i32_1669 : BitVec 32 := 0#32
  let v3194 : BitVec 1 := Scalar.cmpi .slt v3190 c0_i32_1669
  let v3195 : BitVec 1 := Scalar.xori v3193 v3194
  let c0_i32_1667 : BitVec 32 := 0#32
  let v3192 : BitVec 1 := Scalar.cmpi .ne v3191 c0_i32_1667
  let v3196 : BitVec 1 := Scalar.andi v3195 v3192
  let v3197 : BitVec 32 := Scalar.addi v3191 v3190
  let v3198 : BitVec 32 := Scalar.select v3196 v3197 v3191
  let v3199 : BitVec 1 := Scalar.cmpi .ne v3198 v2
  let v3200 : BitVec 32 := Scalar.extui v3199
  let c0_i32_1670 : BitVec 32 := 0#32
  let v3201 : BitVec 1 := Scalar.cmpi .ne v3200 c0_i32_1670
  v3201

def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond82 (d0 : Dev nD) : BitVec 1 :=
  let c17_i32_1679 : BitVec 32 := 17#32
  let c8_i32_1678 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1672 : BitVec 32 := 0#32
  let v3203 : BitVec 1 := Scalar.cmpi .sgt v2 c0_i32_1672
  let v3204 : BitVec 32 := Scalar.extui v3203
  let c0_i32_1673 : BitVec 32 := 0#32
  let v3205 : BitVec 1 := Scalar.cmpi .slt v2 c0_i32_1673
  let v3206 : BitVec 32 := Scalar.extui v3205
  let v3207 : BitVec 32 := Scalar.subi v3204 v3206
  let c8_i32_1671 : BitVec 32 := 8#32
  let c0_i32_1674 : BitVec 32 := 0#32
  let v3208 : BitVec 1 := Scalar.cmpi .sgt c8_i32_1671 c0_i32_1674
  let v3209 : BitVec 32 := Scalar.extui v3208
  let c0_i32_1675 : BitVec 32 := 0#32
  let v3210 : BitVec 1 := Scalar.cmpi .slt c8_i32_1671 c0_i32_1675
  let v3211 : BitVec 32 := Scalar.extui v3210
  let v3212 : BitVec 32 := Scalar.subi v3209 v3211
  let v3213 : BitVec 1 := Scalar.cmpi .ne v3207 v3212
  let v3214 : BitVec 32 := Scalar.remsi v2 c8_i32_1671
  let c0_i32_1676 : BitVec 32 := 0#32
  let v3215 : BitVec 1 := Scalar.cmpi .ne v3214 c0_i32_1676
  let v3216 : BitVec 1 := Scalar.andi v3213 v3215
  let v3202 : BitVec 32 := Scalar.divsi v2 c8_i32_1671
  let c1_i32_1677 : BitVec 32 := 1#32
  let v3217 : BitVec 32 := Scalar.subi v3202 c1_i32_1677
  let v3218 : BitVec 32 := Scalar.select v3216 v3217 v3202
  let v3219 : BitVec 32 := Scalar.muli c8_i32_1678 v3218
  let v3220 : BitVec 32 := Scalar.addi c17_i32_1679 v3219
  let c32_i32_1680 : BitVec 32 := 32#32
  let c0_i32_1681 : BitVec 32 := 0#32
  let v3221 : BitVec 1 := Scalar.cmpi .eq c32_i32_1680 c0_i32_1681
  let c1_i32_1682 : BitVec 32 := 1#32
  let v3222 : BitVec 32 := Scalar.select v3221 c1_i32_1682 c32_i32_1680
  let v3223 : BitVec 32 := Scalar.remsi v3220 v3222
  let c0_i32_1684 : BitVec 32 := 0#32
  let v3225 : BitVec 1 := Scalar.cmpi .slt v3223 c0_i32_1684
  let c0_i32_1685 : BitVec 32 := 0#32
  let v3226 : BitVec 1 := Scalar.cmpi .slt v3222 c0_i32_1685
  let v3227 : BitVec 1 := Scalar.xori v3225 v3226
  let c0_i32_1683 : BitVec 32 := 0#32
  let v3224 : BitVec 1 := Scalar.cmpi .ne v3223 c0_i32_1683
  let v3228 : BitVec 1 := Scalar.andi v3227 v3224
  let v3229 : BitVec 32 := Scalar.addi v3223 v3222
  let v3230 : BitVec 32 := Scalar.select v3228 v3229 v3223
  let v3231 : BitVec 1 := Scalar.cmpi .ne v3230 v2
  let v3232 : BitVec 32 := Scalar.extui v3231
  let c0_i32_1686 : BitVec 32 := 0#32
  let v3233 : BitVec 1 := Scalar.cmpi .ne v3232 c0_i32_1686
  v3233

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond83 (d0 : Dev nD) : BitVec 1 :=
  let c18_i32_1695 : BitVec 32 := 18#32
  let c8_i32_1694 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1688 : BitVec 32 := 0#32
  let v3235 : BitVec 1 := Scalar.cmpi .sgt v2 c0_i32_1688
  let v3236 : BitVec 32 := Scalar.extui v3235
  let c0_i32_1689 : BitVec 32 := 0#32
  let v3237 : BitVec 1 := Scalar.cmpi .slt v2 c0_i32_1689
  let v3238 : BitVec 32 := Scalar.extui v3237
  let v3239 : BitVec 32 := Scalar.subi v3236 v3238
  let c8_i32_1687 : BitVec 32 := 8#32
  let c0_i32_1690 : BitVec 32 := 0#32
  let v3240 : BitVec 1 := Scalar.cmpi .sgt c8_i32_1687 c0_i32_1690
  let v3241 : BitVec 32 := Scalar.extui v3240
  let c0_i32_1691 : BitVec 32 := 0#32
  let v3242 : BitVec 1 := Scalar.cmpi .slt c8_i32_1687 c0_i32_1691
  let v3243 : BitVec 32 := Scalar.extui v3242
  let v3244 : BitVec 32 := Scalar.subi v3241 v3243
  let v3245 : BitVec 1 := Scalar.cmpi .ne v3239 v3244
  let v3246 : BitVec 32 := Scalar.remsi v2 c8_i32_1687
  let c0_i32_1692 : BitVec 32 := 0#32
  let v3247 : BitVec 1 := Scalar.cmpi .ne v3246 c0_i32_1692
  let v3248 : BitVec 1 := Scalar.andi v3245 v3247
  let v3234 : BitVec 32 := Scalar.divsi v2 c8_i32_1687
  let c1_i32_1693 : BitVec 32 := 1#32
  let v3249 : BitVec 32 := Scalar.subi v3234 c1_i32_1693
  let v3250 : BitVec 32 := Scalar.select v3248 v3249 v3234
  let v3251 : BitVec 32 := Scalar.muli c8_i32_1694 v3250
  let v3252 : BitVec 32 := Scalar.addi c18_i32_1695 v3251
  let c32_i32_1696 : BitVec 32 := 32#32
  let c0_i32_1697 : BitVec 32 := 0#32
  let v3253 : BitVec 1 := Scalar.cmpi .eq c32_i32_1696 c0_i32_1697
  let c1_i32_1698 : BitVec 32 := 1#32
  let v3254 : BitVec 32 := Scalar.select v3253 c1_i32_1698 c32_i32_1696
  let v3255 : BitVec 32 := Scalar.remsi v3252 v3254
  let c0_i32_1700 : BitVec 32 := 0#32
  let v3257 : BitVec 1 := Scalar.cmpi .slt v3255 c0_i32_1700
  let c0_i32_1701 : BitVec 32 := 0#32
  let v3258 : BitVec 1 := Scalar.cmpi .slt v3254 c0_i32_1701
  let v3259 : BitVec 1 := Scalar.xori v3257 v3258
  let c0_i32_1699 : BitVec 32 := 0#32
  let v3256 : BitVec 1 := Scalar.cmpi .ne v3255 c0_i32_1699
  let v3260 : BitVec 1 := Scalar.andi v3259 v3256
  let v3261 : BitVec 32 := Scalar.addi v3255 v3254
  let v3262 : BitVec 32 := Scalar.select v3260 v3261 v3255
  let v3263 : BitVec 1 := Scalar.cmpi .ne v3262 v2
  let v3264 : BitVec 32 := Scalar.extui v3263
  let c0_i32_1702 : BitVec 32 := 0#32
  let v3265 : BitVec 1 := Scalar.cmpi .ne v3264 c0_i32_1702
  v3265

def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond84 (d0 : Dev nD) : BitVec 1 :=
  let c19_i32_1711 : BitVec 32 := 19#32
  let c8_i32_1710 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1704 : BitVec 32 := 0#32
  let v3267 : BitVec 1 := Scalar.cmpi .sgt v2 c0_i32_1704
  let v3268 : BitVec 32 := Scalar.extui v3267
  let c0_i32_1705 : BitVec 32 := 0#32
  let v3269 : BitVec 1 := Scalar.cmpi .slt v2 c0_i32_1705
  let v3270 : BitVec 32 := Scalar.extui v3269
  let v3271 : BitVec 32 := Scalar.subi v3268 v3270
  let c8_i32_1703 : BitVec 32 := 8#32
  let c0_i32_1706 : BitVec 32 := 0#32
  let v3272 : BitVec 1 := Scalar.cmpi .sgt c8_i32_1703 c0_i32_1706
  let v3273 : BitVec 32 := Scalar.extui v3272
  let c0_i32_1707 : BitVec 32 := 0#32
  let v3274 : BitVec 1 := Scalar.cmpi .slt c8_i32_1703 c0_i32_1707
  let v3275 : BitVec 32 := Scalar.extui v3274
  let v3276 : BitVec 32 := Scalar.subi v3273 v3275
  let v3277 : BitVec 1 := Scalar.cmpi .ne v3271 v3276
  let v3278 : BitVec 32 := Scalar.remsi v2 c8_i32_1703
  let c0_i32_1708 : BitVec 32 := 0#32
  let v3279 : BitVec 1 := Scalar.cmpi .ne v3278 c0_i32_1708
  let v3280 : BitVec 1 := Scalar.andi v3277 v3279
  let v3266 : BitVec 32 := Scalar.divsi v2 c8_i32_1703
  let c1_i32_1709 : BitVec 32 := 1#32
  let v3281 : BitVec 32 := Scalar.subi v3266 c1_i32_1709
  let v3282 : BitVec 32 := Scalar.select v3280 v3281 v3266
  let v3283 : BitVec 32 := Scalar.muli c8_i32_1710 v3282
  let v3284 : BitVec 32 := Scalar.addi c19_i32_1711 v3283
  let c32_i32_1712 : BitVec 32 := 32#32
  let c0_i32_1713 : BitVec 32 := 0#32
  let v3285 : BitVec 1 := Scalar.cmpi .eq c32_i32_1712 c0_i32_1713
  let c1_i32_1714 : BitVec 32 := 1#32
  let v3286 : BitVec 32 := Scalar.select v3285 c1_i32_1714 c32_i32_1712
  let v3287 : BitVec 32 := Scalar.remsi v3284 v3286
  let c0_i32_1716 : BitVec 32 := 0#32
  let v3289 : BitVec 1 := Scalar.cmpi .slt v3287 c0_i32_1716
  let c0_i32_1717 : BitVec 32 := 0#32
  let v3290 : BitVec 1 := Scalar.cmpi .slt v3286 c0_i32_1717
  let v3291 : BitVec 1 := Scalar.xori v3289 v3290
  let c0_i32_1715 : BitVec 32 := 0#32
  let v3288 : BitVec 1 := Scalar.cmpi .ne v3287 c0_i32_1715
  let v3292 : BitVec 1 := Scalar.andi v3291 v3288
  let v3293 : BitVec 32 := Scalar.addi v3287 v3286
  let v3294 : BitVec 32 := Scalar.select v3292 v3293 v3287
  let v3295 : BitVec 1 := Scalar.cmpi .ne v3294 v2
  let v3296 : BitVec 32 := Scalar.extui v3295
  let c0_i32_1718 : BitVec 32 := 0#32
  let v3297 : BitVec 1 := Scalar.cmpi .ne v3296 c0_i32_1718
  v3297

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond85 (d0 : Dev nD) : BitVec 1 :=
  let c20_i32_1727 : BitVec 32 := 20#32
  let c8_i32_1726 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1720 : BitVec 32 := 0#32
  let v3299 : BitVec 1 := Scalar.cmpi .sgt v2 c0_i32_1720
  let v3300 : BitVec 32 := Scalar.extui v3299
  let c0_i32_1721 : BitVec 32 := 0#32
  let v3301 : BitVec 1 := Scalar.cmpi .slt v2 c0_i32_1721
  let v3302 : BitVec 32 := Scalar.extui v3301
  let v3303 : BitVec 32 := Scalar.subi v3300 v3302
  let c8_i32_1719 : BitVec 32 := 8#32
  let c0_i32_1722 : BitVec 32 := 0#32
  let v3304 : BitVec 1 := Scalar.cmpi .sgt c8_i32_1719 c0_i32_1722
  let v3305 : BitVec 32 := Scalar.extui v3304
  let c0_i32_1723 : BitVec 32 := 0#32
  let v3306 : BitVec 1 := Scalar.cmpi .slt c8_i32_1719 c0_i32_1723
  let v3307 : BitVec 32 := Scalar.extui v3306
  let v3308 : BitVec 32 := Scalar.subi v3305 v3307
  let v3309 : BitVec 1 := Scalar.cmpi .ne v3303 v3308
  let v3310 : BitVec 32 := Scalar.remsi v2 c8_i32_1719
  let c0_i32_1724 : BitVec 32 := 0#32
  let v3311 : BitVec 1 := Scalar.cmpi .ne v3310 c0_i32_1724
  let v3312 : BitVec 1 := Scalar.andi v3309 v3311
  let v3298 : BitVec 32 := Scalar.divsi v2 c8_i32_1719
  let c1_i32_1725 : BitVec 32 := 1#32
  let v3313 : BitVec 32 := Scalar.subi v3298 c1_i32_1725
  let v3314 : BitVec 32 := Scalar.select v3312 v3313 v3298
  let v3315 : BitVec 32 := Scalar.muli c8_i32_1726 v3314
  let v3316 : BitVec 32 := Scalar.addi c20_i32_1727 v3315
  let c32_i32_1728 : BitVec 32 := 32#32
  let c0_i32_1729 : BitVec 32 := 0#32
  let v3317 : BitVec 1 := Scalar.cmpi .eq c32_i32_1728 c0_i32_1729
  let c1_i32_1730 : BitVec 32 := 1#32
  let v3318 : BitVec 32 := Scalar.select v3317 c1_i32_1730 c32_i32_1728
  let v3319 : BitVec 32 := Scalar.remsi v3316 v3318
  let c0_i32_1732 : BitVec 32 := 0#32
  let v3321 : BitVec 1 := Scalar.cmpi .slt v3319 c0_i32_1732
  let c0_i32_1733 : BitVec 32 := 0#32
  let v3322 : BitVec 1 := Scalar.cmpi .slt v3318 c0_i32_1733
  let v3323 : BitVec 1 := Scalar.xori v3321 v3322
  let c0_i32_1731 : BitVec 32 := 0#32
  let v3320 : BitVec 1 := Scalar.cmpi .ne v3319 c0_i32_1731
  let v3324 : BitVec 1 := Scalar.andi v3323 v3320
  let v3325 : BitVec 32 := Scalar.addi v3319 v3318
  let v3326 : BitVec 32 := Scalar.select v3324 v3325 v3319
  let v3327 : BitVec 1 := Scalar.cmpi .ne v3326 v2
  let v3328 : BitVec 32 := Scalar.extui v3327
  let c0_i32_1734 : BitVec 32 := 0#32
  let v3329 : BitVec 1 := Scalar.cmpi .ne v3328 c0_i32_1734
  v3329

def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond86 (d0 : Dev nD) : BitVec 1 :=
  let c21_i32_1743 : BitVec 32 := 21#32
  let c8_i32_1742 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1736 : BitVec 32 := 0#32
  let v3331 : BitVec 1 := Scalar.cmpi .sgt v2 c0_i32_1736
  let v3332 : BitVec 32 := Scalar.extui v3331
  let c0_i32_1737 : BitVec 32 := 0#32
  let v3333 : BitVec 1 := Scalar.cmpi .slt v2 c0_i32_1737
  let v3334 : BitVec 32 := Scalar.extui v3333
  let v3335 : BitVec 32 := Scalar.subi v3332 v3334
  let c8_i32_1735 : BitVec 32 := 8#32
  let c0_i32_1738 : BitVec 32 := 0#32
  let v3336 : BitVec 1 := Scalar.cmpi .sgt c8_i32_1735 c0_i32_1738
  let v3337 : BitVec 32 := Scalar.extui v3336
  let c0_i32_1739 : BitVec 32 := 0#32
  let v3338 : BitVec 1 := Scalar.cmpi .slt c8_i32_1735 c0_i32_1739
  let v3339 : BitVec 32 := Scalar.extui v3338
  let v3340 : BitVec 32 := Scalar.subi v3337 v3339
  let v3341 : BitVec 1 := Scalar.cmpi .ne v3335 v3340
  let v3342 : BitVec 32 := Scalar.remsi v2 c8_i32_1735
  let c0_i32_1740 : BitVec 32 := 0#32
  let v3343 : BitVec 1 := Scalar.cmpi .ne v3342 c0_i32_1740
  let v3344 : BitVec 1 := Scalar.andi v3341 v3343
  let v3330 : BitVec 32 := Scalar.divsi v2 c8_i32_1735
  let c1_i32_1741 : BitVec 32 := 1#32
  let v3345 : BitVec 32 := Scalar.subi v3330 c1_i32_1741
  let v3346 : BitVec 32 := Scalar.select v3344 v3345 v3330
  let v3347 : BitVec 32 := Scalar.muli c8_i32_1742 v3346
  let v3348 : BitVec 32 := Scalar.addi c21_i32_1743 v3347
  let c32_i32_1744 : BitVec 32 := 32#32
  let c0_i32_1745 : BitVec 32 := 0#32
  let v3349 : BitVec 1 := Scalar.cmpi .eq c32_i32_1744 c0_i32_1745
  let c1_i32_1746 : BitVec 32 := 1#32
  let v3350 : BitVec 32 := Scalar.select v3349 c1_i32_1746 c32_i32_1744
  let v3351 : BitVec 32 := Scalar.remsi v3348 v3350
  let c0_i32_1748 : BitVec 32 := 0#32
  let v3353 : BitVec 1 := Scalar.cmpi .slt v3351 c0_i32_1748
  let c0_i32_1749 : BitVec 32 := 0#32
  let v3354 : BitVec 1 := Scalar.cmpi .slt v3350 c0_i32_1749
  let v3355 : BitVec 1 := Scalar.xori v3353 v3354
  let c0_i32_1747 : BitVec 32 := 0#32
  let v3352 : BitVec 1 := Scalar.cmpi .ne v3351 c0_i32_1747
  let v3356 : BitVec 1 := Scalar.andi v3355 v3352
  let v3357 : BitVec 32 := Scalar.addi v3351 v3350
  let v3358 : BitVec 32 := Scalar.select v3356 v3357 v3351
  let v3359 : BitVec 1 := Scalar.cmpi .ne v3358 v2
  let v3360 : BitVec 32 := Scalar.extui v3359
  let c0_i32_1750 : BitVec 32 := 0#32
  let v3361 : BitVec 1 := Scalar.cmpi .ne v3360 c0_i32_1750
  v3361

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond87 (d0 : Dev nD) : BitVec 1 :=
  let c22_i32_1759 : BitVec 32 := 22#32
  let c8_i32_1758 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1752 : BitVec 32 := 0#32
  let v3363 : BitVec 1 := Scalar.cmpi .sgt v2 c0_i32_1752
  let v3364 : BitVec 32 := Scalar.extui v3363
  let c0_i32_1753 : BitVec 32 := 0#32
  let v3365 : BitVec 1 := Scalar.cmpi .slt v2 c0_i32_1753
  let v3366 : BitVec 32 := Scalar.extui v3365
  let v3367 : BitVec 32 := Scalar.subi v3364 v3366
  let c8_i32_1751 : BitVec 32 := 8#32
  let c0_i32_1754 : BitVec 32 := 0#32
  let v3368 : BitVec 1 := Scalar.cmpi .sgt c8_i32_1751 c0_i32_1754
  let v3369 : BitVec 32 := Scalar.extui v3368
  let c0_i32_1755 : BitVec 32 := 0#32
  let v3370 : BitVec 1 := Scalar.cmpi .slt c8_i32_1751 c0_i32_1755
  let v3371 : BitVec 32 := Scalar.extui v3370
  let v3372 : BitVec 32 := Scalar.subi v3369 v3371
  let v3373 : BitVec 1 := Scalar.cmpi .ne v3367 v3372
  let v3374 : BitVec 32 := Scalar.remsi v2 c8_i32_1751
  let c0_i32_1756 : BitVec 32 := 0#32
  let v3375 : BitVec 1 := Scalar.cmpi .ne v3374 c0_i32_1756
  let v3376 : BitVec 1 := Scalar.andi v3373 v3375
  let v3362 : BitVec 32 := Scalar.divsi v2 c8_i32_1751
  let c1_i32_1757 : BitVec 32 := 1#32
  let v3377 : BitVec 32 := Scalar.subi v3362 c1_i32_1757
  let v3378 : BitVec 32 := Scalar.select v3376 v3377 v3362
  let v3379 : BitVec 32 := Scalar.muli c8_i32_1758 v3378
  let v3380 : BitVec 32 := Scalar.addi c22_i32_1759 v3379
  let c32_i32_1760 : BitVec 32 := 32#32
  let c0_i32_1761 : BitVec 32 := 0#32
  let v3381 : BitVec 1 := Scalar.cmpi .eq c32_i32_1760 c0_i32_1761
  let c1_i32_1762 : BitVec 32 := 1#32
  let v3382 : BitVec 32 := Scalar.select v3381 c1_i32_1762 c32_i32_1760
  let v3383 : BitVec 32 := Scalar.remsi v3380 v3382
  let c0_i32_1764 : BitVec 32 := 0#32
  let v3385 : BitVec 1 := Scalar.cmpi .slt v3383 c0_i32_1764
  let c0_i32_1765 : BitVec 32 := 0#32
  let v3386 : BitVec 1 := Scalar.cmpi .slt v3382 c0_i32_1765
  let v3387 : BitVec 1 := Scalar.xori v3385 v3386
  let c0_i32_1763 : BitVec 32 := 0#32
  let v3384 : BitVec 1 := Scalar.cmpi .ne v3383 c0_i32_1763
  let v3388 : BitVec 1 := Scalar.andi v3387 v3384
  let v3389 : BitVec 32 := Scalar.addi v3383 v3382
  let v3390 : BitVec 32 := Scalar.select v3388 v3389 v3383
  let v3391 : BitVec 1 := Scalar.cmpi .ne v3390 v2
  let v3392 : BitVec 32 := Scalar.extui v3391
  let c0_i32_1766 : BitVec 32 := 0#32
  let v3393 : BitVec 1 := Scalar.cmpi .ne v3392 c0_i32_1766
  v3393

def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond88 (d0 : Dev nD) : BitVec 1 :=
  let c23_i32_1775 : BitVec 32 := 23#32
  let c8_i32_1774 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1768 : BitVec 32 := 0#32
  let v3395 : BitVec 1 := Scalar.cmpi .sgt v2 c0_i32_1768
  let v3396 : BitVec 32 := Scalar.extui v3395
  let c0_i32_1769 : BitVec 32 := 0#32
  let v3397 : BitVec 1 := Scalar.cmpi .slt v2 c0_i32_1769
  let v3398 : BitVec 32 := Scalar.extui v3397
  let v3399 : BitVec 32 := Scalar.subi v3396 v3398
  let c8_i32_1767 : BitVec 32 := 8#32
  let c0_i32_1770 : BitVec 32 := 0#32
  let v3400 : BitVec 1 := Scalar.cmpi .sgt c8_i32_1767 c0_i32_1770
  let v3401 : BitVec 32 := Scalar.extui v3400
  let c0_i32_1771 : BitVec 32 := 0#32
  let v3402 : BitVec 1 := Scalar.cmpi .slt c8_i32_1767 c0_i32_1771
  let v3403 : BitVec 32 := Scalar.extui v3402
  let v3404 : BitVec 32 := Scalar.subi v3401 v3403
  let v3405 : BitVec 1 := Scalar.cmpi .ne v3399 v3404
  let v3406 : BitVec 32 := Scalar.remsi v2 c8_i32_1767
  let c0_i32_1772 : BitVec 32 := 0#32
  let v3407 : BitVec 1 := Scalar.cmpi .ne v3406 c0_i32_1772
  let v3408 : BitVec 1 := Scalar.andi v3405 v3407
  let v3394 : BitVec 32 := Scalar.divsi v2 c8_i32_1767
  let c1_i32_1773 : BitVec 32 := 1#32
  let v3409 : BitVec 32 := Scalar.subi v3394 c1_i32_1773
  let v3410 : BitVec 32 := Scalar.select v3408 v3409 v3394
  let v3411 : BitVec 32 := Scalar.muli c8_i32_1774 v3410
  let v3412 : BitVec 32 := Scalar.addi c23_i32_1775 v3411
  let c32_i32_1776 : BitVec 32 := 32#32
  let c0_i32_1777 : BitVec 32 := 0#32
  let v3413 : BitVec 1 := Scalar.cmpi .eq c32_i32_1776 c0_i32_1777
  let c1_i32_1778 : BitVec 32 := 1#32
  let v3414 : BitVec 32 := Scalar.select v3413 c1_i32_1778 c32_i32_1776
  let v3415 : BitVec 32 := Scalar.remsi v3412 v3414
  let c0_i32_1780 : BitVec 32 := 0#32
  let v3417 : BitVec 1 := Scalar.cmpi .slt v3415 c0_i32_1780
  let c0_i32_1781 : BitVec 32 := 0#32
  let v3418 : BitVec 1 := Scalar.cmpi .slt v3414 c0_i32_1781
  let v3419 : BitVec 1 := Scalar.xori v3417 v3418
  let c0_i32_1779 : BitVec 32 := 0#32
  let v3416 : BitVec 1 := Scalar.cmpi .ne v3415 c0_i32_1779
  let v3420 : BitVec 1 := Scalar.andi v3419 v3416
  let v3421 : BitVec 32 := Scalar.addi v3415 v3414
  let v3422 : BitVec 32 := Scalar.select v3420 v3421 v3415
  let v3423 : BitVec 1 := Scalar.cmpi .ne v3422 v2
  let v3424 : BitVec 32 := Scalar.extui v3423
  let c0_i32_1782 : BitVec 32 := 0#32
  let v3425 : BitVec 1 := Scalar.cmpi .ne v3424 c0_i32_1782
  v3425

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond89 (d0 : Dev nD) : BitVec 1 :=
  let c24_i32_1791 : BitVec 32 := 24#32
  let c8_i32_1790 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1784 : BitVec 32 := 0#32
  let v3427 : BitVec 1 := Scalar.cmpi .sgt v2 c0_i32_1784
  let v3428 : BitVec 32 := Scalar.extui v3427
  let c0_i32_1785 : BitVec 32 := 0#32
  let v3429 : BitVec 1 := Scalar.cmpi .slt v2 c0_i32_1785
  let v3430 : BitVec 32 := Scalar.extui v3429
  let v3431 : BitVec 32 := Scalar.subi v3428 v3430
  let c8_i32_1783 : BitVec 32 := 8#32
  let c0_i32_1786 : BitVec 32 := 0#32
  let v3432 : BitVec 1 := Scalar.cmpi .sgt c8_i32_1783 c0_i32_1786
  let v3433 : BitVec 32 := Scalar.extui v3432
  let c0_i32_1787 : BitVec 32 := 0#32
  let v3434 : BitVec 1 := Scalar.cmpi .slt c8_i32_1783 c0_i32_1787
  let v3435 : BitVec 32 := Scalar.extui v3434
  let v3436 : BitVec 32 := Scalar.subi v3433 v3435
  let v3437 : BitVec 1 := Scalar.cmpi .ne v3431 v3436
  let v3438 : BitVec 32 := Scalar.remsi v2 c8_i32_1783
  let c0_i32_1788 : BitVec 32 := 0#32
  let v3439 : BitVec 1 := Scalar.cmpi .ne v3438 c0_i32_1788
  let v3440 : BitVec 1 := Scalar.andi v3437 v3439
  let v3426 : BitVec 32 := Scalar.divsi v2 c8_i32_1783
  let c1_i32_1789 : BitVec 32 := 1#32
  let v3441 : BitVec 32 := Scalar.subi v3426 c1_i32_1789
  let v3442 : BitVec 32 := Scalar.select v3440 v3441 v3426
  let v3443 : BitVec 32 := Scalar.muli c8_i32_1790 v3442
  let v3444 : BitVec 32 := Scalar.addi c24_i32_1791 v3443
  let c32_i32_1792 : BitVec 32 := 32#32
  let c0_i32_1793 : BitVec 32 := 0#32
  let v3445 : BitVec 1 := Scalar.cmpi .eq c32_i32_1792 c0_i32_1793
  let c1_i32_1794 : BitVec 32 := 1#32
  let v3446 : BitVec 32 := Scalar.select v3445 c1_i32_1794 c32_i32_1792
  let v3447 : BitVec 32 := Scalar.remsi v3444 v3446
  let c0_i32_1796 : BitVec 32 := 0#32
  let v3449 : BitVec 1 := Scalar.cmpi .slt v3447 c0_i32_1796
  let c0_i32_1797 : BitVec 32 := 0#32
  let v3450 : BitVec 1 := Scalar.cmpi .slt v3446 c0_i32_1797
  let v3451 : BitVec 1 := Scalar.xori v3449 v3450
  let c0_i32_1795 : BitVec 32 := 0#32
  let v3448 : BitVec 1 := Scalar.cmpi .ne v3447 c0_i32_1795
  let v3452 : BitVec 1 := Scalar.andi v3451 v3448
  let v3453 : BitVec 32 := Scalar.addi v3447 v3446
  let v3454 : BitVec 32 := Scalar.select v3452 v3453 v3447
  let v3455 : BitVec 1 := Scalar.cmpi .ne v3454 v2
  let v3456 : BitVec 32 := Scalar.extui v3455
  let c0_i32_1798 : BitVec 32 := 0#32
  let v3457 : BitVec 1 := Scalar.cmpi .ne v3456 c0_i32_1798
  v3457

def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond90 (d0 : Dev nD) : BitVec 1 :=
  let c25_i32_1807 : BitVec 32 := 25#32
  let c8_i32_1806 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1800 : BitVec 32 := 0#32
  let v3459 : BitVec 1 := Scalar.cmpi .sgt v2 c0_i32_1800
  let v3460 : BitVec 32 := Scalar.extui v3459
  let c0_i32_1801 : BitVec 32 := 0#32
  let v3461 : BitVec 1 := Scalar.cmpi .slt v2 c0_i32_1801
  let v3462 : BitVec 32 := Scalar.extui v3461
  let v3463 : BitVec 32 := Scalar.subi v3460 v3462
  let c8_i32_1799 : BitVec 32 := 8#32
  let c0_i32_1802 : BitVec 32 := 0#32
  let v3464 : BitVec 1 := Scalar.cmpi .sgt c8_i32_1799 c0_i32_1802
  let v3465 : BitVec 32 := Scalar.extui v3464
  let c0_i32_1803 : BitVec 32 := 0#32
  let v3466 : BitVec 1 := Scalar.cmpi .slt c8_i32_1799 c0_i32_1803
  let v3467 : BitVec 32 := Scalar.extui v3466
  let v3468 : BitVec 32 := Scalar.subi v3465 v3467
  let v3469 : BitVec 1 := Scalar.cmpi .ne v3463 v3468
  let v3470 : BitVec 32 := Scalar.remsi v2 c8_i32_1799
  let c0_i32_1804 : BitVec 32 := 0#32
  let v3471 : BitVec 1 := Scalar.cmpi .ne v3470 c0_i32_1804
  let v3472 : BitVec 1 := Scalar.andi v3469 v3471
  let v3458 : BitVec 32 := Scalar.divsi v2 c8_i32_1799
  let c1_i32_1805 : BitVec 32 := 1#32
  let v3473 : BitVec 32 := Scalar.subi v3458 c1_i32_1805
  let v3474 : BitVec 32 := Scalar.select v3472 v3473 v3458
  let v3475 : BitVec 32 := Scalar.muli c8_i32_1806 v3474
  let v3476 : BitVec 32 := Scalar.addi c25_i32_1807 v3475
  let c32_i32_1808 : BitVec 32 := 32#32
  let c0_i32_1809 : BitVec 32 := 0#32
  let v3477 : BitVec 1 := Scalar.cmpi .eq c32_i32_1808 c0_i32_1809
  let c1_i32_1810 : BitVec 32 := 1#32
  let v3478 : BitVec 32 := Scalar.select v3477 c1_i32_1810 c32_i32_1808
  let v3479 : BitVec 32 := Scalar.remsi v3476 v3478
  let c0_i32_1812 : BitVec 32 := 0#32
  let v3481 : BitVec 1 := Scalar.cmpi .slt v3479 c0_i32_1812
  let c0_i32_1813 : BitVec 32 := 0#32
  let v3482 : BitVec 1 := Scalar.cmpi .slt v3478 c0_i32_1813
  let v3483 : BitVec 1 := Scalar.xori v3481 v3482
  let c0_i32_1811 : BitVec 32 := 0#32
  let v3480 : BitVec 1 := Scalar.cmpi .ne v3479 c0_i32_1811
  let v3484 : BitVec 1 := Scalar.andi v3483 v3480
  let v3485 : BitVec 32 := Scalar.addi v3479 v3478
  let v3486 : BitVec 32 := Scalar.select v3484 v3485 v3479
  let v3487 : BitVec 1 := Scalar.cmpi .ne v3486 v2
  let v3488 : BitVec 32 := Scalar.extui v3487
  let c0_i32_1814 : BitVec 32 := 0#32
  let v3489 : BitVec 1 := Scalar.cmpi .ne v3488 c0_i32_1814
  v3489

def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond91 (d0 : Dev nD) : BitVec 1 :=
  let c26_i32_1823 : BitVec 32 := 26#32
  let c8_i32_1822 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1816 : BitVec 32 := 0#32
  let v3491 : BitVec 1 := Scalar.cmpi .sgt v2 c0_i32_1816
  let v3492 : BitVec 32 := Scalar.extui v3491
  let c0_i32_1817 : BitVec 32 := 0#32
  let v3493 : BitVec 1 := Scalar.cmpi .slt v2 c0_i32_1817
  let v3494 : BitVec 32 := Scalar.extui v3493
  let v3495 : BitVec 32 := Scalar.subi v3492 v3494
  let c8_i32_1815 : BitVec 32 := 8#32
  let c0_i32_1818 : BitVec 32 := 0#32
  let v3496 : BitVec 1 := Scalar.cmpi .sgt c8_i32_1815 c0_i32_1818
  let v3497 : BitVec 32 := Scalar.extui v3496
  let c0_i32_1819 : BitVec 32 := 0#32
  let v3498 : BitVec 1 := Scalar.cmpi .slt c8_i32_1815 c0_i32_1819
  let v3499 : BitVec 32 := Scalar.extui v3498
  let v3500 : BitVec 32 := Scalar.subi v3497 v3499
  let v3501 : BitVec 1 := Scalar.cmpi .ne v3495 v3500
  let v3502 : BitVec 32 := Scalar.remsi v2 c8_i32_1815
  let c0_i32_1820 : BitVec 32 := 0#32
  let v3503 : BitVec 1 := Scalar.cmpi .ne v3502 c0_i32_1820
  let v3504 : BitVec 1 := Scalar.andi v3501 v3503
  let v3490 : BitVec 32 := Scalar.divsi v2 c8_i32_1815
  let c1_i32_1821 : BitVec 32 := 1#32
  let v3505 : BitVec 32 := Scalar.subi v3490 c1_i32_1821
  let v3506 : BitVec 32 := Scalar.select v3504 v3505 v3490
  let v3507 : BitVec 32 := Scalar.muli c8_i32_1822 v3506
  let v3508 : BitVec 32 := Scalar.addi c26_i32_1823 v3507
  let c32_i32_1824 : BitVec 32 := 32#32
  let c0_i32_1825 : BitVec 32 := 0#32
  let v3509 : BitVec 1 := Scalar.cmpi .eq c32_i32_1824 c0_i32_1825
  let c1_i32_1826 : BitVec 32 := 1#32
  let v3510 : BitVec 32 := Scalar.select v3509 c1_i32_1826 c32_i32_1824
  let v3511 : BitVec 32 := Scalar.remsi v3508 v3510
  let c0_i32_1828 : BitVec 32 := 0#32
  let v3513 : BitVec 1 := Scalar.cmpi .slt v3511 c0_i32_1828
  let c0_i32_1829 : BitVec 32 := 0#32
  let v3514 : BitVec 1 := Scalar.cmpi .slt v3510 c0_i32_1829
  let v3515 : BitVec 1 := Scalar.xori v3513 v3514
  let c0_i32_1827 : BitVec 32 := 0#32
  let v3512 : BitVec 1 := Scalar.cmpi .ne v3511 c0_i32_1827
  let v3516 : BitVec 1 := Scalar.andi v3515 v3512
  let v3517 : BitVec 32 := Scalar.addi v3511 v3510
  let v3518 : BitVec 32 := Scalar.select v3516 v3517 v3511
  let v3519 : BitVec 1 := Scalar.cmpi .ne v3518 v2
  let v3520 : BitVec 32 := Scalar.extui v3519
  let c0_i32_1830 : BitVec 32 := 0#32
  let v3521 : BitVec 1 := Scalar.cmpi .ne v3520 c0_i32_1830
  v3521

def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond92 (d0 : Dev nD) : BitVec 1 :=
  let c27_i32_1839 : BitVec 32 := 27#32
  let c8_i32_1838 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1832 : BitVec 32 := 0#32
  let v3523 : BitVec 1 := Scalar.cmpi .sgt v2 c0_i32_1832
  let v3524 : BitVec 32 := Scalar.extui v3523
  let c0_i32_1833 : BitVec 32 := 0#32
  let v3525 : BitVec 1 := Scalar.cmpi .slt v2 c0_i32_1833
  let v3526 : BitVec 32 := Scalar.extui v3525
  let v3527 : BitVec 32 := Scalar.subi v3524 v3526
  let c8_i32_1831 : BitVec 32 := 8#32
  let c0_i32_1834 : BitVec 32 := 0#32
  let v3528 : BitVec 1 := Scalar.cmpi .sgt c8_i32_1831 c0_i32_1834
  let v3529 : BitVec 32 := Scalar.extui v3528
  let c0_i32_1835 : BitVec 32 := 0#32
  let v3530 : BitVec 1 := Scalar.cmpi .slt c8_i32_1831 c0_i32_1835
  let v3531 : BitVec 32 := Scalar.extui v3530
  let v3532 : BitVec 32 := Scalar.subi v3529 v3531
  let v3533 : BitVec 1 := Scalar.cmpi .ne v3527 v3532
  let v3534 : BitVec 32 := Scalar.remsi v2 c8_i32_1831
  let c0_i32_1836 : BitVec 32 := 0#32
  let v3535 : BitVec 1 := Scalar.cmpi .ne v3534 c0_i32_1836
  let v3536 : BitVec 1 := Scalar.andi v3533 v3535
  let v3522 : BitVec 32 := Scalar.divsi v2 c8_i32_1831
  let c1_i32_1837 : BitVec 32 := 1#32
  let v3537 : BitVec 32 := Scalar.subi v3522 c1_i32_1837
  let v3538 : BitVec 32 := Scalar.select v3536 v3537 v3522
  let v3539 : BitVec 32 := Scalar.muli c8_i32_1838 v3538
  let v3540 : BitVec 32 := Scalar.addi c27_i32_1839 v3539
  let c32_i32_1840 : BitVec 32 := 32#32
  let c0_i32_1841 : BitVec 32 := 0#32
  let v3541 : BitVec 1 := Scalar.cmpi .eq c32_i32_1840 c0_i32_1841
  let c1_i32_1842 : BitVec 32 := 1#32
  let v3542 : BitVec 32 := Scalar.select v3541 c1_i32_1842 c32_i32_1840
  let v3543 : BitVec 32 := Scalar.remsi v3540 v3542
  let c0_i32_1844 : BitVec 32 := 0#32
  let v3545 : BitVec 1 := Scalar.cmpi .slt v3543 c0_i32_1844
  let c0_i32_1845 : BitVec 32 := 0#32
  let v3546 : BitVec 1 := Scalar.cmpi .slt v3542 c0_i32_1845
  let v3547 : BitVec 1 := Scalar.xori v3545 v3546
  let c0_i32_1843 : BitVec 32 := 0#32
  let v3544 : BitVec 1 := Scalar.cmpi .ne v3543 c0_i32_1843
  let v3548 : BitVec 1 := Scalar.andi v3547 v3544
  let v3549 : BitVec 32 := Scalar.addi v3543 v3542
  let v3550 : BitVec 32 := Scalar.select v3548 v3549 v3543
  let v3551 : BitVec 1 := Scalar.cmpi .ne v3550 v2
  let v3552 : BitVec 32 := Scalar.extui v3551
  let c0_i32_1846 : BitVec 32 := 0#32
  let v3553 : BitVec 1 := Scalar.cmpi .ne v3552 c0_i32_1846
  v3553

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond93 (d0 : Dev nD) : BitVec 1 :=
  let c28_i32_1855 : BitVec 32 := 28#32
  let c8_i32_1854 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1848 : BitVec 32 := 0#32
  let v3555 : BitVec 1 := Scalar.cmpi .sgt v2 c0_i32_1848
  let v3556 : BitVec 32 := Scalar.extui v3555
  let c0_i32_1849 : BitVec 32 := 0#32
  let v3557 : BitVec 1 := Scalar.cmpi .slt v2 c0_i32_1849
  let v3558 : BitVec 32 := Scalar.extui v3557
  let v3559 : BitVec 32 := Scalar.subi v3556 v3558
  let c8_i32_1847 : BitVec 32 := 8#32
  let c0_i32_1850 : BitVec 32 := 0#32
  let v3560 : BitVec 1 := Scalar.cmpi .sgt c8_i32_1847 c0_i32_1850
  let v3561 : BitVec 32 := Scalar.extui v3560
  let c0_i32_1851 : BitVec 32 := 0#32
  let v3562 : BitVec 1 := Scalar.cmpi .slt c8_i32_1847 c0_i32_1851
  let v3563 : BitVec 32 := Scalar.extui v3562
  let v3564 : BitVec 32 := Scalar.subi v3561 v3563
  let v3565 : BitVec 1 := Scalar.cmpi .ne v3559 v3564
  let v3566 : BitVec 32 := Scalar.remsi v2 c8_i32_1847
  let c0_i32_1852 : BitVec 32 := 0#32
  let v3567 : BitVec 1 := Scalar.cmpi .ne v3566 c0_i32_1852
  let v3568 : BitVec 1 := Scalar.andi v3565 v3567
  let v3554 : BitVec 32 := Scalar.divsi v2 c8_i32_1847
  let c1_i32_1853 : BitVec 32 := 1#32
  let v3569 : BitVec 32 := Scalar.subi v3554 c1_i32_1853
  let v3570 : BitVec 32 := Scalar.select v3568 v3569 v3554
  let v3571 : BitVec 32 := Scalar.muli c8_i32_1854 v3570
  let v3572 : BitVec 32 := Scalar.addi c28_i32_1855 v3571
  let c32_i32_1856 : BitVec 32 := 32#32
  let c0_i32_1857 : BitVec 32 := 0#32
  let v3573 : BitVec 1 := Scalar.cmpi .eq c32_i32_1856 c0_i32_1857
  let c1_i32_1858 : BitVec 32 := 1#32
  let v3574 : BitVec 32 := Scalar.select v3573 c1_i32_1858 c32_i32_1856
  let v3575 : BitVec 32 := Scalar.remsi v3572 v3574
  let c0_i32_1860 : BitVec 32 := 0#32
  let v3577 : BitVec 1 := Scalar.cmpi .slt v3575 c0_i32_1860
  let c0_i32_1861 : BitVec 32 := 0#32
  let v3578 : BitVec 1 := Scalar.cmpi .slt v3574 c0_i32_1861
  let v3579 : BitVec 1 := Scalar.xori v3577 v3578
  let c0_i32_1859 : BitVec 32 := 0#32
  let v3576 : BitVec 1 := Scalar.cmpi .ne v3575 c0_i32_1859
  let v3580 : BitVec 1 := Scalar.andi v3579 v3576
  let v3581 : BitVec 32 := Scalar.addi v3575 v3574
  let v3582 : BitVec 32 := Scalar.select v3580 v3581 v3575
  let v3583 : BitVec 1 := Scalar.cmpi .ne v3582 v2
  let v3584 : BitVec 32 := Scalar.extui v3583
  let c0_i32_1862 : BitVec 32 := 0#32
  let v3585 : BitVec 1 := Scalar.cmpi .ne v3584 c0_i32_1862
  v3585

def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond94 (d0 : Dev nD) : BitVec 1 :=
  let c29_i32_1871 : BitVec 32 := 29#32
  let c8_i32_1870 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1864 : BitVec 32 := 0#32
  let v3587 : BitVec 1 := Scalar.cmpi .sgt v2 c0_i32_1864
  let v3588 : BitVec 32 := Scalar.extui v3587
  let c0_i32_1865 : BitVec 32 := 0#32
  let v3589 : BitVec 1 := Scalar.cmpi .slt v2 c0_i32_1865
  let v3590 : BitVec 32 := Scalar.extui v3589
  let v3591 : BitVec 32 := Scalar.subi v3588 v3590
  let c8_i32_1863 : BitVec 32 := 8#32
  let c0_i32_1866 : BitVec 32 := 0#32
  let v3592 : BitVec 1 := Scalar.cmpi .sgt c8_i32_1863 c0_i32_1866
  let v3593 : BitVec 32 := Scalar.extui v3592
  let c0_i32_1867 : BitVec 32 := 0#32
  let v3594 : BitVec 1 := Scalar.cmpi .slt c8_i32_1863 c0_i32_1867
  let v3595 : BitVec 32 := Scalar.extui v3594
  let v3596 : BitVec 32 := Scalar.subi v3593 v3595
  let v3597 : BitVec 1 := Scalar.cmpi .ne v3591 v3596
  let v3598 : BitVec 32 := Scalar.remsi v2 c8_i32_1863
  let c0_i32_1868 : BitVec 32 := 0#32
  let v3599 : BitVec 1 := Scalar.cmpi .ne v3598 c0_i32_1868
  let v3600 : BitVec 1 := Scalar.andi v3597 v3599
  let v3586 : BitVec 32 := Scalar.divsi v2 c8_i32_1863
  let c1_i32_1869 : BitVec 32 := 1#32
  let v3601 : BitVec 32 := Scalar.subi v3586 c1_i32_1869
  let v3602 : BitVec 32 := Scalar.select v3600 v3601 v3586
  let v3603 : BitVec 32 := Scalar.muli c8_i32_1870 v3602
  let v3604 : BitVec 32 := Scalar.addi c29_i32_1871 v3603
  let c32_i32_1872 : BitVec 32 := 32#32
  let c0_i32_1873 : BitVec 32 := 0#32
  let v3605 : BitVec 1 := Scalar.cmpi .eq c32_i32_1872 c0_i32_1873
  let c1_i32_1874 : BitVec 32 := 1#32
  let v3606 : BitVec 32 := Scalar.select v3605 c1_i32_1874 c32_i32_1872
  let v3607 : BitVec 32 := Scalar.remsi v3604 v3606
  let c0_i32_1876 : BitVec 32 := 0#32
  let v3609 : BitVec 1 := Scalar.cmpi .slt v3607 c0_i32_1876
  let c0_i32_1877 : BitVec 32 := 0#32
  let v3610 : BitVec 1 := Scalar.cmpi .slt v3606 c0_i32_1877
  let v3611 : BitVec 1 := Scalar.xori v3609 v3610
  let c0_i32_1875 : BitVec 32 := 0#32
  let v3608 : BitVec 1 := Scalar.cmpi .ne v3607 c0_i32_1875
  let v3612 : BitVec 1 := Scalar.andi v3611 v3608
  let v3613 : BitVec 32 := Scalar.addi v3607 v3606
  let v3614 : BitVec 32 := Scalar.select v3612 v3613 v3607
  let v3615 : BitVec 1 := Scalar.cmpi .ne v3614 v2
  let v3616 : BitVec 32 := Scalar.extui v3615
  let c0_i32_1878 : BitVec 32 := 0#32
  let v3617 : BitVec 1 := Scalar.cmpi .ne v3616 c0_i32_1878
  v3617

def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond95 (d0 : Dev nD) : BitVec 1 :=
  let c30_i32_1887 : BitVec 32 := 30#32
  let c8_i32_1886 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1880 : BitVec 32 := 0#32
  let v3619 : BitVec 1 := Scalar.cmpi .sgt v2 c0_i32_1880
  let v3620 : BitVec 32 := Scalar.extui v3619
  let c0_i32_1881 : BitVec 32 := 0#32
  let v3621 : BitVec 1 := Scalar.cmpi .slt v2 c0_i32_1881
  let v3622 : BitVec 32 := Scalar.extui v3621
  let v3623 : BitVec 32 := Scalar.subi v3620 v3622
  let c8_i32_1879 : BitVec 32 := 8#32
  let c0_i32_1882 : BitVec 32 := 0#32
  let v3624 : BitVec 1 := Scalar.cmpi .sgt c8_i32_1879 c0_i32_1882
  let v3625 : BitVec 32 := Scalar.extui v3624
  let c0_i32_1883 : BitVec 32 := 0#32
  let v3626 : BitVec 1 := Scalar.cmpi .slt c8_i32_1879 c0_i32_1883
  let v3627 : BitVec 32 := Scalar.extui v3626
  let v3628 : BitVec 32 := Scalar.subi v3625 v3627
  let v3629 : BitVec 1 := Scalar.cmpi .ne v3623 v3628
  let v3630 : BitVec 32 := Scalar.remsi v2 c8_i32_1879
  let c0_i32_1884 : BitVec 32 := 0#32
  let v3631 : BitVec 1 := Scalar.cmpi .ne v3630 c0_i32_1884
  let v3632 : BitVec 1 := Scalar.andi v3629 v3631
  let v3618 : BitVec 32 := Scalar.divsi v2 c8_i32_1879
  let c1_i32_1885 : BitVec 32 := 1#32
  let v3633 : BitVec 32 := Scalar.subi v3618 c1_i32_1885
  let v3634 : BitVec 32 := Scalar.select v3632 v3633 v3618
  let v3635 : BitVec 32 := Scalar.muli c8_i32_1886 v3634
  let v3636 : BitVec 32 := Scalar.addi c30_i32_1887 v3635
  let c32_i32_1888 : BitVec 32 := 32#32
  let c0_i32_1889 : BitVec 32 := 0#32
  let v3637 : BitVec 1 := Scalar.cmpi .eq c32_i32_1888 c0_i32_1889
  let c1_i32_1890 : BitVec 32 := 1#32
  let v3638 : BitVec 32 := Scalar.select v3637 c1_i32_1890 c32_i32_1888
  let v3639 : BitVec 32 := Scalar.remsi v3636 v3638
  let c0_i32_1892 : BitVec 32 := 0#32
  let v3641 : BitVec 1 := Scalar.cmpi .slt v3639 c0_i32_1892
  let c0_i32_1893 : BitVec 32 := 0#32
  let v3642 : BitVec 1 := Scalar.cmpi .slt v3638 c0_i32_1893
  let v3643 : BitVec 1 := Scalar.xori v3641 v3642
  let c0_i32_1891 : BitVec 32 := 0#32
  let v3640 : BitVec 1 := Scalar.cmpi .ne v3639 c0_i32_1891
  let v3644 : BitVec 1 := Scalar.andi v3643 v3640
  let v3645 : BitVec 32 := Scalar.addi v3639 v3638
  let v3646 : BitVec 32 := Scalar.select v3644 v3645 v3639
  let v3647 : BitVec 1 := Scalar.cmpi .ne v3646 v2
  let v3648 : BitVec 32 := Scalar.extui v3647
  let c0_i32_1894 : BitVec 32 := 0#32
  let v3649 : BitVec 1 := Scalar.cmpi .ne v3648 c0_i32_1894
  v3649

def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
def k0_cond96 (d0 : Dev nD) : BitVec 1 :=
  let c31_i32_1903 : BitVec 32 := 31#32
  let c8_i32_1902 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1896 : BitVec 32 := 0#32
  let v3651 : BitVec 1 := Scalar.cmpi .sgt v2 c0_i32_1896
  let v3652 : BitVec 32 := Scalar.extui v3651
  let c0_i32_1897 : BitVec 32 := 0#32
  let v3653 : BitVec 1 := Scalar.cmpi .slt v2 c0_i32_1897
  let v3654 : BitVec 32 := Scalar.extui v3653
  let v3655 : BitVec 32 := Scalar.subi v3652 v3654
  let c8_i32_1895 : BitVec 32 := 8#32
  let c0_i32_1898 : BitVec 32 := 0#32
  let v3656 : BitVec 1 := Scalar.cmpi .sgt c8_i32_1895 c0_i32_1898
  let v3657 : BitVec 32 := Scalar.extui v3656
  let c0_i32_1899 : BitVec 32 := 0#32
  let v3658 : BitVec 1 := Scalar.cmpi .slt c8_i32_1895 c0_i32_1899
  let v3659 : BitVec 32 := Scalar.extui v3658
  let v3660 : BitVec 32 := Scalar.subi v3657 v3659
  let v3661 : BitVec 1 := Scalar.cmpi .ne v3655 v3660
  let v3662 : BitVec 32 := Scalar.remsi v2 c8_i32_1895
  let c0_i32_1900 : BitVec 32 := 0#32
  let v3663 : BitVec 1 := Scalar.cmpi .ne v3662 c0_i32_1900
  let v3664 : BitVec 1 := Scalar.andi v3661 v3663
  let v3650 : BitVec 32 := Scalar.divsi v2 c8_i32_1895
  let c1_i32_1901 : BitVec 32 := 1#32
  let v3665 : BitVec 32 := Scalar.subi v3650 c1_i32_1901
  let v3666 : BitVec 32 := Scalar.select v3664 v3665 v3650
  let v3667 : BitVec 32 := Scalar.muli c8_i32_1902 v3666
  let v3668 : BitVec 32 := Scalar.addi c31_i32_1903 v3667
  let c32_i32_1904 : BitVec 32 := 32#32
  let c0_i32_1905 : BitVec 32 := 0#32
  let v3669 : BitVec 1 := Scalar.cmpi .eq c32_i32_1904 c0_i32_1905
  let c1_i32_1906 : BitVec 32 := 1#32
  let v3670 : BitVec 32 := Scalar.select v3669 c1_i32_1906 c32_i32_1904
  let v3671 : BitVec 32 := Scalar.remsi v3668 v3670
  let c0_i32_1908 : BitVec 32 := 0#32
  let v3673 : BitVec 1 := Scalar.cmpi .slt v3671 c0_i32_1908
  let c0_i32_1909 : BitVec 32 := 0#32
  let v3674 : BitVec 1 := Scalar.cmpi .slt v3670 c0_i32_1909
  let v3675 : BitVec 1 := Scalar.xori v3673 v3674
  let c0_i32_1907 : BitVec 32 := 0#32
  let v3672 : BitVec 1 := Scalar.cmpi .ne v3671 c0_i32_1907
  let v3676 : BitVec 1 := Scalar.andi v3675 v3672
  let v3677 : BitVec 32 := Scalar.addi v3671 v3670
  let v3678 : BitVec 32 := Scalar.select v3676 v3677 v3671
  let v3679 : BitVec 1 := Scalar.cmpi .ne v3678 v2
  let v3680 : BitVec 32 := Scalar.extui v3679
  let c0_i32_1910 : BitVec 32 := 0#32
  let v3681 : BitVec 1 := Scalar.cmpi .ne v3680 c0_i32_1910
  v3681

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1911 : BitVec 32 := 16#32
  let v3682 : BitVec 32 := Scalar.muli v2 c16_i32_1911
  let c0_i32_1915 : BitVec 32 := 0#32
  ![v3682.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x2 : Shape := ⟨2, ![1024, 2]⟩
abbrev S128x512x1024 : Shape := ⟨3, ![128, 512, 1024]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x512x1024 : Shape := ⟨3, ![1024, 512, 1024]⟩
abbrev S1024x1024 : Shape := ⟨2, ![1024, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x2, .i32⟩
  | .hbm, ⟨3, _⟩ => ⟨S128x512x1024, .bf16⟩
  | .hbm, ⟨4, _⟩ => ⟨S1024x512, .f32⟩
  | .hbm, ⟨5, _⟩ => ⟨S128x512x1024, .f32⟩
  | .hbm, ⟨6, _⟩ => ⟨S512x128, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x128, .f32⟩
  | .hbm, ⟨18, _⟩ => ⟨S1024x128, .f32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1024x1, .i32⟩
  | .hbm, ⟨40, _⟩ => ⟨S1024x2, .i32⟩
  | .hbm, ⟨41, _⟩ => ⟨S1024, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S1024x1, .i32⟩
  | .hbm, ⟨58, _⟩ => ⟨S1024x2, .i32⟩
  | .hbm, ⟨59, _⟩ => ⟨S1024, .f32⟩
  | .hbm, ⟨60, _⟩ => ⟨S1024, .f32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x512x1024, .f32⟩
  | .hbm, ⟨70, _⟩ => ⟨S1024x1024, .f32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S1024x1, .i32⟩
  | .hbm, ⟨79, _⟩ => ⟨S1024x512x1024, .f32⟩
  | .hbm, ⟨80, _⟩ => ⟨S1024x1024, .f32⟩
  | .hbm, ⟨81, _⟩ => ⟨S1024, .f32⟩
  | .hbm, ⟨82, _⟩ => ⟨S1024x1, .f32⟩
  | .hbm, ⟨83, _⟩ => ⟨S1024x1024, .f32⟩
  | .hbm, ⟨84, _⟩ => ⟨S1024x1024, .f32⟩
  | .hbm, ⟨85, _⟩ => ⟨S1024, .f32⟩
  | .hbm, ⟨86, _⟩ => ⟨S1024x1, .f32⟩
  | .hbm, ⟨87, _⟩ => ⟨S1024x1024, .f32⟩
  | .hbm, ⟨88, _⟩ => ⟨S1024x1024, .f32⟩
  | .hbm, ⟨89, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Protocol.lean ====
/-
# `Protocol`: the exchange of the expert results, as cells and a schedule

Every device signals the barrier of every other device, and its signal hands over the sixteen-row slot of its receive
buffer that belongs to the signalled device. After its barrier wait a device therefore holds its own slot of every
other receive buffer, and copies one sixteen-row block of its send buffer into each. The copy pays the receive cell
of its slot (the slot, with the block's contents) and the send cell of its block (the block back). Block `q` of device
`c` goes to device `dst c q`; the block of device `c` itself is copied inside the device.
One round, round 0, on every cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic
public import Idealize.ShloMosaic.Lib.Pointwise.Index

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Who talks to whom -/

/-- The `t`-th device after `c`. -/
def peer (c : Dev nD) (t : Fin 32) : Dev nD := ⟨(c.val + t.val) % 32, Nat.mod_lt _ (by decide)⟩
/-- The offset at which `d` lies after `c`. -/
def off (c : Dev nD) (d : Dev nD) : Fin 32 := ⟨(d.val + 32 - c.val) % 32, Nat.mod_lt _ (by decide)⟩
/-- The device block `q` of device `c`'s send buffer goes to. -/
def dst (c : Dev nD) (q : Fin 32) : Dev nD := ⟨(q.val + 8 * (c.val / 8)) % 32, Nat.mod_lt _ (by decide)⟩
/-- The block of device `s`'s send buffer that goes to `c`. -/
def blk (s : Dev nD) (c : Dev nD) : Fin 32 := ⟨(c.val + 32 - 8 * (s.val / 8)) % 32, Nat.mod_lt _ (by decide)⟩
/-- The block that stays: device `c`'s own. -/
def own (c : Dev nD) : Fin 32 := ⟨c.val % 8, lt_trans (Nat.mod_lt _ (by decide)) (by decide)⟩

theorem c_lt (c : Dev nD) : c.val < 32 := c.isLt

theorem off_peer (c : Dev nD) (t : Fin 32) : off c (peer c t) = t := by
  have := c_lt c; have := t.isLt; apply Fin.ext; simp only [off, peer]; omega
theorem peer_off (c d : Dev nD) : peer c (off c d) = d := by
  have := c_lt c; have := c_lt d; apply Fin.ext; simp only [off, peer]; omega
theorem blk_dst (c : Dev nD) (q : Fin 32) : blk c (dst c q) = q := by
  have := c_lt c; have := q.isLt; apply Fin.ext; simp only [blk, dst]; omega
theorem dst_blk (c d : Dev nD) : dst c (blk c d) = d := by
  have := c_lt c; have := c_lt d; apply Fin.ext; simp only [blk, dst]; omega
theorem dst_eq_self {c : Dev nD} {q : Fin 32} : dst c q = c ↔ q = own c := by
  have := c_lt c; have := q.isLt
  rw [Fin.ext_iff, Fin.ext_iff]; simp only [dst, own]; omega
theorem dst_own (c : Dev nD) : dst c (own c) = c := dst_eq_self.mpr rfl
theorem blk_self (c : Dev nD) : blk c c = own c := by
  have := c_lt c; apply Fin.ext; simp only [blk, own]; omega
theorem peer_zero (c : Dev nD) : peer c 0 = c := by
  have := c_lt c; apply Fin.ext; show (c.val + 0) % 32 = c.val; omega
theorem peer_eq_self {c : Dev nD} {t : Fin 32} : peer c t = c ↔ t = 0 := by
  have := c_lt c; have := t.isLt
  rw [Fin.ext_iff, Fin.ext_iff]; show (c.val + t.val) % 32 = c.val ↔ t.val = 0; omega

def peerE (c : Dev nD) : Fin 32 ≃ Dev nD := ⟨peer c, off c, off_peer c, peer_off c⟩
def dstE (c : Dev nD) : Fin 32 ≃ Dev nD := ⟨dst c, blk c, blk_dst c, dst_blk c⟩

/-! ## The semaphores and the cells -/

abbrev barS : Sem sig := (SemArray.scalar (sig.barrier 0 rfl) : Sems sig S_).sem

theorem semInb (q : Fin 32) : ∀ a, (![q.val] : Fin 1 → ℕ) a + S1.size a ≤ S32.size a := by
  intro a; fin_cases a; have := q.isLt; show q.val + 1 ≤ 32; omega

def sendS (q : Fin 32) : DmaSem sig := ((SemArray.slice cc0_scratch2 (Rect.unit (s := S32) ![q.val] S1.size (semInb q))).squeeze S_ squeezes_S1_S_).sem
def recvS (s : Fin 32) : DmaSem sig := ((SemArray.slice cc0_scratch3 (Rect.unit (s := S32) ![s.val] S1.size (semInb s))).squeeze S_ squeezes_S1_S_).sem

theorem sendS_val : ∀ q : Fin 32, (sendS q).val = 5 + q.val := by decide +kernel
theorem recvS_val : ∀ q : Fin 32, (recvS q).val = 37 + q.val := by decide +kernel

abbrev barCell (c : Dev nD) : GSem nD τ sig := ((c : Thread nD τ), .reg barS)
abbrev sendCell (c : Dev nD) (q : Fin 32) : GSem nD τ sig := ((c : Thread nD τ), .dma (sendS q))
abbrev recvCell (c : Dev nD) (s : Fin 32) : GSem nD τ sig := ((c : Thread nD τ), .dma (recvS s))

/-- The kernel's own semaphores: `false` the send ones, `true` the receive ones; -/
def osem : Bool × Fin 32 → SemLoc sig
  | (false, q) => .dma (sendS q)
  | (true, s) => .dma (recvS s)
/-- with the barrier, all of the protocol's. -/
def csem : Option (Bool × Fin 32) → SemLoc sig
  | none => .reg barS
  | some k => osem k
abbrev kcell (ck : Dev nD × Option (Bool × Fin 32)) : GSem nD τ sig := ((ck.1 : Thread nD τ), csem ck.2)

/-- Which of them a semaphore is. -/
inductive Kind where
  | bar | send (q : Fin 32) | recv (s : Fin 32) | other

def kind : SemLoc sig → Kind
  | .reg _ => .bar
  | .dma q => if h : 37 ≤ q.val ∧ q.val < 69 then .recv ⟨q.val - 37, by omega⟩
      else if h : 5 ≤ q.val ∧ q.val < 37 then .send ⟨q.val - 5, by omega⟩ else .other

theorem kind_bar : kind (.reg barS) = .bar := rfl
theorem kind_send (q : Fin 32) : kind (.dma (sendS q)) = .send q := by
  have h := sendS_val q; have := q.isLt
  unfold kind
  simp only [h]
  rw [dif_neg (by omega), dif_pos (by omega)]
  congr 1; apply Fin.ext; show 5 + q.val - 5 = q.val; omega
theorem kind_recv (s : Fin 32) : kind (.dma (recvS s)) = .recv s := by
  have h := recvS_val s; have := s.isLt
  unfold kind
  simp only [h]
  rw [dif_pos (by omega)]
  congr 1; apply Fin.ext; show 37 + s.val - 37 = s.val; omega

theorem csem_injective : Function.Injective csem := by
  intro a b h
  have hk := congrArg kind h
  rcases a with _ | ⟨_ | _, p⟩ <;> rcases b with _ | ⟨_ | _, q⟩ <;>
    simp only [csem, osem, kind_bar, kind_send, kind_recv, reduceCtorEq, Kind.send.injEq, Kind.recv.injEq] at hk <;>
    first | rfl | (subst hk; rfl)

theorem osem_injective : Function.Injective osem := fun a b h =>
  Option.some.inj (csem_injective (a₁ := some a) (a₂ := some b) h)

/-! ## Rows of the two exchange buffers -/

/-- The rows `lo ≤ r < hi` of a 512×1024 buffer. -/
def rows (lo hi : ℕ) : Finset S512x1024.Idx := Finset.univ.filter fun i => lo ≤ (i 0).val ∧ (i 0).val < hi

theorem mem_rows {lo hi : ℕ} {i : S512x1024.Idx} : i ∈ rows lo hi ↔ lo ≤ (i 0).val ∧ (i 0).val < hi := by
  unfold rows; rw [Finset.mem_filter]; exact ⟨fun h => h.2, fun h => ⟨Finset.mem_univ _, h⟩⟩

theorem row_lt (i : S512x1024.Idx) : (i 0).val < 512 := (i 0).isLt
theorem rows_all : rows 0 512 = Finset.univ := by
  ext i; rw [mem_rows]; exact ⟨fun _ => Finset.mem_univ _, fun _ => ⟨Nat.zero_le _, row_lt i⟩⟩
theorem rows_none (a : ℕ) : rows a a = ∅ := by
  ext i; rw [mem_rows]; exact ⟨fun h => absurd h (by omega), fun h => absurd h (Finset.notMem_empty _)⟩
theorem rows_union {a b e : ℕ} (h₁ : a ≤ b) (h₂ : b ≤ e) : rows a e = rows a b ∪ rows b e := by
  ext i; rw [Finset.mem_union, mem_rows, mem_rows, mem_rows]; omega
theorem rows_disjoint {a b e f : ℕ} (h : b ≤ e) : Disjoint (rows a b) (rows e f) := by
  rw [Finset.disjoint_left]; intro i; rw [mem_rows, mem_rows]; omega

/-- Slot `q`: sixteen rows. -/
abbrev slot (q : Fin 32) : Finset S512x1024.Idx := rows (16 * q.val) (16 * q.val + 16)

theorem slot_disjoint : ∀ q ∈ (Finset.univ : Finset (Fin 32)), ∀ q' ∈ (Finset.univ : Finset (Fin 32)), q ≠ q' → Disjoint (slot q) (slot q') := by
  intro q _ q' _ h
  have h' : q.val ≠ q'.val := fun e => h (Fin.ext e)
  rw [Finset.disjoint_left]; intro i; rw [mem_rows, mem_rows]; omega
theorem slot_cover : (Finset.univ : Finset (Fin 32)).biUnion slot = Finset.univ := by
  ext i
  refine ⟨fun _ => Finset.mem_univ _, fun _ => ?_⟩
  rw [Finset.mem_biUnion]
  have := row_lt i
  refine ⟨⟨(i 0).val / 16, by omega⟩, Finset.mem_univ _, ?_⟩
  rw [mem_rows]
  show 16 * ((i 0).val / 16) ≤ _ ∧ _ < 16 * ((i 0).val / 16) + 16
  omega

/-- The memrefs of a run of rows of the send and of the receive buffer. -/
abbrev sM : Memref sig .tc .vmem S512x1024 .bf16 := Memref.whole cc0_scratch0
abbrev rM : Memref sig .tc .vmem S512x1024 .bf16 := Memref.whole cc0_scratch1

theorem rect_rows {o n : ℕ} {inb : ∀ a, (![o, 0] : Fin 2 → ℕ) a + (![n, 1024] : Fin 2 → ℕ) a ≤ S512x1024.size a} {i : S512x1024.Idx} :
    i ∈ (Rect.unit (s := S512x1024) ![o, 0] ![n, 1024] inb).set ↔ i ∈ rows o (o + n) := by
  rw [mem_rows, Rect.mem_set_unit]
  have h1 : (i 1).val < 1024 := (i 1).isLt
  constructor
  · intro h; exact h 0
  · intro h a
    match a with
    | 0 => exact h
    | 1 => exact ⟨Nat.zero_le _, by show (i 1).val < 0 + 1024; omega⟩

theorem send_set (o n : ℕ) (inb : ∀ a, (![o, 0] : Fin 2 → ℕ) a + (![n, 1024] : Fin 2 → ℕ) a ≤ S512x1024.size a) :
    ((View.whole cc0_scratch0).slice (Rect.unit (s := S512x1024) ![o, 0] ![n, 1024] inb)).set = rows o (o + n) :=
  Finset.ext fun i => ValueKit.mem_set_slice_whole_iff cc0_scratch0 _ i rect_rows
theorem recv_set (o n : ℕ) (inb : ∀ a, (![o, 0] : Fin 2 → ℕ) a + (![n, 1024] : Fin 2 → ℕ) a ≤ S512x1024.size a) :
    ((View.whole cc0_scratch1).slice (Rect.unit (s := S512x1024) ![o, 0] ![n, 1024] inb)).set = rows o (o + n) :=
  Finset.ext fun i => ValueKit.mem_set_slice_whole_iff cc0_scratch1 _ i rect_rows

/-- The credit of one block. -/
abbrev blkInb (q : Fin 32) : ∀ a, (![16 * q.val, 0] : Fin 2 → ℕ) a + S16x1024.size a ≤ S512x1024.size a := by
  intro a; have := q.isLt; fin_cases a
  · show 16 * q.val + 16 ≤ 512; omega
  · show 0 + 1024 ≤ 1024; omega
abbrev rB (s : Fin 32) : Memref sig .tc .vmem S16x1024 .bf16 := rM.slice (Rect.unit (s := S512x1024) ![16 * s.val, 0] S16x1024.size (blkInb s)) (fun _ => rfl)
abbrev sB (s : Fin 32) : Memref sig .tc .vmem S16x1024 .bf16 := sM.slice (Rect.unit (s := S512x1024) ![16 * s.val, 0] S16x1024.size (blkInb s)) (fun _ => rfl)
def N : ℕ := (rB 0).view.dmaCredit
theorem N_pos : 0 < N := View.dmaCredit_pos _ (by decide)

theorem sB_set (q : Fin 32) : (sB q).view.set = slot q := send_set (16 * q.val) 16 _
theorem rB_set (q : Fin 32) : (rB q).view.set = slot q := recv_set (16 * q.val) 16 _
theorem rB_credit (q : Fin 32) : (rB q).view.dmaCredit = N := rfl
theorem sB_credit (q : Fin 32) : (sB q).view.dmaCredit = N := rfl

/-! ## Contents -/

/-- What the pipeline stages on device `c`: its whole operand arrays. -/
def stgX (c : Dev nD) : (cc0_stg0_0 : Ref sig .tc).ty.Contents (Elt F) := (win0_0.blk t0_0).view.read (Elt F) (m ((c : Thread nD τ).loc main_arg0))
def stgR (c : Dev nD) : (cc0_stg1_0 : Ref sig .tc).ty.Contents (Elt F) := (win0_1.blk t0_0).view.read (Elt F) (m ((c : Thread nD τ).loc main_arg1))
def stgE (c : Dev nD) : (cc0_stg2_0 : Ref sig .tc).ty.Contents (Elt F) := (win0_2.blk t0_0).view.read (Elt F) (m ((c : Thread nD τ).loc main_arg2))
def stgW (c : Dev nD) : (cc0_stg3_0 : Ref sig .tc).ty.Contents (Elt F) := (win0_3.blk t0_0).view.read (Elt F) (m ((c : Thread nD τ).loc main_arg3))

abbrev xM : Memref sig .tc .vmem S1024x512 .bf16 := Memref.whole cc0_stg0_0
abbrev wM : Memref sig .tc .vmem S512x128 .bf16 := Memref.whole cc0_stg1_0
abbrev eM : Memref sig .tc .vmem S1024x2 .i32 := Memref.whole cc0_stg2_0
abbrev vM : Memref sig .tc .vmem S4x512x1024 .bf16 := Memref.whole cc0_stg3_0
abbrev oM : Memref sig .tc .vmem S32x1024 .f32 := Memref.whole cc0_stg4_0

/-- What the body reads of them. -/
def rdX (c : Dev nD) : Vec F S1024x512 .bf16 := xM.view.readAt (Elt F) (Rect.unit (s := S1024x512) ![0, 0] S1024x512.size inb_S1024x512_S1024x512_0_0).toLoadRect (stgX m c)
def rdR (c : Dev nD) : Vec F S512x128 .bf16 := wM.view.readAt (Elt F) (Rect.unit (s := S512x128) ![0, 0] S512x128.size inb_S512x128_S512x128_0_0).toLoadRect (stgR m c)
def rdE0 (c : Dev nD) : Vec F S1024x1 .i32 := eM.view.readAt (Elt F) (Rect.unit (s := S1024x2) ![0, 0] S1024x1.size inb_S1024x2_S1024x1_0_0).toLoadRect (stgE m c)
def rdE1 (c : Dev nD) : Vec F S1024x1 .i32 := eM.view.readAt (Elt F) (Rect.unit (s := S1024x2) ![0, 1] S1024x1.size inb_S1024x2_S1024x1_0_1).toLoadRect (stgE m c)
def rdW0 (c : Dev nD) : Vec F S1x512x1024 .bf16 := vM.view.readAt (Elt F) (Rect.unit (s := S4x512x1024) ![0, 0, 0] S1x512x1024.size inb_S4x512x1024_S1x512x1024_0_0_0).toLoadRect (stgW m c)
def rdW1 (c : Dev nD) : Vec F S1x512x1024 .bf16 := vM.view.readAt (Elt F) (Rect.unit (s := S4x512x1024) ![1, 0, 0] S1x512x1024.size inb_S4x512x1024_S1x512x1024_1_0_0).toLoadRect (stgW m c)
def rdW2 (c : Dev nD) : Vec F S1x512x1024 .bf16 := vM.view.readAt (Elt F) (Rect.unit (s := S4x512x1024) ![2, 0, 0] S1x512x1024.size inb_S4x512x1024_S1x512x1024_2_0_0).toLoadRect (stgW m c)
def rdW3 (c : Dev nD) : Vec F S1x512x1024 .bf16 := vM.view.readAt (Elt F) (Rect.unit (s := S4x512x1024) ![3, 0, 0] S1x512x1024.size inb_S4x512x1024_S1x512x1024_3_0_0).toLoadRect (stgW m c)

/-- The device number as the body computes it. -/
def me (c : Dev nD) : BitVec 32 := Scalar.remsi (Scalar.divsi c.word 1#32) 32#32
/-- The two expert columns, the softmax, the tokens that hit device `c`, and their positions within their block of 32. -/
def ex0 (c : Dev nD) : IVec S1024x1 32 := k0_pay2 (rdE0 m c)
def ex1 (c : Dev nD) : IVec S1024x1 32 := k0_pay3 (rdE1 m c)
def soft (c : Dev nD) : FVec F S1024x128 .f32 := k0_pay1 (rdX m c) (rdR m c)
def hits (c : Dev nD) : IVec S1024x1 1 := k0_pay12 (me c) (ex1 m c) (k0_pay9 (ex0 m c)) 4#32 (k0_pay10 (rdE1 m c)) (k0_pay11 (rdE1 m c))
def hitF (c : Dev nD) : FVec F S1024x1 .bf16 := k0_pay13 (me c) (ex1 m c) (k0_pay9 (ex0 m c)) 4#32 (k0_pay10 (rdE1 m c)) (k0_pay11 (rdE1 m c))
def rank (c : Dev nD) : FVec F S1024x1 .f32 :=
  k0_pay17 (hitF m c) (iota .tc S1024x1024 32 [0] iota_S1024x1024_d0_w32) (iota .tc S1024x1024 32 [1] iota_S1024x1024_d1_w32) k0_pay14 k0_pay15 k0_pay16
def colI : IVec S1024x512 32 := iota .tc S1024x512 32 [1] iota_S1024x512_d1_w32
def rowI : IVec S1024x512 32 := iota .tc S1024x512 32 [0] iota_S1024x512_d0_w32
/-- The dispatch matrix: token by (block, position). -/
def disp (c : Dev nD) : FVec F S1024x512 .bf16 :=
  k0_pay26 (hits m c) (rank m c)
    (k0_pay21 (Scalar.select (Scalar.cmpi .eq 32#32 0#32) 1#32 32#32) (k0_pay20 (me c) colI 16#32 k0_pay18 k0_pay19) 0#32)
    (k0_pay22 colI) (k0_pay23 rowI) (k0_pay24 rowI) (k0_pay25 rowI)
/-- The weight of each token at each of the device's four experts. -/
def wgt (c : Dev nD) : FVec F S1024x4 .bf16 :=
  k0_pay27 (me c) (ex0 m c) (ex1 m c) (k0_pay7 (soft m c) (ex0 m c) (rdE1 m c)) (k0_pay8 (soft m c) (ex0 m c) (rdE1 m c))
def toks (c : Dev nD) : FVec F S1024x512 .bf16 := k0_pay28 (rdX m c)
def eW0 (c : Dev nD) : FVec F S512x1024 .bf16 := k0_pay29 (rdW0 m c)
def eW1 (c : Dev nD) : FVec F S512x1024 .bf16 := k0_pay30 (rdW1 m c)
def eW2 (c : Dev nD) : FVec F S512x1024 .bf16 := k0_pay31 (rdW2 m c)
def eW3 (c : Dev nD) : FVec F S512x1024 .bf16 := k0_pay32 (rdW3 m c)

/-- The four groups of 128 rows the body stores into the send buffer. -/
def grp (c : Dev nD) : Fin 4 → FVec F S128x1024 .bf16
  | 0 => k0_pay33 (disp m c) (wgt m c) (toks m c) (eW0 m c) (eW1 m c) (eW2 m c) (rdW3 m c)
  | 1 => k0_pay43 (wgt m c) (toks m c) (eW0 m c) (eW1 m c) (eW2 m c) (eW3 m c) (k0_pay42 (disp m c))
  | 2 => k0_pay56 (eW0 m c) (eW1 m c) (eW2 m c) (eW3 m c) (k0_pay53 (disp m c) (toks m c)) (k0_pay54 (disp m c) (wgt m c)) (k0_pay55 (F := F))
  | 3 => k0_pay70 (eW1 m c) (eW2 m c) (eW3 m c) (k0_pay66 (disp m c) (toks m c)) (k0_pay67 (disp m c) (wgt m c)) (k0_pay68 (F := F))
      (k0_pay69 (disp m c) (wgt m c) (toks m c) (eW0 m c))

/-- The send buffer of device `c`, whole. -/
def sendAll (c : Dev nD) : S512x1024.Idx → Elt F .bf16 := fun i =>
  grp m c ⟨(i 0).val / 128, by have := row_lt i; omega⟩ (ix2 (n0 := 128) (n1 := 1024) ⟨(i 0).val % 128, Nat.mod_lt _ (by decide)⟩ (i 1))
/-- The receive buffer of device `c` once every block has arrived: slot `s` is the block device `s` sends to `c`. -/
def recvAll (c : Dev nD) : S512x1024.Idx → Elt F .bf16 := fun i =>
  sendAll m (⟨(i 0).val / 16, by have := row_lt i; omega⟩ : Fin 32)
    (ix2 (n0 := 512) (n1 := 1024) ⟨16 * (blk (⟨(i 0).val / 16, by have := row_lt i; omega⟩ : Fin 32) c).val + (i 0).val % 16,
      by have := (blk (⟨(i 0).val / 16, by have := row_lt i; omega⟩ : Fin 32) c).isLt; have := Nat.mod_lt (i 0).val (show 0 < 16 by decide); show _ < 512; omega⟩ (i 1))

def rdC0 (c : Dev nD) : Vec F S32x1 .i32 := eM.view.readAt (Elt F) (Rect.unit (s := S1024x2) (k0_off97 c) S32x1.size (k0_off97_inb c)).toLoadRect (stgE m c)
def rdC1 (c : Dev nD) : Vec F S32x1 .i32 := eM.view.readAt (Elt F) (Rect.unit (s := S1024x2) (k0_off98 c) S32x1.size (k0_off98_inb c)).toLoadRect (stgE m c)
def ownE0 (c : Dev nD) : IVec S32x1 32 := k0_pay83 (k0_pay79 (rdC0 m c)) 4#32 (k0_pay81 (rdC0 m c)) (k0_pay82 (rdC0 m c))
def ownE1 (c : Dev nD) : IVec S32x1 32 := k0_pay84 (k0_pay80 (rdC1 m c))
def colJ : IVec S32x512 32 := iota .tc S32x512 32 [1] iota_S32x512_d1_w32
/-- The collect matrix: the device's own token by (sender, position). -/
def coll (c : Dev nD) : FVec F S32x512 .bf16 :=
  k0_pay89 (k0_pay86 (F := F) colJ) (k0_pay87 (ownE0 m c) (ownE1 m c) colJ 16#32 k0_pay85 0#32) (k0_pay88 (F := F) (ownE0 m c) (ownE1 m c) colJ 16#32 k0_pay85 0#32)
/-- What device `c` leaves in its result block. -/
def outAt (c : Dev nD) : (cc0_stg4_0 : Ref sig .tc).ty.Contents (Elt F) := k0_pay90 (coll m c) (recvAll m c)

/-! ## The payloads -/

abbrev sLoc (c : Dev nD) : Loc nD τ sig := (c : Thread nD τ).loc cc0_scratch0
abbrev rLoc (c : Dev nD) : Loc nD τ sig := (c : Thread nD τ).loc cc0_scratch1

/-- Slot `s` of device `d`'s receive buffer at contents `f`; -/
def slotPts (d : Dev nD) (s : Fin 32) (f : S512x1024.Idx → Elt F .bf16) : sProp 𝕄 := (rLoc d ↦[slot s]{fullShare} (f : Buf (Elt F) (rLoc d)))
/-- at some contents; -/
def slotAny (d : Dev nD) (s : Fin 32) : sProp 𝕄 := iprop(∃ f, slotPts (F := F) d s f)
/-- block `q` of device `c`'s send buffer, holding what the body stored. -/
def blkPts (c : Dev nD) (q : Fin 32) : sProp 𝕄 := (sLoc c ↦[slot q]{fullShare} (sendAll m c : Buf (Elt F) (sLoc c)))

omit [FloatOps F] in
instance slotPts_storable (d : Dev nD) (s : Fin 32) (f) : BI.Storable (upEmb : UEmb _ 𝕄) (slotPts (F := F) d s f) := by unfold slotPts; infer_instance
omit [FloatOps F] in
instance slotAny_storable (d : Dev nD) (s : Fin 32) : BI.Storable (upEmb : UEmb _ 𝕄) (slotAny (F := F) d s) := by unfold slotAny; infer_instance
instance blkPts_storable (c : Dev nD) (q : Fin 32) : BI.Storable (upEmb : UEmb _ 𝕄) (blkPts m c q) := by unfold blkPts; infer_instance

/-! ## The schedule -/

/-- Round 0. A barrier cell has one duty per other device; a receive or a send cell of a block that travels has the one
    duty `0`. -/
def rd : Rounds.Schedule (GSem nD τ sig) (Dev nD) 𝕄 where
  duties g r := if r = 0 ∧ g.1.2 = .tc then
      (match kind g.2 with
        | .bar => Finset.univ.erase g.1.1
        | .recv s => if s = g.1.1 then ∅ else {0}
        | .send q => if q = own g.1.1 then ∅ else {0}
        | .other => ∅)
    else ∅
  unitless _ := False
  amount g _ _ := match kind g.2 with
    | .bar => 1
    | _ => N
  payload g _ d := match kind g.2 with
    | .bar => slotAny d g.1.1
    | .recv s => slotPts g.1.1 s (recvAll m g.1.1)
    | .send q => blkPts m g.1.1 q
    | .other => iprop(emp)
  amount_pos g _ _ _ := by
    cases kind g.2
    · exact Nat.one_pos
    all_goals exact N_pos

instance rd_payload_storable (g : GSem nD τ sig) (r : ℕ) (d : Dev nD) :
    BI.Storable (upEmb : UEmb _ 𝕄) ((rd (F := F) m).payload g r d) := by
  dsimp only [rd]
  split <;> infer_instance

section Sched
variable (c : Dev nD)

theorem duties_bar : (rd m).duties (barCell c) 0 = Finset.univ.erase c := by
  dsimp only [rd]; rw [if_pos ⟨rfl, rfl⟩]; rfl
theorem duties_recv (s : Fin 32) : (rd m).duties (recvCell c s) 0 = if s = c then ∅ else {0} := by
  dsimp only [rd]; rw [if_pos ⟨rfl, rfl⟩, kind_recv]
theorem duties_send (q : Fin 32) : (rd m).duties (sendCell c q) 0 = if q = own c then ∅ else {0} := by
  dsimp only [rd]; rw [if_pos ⟨rfl, rfl⟩, kind_send]
theorem duties_later (g : GSem nD τ sig) : ∀ r, 1 ≤ r → (rd m).duties g r = ∅ := fun r hr => by
  dsimp only [rd]; rw [if_neg fun h => by omega]
theorem duties_recv_own : ∀ r, 0 ≤ r → (rd m).duties (recvCell c c) r = ∅ := fun r _ => by
  rcases Nat.eq_zero_or_pos r with rfl | h
  · rw [duties_recv, if_pos rfl]
  · exact duties_later m _ r h
theorem duties_send_own : ∀ r, 0 ≤ r → (rd m).duties (sendCell c (own c)) r = ∅ := fun r _ => by
  rcases Nat.eq_zero_or_pos r with rfl | h
  · rw [duties_send, if_pos rfl]
  · exact duties_later m _ r h

theorem amount_bar (d : Dev nD) : (rd m).amount (barCell c) 0 d = 1 := rfl
theorem amount_recv (s : Fin 32) (d : Dev nD) : (rd m).amount (recvCell c s) 0 d = N := by dsimp only [rd]; rw [kind_recv]
theorem amount_send (q : Fin 32) (d : Dev nD) : (rd m).amount (sendCell c q) 0 d = N := by dsimp only [rd]; rw [kind_send]

theorem expect_bar : (rd m).expect (barCell c) 0 = 31 := by
  unfold Schedule.expect Schedule.amountOf
  rw [duties_bar, Finset.sum_congr rfl fun d _ => amount_bar m c d, Finset.sum_const, Finset.card_erase_of_mem (Finset.mem_univ _),
    Finset.card_univ, smul_eq_mul]
  rfl
theorem expect_recv (s : Fin 32) (h : s ≠ c) : (rd m).expect (recvCell c s) 0 = N := by
  unfold Schedule.expect Schedule.amountOf; rw [duties_recv, if_neg h, Finset.sum_singleton, amount_recv]
theorem expect_send (q : Fin 32) (h : q ≠ own c) : (rd m).expect (sendCell c q) 0 = N := by
  unfold Schedule.expect Schedule.amountOf; rw [duties_send, if_neg h, Finset.sum_singleton, amount_send]

theorem payload_bar (d : Dev nD) : (rd m).payload (barCell c) 0 d = slotAny d c := rfl
theorem payload_recv (s : Fin 32) (d : Dev nD) : (rd m).payload (recvCell c s) 0 d = slotPts c s (recvAll m c) := by dsimp only [rd]; rw [kind_recv]
theorem payload_send (q : Fin 32) (d : Dev nD) : (rd m).payload (sendCell c q) 0 d = blkPts m c q := by dsimp only [rd]; rw [kind_send]

theorem rest_bar : bigSep ((rd m).duties (barCell c) 0 \ ∅) (fun d => (rd m).payload (barCell c) 0 d) = bigSep (Finset.univ.erase c) fun d => slotAny d c := by
  rw [Finset.sdiff_empty, duties_bar]; rfl
theorem rest_recv (s : Fin 32) (h : s ≠ c) : bigSep ((rd m).duties (recvCell c s) 0 \ ∅) (fun d => (rd m).payload (recvCell c s) 0 d) = slotPts c s (recvAll m c) := by
  rw [Finset.sdiff_empty, duties_recv, if_neg h, bigSep_singleton, payload_recv]
theorem rest_send (q : Fin 32) (h : q ≠ own c) : bigSep ((rd m).duties (sendCell c q) 0 \ ∅) (fun d => (rd m).payload (sendCell c q) 0 d) = blkPts m c q := by
  rw [Finset.sdiff_empty, duties_send, if_neg h, bigSep_singleton, payload_send]

end Sched

/-! ## What each device owes; the levels -/

/-- The summands from `q` on. -/
def above (q : ℕ) : Finset (Fin 32) := Finset.univ.filter fun i => q ≤ i.val
def below (q : ℕ) : Finset (Fin 32) := Finset.univ.filter fun i => i.val < q

theorem above_zero : above 0 = Finset.univ := by unfold above; simp
theorem above_top : above 32 = ∅ := by
  ext i; unfold above; rw [Finset.mem_filter]; exact ⟨fun h => absurd h.2 (by have := i.isLt; omega), fun h => absurd h (Finset.notMem_empty _)⟩
theorem below_zero : below 0 = ∅ := by unfold below; simp
theorem below_top : below 32 = Finset.univ := by
  ext i; unfold below; rw [Finset.mem_filter]; exact ⟨fun _ => Finset.mem_univ _, fun _ => ⟨Finset.mem_univ _, i.isLt⟩⟩
theorem above_step {q : ℕ} (h : q < 32) : above q = insert ⟨q, h⟩ (above (q + 1)) := by
  ext i; unfold above; rw [Finset.mem_insert, Finset.mem_filter, Finset.mem_filter, Fin.ext_iff]
  have := Finset.mem_univ i; simp only [this, true_and]; omega
theorem above_notMem {q : ℕ} (h : q < 32) : (⟨q, h⟩ : Fin 32) ∉ above (q + 1) := by
  unfold above; rw [Finset.mem_filter]; intro h'; have := h'.2; simp only at this; omega
theorem below_step {q : ℕ} (h : q < 32) : below (q + 1) = insert ⟨q, h⟩ (below q) := by
  ext i; unfold below; rw [Finset.mem_insert, Finset.mem_filter, Finset.mem_filter, Fin.ext_iff]
  have := Finset.mem_univ i; simp only [this, true_and]; omega
theorem below_notMem {q : ℕ} (h : q < 32) : (⟨q, h⟩ : Fin 32) ∉ below q := by
  unfold below; rw [Finset.mem_filter]; intro h'; have := h'.2; simp only at this; omega

def oSigAt (c : Dev nD) (t : Fin 32) : CellTallies nD τ sig Unit := if t = 0 then 0 else tallyAt (barCell (peer c t)) () 1
def oSendAt (c : Dev nD) (q : Fin 32) : CellTallies nD τ sig Unit := if q = own c then 0 else tallyAt (recvCell (dst c q) c) () N
/-- What is owed before signal `t`, and before block `q`'s copy. -/
def oSig (c : Dev nD) (t : ℕ) : CellTallies nD τ sig Unit := ∑ i ∈ above t, oSigAt c i
def oSend (c : Dev nD) (q : ℕ) : CellTallies nD τ sig Unit := ∑ i ∈ above q, oSendAt c i
def O₀ (c : Dev nD) : CellTallies nD τ sig Unit := oSig c 0 + oSend c 0

theorem oSig_step (c : Dev nD) {t : ℕ} (h : t < 32) (h0 : t ≠ 0) : oSig c t = oSig c (t + 1) + tallyAt (barCell (peer c ⟨t, h⟩)) () 1 := by
  unfold oSig
  rw [above_step h, Finset.sum_insert (above_notMem h), add_comm, oSigAt, if_neg (fun e => h0 (congrArg Fin.val e))]
theorem oSig_zero (c : Dev nD) : oSig c 0 = oSig c 1 := by
  unfold oSig
  rw [above_step (q := 0) (by decide), Finset.sum_insert (above_notMem (by decide)), oSigAt, if_pos (show (⟨0, by decide⟩ : Fin 32) = 0 from rfl), zero_add]
theorem oSig_top (c : Dev nD) : oSig c 32 = 0 := by unfold oSig; rw [above_top, Finset.sum_empty]
theorem oSend_step (c : Dev nD) {q : ℕ} (h : q < 32) (h0 : (⟨q, h⟩ : Fin 32) ≠ own c) :
    oSend c q = oSend c (q + 1) + tallyAt (recvCell (dst c ⟨q, h⟩) c) () N := by
  unfold oSend
  rw [above_step h, Finset.sum_insert (above_notMem h), add_comm, oSendAt, if_neg h0]
theorem oSend_own (c : Dev nD) {q : ℕ} (h : q < 32) (h0 : (⟨q, h⟩ : Fin 32) = own c) : oSend c q = oSend c (q + 1) := by
  unfold oSend
  rw [above_step h, Finset.sum_insert (above_notMem h), oSendAt, if_pos h0, zero_add]
theorem oSend_top (c : Dev nD) : oSend c 32 = 0 := by unfold oSend; rw [above_top, Finset.sum_empty]

def L (g : GSem nD τ sig) : Finset Unit := if g.1.2 = .tc then {()} else ∅
/-- Barrier cells at 1, receive cells at 2, everything else at 0. -/
def lv (g : GSem nD τ sig) (_ : Unit) : ℕ := match kind g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_pos {S : Finset (Fin 32)} {f : Fin 32 → CellTallies nD τ sig Unit} {g : GSem nD τ sig} {u : Unit} (h : 0 < (∑ i ∈ S, f i) g u) :
    ∃ i ∈ S, 0 < f i g u := by
  by_contra hn
  have hz : ∀ i ∈ S, f i g u = 0 := fun i hi => Nat.eq_zero_of_not_pos fun hp => hn ⟨i, hi, hp⟩
  rw [Finset.sum_apply, Finsupp.finset_sum_apply, Finset.sum_eq_zero hz] at h
  exact Nat.lt_irrefl 0 h

theorem oSig_pos {c : Dev nD} {t : ℕ} {g : GSem nD τ sig} {u : Unit} (h : 0 < oSig c t g u) : ∃ d, g = barCell d := by
  obtain ⟨i, -, hi⟩ := sum_pos h
  unfold oSigAt at hi
  split at hi
  · exact absurd hi (Nat.lt_irrefl 0)
  · rw [tallyAt_apply] at hi
    by_contra hn
    rw [if_neg (fun h' => hn ⟨_, h'.1⟩)] at hi; exact Nat.lt_irrefl 0 hi
theorem oSend_pos {c : Dev nD} {t : ℕ} {g : GSem nD τ sig} {u : Unit} (h : 0 < oSend c t g u) : ∃ d, g = recvCell d c := by
  obtain ⟨i, -, hi⟩ := sum_pos h
  unfold oSendAt at hi
  split at hi
  · exact absurd hi (Nat.lt_irrefl 0)
  · rw [tallyAt_apply] at hi
    by_contra hn
    rw [if_neg (fun h' => hn ⟨_, h'.1⟩)] at hi; exact Nat.lt_irrefl 0 hi

theorem O₀_pos {c : Dev nD} {g : GSem nD τ sig} {u : Unit} (h : 0 < O₀ c g u) : (∃ d, g = barCell d) ∨ ∃ d, g = recvCell d c := by
  unfold O₀ at h
  rw [Pi.add_apply, Finsupp.add_apply] at h
  rcases Nat.eq_zero_or_pos (oSig c 0 g u) with h0 | h0
  · rw [h0, Nat.zero_add] at h; exact Or.inr (oSend_pos h)
  · exact Or.inl (oSig_pos h0)

theorem lv_bar (d : Dev nD) (u : Unit) : lv (barCell d) u = 1 := rfl
theorem lv_recv (d : Dev nD) (s : Fin 32) (u : Unit) : lv (recvCell d s) u = 2 := by dsimp only [lv]; rw [kind_recv]

omit [FloatOps F] in
/-- A wait of the pipeline's: nothing owed lies below it. -/
theorem mayWait_stage (c : Dev nD) (q : DmaSem sig) (hq : kind (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; dsimp only [lv]; rw [hq])
      (fun g u hg => by
        rcases O₀_pos hg with ⟨d, rfl⟩ | ⟨d, rfl⟩
        · rw [lv_bar]; decide
        · rw [lv_recv]; decide)
  · rw [MayWait_zero]; iintro -; iempintro

omit [FloatOps F] in
/-- At its barrier wait a device owes receive cells only, which lie above. -/
theorem mayWait_bar (c : Dev nD) (q : ℕ) : (levAts L lv : sProp 𝕄) ⊢ MayWait (c : Thread nD τ) (.reg barS) () (oSend c q) :=
  MayOwe.of_cut (L := L) (lev := lv) 1 (fun p hp => by rw [Finset.mem_singleton.mp hp, L_tc]; exact Finset.mem_singleton_self _)
    (fun g u hg => by obtain ⟨d, rfl⟩ := oSend_pos hg; exact Finset.mem_singleton_self _)
    (fun p hp => by rw [Finset.mem_singleton.mp hp]; exact le_of_eq (lv_bar c ()))
    (fun g u hg => by obtain ⟨d, rfl⟩ := oSend_pos hg; rw [lv_recv]; decide)

end Cert.KProof

end
-- ==== Proof.Steps.lean ====
/-
# `Steps`: the repeated steps of the body

The body signals 31 devices, sends 32 blocks, waits for 31 slots and drains 32 copies. Each kind of step is proved once,
for any index, on a state that splits a family of resources at that index: `fam Φ Ψ q` holds `Ψ` below `q` and `Φ` from
`q` on.
-/
module

public import proofs.«01_k».proof.Proof.Protocol

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A family split at an index -/

omit [FloatOps F] in
theorem sepInsert {I : Type} [DecidableEq I] {i : I} {s : Finset I} (h : i ∉ s) {Φ : I → sProp 𝕄} : bigSep (insert i s) Φ = iprop(Φ i ∗ bigSep s Φ) :=
  bigSep_insert h

def fam (Φ Ψ : Fin 32 → sProp 𝕄) (q : ℕ) : sProp 𝕄 := iprop(bigSep (below q) Ψ ∗ bigSep (above q) Φ)

omit [FloatOps F] in
theorem fam_step (Φ Ψ : Fin 32 → sProp 𝕄) {q : ℕ} (h : q < 32) : fam Φ Ψ q ⊢ iprop(Φ ⟨q, h⟩ ∗ (Ψ ⟨q, h⟩ -∗ fam Φ Ψ (q + 1))) := by
  unfold fam
  rw [above_step h, below_step h, sepInsert (above_notMem h), sepInsert (below_notMem h)]
  iintro ⟨HB, HΦ, HA⟩
  isplitl [HΦ]; · iexact HΦ
  iintro HΨ
  isplitl [HΨ HB]
  · isplitl [HΨ]; · iexact HΨ
    iexact HB
  · iexact HA

omit [FloatOps F] in
theorem fam_zero (Φ Ψ : Fin 32 → sProp 𝕄) : bigSep Finset.univ Φ ⊢ fam Φ Ψ 0 := by
  unfold fam
  rw [above_zero, below_zero, bigSep_empty]
  iintro H
  isplitr; · iempintro
  iexact H

omit [FloatOps F] in
theorem fam_one (Φ Ψ : Fin 32 → sProp 𝕄) (h : Φ ⟨0, by decide⟩ ⊢ Ψ ⟨0, by decide⟩) : bigSep Finset.univ Φ ⊢ fam Φ Ψ 1 := by
  refine (fam_zero Φ Ψ).trans ((fam_step Φ Ψ (q := 0) (by decide)).trans ?_)
  iintro ⟨H, Hk⟩
  iapply Hk
  iapply h
  iexact H

omit [FloatOps F] in
theorem fam_top (Φ Ψ : Fin 32 → sProp 𝕄) : fam Φ Ψ 32 ⊢ bigSep Finset.univ Ψ := by
  unfold fam
  rw [above_top, below_top, bigSep_empty]
  iintro ⟨H, -⟩
  iexact H

/-! ## What every device knows -/

/-- Every cell's invariant, and that every cell is at its first round. -/
def records (K : Dev nD × Option (Bool × Fin 32) → ℕ) : sProp 𝕄 :=
  iprop((bigSep Finset.univ fun ck => cellInv ER (rd m) (K ck) (kcell ck)) ∗ bigSep Finset.univ fun ck => reached ER (kcell ck) 0)

instance records_persistent (K) : BI.Persistent (records m K) := by unfold records; infer_instance

theorem inv_at (K : Dev nD × Option (Bool × Fin 32) → ℕ) (ck) : records m K ⊢ cellInv ER (rd m) (K ck) (kcell ck) :=
  sep_elim_left.trans (bigSep_elim (Finset.mem_univ ck))
theorem reached_at (K : Dev nD × Option (Bool × Fin 32) → ℕ) (ck) : records m K ⊢ reached ER (kcell ck) 0 :=
  sep_elim_right.trans (bigSep_elim (Finset.mem_univ ck))

/-- What a device owes, whatever it waits for. -/
def ow (c : Dev nD) (O : CellTallies nD τ sig Unit) : sProp 𝕄 := iprop(∃ W, owes (c : Thread nD τ) O W)

/-! ## Programs in parts -/

section Run
variable (K : Dev nD × Option (Bool × Fin 32) → ℕ) (c : Dev nD)

local notation "WP" => wp frame (wpE (defs₀ (F := F)) 𝒱₀ (c : Thread nD τ) none) Set.univ

theorem bind_step {α β : Type} {p : Prog (TpuEff nD τ sig (Elt F) Λ₀ .tc) α} {k : α → Prog (TpuEff nD τ sig (Elt F) Λ₀ .tc) β} {Q : β → sProp 𝕄} {R : sProp 𝕄}
    (h : R ⊢ WP p (fun a => WP (k a) Q)) : R ⊢ WP (p.bind k) Q := by
  have := wp_bind frame (wpE (defs₀ (F := F)) 𝒱₀ (c : Thread nD τ) none) Set.univ p k Q
  exact h.trans (le_of_eq this.symm)

theorem ret_step {α : Type} {a : α} {Q : α → sProp 𝕄} {R : sProp 𝕄} (h : R ⊢ Q a) : R ⊢ WP (Prog.ret a) Q :=
  h.trans fupd_intro

/-! ## The signals -/

/-- Before signal `t`: the token and the slot for each device not yet signalled; the own slot stays. -/
def sigPre (c : Dev nD) (t : Fin 32) : sProp 𝕄 :=
  if t = 0 then slotAny (F := F) c c else iprop(dutyTok ER (barCell (peer c t)) 0 c ∗ slotAny (F := F) c (peer c t))
def sigPost (c : Dev nD) (t : Fin 32) : sProp 𝕄 := if t = 0 then slotAny (F := F) c c else iprop(emp)
def SigSt (c : Dev nD) (t : ℕ) : sProp 𝕄 := iprop(ow (F := F) c (oSig c t + oSend c 0) ∗ fam (sigPre (F := F) c) (sigPost (F := F) c) t)

theorem sig_step (t : ℕ) (ht : t < 32) (h0 : t ≠ 0) {n : Dev nD} (hn : n = peer c ⟨t, ht⟩) {R : sProp 𝕄} {α : Type}
    {k : PUnit → Prog (TpuEff nD τ sig (Elt F) Λ₀ .tc) α} {Q : α → sProp 𝕄} {j : ℤ} (hj : j = ((1 : ℕ) : ℤ))
    (h : iprop(records m K ∗ SigSt (F := F) c (t + 1) ∗ R) ⊢ WP (k ⟨⟩) Q) :
    iprop(records m K ∗ SigSt (F := F) c t ∗ R) ⊢ WP (.op (.semSignal (n, Proc.tc) barS j) k) Q := by
  subst hn hj
  unfold SigSt
  have hne : (⟨t, ht⟩ : Fin 32) ≠ 0 := fun e => h0 (congrArg Fin.val e)
  have hd : (c : Dev nD) ∈ (rd (F := F) m).duties (barCell (peer c ⟨t, ht⟩)) 0 := by
    rw [duties_bar]; exact Finset.mem_erase.mpr ⟨fun e => hne (peer_eq_self.mp e.symm), Finset.mem_univ _⟩
  have hstep := fam_step (sigPre (F := F) c) (sigPost (F := F) c) ht
  rw [show sigPre (F := F) c ⟨t, ht⟩ = iprop(dutyTok ER (barCell (peer c ⟨t, ht⟩)) 0 c ∗ slotAny (F := F) c (peer c ⟨t, ht⟩)) from if_neg hne,
    show sigPost (F := F) c ⟨t, ht⟩ = iprop(emp) from if_neg hne] at hstep
  unfold ow
  iintro ⟨#Hrec, ⟨⟨%W, HO⟩, Hfam⟩, HR⟩
  ihave Hf := hstep $$ Hfam
  icases Hf with ⟨⟨Htok, Hslot⟩, Hk⟩
  ihave #Hi := (inv_at m K (peer c ⟨t, ht⟩, none)) $$ Hrec
  ihave #Hr := (reached_at m K (peer c ⟨t, ht⟩, none)) $$ Hrec
  have hO : oSig c t + oSend c 0 = (oSig c (t + 1) + oSend c 0) + tallyAt (barCell (peer c ⟨t, ht⟩)) () 1 := by
    rw [oSig_step c ht h0]; exact add_right_comm _ _ _
  iapply (Rounds.wp_signal 𝒱₀ ER (rd m) (c : Thread nD τ) none (dst := (peer c ⟨t, ht⟩ : Thread nD τ)) (κ := K (peer c ⟨t, ht⟩, none)) (d := c) hd
      (amount_bar m (peer c ⟨t, ht⟩) c) () (oSig c (t + 1) + oSend c 0) hO) $$ [HO Htok Hslot]
  · isplitr; · iexact Hi
    isplitl [HO]; · iexact HO
    isplitl [Htok]; · iexact Htok
    isplitl [Hslot]
    · iapply (Entails.of_eq (payload_bar m (peer c ⟨t, ht⟩) c).symm)
      iexact Hslot
    iexact Hr
  iintro HO
  iapply h
  unfold SigSt ow
  isplitr; · iexact Hrec
  isplitl [HO Hk]
  · isplitl [HO]; · iexists W; iexact HO
    iapply Hk; iempintro
  iexact HR

/-! ## The sends -/

/-- Before block `q` is sent: the two tokens and the slot it goes to; or, for the block that stays, the own slot. -/
def sendPre (c : Dev nD) (q : Fin 32) : sProp 𝕄 :=
  if q = own c then slotAny (F := F) c c
  else iprop(dutyTok ER (recvCell (dst c q) c) 0 0 ∗ dutyTok ER (sendCell c q) 0 0 ∗ slotAny (F := F) (dst c q) c)
def sendMid (c : Dev nD) (q : Fin 32) : sProp 𝕄 :=
  if q = own c then iprop(blkPts m c q ∗ slotAny (F := F) c c) else cred (tallyAt (sendCell c q) () N)
def sendPost (c : Dev nD) (q : Fin 32) : sProp 𝕄 :=
  if q = own c then iprop(blkPts m c q ∗ slotPts c c (recvAll m c)) else cred (tallyAt (sendCell c q) () N)

/-- The send buffer from row `lo` on, filled up to row `hi`. -/
def fillTo (c : Dev nD) (lo hi : ℕ) : sProp 𝕄 :=
  iprop(∃ f : S512x1024.Idx → Elt F .bf16, ⌜∀ i, (i 0).val < hi → f i = sendAll m c i⌝ ∗ (sLoc c ↦[rows lo 512]{fullShare} (f : Buf (Elt F) (sLoc c))))

def SendSt (c : Dev nD) (q hi : ℕ) : sProp 𝕄 :=
  iprop(ow (F := F) c (oSend c q) ∗ fam (sendPre (F := F) c) (sendPost m c) q ∗ fillTo m c (16 * q) hi)
def SendMd (c : Dev nD) (q : ℕ) (hq : q < 32) (hi : ℕ) : sProp 𝕄 :=
  iprop(ow (F := F) c (oSend c (q + 1)) ∗ sendMid m c ⟨q, hq⟩ ∗ (sendPost m c ⟨q, hq⟩ -∗ fam (sendPre (F := F) c) (sendPost m c) (q + 1))
    ∗ fillTo m c (16 * (q + 1)) hi)

/-- A block off the front of the buffer. -/
theorem fill_block {q hi : ℕ} (hq : q < 32) (hhi : 16 * q + 16 ≤ hi) :
    fillTo m c (16 * q) hi ⊢ iprop(blkPts m c ⟨q, hq⟩ ∗ fillTo m c (16 * (q + 1)) hi) := by
  unfold fillTo
  have hu : rows (16 * q) 512 = rows (16 * q) (16 * q + 16) ∪ rows (16 * (q + 1)) 512 := by
    rw [show 16 * (q + 1) = 16 * q + 16 from by omega]; exact rows_union (by omega) (by omega)
  have hsplit : ∀ f : Buf (Elt F) (sLoc c), (sLoc c ↦[rows (16 * q) 512]{fullShare} f : sProp 𝕄)
      ⊢ iprop((sLoc c ↦[rows (16 * q) (16 * q + 16)]{fullShare} f) ∗ sLoc c ↦[rows (16 * (q + 1)) 512]{fullShare} f) := fun f => by
    rw [hu]; exact (pointsTo_union (rows_disjoint (by omega))).1
  iintro ⟨%f, %hf, Hf⟩
  ihave Hu := (hsplit f) $$ Hf
  icases Hu with ⟨H1, H2⟩
  isplitl [H1]
  · unfold blkPts
    iapply (Entails.of_eq (pointsTo_congr (ℓ := sLoc c) (I := rows (16 * q) (16 * q + 16)) (f := (f : Buf (Elt F) (sLoc c))) (g := (sendAll m c : Buf (Elt F) (sLoc c)))
      (fun i hi' => hf i (by have := (mem_rows.mp hi').2; omega))))
    iexact H1
  · iexists f
    isplitr; · ipureintro; exact hf
    iexact H2

/-- The receive buffer, from the row's slot. -/
theorem recvAll_at (d : Dev nD) (i : S512x1024.Idx) (s : Fin 32) (hs : (i 0).val / 16 = s.val) (j : S512x1024.Idx)
    (h0 : (j 0).val = 16 * (blk s d).val + (i 0).val % 16) (h1 : (j 1).val = (i 1).val) : recvAll m d i = sendAll m s j := by
  have e : (⟨(i 0).val / 16, Nat.div_lt_of_lt_mul (row_lt i)⟩ : Fin 32) = s := Fin.ext hs
  subst e
  unfold recvAll
  congr 1
  funext a
  match a with
  | 0 => exact Fin.ext h0.symm
  | 1 => exact Fin.ext h1.symm

/-- The send buffer, from the row's group. -/
theorem sendAll_at (i : S512x1024.Idx) (g : Fin 4) (hg : (i 0).val / 128 = g.val) (x : S128x1024.Idx)
    (h0 : (x 0).val = (i 0).val % 128) (h1 : (x 1).val = (i 1).val) : sendAll m c i = grp m c g x := by
  have e : (⟨(i 0).val / 128, Nat.div_lt_of_lt_mul (row_lt i)⟩ : Fin 4) = g := Fin.ext hg
  subst e
  unfold sendAll
  congr 1
  funext a
  match a with
  | 0 => exact Fin.ext h0.symm
  | 1 => exact Fin.ext h1.symm

/-- What lands in the destination's slot is that slot of `recvAll`. -/
theorem landing (q : Fin 32) (fd : S512x1024.Idx → Elt F .bf16) :
    ∀ i ∈ slot c, (rB c).view.write (Elt F) fd ((sB q).view.read (Elt F) (sendAll m c)) Finset.univ i = recvAll m (dst c q) i := by
  intro i hi
  have hi2 := mem_rows.mp hi
  rw [← rB_set c] at hi
  obtain ⟨x, -, hx⟩ := Finset.mem_map.mp hi
  subst hx
  rw [View.write_emb_of_mem _ _ (Finset.mem_univ x), View.read_apply]
  have e0 : (((rB c).view.emb x 0 : Fin _) : ℕ) = 16 * c.val + (x 0).val := ValueKit.view_emb_slice_whole_unit_val cc0_scratch1 _ _ _ x 0
  have e1 : (((rB c).view.emb x 1 : Fin _) : ℕ) = 0 + (x 1).val := ValueKit.view_emb_slice_whole_unit_val cc0_scratch1 _ _ _ x 1
  have s0 : (((sB q).view.emb x 0 : Fin _) : ℕ) = 16 * q.val + (x 0).val := ValueKit.view_emb_slice_whole_unit_val cc0_scratch0 _ _ _ x 0
  have s1 : (((sB q).view.emb x 1 : Fin _) : ℕ) = 0 + (x 1).val := ValueKit.view_emb_slice_whole_unit_val cc0_scratch0 _ _ _ x 1
  show sendAll m c ((sB q).view.emb x) = recvAll m (dst c q) ((rB c).view.emb x)
  have hx0 : (x 0).val < 16 := (x 0).isLt
  refine (recvAll_at m (dst c q) _ c (by omega) ((sB q).view.emb x) ?_ ?_).symm
  · rw [blk_dst]; omega
  · omega

/-- What the own copy leaves in the own slot is that slot of `recvAll`. -/
theorem ownLanding (fd : S512x1024.Idx → Elt F .bf16) (v : S16x1024.Idx → Elt F .bf16)
    (hv : v = (sB (own c)).view.read (Elt F) (sendAll m c)) :
    ∀ i ∈ slot c, (rB c).view.write (Elt F) fd v Finset.univ i = recvAll m c i := by
  subst hv
  have := landing m c (own c) fd
  rwa [dst_own] at this

theorem send_step (q hi : ℕ) (hq : q < 32) (hhi : 16 * q + 16 ≤ hi) {C : BitVec 1} (hC : C = 1#1 ↔ (⟨q, hq⟩ : Fin 32) ≠ own c)
    {e : C = 1#1 → TpuEff nD τ sig (Elt F) Λ₀ .tc PUnit} {n : ℕ} {oS oD : Fin 2 → ℕ} {oA oB : Fin 1 → ℕ}
    (he : ∀ hc : C = 1#1, ∃ ln iS iD iA iB h1 h2 h3, e hc = .enqueueDma (sM.slice (Rect.unit (s := S512x1024) oS S16x1024.size iS) (fun _ => rfl))
        (.remote (Dev.tc (⟨n, ln⟩ : Dev nD)) (rM.slice (Rect.unit (s := S512x1024) oD S16x1024.size iD) (fun _ => rfl))
          (.dma ((SemArray.slice cc0_scratch2 (Rect.unit (s := S32) oA S1.size iA)).squeeze S_ squeezes_S1_S_).sem) rfl)
        (.dma ((SemArray.slice cc0_scratch3 (Rect.unit (s := S32) oB S1.size iB)).squeeze S_ squeezes_S1_S_).sem) h1 h2 h3)
    (hn : C = 1#1 → n = (dst c ⟨q, hq⟩).val) (hS : oS = ![16 * q, 0]) (hD : oD = ![16 * c.val, 0]) (hA : oA = ![q]) (hB : oB = ![c.val])
    {R : sProp 𝕄} {α : Type} {k : Prog (TpuEff nD τ sig (Elt F) Λ₀ .tc) α} {Q : α → sProp 𝕄}
    (h : iprop(records m K ∗ SendMd m c q hq hi ∗ R) ⊢ WP k Q) :
    iprop(records m K ∗ SendSt m c q hi ∗ R) ⊢ WP (dite (C = 1#1) (fun hc => .op (e hc) (fun _ => k)) (fun _ => k)) Q := by
  subst hS hD hA hB
  by_cases hc : C = 1#1
  swap
  · rw [dif_neg hc]
    have hown : (⟨q, hq⟩ : Fin 32) = own c := by by_contra hne; exact hc (hC.mpr hne)
    refine BIBase.Entails.trans (Q := iprop(records m K ∗ SendMd m c q hq hi ∗ R)) ?_ h
    have hstep := fam_step (sendPre (F := F) c) (sendPost m c) hq
    rw [show sendPre (F := F) c ⟨q, hq⟩ = slotAny (F := F) c c from if_pos hown] at hstep
    have hmid : sendMid m c ⟨q, hq⟩ = iprop(blkPts m c ⟨q, hq⟩ ∗ slotAny (F := F) c c) := if_pos hown
    unfold SendSt SendMd
    rw [hmid, oSend_own c hq hown]
    iintro ⟨#Hrec, ⟨HO, Hfam, Hfill⟩, HR⟩
    ihave Hf := hstep $$ Hfam
    icases Hf with ⟨Hslot, Hk⟩
    ihave Hb := (fill_block m c hq hhi) $$ Hfill
    icases Hb with ⟨Hblk, Hfill⟩
    isplitr; · iexact Hrec
    isplitr [HR]
    · isplitl [HO]; · iexact HO
      isplitl [Hblk Hslot]
      · isplitl [Hblk]; · iexact Hblk
        iexact Hslot
      isplitl [Hk]; · iexact Hk
      iexact Hfill
    · iexact HR
  rw [dif_pos hc]
  have hown : (⟨q, hq⟩ : Fin 32) ≠ own c := hC.mp hc
  obtain ⟨ln, iS, iD, iA, iB, h1, h2, h3, he⟩ := he hc
  rw [he]
  obtain rfl : n = (dst c ⟨q, hq⟩).val := hn hc
  have hdc : c ≠ dst c ⟨q, hq⟩ := fun e => hown (dst_eq_self.mp e.symm)
  have hstep := fam_step (sendPre (F := F) c) (sendPost m c) hq
  rw [show sendPre (F := F) c ⟨q, hq⟩ = iprop(dutyTok ER (recvCell (dst c ⟨q, hq⟩) c) 0 0 ∗ dutyTok ER (sendCell c ⟨q, hq⟩) 0 0 ∗ slotAny (F := F) (dst c ⟨q, hq⟩) c) from if_neg hown] at hstep
  have hmid : sendMid m c ⟨q, hq⟩ = cred (tallyAt (sendCell c ⟨q, hq⟩) () N) := if_neg hown
  have hd₁ : (0 : Dev nD) ∈ (rd (F := F) m).duties (sendCell c ⟨q, hq⟩) 0 := by rw [duties_send, if_neg hown]; exact Finset.mem_singleton_self _
  have hd₂ : (0 : Dev nD) ∈ (rd (F := F) m).duties (recvCell (dst c ⟨q, hq⟩) c) 0 := by rw [duties_recv, if_neg hdc]; exact Finset.mem_singleton_self _
  have hb : blkPts m c ⟨q, hq⟩ ⊢ ((sB ⟨q, hq⟩).view.loc (c : Thread nD τ) ↦[(sB ⟨q, hq⟩).view.set]{fullShare} (sendAll m c : Buf (Elt F) (sLoc c)) : sProp 𝕄) := by
    rw [sB_set]; exact Entails.rfl
  have hb' : ((sB ⟨q, hq⟩).view.loc (c : Thread nD τ) ↦[(sB ⟨q, hq⟩).view.set]{fullShare} (sendAll m c : Buf (Elt F) (sLoc c)) : sProp 𝕄)
      ⊢ (rd (F := F) m).payload (sendCell c ⟨q, hq⟩) 0 0 := by
    rw [payload_send, sB_set]; exact Entails.rfl
  have hs : ∀ fd : S512x1024.Idx → Elt F .bf16, slotPts (F := F) (dst c ⟨q, hq⟩) c fd
      ⊢ ((rB c).view.loc (dst c ⟨q, hq⟩ : Thread nD τ) ↦[(rB c).view.set]{fullShare} (fd : Buf (Elt F) (rLoc (dst c ⟨q, hq⟩))) : sProp 𝕄) := fun fd => by
    rw [rB_set]; exact Entails.rfl
  have hs' : ∀ fd : S512x1024.Idx → Elt F .bf16, ((rB c).view.loc (dst c ⟨q, hq⟩ : Thread nD τ) ↦[(rB c).view.set]{fullShare}
      ((rB c).view.write (Elt F) fd ((sB ⟨q, hq⟩).view.read (Elt F) (sendAll m c)) Finset.univ : Buf (Elt F) (rLoc (dst c ⟨q, hq⟩))) : sProp 𝕄)
      ⊢ (rd (F := F) m).payload (recvCell (dst c ⟨q, hq⟩) c) 0 0 := fun fd => by
    rw [payload_recv, rB_set]
    exact Entails.of_eq (pointsTo_congr (landing m c ⟨q, hq⟩ fd))
  have hO : oSend c q = oSend c (q + 1) + tallyAt (recvCell (dst c ⟨q, hq⟩) c) () N := oSend_step c hq hown
  unfold SendSt ow slotAny at *
  iintro ⟨#Hrec, ⟨⟨%W, HO⟩, Hfam, Hfill⟩, HR⟩
  ihave Hf := hstep $$ Hfam
  icases Hf with ⟨⟨Htr, Hts, ⟨%fd, Hslot⟩⟩, Hk⟩
  ihave Hb := (fill_block m c hq hhi) $$ Hfill
  icases Hb with ⟨Hblk, Hfill⟩
  ihave Hblk := hb $$ Hblk
  ihave Hslot := (hs fd) $$ Hslot
  ihave #Hi₁ := (inv_at m K (c, some (false, ⟨q, hq⟩))) $$ Hrec
  ihave #Hr₁ := (reached_at m K (c, some (false, ⟨q, hq⟩))) $$ Hrec
  ihave #Hi₂ := (inv_at m K (dst c ⟨q, hq⟩, some (true, c))) $$ Hrec
  ihave #Hr₂ := (reached_at m K (dst c ⟨q, hq⟩, some (true, c))) $$ Hrec
  iapply (Rounds.wp_send_pointsTo 𝒱₀ ER (rd m) (c : Thread nD τ) none (κ₁ := K (c, some (false, ⟨q, hq⟩))) (κ₂ := K (dst c ⟨q, hq⟩, some (true, c)))
      (src := sB ⟨q, hq⟩) (dst := rB c) (c' := (dst c ⟨q, hq⟩ : Thread nD τ)) (sS := .dma (sendS ⟨q, hq⟩)) (sem := .dma (recvS c))
      (r₁ := 0) (r₂ := 0) (d₁ := (0 : Dev nD)) (d₂ := (0 : Dev nD)) (fs := (sendAll m c : Buf (Elt F) (sLoc c))) (fd := (fd : Buf (Elt F) (rLoc (dst c ⟨q, hq⟩))))
      hd₁ hd₂ () () N rfl (amount_send m c ⟨q, hq⟩ 0) (amount_recv m (dst c ⟨q, hq⟩) c 0) (oSend c (q + 1)) hO (W := W) hb' (hs' fd)) $$ [Hblk Hslot HO Htr Hts]
  · isplitr; · iexact Hi₁
    isplitr; · iexact Hi₂
    isplitl [Hblk]; · iexact Hblk
    isplitl [Hslot]; · iexact Hslot
    isplitl [HO]; · iexact HO
    isplitl [Hts]; · iexact Hts
    isplitr; · iexact Hr₁
    isplitl [Htr]; · iexact Htr
    iexact Hr₂
  iintro ⟨Hcr, HO⟩
  iapply h
  unfold SendMd ow
  isplitr; · iexact Hrec
  isplitr [HR]
  · isplitl [HO]; · iexists W; iexact HO
    isplitl [Hcr]
    · iapply (Entails.of_eq hmid.symm)
      iexact Hcr
    isplitl [Hk]; · iexact Hk
    iexact Hfill
  iexact HR

variable {α : Type}

theorem own_step (q hi : ℕ) (hq : q < 32) {C : BitVec 1} (hC : C = 1#1 ↔ (⟨q, hq⟩ : Fin 32) = own c)
    {T : C = 1#1 → Prog (TpuEff nD τ sig (Elt F) Λ₀ .tc) α} {oS oD : Fin 2 → ℕ} {p : Vec F S16x1024 .bf16 → FVec F S16x1024 .bf16}
    {R : sProp 𝕄} {k : Prog (TpuEff nD τ sig (Elt F) Λ₀ .tc) α} {Q : α → sProp 𝕄}
    (hT : ∀ hc : C = 1#1, ∃ iS iD l1 l2 h1 h2, T hc = .op (.load sM (Rect.unit (s := S512x1024) oS S16x1024.size iS).toLoadRect l1) (fun v =>
        .op (.load rM (Rect.unit (s := S512x1024) oD S16x1024.size iD).toLoadRect l2) (fun _ =>
          .op (.store rM (Rect.unit (s := S512x1024) oD S16x1024.size iD) (p v) Finset.univ h1 h2) (fun _ => k))))
    (hS : oS = ![16 * q, 0]) (hD : oD = ![16 * c.val, 0]) (hp : ∀ v, p v = v)
    (h : iprop(records m K ∗ SendSt m c (q + 1) hi ∗ R) ⊢ WP k Q) :
    iprop(records m K ∗ SendMd m c q hq hi ∗ R) ⊢ WP (dite (C = 1#1) T (fun _ => k)) Q := by
  subst hS hD
  by_cases hc : C = 1#1
  swap
  · rw [dif_neg hc]
    have hown : (⟨q, hq⟩ : Fin 32) ≠ own c := fun e => hc (hC.mpr e)
    refine BIBase.Entails.trans (Q := iprop(records m K ∗ SendSt m c (q + 1) hi ∗ R)) ?_ h
    have hmid : sendMid m c ⟨q, hq⟩ = sendPost m c ⟨q, hq⟩ := by unfold sendMid sendPost; rw [if_neg hown, if_neg hown]
    unfold SendSt SendMd
    rw [hmid]
    iintro ⟨#Hrec, ⟨HO, Hmid, Hk, Hfill⟩, HR⟩
    isplitr; · iexact Hrec
    isplitr [HR]
    · isplitl [HO]; · iexact HO
      isplitl [Hmid Hk]
      · iapply Hk; iexact Hmid
      iexact Hfill
    · iexact HR
  rw [dif_pos hc]
  have hown : (⟨q, hq⟩ : Fin 32) = own c := hC.mp hc
  obtain ⟨iS, iD, l1, l2, h1, h2, hT⟩ := hT hc
  rw [hT]
  have hmid : sendMid m c ⟨q, hq⟩ = iprop(blkPts m c ⟨q, hq⟩ ∗ slotAny (F := F) c c) := if_pos hown
  have hpost : sendPost m c ⟨q, hq⟩ = iprop(blkPts m c ⟨q, hq⟩ ∗ slotPts c c (recvAll m c)) := if_pos hown
  have hl : (sM.view.setOn (Rect.unit (s := S512x1024) ![16 * q, 0] S16x1024.size iS).toLoadRect.set) ⊆ slot ⟨q, hq⟩ := by
    intro i hi
    obtain ⟨j, hj, rfl⟩ := Finset.mem_map.mp hi
    exact rect_rows.mp hj
  have hl' : (rM.view.setOn (Rect.unit (s := S512x1024) ![16 * c.val, 0] S16x1024.size iD).toLoadRect.set) ⊆ slot c := by
    intro i hi
    obtain ⟨j, hj, rfl⟩ := Finset.mem_map.mp hi
    exact rect_rows.mp hj
  have hs : ((rM.access (Rect.unit (s := S512x1024) ![16 * c.val, 0] S16x1024.size iD)).setOn Finset.univ) ⊆ slot c :=
    (show _ = _ from recv_set (16 * c.val) 16 iD).subset
  have hv : sM.view.readAt (Elt F) (Rect.unit (s := S512x1024) ![16 * q, 0] S16x1024.size iS).toLoadRect (sendAll m c)
      = (sB (own c)).view.read (Elt F) (sendAll m c) := by rw [← hown]; rfl
  have hw : ∀ fd : S512x1024.Idx → Elt F .bf16, (rLoc c ↦[slot c]{fullShare} ((rM.access (Rect.unit (s := S512x1024) ![16 * c.val, 0] S16x1024.size iD)).write (Elt F) fd
      (p (sM.view.readAt (Elt F) (Rect.unit (s := S512x1024) ![16 * q, 0] S16x1024.size iS).toLoadRect (sendAll m c))) Finset.univ : Buf (Elt F) (rLoc c)) : sProp 𝕄)
      ⊢ (rLoc c ↦[slot c]{fullShare} (recvAll m c : Buf (Elt F) (rLoc c)) : sProp 𝕄) := fun fd => by
    rw [hp, hv]
    exact Entails.of_eq (pointsTo_congr (ownLanding m c fd _ rfl))
  unfold SendMd
  rw [hmid]
  rw [hpost]
  unfold slotAny
  iintro ⟨#Hrec, ⟨HO, ⟨Hblk, ⟨%fd, Hslot⟩⟩, Hk, Hfill⟩, HR⟩
  unfold blkPts slotPts
  iapply (wp_load 𝒱₀ (c : Thread nD τ) none Set.univ (m := sM) hl) $$ Hblk; iintro Hblk
  iapply (wp_load 𝒱₀ (c : Thread nD τ) none Set.univ (m := rM) hl') $$ Hslot; iintro Hslot
  iapply (wp_store 𝒱₀ (c : Thread nD τ) none Set.univ (m := rM) (Mk := Finset.univ) hs) $$ Hslot; iintro Hslot
  iapply h
  unfold SendSt
  ihave Hslot := (hw fd) $$ Hslot
  isplitr; · iexact Hrec
  isplitr [HR]
  · isplitl [HO]; · iexact HO
    isplitl [Hblk Hslot Hk]
    · iapply Hk
      isplitl [Hblk]; · iexact Hblk
      iexact Hslot
    iexact Hfill
  · iexact HR

/-! ## A group of 128 rows -/

theorem fill_step (g : Fin 4) {oG oH : Fin 2 → ℕ} {iG iH} {l1} {h1} {h2} {w : FVec F S128x1024 .bf16}
    {R : sProp 𝕄} {k : Prog (TpuEff nD τ sig (Elt F) Λ₀ .tc) α} {Q : α → sProp 𝕄}
    (hG : oG = ![128 * g.val, 0]) (hH : oH = ![128 * g.val, 0]) (hw : w = grp m c g)
    (h : iprop(records m K ∗ SendSt m c (8 * g.val) (128 * (g.val + 1)) ∗ R) ⊢ WP k Q) :
    iprop(records m K ∗ SendSt m c (8 * g.val) (128 * g.val) ∗ R) ⊢ WP
      (.op (.load sM (Rect.unit (s := S512x1024) oG S128x1024.size iG).toLoadRect l1) (fun _ =>
        .op (.store sM (Rect.unit (s := S512x1024) oH S128x1024.size iH) w Finset.univ h1 h2) (fun _ => k))) Q := by
  subst hG hH hw
  have hg : 128 * g.val + 128 ≤ 512 := by have := g.isLt; omega
  have hl : (sM.view.setOn (Rect.unit (s := S512x1024) ![128 * g.val, 0] S128x1024.size iG).toLoadRect.set) ⊆ rows (16 * (8 * g.val)) 512 := by
    intro i hi
    obtain ⟨j, hj, rfl⟩ := Finset.mem_map.mp hi
    have := mem_rows.mp (rect_rows.mp hj)
    exact (mem_rows (i := j)).mpr ⟨by omega, row_lt j⟩
  have hset : ((sM.access (Rect.unit (s := S512x1024) ![128 * g.val, 0] S128x1024.size iH)).setOn Finset.univ) = rows (128 * g.val) (128 * g.val + 128) :=
    send_set (128 * g.val) 128 iH
  have hs : ((sM.access (Rect.unit (s := S512x1024) ![128 * g.val, 0] S128x1024.size iH)).setOn Finset.univ) ⊆ rows (16 * (8 * g.val)) 512 := by
    rw [hset]; intro i hi
    have := mem_rows.mp hi
    exact mem_rows.mpr ⟨by omega, row_lt i⟩
  have hc : ∀ f : S512x1024.Idx → Elt F .bf16, (∀ i, (i 0).val < 128 * g.val → f i = sendAll m c i) → ∀ i, (i 0).val < 128 * (g.val + 1) →
      (sM.access (Rect.unit (s := S512x1024) ![128 * g.val, 0] S128x1024.size iH)).write (Elt F) f (grp m c g) Finset.univ i = sendAll m c i := by
    intro f hf i hi
    by_cases hm : i ∈ (sM.access (Rect.unit (s := S512x1024) ![128 * g.val, 0] S128x1024.size iH)).setOn Finset.univ
    · have hr := hm
      rw [hset] at hr
      have hr := mem_rows.mp hr
      obtain ⟨x, -, rfl⟩ := Finset.mem_map.mp hm
      rw [View.write_emb_of_mem _ _ (Finset.mem_univ x)]
      have e0 : (((sM.access (Rect.unit (s := S512x1024) ![128 * g.val, 0] S128x1024.size iH)).emb x 0 : Fin _) : ℕ) = 128 * g.val + (x 0).val :=
        ValueKit.view_emb_slice_whole_unit_val cc0_scratch0 _ _ _ x 0
      have e1 : (((sM.access (Rect.unit (s := S512x1024) ![128 * g.val, 0] S128x1024.size iH)).emb x 1 : Fin _) : ℕ) = 0 + (x 1).val :=
        ValueKit.view_emb_slice_whole_unit_val cc0_scratch0 _ _ _ x 1
      have hx0 : (x 0).val < 128 := (x 0).isLt
      exact (sendAll_at m c _ g (by omega) x (by omega) (by omega)).symm
    · rw [View.write_of_not_mem _ _ _ hm]
      refine hf i ?_
      rw [hset, mem_rows] at hm
      omega
  unfold SendSt fillTo
  iintro ⟨#Hrec, ⟨HO, Hfam, ⟨%f, %hf, Hs⟩⟩, HR⟩
  iapply (wp_load 𝒱₀ (c : Thread nD τ) none Set.univ (m := sM) hl) $$ Hs; iintro Hs
  iapply (wp_store 𝒱₀ (c : Thread nD τ) none Set.univ (m := sM) (Mk := Finset.univ) hs) $$ Hs; iintro Hs
  iapply h
  unfold SendSt fillTo
  isplitr; · iexact Hrec
  isplitr [HR]
  · isplitl [HO]; · iexact HO
    isplitl [Hfam]; · iexact Hfam
    iexists ((sM.access (Rect.unit (s := S512x1024) ![128 * g.val, 0] S128x1024.size iH)).write (Elt F) f (grp m c g) Finset.univ)
    isplitr; · ipureintro; exact hc f hf
    iexact Hs
  · iexact HR

/-! ## The waits -/

theorem bar_step {j : ℤ} (hj : j = ((31 : ℕ) : ℤ)) {R : sProp 𝕄} {k : PUnit → Prog (TpuEff nD τ sig (Elt F) Λ₀ .tc) α} {Q : α → sProp 𝕄}
    (h : iprop(records m K ∗ (ow (F := F) c (oSend c 0) ∗ semVal (barCell c) 0 ∗ bigSep (Finset.univ.erase c) fun d => slotAny (F := F) d c) ∗ R) ⊢ WP (k ⟨⟩) Q) :
    iprop(records m K ∗ (levAts L lv ∗ cred (tallyAt (barCell c) () 31) ∗ ow (F := F) c (oSend c 0) ∗ atPos ER (barCell c) 0 ∅ 0) ∗ R)
      ⊢ WP (.op (.semWait barS j) k) Q := by
  subst hj
  unfold ow
  iintro ⟨#Hrec, ⟨#Hlev, Hcr, ⟨%W, HO⟩, Hat⟩, HR⟩
  ihave #Hi := (inv_at m K (c, none)) $$ Hrec
  ihave HMW := (mayWait_bar (F := F) c 0) $$ Hlev
  iapply (Rounds.wp_wait_rest_token 𝒱₀ ER (rd m) (c : Thread nD τ) none (κ := K (c, none)) (wpE_semWait_eq 𝒱₀ (c : Thread nD τ) none Set.univ)
      (Set.mem_univ _) () (O := oSend c 0) (W := W) (R := 0) (m := 0) (T := ∅) (by rw [expect_bar])) $$ [Hcr HO HMW Hat]
  · isplitr; · iexact Hi
    isplitl [Hcr]; · iexact Hcr
    isplitl [HO]; · iexact HO
    isplitl [HMW]; · iexact HMW
    iexact Hat
  iintro ⟨HO, Hat, -, Hpay⟩
  imod (Rounds.cell_close ER (rd m) (Set.mem_univ (K (c, none))) (fun h => h) (R := 1) (duties_later m (barCell c))) $$ [Hat] with HzB
  · isplitr; · iexact Hi
    iexact Hat
  iapply h
  unfold ow
  isplitr; · iexact Hrec
  isplitr [HR]
  · isplitl [HO]; · iexists (insert (.reg barS, ()) W); iexact HO
    isplitl [HzB]; · iexact HzB
    iapply (Entails.of_eq (rest_bar m c))
    iexact Hpay
  · iexact HR

def recvPre (c : Dev nD) (t : Fin 32) : sProp 𝕄 :=
  if t = 0 then iprop(slotPts c c (recvAll m c) ∗ semVal (recvCell c c) 0)
  else iprop(atPos ER (recvCell c (peer c t)) 0 ∅ 0 ∗ cred (tallyAt (recvCell c (peer c t)) () N))
def recvPost (c : Dev nD) (t : Fin 32) : sProp 𝕄 := iprop(slotPts c (peer c t) (recvAll m c) ∗ semVal (recvCell c (peer c t)) 0)
def RecvSt (c : Dev nD) (t : ℕ) : sProp 𝕄 := iprop(ow (F := F) c 0 ∗ fam (recvPre m c) (recvPost m c) t)

theorem recv_step (t : ℕ) (ht : t < 32) (h0 : t ≠ 0) {oA : Fin 1 → ℕ} {iA} {oX : Fin 2 → ℕ} {iX iX'} {h1} {h2}
    {R : sProp 𝕄} {k : PUnit → Prog (TpuEff nD τ sig (Elt F) Λ₀ .tc) α} {Q : α → sProp 𝕄} (hA : oA = ![(peer c ⟨t, ht⟩).val])
    (h : iprop(records m K ∗ RecvSt m c (t + 1) ∗ R) ⊢ WP (k ⟨⟩) Q) :
    iprop(records m K ∗ RecvSt m c t ∗ R) ⊢ WP (.op (.waitDma2 ((SemArray.slice cc0_scratch3 (Rect.unit (s := S32) oA S1.size iA)).squeeze S_ squeezes_S1_S_).sem
        (sM.slice (Rect.unit (s := S512x1024) oX S16x1024.size iX) (fun _ => rfl)) (rM.slice (Rect.unit (s := S512x1024) oX S16x1024.size iX') (fun _ => rfl)) h1 h2) k) Q := by
  subst hA
  have hne : (⟨t, ht⟩ : Fin 32) ≠ 0 := fun e => h0 (congrArg Fin.val e)
  have hpc : peer c ⟨t, ht⟩ ≠ c := fun e => hne (peer_eq_self.mp e)
  have hstep := fam_step (recvPre m c) (recvPost m c) ht
  rw [show recvPre m c ⟨t, ht⟩ = iprop(atPos ER (recvCell c (peer c ⟨t, ht⟩)) 0 ∅ 0 ∗ cred (tallyAt (recvCell c (peer c ⟨t, ht⟩)) () N)) from if_neg hne] at hstep
  have hcd : (rM.slice (Rect.unit (s := S512x1024) oX S16x1024.size iX') (fun _ => rfl)).view.dmaCredit = N := rfl
  unfold RecvSt ow
  iintro ⟨#Hrec, ⟨⟨%W, HO⟩, Hfam⟩, HR⟩
  ihave Hf := hstep $$ Hfam
  icases Hf with ⟨⟨Hat, Hcr⟩, Hk⟩
  ihave #Hi := (inv_at m K (c, some (true, peer c ⟨t, ht⟩))) $$ Hrec
  iapply (Rounds.wp_wait_rest_token 𝒱₀ ER (rd m) (c : Thread nD τ) none (sm := .dma (recvS (peer c ⟨t, ht⟩))) (κ := K (c, some (true, peer c ⟨t, ht⟩)))
      (wpE_waitDma2_eq 𝒱₀ (c : Thread nD τ) none Set.univ)
      (Set.mem_univ _) () (O := 0) (W := W) (R := 0) (m := 0) (T := ∅) (by rw [expect_recv m c _ hpc, hcd, Nat.zero_add])) $$ [Hcr HO Hat]
  · isplitr; · iexact Hi
    isplitl [Hcr]; · iexact Hcr
    isplitl [HO]; · iexact HO
    isplitr; · rw [MayWait_zero]; iempintro
    iexact Hat
  iintro ⟨HO, Hat, -, Hpay⟩
  imod (Rounds.cell_close ER (rd m) (Set.mem_univ (K (c, some (true, peer c ⟨t, ht⟩)))) (fun h => h) (R := 1) (duties_later m (recvCell c (peer c ⟨t, ht⟩)))) $$ [Hat] with Hz
  · isplitr; · iexact Hi
    iexact Hat
  iapply h
  unfold RecvSt ow
  isplitr; · iexact Hrec
  isplitr [HR]
  · isplitl [HO]; · iexists (insert (.dma (recvS (peer c ⟨t, ht⟩)), ()) W); iexact HO
    iapply Hk
    unfold recvPost
    isplitl [Hpay]
    · iapply (Entails.of_eq (rest_recv m c _ hpc)); iexact Hpay
    iexact Hz
  · iexact HR

def drainPre (c : Dev nD) (q : Fin 32) : sProp 𝕄 :=
  if q = own c then iprop(blkPts m c q ∗ semVal (sendCell c q) 0)
  else iprop(atPos ER (sendCell c q) 0 ∅ 0 ∗ cred (tallyAt (sendCell c q) () N))
def drainPost (c : Dev nD) (q : Fin 32) : sProp 𝕄 := iprop(blkPts m c q ∗ semVal (sendCell c q) 0)
def DrainSt (c : Dev nD) (q : ℕ) : sProp 𝕄 := iprop(ow (F := F) c 0 ∗ fam (drainPre m c) (drainPost m c) q)

theorem drain_step (q : ℕ) (hq : q < 32) {C : BitVec 1} (hC : C = 1#1 ↔ (⟨q, hq⟩ : Fin 32) ≠ own c)
    {e : C = 1#1 → TpuEff nD τ sig (Elt F) Λ₀ .tc PUnit} {oA : Fin 1 → ℕ}
    (he : ∀ hc : C = 1#1, ∃ iA oX iX oY iY h1 h2, e hc = .waitDma2 ((SemArray.slice cc0_scratch2 (Rect.unit (s := S32) oA S1.size iA)).squeeze S_ squeezes_S1_S_).sem
        (rM.slice (Rect.unit (s := S512x1024) oX S16x1024.size iX) (fun _ => rfl)) (sM.slice (Rect.unit (s := S512x1024) oY S16x1024.size iY) (fun _ => rfl)) h1 h2)
    (hA : oA = ![q])
    {R : sProp 𝕄} {k : Prog (TpuEff nD τ sig (Elt F) Λ₀ .tc) α} {Q : α → sProp 𝕄}
    (h : iprop(records m K ∗ DrainSt m c (q + 1) ∗ R) ⊢ WP k Q) :
    iprop(records m K ∗ DrainSt m c q ∗ R) ⊢ WP (dite (C = 1#1) (fun hc => .op (e hc) (fun _ => k)) (fun _ => k)) Q := by
  subst hA
  have hstep := fam_step (drainPre m c) (drainPost m c) hq
  by_cases hc : C = 1#1
  swap
  · rw [dif_neg hc]
    have hown : (⟨q, hq⟩ : Fin 32) = own c := by by_contra hne; exact hc (hC.mpr hne)
    refine BIBase.Entails.trans (Q := iprop(records m K ∗ DrainSt m c (q + 1) ∗ R)) ?_ h
    rw [show drainPre m c ⟨q, hq⟩ = drainPost m c ⟨q, hq⟩ from if_pos hown] at hstep
    unfold DrainSt
    iintro ⟨#Hrec, ⟨HO, Hfam⟩, HR⟩
    ihave Hf := hstep $$ Hfam
    icases Hf with ⟨Hpre, Hk⟩
    isplitr; · iexact Hrec
    isplitr [HR]
    · isplitl [HO]; · iexact HO
      iapply Hk; iexact Hpre
    · iexact HR
  rw [dif_pos hc]
  have hown : (⟨q, hq⟩ : Fin 32) ≠ own c := hC.mp hc
  obtain ⟨iA, oX, iX, oY, iY, h1, h2, he⟩ := he hc
  rw [he]
  rw [show drainPre m c ⟨q, hq⟩ = iprop(atPos ER (sendCell c ⟨q, hq⟩) 0 ∅ 0 ∗ cred (tallyAt (sendCell c ⟨q, hq⟩) () N)) from if_neg hown] at hstep
  have hcd : (sM.slice (Rect.unit (s := S512x1024) oY S16x1024.size iY) (fun _ => rfl)).view.dmaCredit = N := rfl
  unfold DrainSt ow
  iintro ⟨#Hrec, ⟨⟨%W, HO⟩, Hfam⟩, HR⟩
  ihave Hf := hstep $$ Hfam
  icases Hf with ⟨⟨Hat, Hcr⟩, Hk⟩
  ihave #Hi := (inv_at m K (c, some (false, ⟨q, hq⟩))) $$ Hrec
  iapply (Rounds.wp_wait_rest_token 𝒱₀ ER (rd m) (c : Thread nD τ) none (sm := .dma (sendS ⟨q, hq⟩)) (κ := K (c, some (false, ⟨q, hq⟩)))
      (wpE_waitDma2_eq 𝒱₀ (c : Thread nD τ) none Set.univ)
      (Set.mem_univ _) () (O := 0) (W := W) (R := 0) (m := 0) (T := ∅) (by rw [expect_send m c _ hown, hcd, Nat.zero_add])) $$ [Hcr HO Hat]
  · isplitr; · iexact Hi
    isplitl [Hcr]; · iexact Hcr
    isplitl [HO]; · iexact HO
    isplitr; · rw [MayWait_zero]; iempintro
    iexact Hat
  iintro ⟨HO, Hat, -, Hpay⟩
  imod (Rounds.cell_close ER (rd m) (Set.mem_univ (K (c, some (false, ⟨q, hq⟩)))) (fun h => h) (R := 1) (duties_later m (sendCell c ⟨q, hq⟩))) $$ [Hat] with Hz
  · isplitr; · iexact Hi
    iexact Hat
  iapply h
  unfold DrainSt ow
  isplitr; · iexact Hrec
  isplitr [HR]
  · isplitl [HO]; · iexists (insert (.dma (sendS ⟨q, hq⟩), ()) W); iexact HO
    iapply Hk
    unfold drainPost
    isplitl [Hpay]
    · iapply (Entails.of_eq (rest_send m c _ hown)); iexact Hpay
    iexact Hz
  · iexact HR

end Run

end Cert.KProof

end
-- ==== Proof.Body.lean ====
/-
# `Body`: the body of the kernel, run once at a symbolic device

The phases of `Steps` put together: the states between two phases are rearranged by the lemmas `start_step`,
`sig_end`, `send_start`, `recv_start`, `drain_start` and `drain_end`.
-/
module

public import proofs.«01_k».proof.Proof.Steps

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 32) → ℕ) (c : Dev nD)

local notation "WP" => wp frame (wpE (defs₀ (F := F)) 𝒱₀ (c : Thread nD τ) none) Set.univ

/-! ## Families -/

omit [FloatOps F] in
/-- One member of a family changes. -/
theorem fam_swap (i : Fin 32) (Φ Ψ : Fin 32 → sProp 𝕄) (h : ∀ j, j ≠ i → Φ j ⊢ Ψ j) :
    bigSep Finset.univ Φ ⊢ iprop(Φ i ∗ (Ψ i -∗ bigSep Finset.univ Ψ)) := by
  rw [bigSep_univ_split i (Φ := Φ), bigSep_univ_split i (Φ := Ψ)]
  have hm : bigSep (Finset.univ.erase i) Φ ⊢ bigSep (Finset.univ.erase i) Ψ := bigSep_mono fun j hj => h j (Finset.ne_of_mem_erase hj)
  show iprop(Φ i ∗ bigSep (Finset.univ.erase i) Φ) ⊢ iprop(Φ i ∗ (Ψ i -∗ (Ψ i ∗ bigSep (Finset.univ.erase i) Ψ)))
  iintro ⟨H, HR⟩
  isplitl [H]; · iexact H
  iintro HΨ
  isplitl [HΨ]; · iexact HΨ
  iapply hm; iexact HR

omit [FloatOps F] in
theorem sepSep (Φ Ψ : Fin 32 → sProp 𝕄) : bigSep Finset.univ (fun i => iprop(Φ i ∗ Ψ i)) = iprop(bigSep Finset.univ Φ ∗ bigSep Finset.univ Ψ) :=
  bigSep_sep _ _ _

omit [FloatOps F] in
theorem famMono {Φ Ψ : Fin 32 → sProp 𝕄} (h : ∀ i, Φ i ⊢ Ψ i) : bigSep Finset.univ Φ ⊢ bigSep Finset.univ Ψ := bigSep_mono fun i _ => h i

omit [FloatOps F] in
/-- A buffer is its blocks. -/
theorem slots_recv (f : Buf (Elt F) (rLoc c)) :
    (bigSep Finset.univ fun s : Fin 32 => (rLoc c ↦[slot s]{fullShare} f : sProp 𝕄)) = (rLoc c ↦[Finset.univ]{fullShare} f) :=
  (pointsTo_biUnion (ℓ := rLoc c) Finset.univ slot slot_disjoint).symm.trans (congrArg (fun S => (rLoc c ↦[S]{fullShare} f : sProp 𝕄)) slot_cover)
omit [FloatOps F] in
theorem slots_send (f : Buf (Elt F) (sLoc c)) :
    (bigSep Finset.univ fun s : Fin 32 => (sLoc c ↦[slot s]{fullShare} f : sProp 𝕄)) = (sLoc c ↦[Finset.univ]{fullShare} f) :=
  (pointsTo_biUnion (ℓ := sLoc c) Finset.univ slot slot_disjoint).symm.trans (congrArg (fun S => (sLoc c ↦[S]{fullShare} f : sProp 𝕄)) slot_cover)

/-! ## What a device starts from -/

/-- The positions at its own cells, the tokens it may spend, the rights to wait. -/
def ghost : sProp 𝕄 :=
  iprop(atPos ER (barCell c) 0 ∅ 0
    ∗ (bigSep Finset.univ fun q => atPos ER (sendCell c q) 0 ∅ 0)
    ∗ (bigSep Finset.univ fun s => atPos ER (recvCell c s) 0 ∅ 0)
    ∗ (bigSep Finset.univ fun t => dutyTok ER (barCell (peer c t)) 0 c)
    ∗ (bigSep Finset.univ fun q => iprop(dutyTok ER (recvCell (dst c q) c) 0 0 ∗ dutyTok ER (sendCell c q) 0 0)))
def rights : sProp 𝕄 :=
  iprop(cred (tallyAt (barCell c) () 31) ∗ bigSep Finset.univ fun t => if t = 0 then iprop(emp) else cred (tallyAt (recvCell c (peer c t)) () N))
def buf0 : sProp 𝕄 := iprop(∃ f : Buf (Elt F) (sLoc c), sLoc c ↦[Finset.univ]{fullShare} f)
def buf1 : sProp 𝕄 := iprop(∃ f : Buf (Elt F) (rLoc c), rLoc c ↦[Finset.univ]{fullShare} f)

/-- The positions left for the waits, the block that stays excepted. -/
def sendPos (q : Fin 32) : sProp 𝕄 := if q = own c then semVal (sendCell c q) 0 else atPos ER (sendCell c q) 0 ∅ 0
def recvPos (t : Fin 32) : sProp 𝕄 := if t = 0 then semVal (recvCell c c) 0 else atPos ER (recvCell c (peer c t)) 0 ∅ 0
def recvRight (t : Fin 32) : sProp 𝕄 := if t = 0 then iprop(emp) else cred (tallyAt (recvCell c (peer c t)) () N)

def barSt : sProp 𝕄 := iprop(cred (tallyAt (barCell c) () 31) ∗ atPos ER (barCell c) 0 ∅ 0)
def sendToks : sProp 𝕄 := bigSep Finset.univ fun q => iprop(dutyTok ER (recvCell (dst c q) c) 0 0 ∗ dutyTok ER (sendCell c q) 0 0)
def recvSt0 : sProp 𝕄 := iprop((bigSep Finset.univ (recvPos (F := F) c)) ∗ bigSep Finset.univ (recvRight (F := F) c))

variable {α : Type}

theorem start_step {R : sProp 𝕄} {p : Prog (TpuEff nD τ sig (Elt F) Λ₀ .tc) α} {Q : α → sProp 𝕄}
    (h : iprop(records m K ∗ SigSt (F := F) c 1 ∗ (levAts L lv ∗ barSt (F := F) c) ∗ sendToks (F := F) c ∗ buf0 (F := F) c ∗ recvSt0 (F := F) c
      ∗ bigSep Finset.univ (sendPos (F := F) c) ∗ R) ⊢ WP p Q) :
    iprop(records m K ∗ ow (F := F) c (O₀ c) ∗ levAts L lv ∗ ghost (F := F) c ∗ rights (F := F) c ∗ buf0 (F := F) c ∗ buf1 (F := F) c ∗ R) ⊢ WP p Q := by
  have hsend := fam_swap (F := F) (own c) (fun q => atPos ER (sendCell c q) 0 ∅ 0) (sendPos c) (fun j hj => by unfold sendPos; rw [if_neg hj])
  rw [show sendPos (F := F) c (own c) = semVal (sendCell c (own c)) 0 from if_pos rfl] at hsend
  have hrecv : bigSep Finset.univ (fun s => atPos ER (recvCell c s) 0 ∅ 0)
      ⊢ iprop(atPos ER (recvCell c c) 0 ∅ 0 ∗ (semVal (recvCell c c) 0 -∗ bigSep Finset.univ (recvPos (F := F) c))) := by
    have h1 := fam_swap (F := F) 0 (fun t => atPos ER (recvCell c (peer c t)) 0 ∅ 0) (recvPos c) (fun j hj => by unfold recvPos; rw [if_neg hj])
    rw [show recvPos (F := F) c 0 = semVal (recvCell c c) 0 from if_pos rfl, peer_zero] at h1
    rw [bigSep_univ_equiv (peerE c)]
    exact h1
  have hslots : buf1 (F := F) c ⊢ bigSep Finset.univ fun t => slotAny (F := F) c (peer c t) := by
    unfold buf1
    iintro ⟨%f, Hf⟩
    have e : (rLoc c ↦[Finset.univ]{fullShare} f : sProp 𝕄) = bigSep Finset.univ fun s => slotPts c s f := by
      exact (slots_recv c f).symm
    have e2 : (bigSep Finset.univ fun s => slotPts c s f) ⊢ bigSep Finset.univ fun t => slotAny (F := F) c (peer c t) := by
      rw [bigSep_univ_equiv (peerE c)]
      refine famMono fun t => ?_
      unfold slotAny
      iintro H; iexists f; iexact H
    iapply e2
    iapply (Entails.of_eq e)
    iexact Hf
  have hsig : iprop((bigSep Finset.univ fun t => dutyTok ER (barCell (peer c t)) 0 c) ∗ bigSep Finset.univ fun t => slotAny (F := F) c (peer c t))
      ⊢ fam (sigPre (F := F) c) (sigPost (F := F) c) 1 := by
    rw [← sepSep]
    refine BIBase.Entails.trans (famMono (Ψ := sigPre (F := F) c) fun t => ?_) (fam_one _ _ ?_)
    · unfold sigPre
      by_cases h0 : t = 0
      · subst h0; rw [if_pos rfl, peer_zero]; iintro ⟨-, H⟩; iexact H
      · rw [if_neg h0]
    · rw [show sigPre (F := F) c ⟨0, by decide⟩ = sigPost c ⟨0, by decide⟩ from rfl]
  have hO : O₀ c = oSig c 1 + oSend c 0 := by unfold O₀; rw [oSig_zero]
  rw [hO]
  unfold ghost rights
  iintro ⟨#Hrec, HO, #Hlev, ⟨HatB, HatS, HatR, HtB, HtX⟩, ⟨HcB, HcR⟩, Hb0, Hb1, HR⟩
  ihave Hs := hsend $$ HatS
  icases Hs with ⟨HatS, HkS⟩
  ihave Hr := hrecv $$ HatR
  icases Hr with ⟨HatR, HkR⟩
  imod (Rounds.cell_close ER (rd m) (Set.mem_univ (K (c, some (false, own c)))) (fun h => h) (R := 0) (duties_send_own m c)) $$ [HatS] with HzS
  · isplitr; · iapply (inv_at m K (c, some (false, own c))); iexact Hrec
    iexact HatS
  imod (Rounds.cell_close ER (rd m) (Set.mem_univ (K (c, some (true, c)))) (fun h => h) (R := 0) (duties_recv_own m c)) $$ [HatR] with HzR
  · isplitr; · iapply (inv_at m K (c, some (true, c))); iexact Hrec
    iexact HatR
  iapply h
  unfold SigSt barSt sendToks recvSt0
  isplitr; · iexact Hrec
  isplitl [HO HtB Hb1]
  · isplitl [HO]; · iexact HO
    iapply hsig
    isplitl [HtB]; · iexact HtB
    iapply hslots; iexact Hb1
  isplitl [HcB HatB]
  · isplitr; · iexact Hlev
    isplitl [HcB]; · iexact HcB
    iexact HatB
  isplitl [HtX]; · iexact HtX
  isplitl [Hb0]; · iexact Hb0
  isplitl [HzR HkR HcR]
  · isplitl [HzR HkR]
    · iapply HkR; iexact HzR
    · iexact HcR
  isplitl [HzS HkS]
  · iapply HkS; iexact HzS
  iexact HR

theorem sig_end {R : sProp 𝕄} : iprop(records m K ∗ SigSt (F := F) c 32 ∗ (levAts L lv ∗ barSt (F := F) c) ∗ R)
    ⊢ iprop(records m K ∗ (levAts L lv ∗ cred (tallyAt (barCell c) () 31) ∗ ow (F := F) c (oSend c 0) ∗ atPos ER (barCell c) 0 ∅ 0) ∗ slotAny (F := F) c c ∗ R) := by
  have hf : fam (sigPre (F := F) c) (sigPost (F := F) c) 32 ⊢ slotAny (F := F) c c := by
    refine (fam_top _ _).trans ((Entails.of_eq (bigSep_univ_split 0)).trans ?_)
    rw [show sigPost (F := F) c 0 = slotAny c c from if_pos rfl]
    show iprop(slotAny c c ∗ _) ⊢ _
    iintro ⟨H, -⟩; iexact H
  unfold SigSt barSt
  rw [oSig_top, zero_add]
  iintro ⟨Hrec, ⟨HO, Hfam⟩, ⟨Hlev, Hc, Hat⟩, HR⟩
  isplitl [Hrec]; · iexact Hrec
  isplitl [HO Hlev Hc Hat]
  · isplitl [Hlev]; · iexact Hlev
    isplitl [Hc]; · iexact Hc
    isplitl [HO]; · iexact HO
    iexact Hat
  isplitl [Hfam]; · iapply hf; iexact Hfam
  iexact HR

theorem send_start {R : sProp 𝕄} :
    iprop(records m K ∗ (ow (F := F) c (oSend c 0) ∗ semVal (barCell c) 0 ∗ bigSep (Finset.univ.erase c) fun d => slotAny (F := F) d c)
      ∗ slotAny (F := F) c c ∗ sendToks (F := F) c ∗ buf0 (F := F) c ∗ R)
    ⊢ iprop(records m K ∗ SendSt m c 0 0 ∗ R ∗ semVal (barCell c) 0) := by
  have hslots : iprop(slotAny (F := F) c c ∗ bigSep (Finset.univ.erase c) fun d => slotAny (F := F) d c) ⊢ bigSep Finset.univ fun q => slotAny (F := F) (dst c q) c := by
    refine (show _ ⊢ bigSep Finset.univ fun d => slotAny (F := F) d c from Entails.of_eq (bigSep_univ_split c (Φ := fun d => slotAny (F := F) d c)).symm).trans ?_
    rw [bigSep_univ_equiv (dstE c)]; exact Entails.rfl
  have hfam : iprop(sendToks (F := F) c ∗ bigSep Finset.univ fun q => slotAny (F := F) (dst c q) c) ⊢ fam (sendPre (F := F) c) (sendPost m c) 0 := by
    unfold sendToks
    rw [← sepSep]
    refine BIBase.Entails.trans (famMono (Ψ := sendPre (F := F) c) fun q => ?_) (fam_zero _ _)
    unfold sendPre
    by_cases h0 : q = own c
    · subst h0; rw [if_pos rfl, dst_own]; iintro ⟨-, H⟩; iexact H
    · rw [if_neg h0]; iintro ⟨⟨H1, H2⟩, H3⟩
      isplitl [H1]; · iexact H1
      isplitl [H2]; · iexact H2
      iexact H3
  have hfill : buf0 (F := F) c ⊢ fillTo m c (16 * 0) 0 := by
    unfold buf0 fillTo
    iintro ⟨%f, Hf⟩
    iexists (f : S512x1024.Idx → Elt F .bf16)
    isplitr; · ipureintro; exact fun i h => absurd h (Nat.not_lt_zero _)
    rw [show rows (16 * 0) 512 = Finset.univ from rows_all]
    iexact Hf
  unfold SendSt
  iintro ⟨Hrec, ⟨HO, HzB, Hsl⟩, Hown, Htok, Hb, HR⟩
  isplitl [Hrec]; · iexact Hrec
  isplitr [HR HzB]
  · isplitl [HO]; · iexact HO
    isplitl [Hsl Hown Htok]
    · iapply hfam
      isplitl [Htok]; · iexact Htok
      iapply hslots
      isplitl [Hown]; · iexact Hown
      iexact Hsl
    · iapply hfill; iexact Hb
  isplitl [HR]; · iexact HR
  iexact HzB

/-- The copies under way, for the drains. -/
def sent : sProp 𝕄 := bigSep Finset.univ fun q => if q = own c then blkPts m c q else cred (tallyAt (sendCell c q) () N)

theorem recv_start {R : sProp 𝕄} :
    iprop(records m K ∗ SendSt m c 32 512 ∗ recvSt0 (F := F) c ∗ R) ⊢ iprop(records m K ∗ RecvSt m c 1 ∗ sent m c ∗ R) := by
  have hsplit : fam (sendPre (F := F) c) (sendPost m c) 32 ⊢ iprop(sent m c ∗ slotPts c c (recvAll m c)) := by
    refine (fam_top _ _).trans ?_
    refine (fam_swap (own c) (sendPost m c) (fun q => if q = own c then blkPts m c q else cred (tallyAt (sendCell c q) () N)) (fun j hj => ?_)).trans ?_
    · unfold sendPost; rw [if_neg hj, if_neg hj]
    · unfold sent sendPost
      rw [if_pos rfl, if_pos rfl]
      iintro ⟨⟨H1, H2⟩, Hk⟩
      isplitl [H1 Hk]
      · iapply Hk; iexact H1
      · iexact H2
  have hrecv : iprop(slotPts c c (recvAll m c) ∗ recvSt0 (F := F) c) ⊢ fam (recvPre m c) (recvPost m c) 1 := by
    refine BIBase.Entails.trans ?_ (fam_one _ _ ?_)
    · unfold recvSt0
      rw [← sepSep]
      have := fam_swap (F := F) 0 (fun t => iprop(recvPos (F := F) c t ∗ recvRight (F := F) c t)) (recvPre m c) (fun j hj => by
        unfold recvPos recvRight recvPre; rw [if_neg hj, if_neg hj, if_neg hj])
      rw [show recvPos (F := F) c 0 = semVal (recvCell c c) 0 from if_pos rfl,
        show recvPre m c 0 = iprop(slotPts c c (recvAll m c) ∗ semVal (recvCell c c) 0) from if_pos rfl] at this
      iintro ⟨Hs, Hf⟩
      ihave Hf := this $$ Hf
      icases Hf with ⟨⟨Hz, -⟩, Hk⟩
      iapply Hk
      isplitl [Hs]; · iexact Hs
      iexact Hz
    · rw [show recvPre m c ⟨0, by decide⟩ = iprop(slotPts c c (recvAll m c) ∗ semVal (recvCell c c) 0) from if_pos rfl]
      unfold recvPost
      rw [show peer c ⟨0, by decide⟩ = c from peer_zero c]
  unfold SendSt RecvSt
  rw [oSend_top]
  iintro ⟨Hrec, ⟨HO, Hfam, -⟩, Hr0, HR⟩
  ihave Hs := hsplit $$ Hfam
  icases Hs with ⟨Hsent, Hslot⟩
  isplitl [Hrec]; · iexact Hrec
  isplitr [Hsent HR]
  · isplitl [HO]; · iexact HO
    iapply hrecv
    isplitl [Hslot]; · iexact Hslot
    iexact Hr0
  isplitl [Hsent]; · iexact Hsent
  iexact HR

/-- The receive buffer, whole. -/
def gathered : sProp 𝕄 := (rLoc c ↦[Finset.univ]{fullShare} (recvAll m c : Buf (Elt F) (rLoc c)))
def recvZ : sProp 𝕄 := bigSep Finset.univ fun s => semVal (recvCell c s) 0
def sendZ : sProp 𝕄 := bigSep Finset.univ fun q => semVal (sendCell c q) 0

theorem drain_start {R : sProp 𝕄} :
    iprop(records m K ∗ RecvSt m c 32 ∗ sent m c ∗ bigSep Finset.univ (sendPos (F := F) c) ∗ R)
    ⊢ iprop(records m K ∗ DrainSt m c 0 ∗ (gathered m c ∗ R) ∗ recvZ (F := F) c) := by
  have hr : fam (recvPre m c) (recvPost m c) 32 ⊢ iprop(gathered m c ∗ recvZ (F := F) c) := by
    refine (fam_top _ _).trans ?_
    have e : bigSep Finset.univ (recvPost m c) = bigSep Finset.univ fun s => iprop(slotPts c s (recvAll m c) ∗ semVal (recvCell c s) 0) := by
      rw [bigSep_univ_equiv (peerE c) (Φ := fun s => iprop(slotPts c s (recvAll m c) ∗ semVal (recvCell c s) 0))]; rfl
    rw [e, sepSep]
    unfold gathered recvZ
    have e2 : (bigSep Finset.univ fun s => slotPts c s (recvAll m c)) = (rLoc c ↦[Finset.univ]{fullShare} (recvAll m c : Buf (Elt F) (rLoc c)) : sProp 𝕄) := by
      exact slots_recv c _
    rw [e2]
  have hd : iprop(sent m c ∗ bigSep Finset.univ (sendPos (F := F) c)) ⊢ fam (drainPre m c) (drainPost m c) 0 := by
    refine BIBase.Entails.trans ?_ (fam_zero _ _)
    unfold sent
    rw [← sepSep]
    refine famMono fun q => ?_
    unfold sendPos drainPre
    by_cases h0 : q = own c
    · rw [if_pos h0, if_pos h0, if_pos h0]
    · rw [if_neg h0, if_neg h0, if_neg h0]; iintro ⟨H1, H2⟩
      isplitl [H2]; · iexact H2
      iexact H1
  unfold RecvSt DrainSt
  iintro ⟨Hrec, ⟨HO, Hfam⟩, Hsent, Hpos, HR⟩
  ihave Hs := hr $$ Hfam
  icases Hs with ⟨Hg, Hz⟩
  isplitl [Hrec]; · iexact Hrec
  isplitl [HO Hsent Hpos]
  · isplitl [HO]; · iexact HO
    iapply hd
    isplitl [Hsent]; · iexact Hsent
    iexact Hpos
  isplitl [Hg HR]
  · isplitl [Hg]; · iexact Hg
    iexact HR
  iexact Hz

/-- What a device ends with, beside its staging buffers. -/
def ended : sProp 𝕄 := iprop(buf0 (F := F) c ∗ buf1 (F := F) c ∗ semVal (barCell c) 0 ∗ sendZ (F := F) c ∗ recvZ (F := F) c)

theorem drain_end {R : sProp 𝕄} :
    iprop(records m K ∗ DrainSt m c 32 ∗ ((gathered m c ∗ R ∗ semVal (barCell c) 0) ∗ recvZ (F := F) c))
    ⊢ iprop(ended (F := F) c ∗ ow (F := F) c 0 ∗ R) := by
  have hd : fam (drainPre m c) (drainPost m c) 32 ⊢ iprop(buf0 (F := F) c ∗ sendZ (F := F) c) := by
    refine (fam_top _ _).trans ?_
    unfold drainPost
    rw [sepSep]
    unfold buf0 sendZ
    have e2 : (bigSep Finset.univ fun q => blkPts m c q) = (sLoc c ↦[Finset.univ]{fullShare} (sendAll m c : Buf (Elt F) (sLoc c)) : sProp 𝕄) := by
      exact slots_send c _
    rw [e2]
    iintro ⟨H1, H2⟩
    isplitl [H1]; · iexists (sendAll m c : Buf (Elt F) (sLoc c)); iexact H1
    iexact H2
  unfold DrainSt ended gathered
  iintro ⟨-, ⟨HO, Hfam⟩, ⟨⟨Hg, HR, HzB⟩, HzR⟩⟩
  ihave Hs := hd $$ Hfam
  icases Hs with ⟨Hb0, HzS⟩
  isplitl [Hb0 HzS Hg HzB HzR]
  · isplitl [Hb0]; · iexact Hb0
    isplitl [Hg]; · unfold buf1; iexists (recvAll m c : Buf (Elt F) (rLoc c)); iexact Hg
    isplitl [HzB]; · iexact HzB
    isplitl [HzS]; · iexact HzS
    iexact HzR
  isplitl [HO]; · iexact HO
  iexact HR

/-! ## The staging buffers -/

abbrev held (c : Dev nD) (b : Ref sig .tc) (X : b.ty.Contents (Elt F)) : sProp 𝕄 := (((c : Thread nD τ).loc b) ↦[Finset.univ]{fullShare} (X : Buf (Elt F) ((c : Thread nD τ).loc b)))

/-- The operands at what the pipeline staged. -/
def staged : sProp 𝕄 := iprop(held c cc0_stg0_0 (stgX m c) ∗ held c cc0_stg1_0 (stgR m c) ∗ held c cc0_stg2_0 (stgE m c) ∗ held c cc0_stg3_0 (stgW m c))
def outBuf : sProp 𝕄 := iprop(∃ X, held (F := F) c cc0_stg4_0 X)

theorem load_x {A S R : sProp 𝕄} {Q : α → sProp 𝕄} {r : LoadRect S1024x512} {l} {k : (r.shape.Idx → Elt F .bf16) → Prog (TpuEff nD τ sig (Elt F) Λ₀ .tc) α}
    (h : iprop(A ∗ S ∗ staged m c ∗ R) ⊢ WP (k (xM.view.readAt (Elt F) r (stgX m c))) Q) : iprop(A ∗ S ∗ staged m c ∗ R) ⊢ WP (.op (.load xM r l) k) Q := by
  unfold staged at h ⊢
  iintro ⟨HA, HS, ⟨H0, H1, H2, H3⟩, HR⟩
  iapply (wp_load 𝒱₀ (c : Thread nD τ) none Set.univ (m := xM) (Finset.subset_univ _)) $$ H0; iintro H0
  iapply h
  isplitl [HA]; · iexact HA
  isplitl [HS]; · iexact HS
  isplitr [HR]
  · isplitl [H0]; · iexact H0
    isplitl [H1]; · iexact H1
    isplitl [H2]; · iexact H2
    iexact H3
  iexact HR
theorem load_w {A S R : sProp 𝕄} {Q : α → sProp 𝕄} {r : LoadRect S512x128} {l} {k : (r.shape.Idx → Elt F .bf16) → Prog (TpuEff nD τ sig (Elt F) Λ₀ .tc) α}
    (h : iprop(A ∗ S ∗ staged m c ∗ R) ⊢ WP (k (wM.view.readAt (Elt F) r (stgR m c))) Q) : iprop(A ∗ S ∗ staged m c ∗ R) ⊢ WP (.op (.load wM r l) k) Q := by
  unfold staged at h ⊢
  iintro ⟨HA, HS, ⟨H0, H1, H2, H3⟩, HR⟩
  iapply (wp_load 𝒱₀ (c : Thread nD τ) none Set.univ (m := wM) (Finset.subset_univ _)) $$ H1; iintro H1
  iapply h
  isplitl [HA]; · iexact HA
  isplitl [HS]; · iexact HS
  isplitr [HR]
  · isplitl [H0]; · iexact H0
    isplitl [H1]; · iexact H1
    isplitl [H2]; · iexact H2
    iexact H3
  iexact HR
theorem load_e {A S R : sProp 𝕄} {Q : α → sProp 𝕄} {r : LoadRect S1024x2} {l} {k : (r.shape.Idx → Elt F .i32) → Prog (TpuEff nD τ sig (Elt F) Λ₀ .tc) α}
    (h : iprop(A ∗ S ∗ staged m c ∗ R) ⊢ WP (k (eM.view.readAt (Elt F) r (stgE m c))) Q) : iprop(A ∗ S ∗ staged m c ∗ R) ⊢ WP (.op (.load eM r l) k) Q := by
  unfold staged at h ⊢
  iintro ⟨HA, HS, ⟨H0, H1, H2, H3⟩, HR⟩
  iapply (wp_load 𝒱₀ (c : Thread nD τ) none Set.univ (m := eM) (Finset.subset_univ _)) $$ H2; iintro H2
  iapply h
  isplitl [HA]; · iexact HA
  isplitl [HS]; · iexact HS
  isplitr [HR]
  · isplitl [H0]; · iexact H0
    isplitl [H1]; · iexact H1
    isplitl [H2]; · iexact H2
    iexact H3
  iexact HR
theorem load_v {A S R : sProp 𝕄} {Q : α → sProp 𝕄} {r : LoadRect S4x512x1024} {l} {k : (r.shape.Idx → Elt F .bf16) → Prog (TpuEff nD τ sig (Elt F) Λ₀ .tc) α}
    (h : iprop(A ∗ S ∗ staged m c ∗ R) ⊢ WP (k (vM.view.readAt (Elt F) r (stgW m c))) Q) : iprop(A ∗ S ∗ staged m c ∗ R) ⊢ WP (.op (.load vM r l) k) Q := by
  unfold staged at h ⊢
  iintro ⟨HA, HS, ⟨H0, H1, H2, H3⟩, HR⟩
  iapply (wp_load 𝒱₀ (c : Thread nD τ) none Set.univ (m := vM) (Finset.subset_univ _)) $$ H3; iintro H3
  iapply h
  isplitl [HA]; · iexact HA
  isplitl [HS]; · iexact HS
  isplitr [HR]
  · isplitl [H0]; · iexact H0
    isplitl [H1]; · iexact H1
    isplitl [H2]; · iexact H2
    iexact H3
  iexact HR

/-- The whole receive buffer is read and the result block stored. -/
theorem out_step {A S R : sProp 𝕄} {Q : α → sProp 𝕄} {Z : sProp 𝕄} {o1 o2 : Fin 2 → ℕ} {i1 i2 i3} {l1 l2 h1 h2} {w : Vec F S512x1024 .bf16 → FVec F S32x1024 .f32}
    {k : Prog (TpuEff nD τ sig (Elt F) Λ₀ .tc) α} (h1' : o1 = ![0, 0]) (h2' : o2 = ![0, 0]) (hw : w (recvAll m c) = outAt m c)
    (h : iprop(A ∗ S ∗ (gathered m c ∗ held c cc0_stg4_0 (outAt m c) ∗ R) ∗ Z) ⊢ WP k Q) :
    iprop(A ∗ S ∗ (gathered m c ∗ outBuf (F := F) c ∗ R) ∗ Z) ⊢ WP
      (.op (.load rM (Rect.unit (s := S512x1024) o1 S512x1024.size i1).toLoadRect l1) (fun v =>
        .op (.load oM (Rect.unit (s := S32x1024) o2 S32x1024.size i2).toLoadRect l2) (fun _ =>
          .op (.store oM (Rect.unit (s := S32x1024) o2 S32x1024.size i3) (w v) Finset.univ h1 h2) (fun _ => k)))) Q := by
  subst h1' h2'
  have hz : ∀ a : Fin S512x1024.rank, (![0, 0] : Fin 2 → ℕ) a = 0 := by intro a; match a with | 0 => rfl | 1 => rfl
  have hz' : ∀ a : Fin S32x1024.rank, (![0, 0] : Fin 2 → ℕ) a = 0 := by intro a; match a with | 0 => rfl | 1 => rfl
  have hk : iprop(A ∗ S ∗ (gathered m c ∗ held c cc0_stg4_0 (outAt m c) ∗ R) ∗ Z) ⊢ WP k Q := h
  have er : rM.view.readAt (Elt F) (Rect.unit (s := S512x1024) ![0, 0] S512x1024.size i1).toLoadRect (recvAll m c) = recvAll m c :=
    Memref.readAt_unit_zero (Elt F) cc0_scratch1 (funext hz) _ _
  have ew : ∀ X, (oM.access (Rect.unit (s := S32x1024) ![0, 0] S32x1024.size i3) : View sig .tc _ _ _).write (Elt F) X (w (rM.view.readAt (Elt F) (Rect.unit (s := S512x1024) ![0, 0] S512x1024.size i1).toLoadRect (recvAll m c))) Finset.univ = outAt m c := by
    intro X
    rw [er, hw]
    exact Memref.write_access_unit_zero_univ (Elt F) cc0_stg4_0 (funext hz') _ X _
  unfold gathered outBuf at *
  iintro ⟨HA, HS, ⟨Hg, ⟨%X, Ho⟩, HR⟩, HZ⟩
  iapply (wp_load 𝒱₀ (c : Thread nD τ) none Set.univ (m := rM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := Rect.unit (s := S32x1024) ![0, 0] S32x1024.size i3) (Mk := Finset.univ) (Finset.subset_univ _)) $$ Ho; iintro Ho
  rw [ew]
  ihave Hg' := (Entails.of_eq (rfl : (((c : Thread nD τ).loc cc0_scratch1) ↦[Finset.univ]{fullShare} (recvAll m c : Buf (Elt F) (rLoc c)) : sProp 𝕄) = _)) $$ Hg
  iapply hk
  isplitl [HA]; · iexact HA
  isplitl [HS]; · iexact HS
  isplitr [HZ]
  · isplitl [Hg']; · iexact Hg'
    isplitl [Ho]; · iexact Ho
    iexact HR
  iexact HZ

/-- `fill_step` with the block and row counts in closed form. -/
theorem fill_group (g : Fin 4) (q hi hi' : ℕ) (eq : q = 8 * g.val) (ehi : hi = 128 * g.val) (ehi' : hi' = 128 * (g.val + 1))
    {oG oH : Fin 2 → ℕ} {iG iH} {l1} {h1} {h2} {w : FVec F S128x1024 .bf16}
    {R : sProp 𝕄} {k : Prog (TpuEff nD τ sig (Elt F) Λ₀ .tc) α} {Q : α → sProp 𝕄}
    (hG : oG = ![128 * g.val, 0]) (hH : oH = ![128 * g.val, 0]) (hw : w = grp m c g)
    (h : iprop(records m K ∗ SendSt m c q hi' ∗ R) ⊢ WP k Q) :
    iprop(records m K ∗ SendSt m c q hi ∗ R) ⊢ WP
      (.op (.load sM (Rect.unit (s := S512x1024) oG S128x1024.size iG).toLoadRect l1) (fun _ =>
        .op (.store sM (Rect.unit (s := S512x1024) oH S128x1024.size iH) w Finset.univ h1 h2) (fun _ => k))) Q := by
  subst eq ehi ehi'
  exact fill_step m K c g hG hH hw h

/-- `recv_step` at an operation that is known to be such a wait. -/
theorem recv_await (t : ℕ) (ht : t < 32) (h0 : t ≠ 0) {e : TpuEff nD τ sig (Elt F) Λ₀ .tc PUnit} {oA : Fin 1 → ℕ}
    (he : ∃ iA oX iX iX' h1 h2, e = .waitDma2 ((SemArray.slice cc0_scratch3 (Rect.unit (s := S32) oA S1.size iA)).squeeze S_ squeezes_S1_S_).sem
      (sM.slice (Rect.unit (s := S512x1024) oX S16x1024.size iX) (fun _ => rfl)) (rM.slice (Rect.unit (s := S512x1024) oX S16x1024.size iX') (fun _ => rfl)) h1 h2)
    (hA : oA = ![(peer c ⟨t, ht⟩).val])
    {R : sProp 𝕄} {k : PUnit → Prog (TpuEff nD τ sig (Elt F) Λ₀ .tc) α} {Q : α → sProp 𝕄} (h : iprop(records m K ∗ RecvSt m c (t + 1) ∗ R) ⊢ WP (k ⟨⟩) Q) :
    iprop(records m K ∗ RecvSt m c t ∗ R) ⊢ WP (.op e k) Q := by
  obtain ⟨iA, oX, iX, iX', h1, h2, rfl⟩ := he
  exact recv_step m K c t ht h0 hA h

/-! ## Between the phases -/

/-- Everything a device holds beside what a phase works on. -/
def kept (R : sProp 𝕄) : sProp 𝕄 := iprop(recvSt0 (F := F) c ∗ bigSep Finset.univ (sendPos (F := F) c) ∗ outBuf (F := F) c ∗ semVal (barCell c) 0 ∗ R)

theorem to_bar {R : sProp 𝕄} {p : Prog (TpuEff nD τ sig (Elt F) Λ₀ .tc) α} {Q : α → sProp 𝕄}
    (h : iprop(records m K ∗ (levAts L lv ∗ cred (tallyAt (barCell c) () 31) ∗ ow (F := F) c (oSend c 0) ∗ atPos ER (barCell c) 0 ∅ 0)
      ∗ slotAny (F := F) c c ∗ R) ⊢ WP p Q) :
    iprop(records m K ∗ SigSt (F := F) c 32 ∗ (levAts L lv ∗ barSt (F := F) c) ∗ R) ⊢ WP p Q := (sig_end m K c).trans h

theorem to_send {R : sProp 𝕄} {p : Prog (TpuEff nD τ sig (Elt F) Λ₀ .tc) α} {Q : α → sProp 𝕄}
    (h : iprop(records m K ∗ SendSt m c 0 0 ∗ staged m c ∗ kept (F := F) c R) ⊢ WP p Q) :
    iprop(records m K ∗ (ow (F := F) c (oSend c 0) ∗ semVal (barCell c) 0 ∗ bigSep (Finset.univ.erase c) fun d => slotAny (F := F) d c)
      ∗ slotAny (F := F) c c ∗ sendToks (F := F) c ∗ buf0 (F := F) c ∗ recvSt0 (F := F) c ∗ bigSep Finset.univ (sendPos (F := F) c)
      ∗ staged m c ∗ outBuf (F := F) c ∗ R) ⊢ WP p Q := by
  refine BIBase.Entails.trans (send_start m K c) (BIBase.Entails.trans ?_ h)
  unfold kept
  iintro ⟨Hrec, Hs, ⟨Hr, Hp, Hst, Ho, HR⟩, Hz⟩
  isplitl [Hrec]; · iexact Hrec
  isplitl [Hs]; · iexact Hs
  isplitl [Hst]; · iexact Hst
  isplitl [Hr]; · iexact Hr
  isplitl [Hp]; · iexact Hp
  isplitl [Ho]; · iexact Ho
  isplitl [Hz]; · iexact Hz
  iexact HR

theorem to_recv {R : sProp 𝕄} {p : Prog (TpuEff nD τ sig (Elt F) Λ₀ .tc) α} {Q : α → sProp 𝕄}
    (h : iprop(records m K ∗ RecvSt m c 1 ∗ sent m c ∗ bigSep Finset.univ (sendPos (F := F) c) ∗ outBuf (F := F) c ∗ (staged m c ∗ R) ∗ semVal (barCell c) 0) ⊢ WP p Q) :
    iprop(records m K ∗ SendSt m c 32 512 ∗ staged m c ∗ kept (F := F) c R) ⊢ WP p Q := by
  refine BIBase.Entails.trans ?_ (BIBase.Entails.trans (recv_start m K c) h)
  unfold kept
  iintro ⟨Hrec, Hs, Hst, Hr, Hp, Ho, Hz, HR⟩
  isplitl [Hrec]; · iexact Hrec
  isplitl [Hs]; · iexact Hs
  isplitl [Hr]; · iexact Hr
  isplitl [Hp]; · iexact Hp
  isplitl [Ho]; · iexact Ho
  isplitl [Hst HR]
  · isplitl [Hst]; · iexact Hst
    iexact HR
  iexact Hz

theorem to_drain {R : sProp 𝕄} {p : Prog (TpuEff nD τ sig (Elt F) Λ₀ .tc) α} {Q : α → sProp 𝕄}
    (h : iprop(records m K ∗ DrainSt m c 0 ∗ (gathered m c ∗ R) ∗ recvZ (F := F) c) ⊢ WP p Q) :
    iprop(records m K ∗ RecvSt m c 32 ∗ sent m c ∗ bigSep Finset.univ (sendPos (F := F) c) ∗ R) ⊢ WP p Q := (drain_start m K c).trans h

theorem to_end {R O : sProp 𝕄} {a : α} {Q : α → sProp 𝕄} (h : iprop(ended (F := F) c ∗ ow (F := F) c 0 ∗ O ∗ R) ⊢ Q a) :
    iprop(records m K ∗ DrainSt m c 32 ∗ (gathered m c ∗ O ∗ R ∗ semVal (barCell c) 0) ∗ recvZ (F := F) c) ⊢ Q a := by
  refine BIBase.Entails.trans ?_ (BIBase.Entails.trans (drain_end m K c (R := iprop(O ∗ R))) h)
  iintro ⟨Hrec, Hs, ⟨Hg, Ho, HR, Hz⟩, HzR⟩
  isplitl [Hrec]; · iexact Hrec
  isplitl [Hs]; · iexact Hs
  isplitr [HzR]
  · isplitl [Hg]; · iexact Hg
    isplitr [Hz]
    · isplitl [Ho]; · iexact Ho
      iexact HR
    iexact Hz
  iexact HzR

end Cert.KProof

end
-- ==== Proof.Run.lean ====
/-
# `Run`: the body of the kernel, run once at a symbolic device

The steps of `Steps` and the lemmas between the phases of `Body`, in the order of the program.
-/
module

public import proofs.«01_k».proof.Proof.Body

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 32) → ℕ) (c : Dev nD)

local notation "WP" => wp frame (wpE (defs₀ (F := F)) 𝒱₀ (c : Thread nD τ) none) Set.univ

attribute [local irreducible] SigSt SendSt SendMd RecvSt DrainSt staged gathered outBuf kept sent recvZ records ow ended sendToks recvSt0 buf0 buf1 barSt rights ghost

set_option sl_open_parts.maxParts 120 in
set_option maxHeartbeats 40000000 in
/-- The body, from what a device starts with to what it ends with. -/
theorem body_run {R : sProp 𝕄} {Q : PUnit → sProp 𝕄} (h : iprop(ended (F := F) c ∗ ow (F := F) c 0 ∗ held c cc0_stg4_0 (outAt m c) ∗ staged m c ∗ R) ⊢ Q ⟨⟩) :
    iprop(records m K ∗ ow (F := F) c (O₀ c) ∗ levAts L lv ∗ ghost (F := F) c ∗ rights (F := F) c ∗ buf0 (F := F) c ∗ buf1 (F := F) c
      ∗ staged m c ∗ outBuf (F := F) c ∗ R) ⊢ WP
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3) Q := by
  refine start_step m K c ?_
  simp only [cc0_body_eq_skeleton]
  unfold cc0_body_skel
  sl_open_parts
  simp only [semSignalWord, semWaitWord, Prog.lift, Prog.bind_op, Prog.bind_ret, Prog.pure_eq_ret, wp_deviceId]
  iterate 31 (refine sig_step m K c _ (by omega) (by omega) (by clear h; revert c; decide +kernel) rfl ?_)
  refine to_bar m K c ?_
  refine bar_step m K c rfl ?_
  refine to_send m K c ?_
  refine load_x m c ?_
  refine load_w m c ?_
  refine load_e m c ?_
  refine load_e m c ?_
  refine load_x m c ?_
  refine load_v m c ?_
  refine load_v m c ?_
  refine load_v m c ?_
  refine load_v m c ?_
  refine fill_group m K c 0 _ _ 128 rfl rfl rfl rfl rfl rfl ?_
  repeat (first
    | (with_reducible refine send_step m K c _ _ (by omega) (by omega) (by clear h; revert c; decide +kernel) (by exact fun hc => ⟨_, _, _, _, _, _, _, _, rfl⟩) (by clear h; revert c; decide +kernel) rfl (by clear h; revert c; decide +kernel) rfl (by clear h; revert c; decide +kernel) ?_)
    | (with_reducible refine own_step m K c _ _ _ (by clear h; revert c; decide +kernel) (by exact fun hc => ⟨_, _, _, _, _, _, rfl⟩) rfl (by clear h; revert c; decide +kernel) (by intro v; with_unfolding_all exact shapeCast_self _ _) ?_)
    | (with_reducible refine ret_step (F := F) c ?_; try dsimp only)
    | (refine bind_step c ?_))
  refine fill_group m K c 1 _ _ 256 rfl rfl rfl rfl rfl rfl ?_
  repeat (first
    | (with_reducible refine send_step m K c _ _ (by omega) (by omega) (by clear h; revert c; decide +kernel) (by exact fun hc => ⟨_, _, _, _, _, _, _, _, rfl⟩) (by clear h; revert c; decide +kernel) rfl (by clear h; revert c; decide +kernel) rfl (by clear h; revert c; decide +kernel) ?_)
    | (with_reducible refine own_step m K c _ _ _ (by clear h; revert c; decide +kernel) (by exact fun hc => ⟨_, _, _, _, _, _, rfl⟩) rfl (by clear h; revert c; decide +kernel) (by intro v; with_unfolding_all exact shapeCast_self _ _) ?_)
    | (with_reducible refine ret_step (F := F) c ?_; try dsimp only)
    | (refine bind_step c ?_))
  refine fill_group m K c 2 _ _ 384 rfl rfl rfl rfl rfl rfl ?_
  repeat (first
    | (with_reducible refine send_step m K c _ _ (by omega) (by omega) (by clear h; revert c; decide +kernel) (by exact fun hc => ⟨_, _, _, _, _, _, _, _, rfl⟩) (by clear h; revert c; decide +kernel) rfl (by clear h; revert c; decide +kernel) rfl (by clear h; revert c; decide +kernel) ?_)
    | (with_reducible refine own_step m K c _ _ _ (by clear h; revert c; decide +kernel) (by exact fun hc => ⟨_, _, _, _, _, _, rfl⟩) rfl (by clear h; revert c; decide +kernel) (by intro v; with_unfolding_all exact shapeCast_self _ _) ?_)
    | (with_reducible refine ret_step (F := F) c ?_; try dsimp only)
    | (refine bind_step c ?_))
  refine fill_group m K c 3 _ _ 512 rfl rfl rfl rfl rfl rfl ?_
  repeat (first
    | (with_reducible refine send_step m K c _ _ (by omega) (by omega) (by clear h; revert c; decide +kernel) (by exact fun hc => ⟨_, _, _, _, _, _, _, _, rfl⟩) (by clear h; revert c; decide +kernel) rfl (by clear h; revert c; decide +kernel) rfl (by clear h; revert c; decide +kernel) ?_)
    | (with_reducible refine own_step m K c _ _ _ (by clear h; revert c; decide +kernel) (by exact fun hc => ⟨_, _, _, _, _, _, rfl⟩) rfl (by clear h; revert c; decide +kernel) (by intro v; with_unfolding_all exact shapeCast_self _ _) ?_)
    | (with_reducible refine ret_step (F := F) c ?_; try dsimp only)
    | (refine bind_step c ?_))
  refine load_e m c ?_
  refine load_e m c ?_
  refine to_recv m K c ?_
  repeat (first
    | (with_reducible refine ret_step (F := F) c ?_; try dsimp only)
    | (with_reducible refine recv_await m K c _ (by omega) (by omega) (by with_unfolding_all exact ⟨_, _, _, _, _, _, rfl⟩) (by clear h; revert c; decide +kernel) ?_)
    | (refine bind_step c ?_))
  refine to_drain m K c ?_
  refine out_step m c rfl rfl rfl ?_
  repeat (first
    | (with_reducible refine ret_step (F := F) c ?_; try dsimp only)
    | (with_reducible refine drain_step m K c _ (by omega) (by clear h; revert c; decide +kernel) (by with_unfolding_all exact fun hc => ⟨_, _, _, _, _, _, _, rfl⟩) rfl ?_)
    | (refine bind_step c ?_))
  exact to_end m K c h

end Cert.KProof

end
-- ==== Proof.Launch.lean ====
/-
# `Launch`: what the devices get at launch, and what they give back

The ghost state is minted with every token at the cell it pays into, and the tokens are then dealt to the devices that
spend them.
-/
module

public import proofs.«01_k».proof.Proof.Body

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Option (Bool × Fin 32) → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The tokens at a device's own cells: of its barrier one per device, of every other cell one. -/
abbrev tokOf (x : Dev nD × (Fin 32 ⊕ (Bool × Fin 32))) : GSem nD τ sig × ℕ × Dev nD := match x.2 with
  | .inl d => (barCell x.1, 0, d)
  | .inr k => (kcell (x.1, some k), 0, 0)
theorem tokOf_injective : Function.Injective tokOf := by
  rintro ⟨c, j⟩ ⟨c', j'⟩ h
  have h1 : c = c' := by
    have := congrArg (fun x : GSem nD τ sig × ℕ × Dev nD => x.1.1.1) h
    rcases j with j | j <;> rcases j' with j' | j' <;> exact this
  have h2 := congrArg (fun x : GSem nD τ sig × ℕ × Dev nD => x.1) h
  have h3 := congrArg (fun x : GSem nD τ sig × ℕ × Dev nD => x.2.2) h
  subst h1
  rcases j with j | j <;> rcases j' with j' | j'
  · have h3' : j = j' := h3
    rw [h3']
  · exact absurd (congrArg Prod.snd (kcell_injective (a₁ := (c, none)) (a₂ := (c, some j')) h2)) (fun h => nomatch h)
  · exact absurd (congrArg Prod.snd (kcell_injective (a₁ := (c, some j)) (a₂ := (c, none)) h2)) (fun h => nomatch h)
  · have := congrArg Prod.snd (kcell_injective (a₁ := (c, some j)) (a₂ := (c, some j')) h2)
    rw [Option.some.inj this]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of the duties at device `c`'s cells; -/
def toksAt (c : Dev nD) : sProp 𝕄 :=
  iprop((bigSep Finset.univ fun d : Fin 32 => dutyTok ER (barCell c) 0 d)
    ∗ (bigSep Finset.univ fun q => dutyTok ER (sendCell c q) 0 0) ∗ bigSep Finset.univ fun s => dutyTok ER (recvCell c s) 0 0)
/-- and of the duties device `c` pays. -/
def toksOf (c : Dev nD) : sProp 𝕄 :=
  iprop((bigSep Finset.univ fun t => dutyTok ER (barCell (peer c t)) 0 c)
    ∗ (bigSep Finset.univ fun q => iprop(dutyTok ER (recvCell (dst c q) c) 0 0 ∗ dutyTok ER (sendCell c q) 0 0)))

def G (c : Dev nD) : sProp 𝕄 :=
  iprop((bigSep Finset.univ fun k => roundState ER (rd m) (kcell (c, k)) 0)
    ∗ (bigSep Finset.univ fun k => iprop(atPos ER (kcell (c, k)) 0 ∅ 0 ∗ reached ER (kcell (c, k)) 0)) ∗ toksAt (F := F) c)
def G' (c : Dev nD) : sProp 𝕄 := iprop(∃ K, records m K ∗ ghost (F := F) c)

omit [FloatOps F] in
theorem bigSep_two (Φ : Bool × Fin 32 → sProp 𝕄) :
    bigSep Finset.univ Φ = iprop((bigSep Finset.univ fun q => Φ (false, q)) ∗ bigSep Finset.univ fun q => Φ (true, q)) := by
  rw [bigSep_univ_prod, bigSep_univ_eq_bigSepL [false, true] (by decide) (by decide)]; rfl

omit [FloatOps F] in
theorem bigSep_cells (Φ : Option (Bool × Fin 32) → sProp 𝕄) :
    bigSep Finset.univ Φ = iprop(Φ none ∗ (bigSep Finset.univ fun q => Φ (some (false, q))) ∗ bigSep Finset.univ fun q => Φ (some (true, q))) := by
  rw [bigSep_univ_equiv ((Equiv.sumComm _ _).trans (Equiv.optionEquivSumPUnit.{0} (Bool × Fin 32)).symm) Φ, bigSep_univ_sum,
    bigSep_univ_eq_bigSepL [PUnit.unit] (by decide) (by decide), bigSep_two]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toksAt (F := F) c := by
    unfold allToks; rw [bigSep_map, bigSep_univ_prod]
    exact bigSep_congr fun c _ => by unfold toksAt; rw [bigSep_univ_sum, bigSep_two]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(sendZ (F := F) c ∗ recvZ (F := F) c) := by
  unfold Pipeline.ownSems0; rw [bigSep_two]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_cells]
  unfold sendZ recvZ
  iintro ⟨⟨HS, HV⟩, HB⟩
  isplitl [HB]; · iexact HB
  isplitl [HS]; · iexact HS
  iexact HV

theorem cells_alloc (c : Dev nD) : iprop((bigSep Finset.univ fun k => semVal (kcell (c, k)) 0) ∗ bigSep Finset.univ fun k => roundState ER (rd m) (kcell (c, k)) 0)
      ⊢ (|={Set.univ}=> bigSep Finset.univ fun k => iprop(∃ κ : ℕ, cellInv ER (rd m) κ (kcell (c, k))) : sProp 𝕄) := by
  rw [← bigSep_sep']
  exact (bigSep_mono fun k _ => (Rounds.body_intro ER (rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toksAt (F := F) c) := by
  unfold G
  iintro ⟨Hos, Hus, Hst, Hat, Htok⟩
  ihave Hv := (sems0_eq (F := F) c) $$ [Hos Hus]
  · isplitl [Hos] <;> iassumption
  imod (cells_alloc m c) $$ [Hv Hst] with Hinv
  · isplitl [Hv]; · iexact Hv
    iexact Hst
  imodintro
  isplitl [Hinv]; · iexact Hinv
  isplitl [Hat]; · iexact Hat
  iexact Htok

omit [FloatOps F] in
theorem sep_swap (A B : sProp 𝕄) : iprop(A ∗ B) = iprop(B ∗ A) := BI.Entails.antisymm BI.sep_comm BI.sep_comm
omit [FloatOps F] in
theorem emp_left (A : sProp 𝕄) : A ⊢ iprop(emp ∗ A) := by
  iintro H
  isplitr; · iempintro
  iexact H

omit [FloatOps F] in
/-- The tokens, dealt from where they are spent to who spends them. -/
theorem toks_deal : (bigSep Finset.univ fun c : Dev nD => toksAt (F := F) c) = bigSep Finset.univ fun c : Dev nD => toksOf (F := F) c := by
  have hB : (bigSep Finset.univ fun c : Dev nD => bigSep Finset.univ fun d : Fin 32 => (dutyTok ER (barCell c) 0 d : sProp 𝕄))
      = bigSep Finset.univ fun c : Dev nD => bigSep Finset.univ fun t => dutyTok ER (barCell (peer c t)) 0 c := by
    rw [bigSep_univ_comm (fun (c : Dev nD) (d : Fin 32) => (dutyTok ER (barCell c) 0 d : sProp 𝕄))]
    exact bigSep_congr fun d _ => bigSep_univ_equiv (peerE d) (fun c : Dev nD => (dutyTok ER (barCell c) 0 d : sProp 𝕄))
  have hR : (bigSep Finset.univ fun c : Dev nD => bigSep Finset.univ fun s : Fin 32 => (dutyTok ER (recvCell c s) 0 0 : sProp 𝕄))
      = bigSep Finset.univ fun c : Dev nD => bigSep Finset.univ fun q => dutyTok ER (recvCell (dst c q) c) 0 0 := by
    rw [bigSep_univ_comm (fun (c : Dev nD) (s : Fin 32) => (dutyTok ER (recvCell c s) 0 0 : sProp 𝕄))]
    exact bigSep_congr fun d _ => bigSep_univ_equiv (dstE d) (fun c : Dev nD => (dutyTok ER (recvCell c d) 0 0 : sProp 𝕄))
  unfold toksAt toksOf
  simp only [bigSep_sep']
  rw [hB, hR]
  exact congrArg (fun X => iprop(_ ∗ X)) (sep_swap _ _)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Option (Bool × Fin 32) → ℕ) (c : Dev nD) :
    iprop(records m K ∗ (bigSep Finset.univ fun k => atPos ER (kcell (c, k)) 0 ∅ 0) ∗ toksOf (F := F) c) ⊢ G' m c := by
  rw [bigSep_cells]
  unfold toksOf G' ghost
  iintro ⟨#HI, ⟨HaB, HaS, HaV⟩, HtB, HtS⟩
  iexists K
  isplitr; · iexact HI
  isplitl [HaB]; · iexact HaB
  isplitl [HaS]; · iexact HaS
  isplitl [HaV]; · iexact HaV
  isplitl [HtB]; · iexact HtB
  iexact HtS

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toksAt (F := F) c) : sProp 𝕄)
      ⊢ bigSep Finset.univ (G' m) := by
  rw [bigSep_sep', bigSep_sep', ← bigSep_univ_prod (fun ck : Dev nD × Option (Bool × Fin 32) => iprop(∃ κ : ℕ, cellInv ER (rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Fin 32) => (reached ER (kcell ck) 0 : sProp 𝕄)), toks_deal]
  iintro ⟨HI, ⟨Hat, #HR⟩, Htk⟩
  ihave HK := (BI.bigSep_exists_pi Finset.univ (fun (ck : Dev nD × Option (Bool × Fin 32)) (κ : ℕ) => (cellInv ER (rd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k => (atPos ER (kcell (c, k)) 0 ∅ 0 : sProp 𝕄)) (toksOf (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem sum_one {S : Finset (Fin 32)} {f : Fin 32 → CellTallies nD τ sig Unit} {g : GSem nD τ sig} :
    (∑ i ∈ S, f i) g () = ∑ i ∈ S, f i g () := by
  rw [Finset.sum_apply, Finsupp.finset_sum_apply]

theorem barCell_inj {a b : Dev nD} (h : barCell a = barCell b) : a = b := congrArg (fun g : GSem nD τ sig => g.1.1) h
theorem recvCell_inj {a b : Dev nD} {s s' : Fin 32} (h : recvCell a s = recvCell b s') : a = b ∧ s = s' := by
  have := kcell_injective (a₁ := (a, some (true, s))) (a₂ := (b, some (true, s'))) h
  exact ⟨congrArg Prod.fst this, congrArg Prod.snd (Option.some.inj (congrArg Prod.snd this))⟩
theorem bar_ne_recv {a b : Dev nD} {s : Fin 32} (h : barCell a = recvCell b s) : False :=
  absurd (congrArg Prod.snd (kcell_injective (a₁ := (a, none)) (a₂ := (b, some (true, s))) h)) (fun h => nomatch h)

theorem owed_bar (d c : Dev nD) : O₀ d (barCell c) () = if d = c then 0 else 1 := by
  unfold O₀ oSig oSend
  rw [above_zero, Pi.add_apply, Finsupp.add_apply, sum_one, sum_one, Finset.sum_eq_single (off d c), Finset.sum_eq_zero, Nat.add_zero]
  · unfold oSigAt
    have hz : off d c = 0 ↔ d = c := by
      rw [← peer_eq_self (c := d), peer_off]; exact eq_comm
    by_cases h : d = c
    · rw [if_pos (hz.mpr h), if_pos h]; rfl
    · rw [if_neg (fun e => h (hz.mp e)), if_neg h, peer_off, tallyAt_apply, if_pos ⟨rfl, rfl⟩]
  · intro q _
    unfold oSendAt
    split
    · rfl
    · rw [tallyAt_apply, if_neg (fun h => bar_ne_recv h.1)]
  · intro t _ ht
    unfold oSigAt
    split
    · rfl
    · rw [tallyAt_apply, if_neg]
      intro h; apply ht; rw [barCell_inj h.1, off_peer]
  · intro h; exact absurd (Finset.mem_univ _) h

theorem owed_recv (d c : Dev nD) (s : Fin 32) (hs : s ≠ c) : O₀ d (recvCell c s) () = if d = s then N else 0 := by
  unfold O₀ oSig oSend
  rw [above_zero, Pi.add_apply, Finsupp.add_apply, sum_one, sum_one, Finset.sum_eq_zero, Nat.zero_add, Finset.sum_eq_single (blk d c)]
  · unfold oSendAt
    have hz : blk d c = own d ↔ d = c := by
      rw [← dst_eq_self, dst_blk]; exact eq_comm
    by_cases h : d = s
    · subst h
      rw [if_neg (fun e => hs (hz.mp e)), dst_blk, tallyAt_apply, if_pos ⟨rfl, rfl⟩, if_pos rfl]
    · rw [if_neg h]
      split
      · rfl
      · rw [tallyAt_apply, if_neg]
        intro e; exact h (recvCell_inj e.1).2.symm
  · intro q _ hq
    unfold oSendAt
    split
    · rfl
    · rw [tallyAt_apply, if_neg]
      intro h; apply hq; rw [(recvCell_inj h.1).1, blk_dst]
  · intro h; exact absurd (Finset.mem_univ _) h
  · intro t _
    unfold oSigAt
    split
    · rfl
    · rw [tallyAt_apply, if_neg (fun h => bar_ne_recv h.1.symm)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c : Dev nD) (s : Fin 32) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

omit [FloatOps F] in
theorem creds (c : Dev nD) : (Pipeline.launchCred O₀ c : sProp 𝕄) ⊢ rights (F := F) c := by
  let e : Fin 32 ↪ SemLoc sig := ⟨fun t => .dma (recvS (peer c t)), fun a b h => by
    have := congrArg (fun k : Option (Bool × Fin 32) => k) (csem_injective (a₁ := some (true, peer c a)) (a₂ := some (true, peer c b)) h)
    exact (peerE c).injective (congrArg Prod.snd (Option.some.inj this))⟩
  have hsub : (Finset.univ.erase (0 : Fin 32)).map e ⊆ Finset.univ.erase (SemLoc.reg barS) := by
    intro x hx
    obtain ⟨t, -, rfl⟩ := Finset.mem_map.mp hx
    exact Finset.mem_erase.mpr ⟨(fun h => nomatch (show SemLoc.dma _ = SemLoc.reg barS from h)), Finset.mem_univ _⟩
  unfold Pipeline.launchCred rights
  rw [bigSep_univ_at _ (SemLoc.reg barS), launch_bar]
  refine sep_mono_right ((bigSep_subset hsub).trans ?_)
  rw [bigSep_map, bigSep_univ_split (0 : Fin 32) (Φ := fun t => if t = 0 then iprop(emp) else cred (tallyAt (recvCell c (peer c t)) () N)), if_pos rfl,
    bigSep_congr (s := Finset.univ.erase (0 : Fin 32)) (Ψ := fun t => if t = 0 then iprop(emp) else (cred (tallyAt (recvCell c (peer c t)) () N) : sProp 𝕄)) (fun t ht => by
      rw [if_neg (Finset.ne_of_mem_erase ht), ← launch_recv c (peer c t) (fun h => Finset.ne_of_mem_erase ht (peer_eq_self.mp h))]; rfl)]
  exact emp_left _

end Cert.KProof

end
-- ==== Proof.Main.lean ====
/-
# `Main`: the launch, over any float interpretation

The body of `Run` discharges the pipeline's obligation at its one grid point; the launch theorem for devices that owe each
other gives the run.
-/
module

public import proofs.«01_k».proof.Proof.Run
public import proofs.«01_k».proof.Proof.Launch
public import Idealize.ShloMosaic.Lib.Pipeline.CollectiveSegs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def start (c : Dev nD) : sProp 𝕄 := iprop(G' m c ∗ rights (F := F) c ∗ levAts L lv)
/-- Before the point, and after it. -/
def Φ₀ (c : Dev nD) : sProp 𝕄 := iprop(start m c ∗ buf0 (F := F) c ∗ buf1 (F := F) c)
def Φ₁ (c : Dev nD) : sProp 𝕄 := ended (F := F) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m c
    | ⟨1, _⟩ => stgR m c
    | ⟨2, _⟩ => stgE m c
    | ⟨3, _⟩ => stgW m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev pt : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_held (c : Dev nD) (b : Ref sig .tc) (X : b.ty.Contents (Elt F)) : stg (F := F) c b X ⊢ held c b X := by
  iintro ⟨%f, %h, H⟩
  subst h
  iexact H
omit [FloatOps F] in
theorem held_stg (c : Dev nD) (b : Ref sig .tc) (X : b.ty.Contents (Elt F)) : held c b X ⊢ stg (F := F) c b X := by
  iintro H
  iexists _; isplitr; · (ipureintro; rfl)
  iexact H

def bodyPre (c : Dev nD) : sProp 𝕄 :=
  iprop(Φ₀ m c ∗ (dats m ρ 0 c).owesAt () pt.castSucc
    ∗ (∃ d, stg c cc0_stg0_0 ((dats m ρ 0 c).before (0 : Fin 5) pt d))
    ∗ (∃ d, stg c cc0_stg1_0 ((dats m ρ 0 c).before (1 : Fin 5) pt d))
    ∗ (∃ d, stg c cc0_stg2_0 ((dats m ρ 0 c).before (2 : Fin 5) pt d))
    ∗ (∃ d, stg c cc0_stg3_0 ((dats m ρ 0 c).before (3 : Fin 5) pt d))
    ∗ (∃ d, stg c cc0_stg4_0 ((dats m ρ 0 c).before (4 : Fin 5) pt d)))

def bodyPost (c : Dev nD) : sProp 𝕄 :=
  iprop(Φ₁ (F := F) c ∗ (dats m ρ 0 c).owesAt () pt.succ ∗ stg c cc0_stg0_0 (stgX m c) ∗ stg c cc0_stg1_0 (stgR m c)
    ∗ stg c cc0_stg2_0 (stgE m c) ∗ stg c cc0_stg3_0 (stgW m c) ∗ stg c cc0_stg4_0 (outAt m c))

theorem before_x (c : Dev nD) (d) : (dats m ρ 0 c).before (0 : Fin 5) pt d = stgX m c := by unfold Dat.before; rw [if_pos (by decide)]; rfl
theorem before_r (c : Dev nD) (d) : (dats m ρ 0 c).before (1 : Fin 5) pt d = stgR m c := by unfold Dat.before; rw [if_pos (by decide)]; rfl
theorem before_e (c : Dev nD) (d) : (dats m ρ 0 c).before (2 : Fin 5) pt d = stgE m c := by unfold Dat.before; rw [if_pos (by decide)]; rfl
theorem before_w (c : Dev nD) (d) : (dats m ρ 0 c).before (3 : Fin 5) pt d = stgW m c := by unfold Dat.before; rw [if_pos (by decide)]; rfl

theorem post_intro (c : Dev nD) :
    iprop(ended (F := F) c ∗ ow (F := F) c 0 ∗ held c cc0_stg4_0 (outAt m c) ∗ staged m c ∗ emp) ⊢ bodyPost m ρ c := by
  unfold ow staged bodyPost Φ₁ Dat.owesAt Pipeline.owesWithin
  rw [show (dats m ρ 0 c).owed pt.succ = 0 from rfl]
  iintro ⟨He, ⟨%W, HO⟩, Ho, ⟨H0, H1, H2, H3⟩, -⟩
  isplitl [He]; · iexact He
  isplitl [HO]
  · iexists W
    isplitr; · ipureintro; exact fun _ _ => Or.inl trivial
    iexact HO
  isplitl [H0]; · iapply (held_stg c cc0_stg0_0 (stgX m c)); iexact H0
  isplitl [H1]; · iapply (held_stg c cc0_stg1_0 (stgR m c)); iexact H1
  isplitl [H2]; · iapply (held_stg c cc0_stg2_0 (stgE m c)); iexact H2
  isplitl [H3]; · iapply (held_stg c cc0_stg3_0 (stgW m c)); iexact H3
  iapply (held_stg c cc0_stg4_0 (outAt m c)); iexact Ho

theorem sound_body (c : Dev nD) : bodyPre m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3) (fun _ => bodyPost m ρ c) := by
  unfold bodyPre Φ₀ start G' Dat.owesAt Pipeline.owesWithin
  rw [show (dats m ρ 0 c).owed pt.castSucc = O₀ c from rfl]
  simp only [before_x, before_r, before_e, before_w]
  iintro ⟨⟨⟨⟨%K, Hrec, Hg⟩, Hr, Hlev⟩, Hb0, Hb1⟩, ⟨%W, %hW, HO⟩, ⟨%d0, H0⟩, ⟨%d1, H1⟩, ⟨%d2, H2⟩, ⟨%d3, H3⟩, ⟨%d4, H4⟩⟩
  iapply (body_run m K c (post_intro m ρ c))
  isplitl [Hrec]; · iexact Hrec
  isplitl [HO]; · unfold ow; iexists W; iexact HO
  isplitl [Hlev]; · iexact Hlev
  isplitl [Hg]; · iexact Hg
  isplitl [Hr]; · iexact Hr
  isplitl [Hb0]; · iexact Hb0
  isplitl [Hb1]; · iexact Hb1
  isplitl [H0 H1 H2 H3]
  · unfold staged
    isplitl [H0]; · iapply (stg_held c cc0_stg0_0 (stgX m c)); iexact H0
    isplitl [H1]; · iapply (stg_held c cc0_stg1_0 (stgR m c)); iexact H1
    isplitl [H2]; · iapply (stg_held c cc0_stg2_0 (stgE m c)); iexact H2
    iapply (stg_held c cc0_stg3_0 (stgW m c)); iexact H3
  isplitl [H4]
  · unfold outBuf
    iexists _
    iapply (stg_held c cc0_stg4_0 _); iexact H4
  iempintro

set_option maxRecDepth 16384 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem := by
  refine ⟨?_, osem_injective, ?_⟩ <;> decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ buf0 buf1
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ ended buf0 buf1
  iintro ⟨H0, H1, HzB, HzS, HzV⟩
  isplitl [HzB]; · iexact HzB
  isplitl [HzS HzV]
  · isplitl [HzS]; · iexact HzS
    iexact HzV
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- From any memory with zero counters every execution ends, each device's arrays at the computed contents, every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Frames.lean ====
/- The frames: every execution of the program, of its ideal reading and of the reference leaves the arguments as they were
   and every counter at zero. -/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.KProof

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (ρ : Dev nD → PrngReg)

/-- The `x` array after the run holds what it held. -/
theorem finalA_x (c : Dev nD) : finalA m ρ c (0 : Fin 5) = m ((c.tc : Thread nD τ).loc main_arg0) :=
  (dats (F := F) m ρ 0 c).arrAt_in (0 : Fin 5) rfl _

/-- The router's array after the run holds what it held. -/
theorem finalA_router (c : Dev nD) : finalA m ρ c (1 : Fin 5) = m ((c.tc : Thread nD τ).loc main_arg1) :=
  (dats (F := F) m ρ 0 c).arrAt_in (1 : Fin 5) rfl _

/-- The array of the routes after the run holds what it held. -/
theorem finalA_route (c : Dev nD) : finalA m ρ c (2 : Fin 5) = m ((c.tc : Thread nD τ).loc main_arg2) :=
  (dats (F := F) m ρ 0 c).arrAt_in (2 : Fin 5) rfl _

/-- The experts' array after the run holds what it held. -/
theorem finalA_expert (c : Dev nD) : finalA m ρ c (3 : Fin 5) = m ((c.tc : Thread nD τ).loc main_arg3) :=
  (dats (F := F) m ρ 0 c).arrAt_in (3 : Fin 5) rfl _

/-- What the run leaves: the arguments unchanged, and every counter at zero. -/
theorem run_args : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨(h.1 c 0).trans (finalA_x m ρ c), (h.1 c 1).trans (finalA_router m ρ c),
     (h.1 c 2).trans (finalA_route m ρ c), (h.1 c 3).trans (finalA_expert m ρ c)⟩, h.2⟩) (run_main m ρ)

end Cert.KProof

namespace Cert.Proof

open Idealize.ShloMosaic Idealize.SL.Sem

/-- `Cert.quiescent_KernelIdeal`. -/
theorem frame_kernelIdeal : Cert.quiescent_KernelIdeal := fun m ρ _ => Cert.KProof.run_args m ρ

/-- The two programs' tables of bodies are the same. -/
theorem defs_eq : (Cert.Kernel.defs (F := Bits)) = Cert.KernelIdeal.defs (F := Bits) := by
  have h : Cert.Kernel.defs₀ (F := Bits) = Cert.KernelIdeal.defs₀ (F := Bits) :=
    congrArg Defs.onTc (funext fun l => by
      match l with
      | ⟨0, _⟩ => exact funext fun _ => rfl
      | ⟨_ + 1, h⟩ => exact absurd h (Nat.not_lt.2 (Nat.le_add_left _ _)))
  exact congrArg (Pipeline.defs (Cert.KernelIdeal.pcfgs (F := Bits))) h

/-- `Cert.quiescent_Kernel`: the two programs have the same text, so the run of the one is the run of the other. -/
theorem frame_kernel : Cert.quiescent_Kernel := fun m ρ _ => by
  rw [defs_eq]
  exact Cert.KProof.run_args (F := Bits) m ρ

/-- `Cert.quiescent_ReferenceIdeal`: a sequence of array operations that declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- `Cert.preserves_Kernel_KernelIdeal`: nothing was rewritten. -/
theorem preserves_kernelIdeal : Cert.preserves_Kernel_KernelIdeal := trivial

end Cert.Proof

end
-- ==== Proof.Words.lean ====
/-
# `Words`: the integer arithmetic of the kernel, word by word

The floor quotients and remainders of the kernel are written out with a sign correction. On the small nonnegative words
that occur they are the natural quotient and remainder.
-/
module

public import proofs.«01_k».proof.Proof.Protocol
public import Idealize.ShloMosaic.Lib.ValueIdx
public import Idealize.ShloMosaic.Lib.ValueLayoutCasts
public import Idealize.ShloMosaic.Lib.Pipeline.Value
public import Idealize.ShloMosaic.Lib.StableHlo.Predicate

@[expose] public section

set_option maxRecDepth 16384

noncomputable section

namespace Cert.KProof

open Cert.KernelIdeal Cert.KernelIdeal.Gen
open Idealize.ShloMosaic hiding ix1 ix2 ix3
open Idealize.ShloMosaic.ValueIdx

/-- The sign of a word. -/
def sgnW (x : BitVec 32) : BitVec 32 := IntOp.subi ((IntOp.cmpi .sgt x 0#32).setWidth 32) ((IntOp.cmpi .slt x 0#32).setWidth 32)

/-- The floor quotient of `x` by `k`, as the vector unit computes it. -/
def fdivW (k x : BitVec 32) : BitVec 32 :=
  Scalar.select (IntOp.andi (IntOp.cmpi .ne (sgnW x) (sgnW k)) (IntOp.cmpi .ne (IntOp.remsi .vector x k) 0#32))
    (IntOp.subi (IntOp.divsi .vector x k) 1#32) (IntOp.divsi .vector x k)

/-- The floor remainder of `x` by `k`, as the vector unit computes it. -/
def fmodW (k x : BitVec 32) : BitVec 32 :=
  Scalar.select (IntOp.andi (IntOp.xori (IntOp.cmpi .slt (IntOp.remsi .vector x k) 0#32) (IntOp.cmpi .slt k 0#32))
    (IntOp.cmpi .ne (IntOp.remsi .vector x k) 0#32)) (IntOp.addi (IntOp.remsi .vector x k) k) (IntOp.remsi .vector x k)

theorem fdivW_four : ∀ n : Fin 128, fdivW 4#32 (BitVec.ofNat 32 n.val) = BitVec.ofNat 32 (n.val / 4) := by decide +kernel
theorem fdivW_sixteen : ∀ n : Fin 512, fdivW 16#32 (BitVec.ofNat 32 n.val) = BitVec.ofNat 32 (n.val / 16) := by decide +kernel
theorem fdivW_thirtytwo : ∀ n : Fin 1024, fdivW 32#32 (BitVec.ofNat 32 n.val) = BitVec.ofNat 32 (n.val / 32) := by decide +kernel
theorem fmodW_sixteen : ∀ n : Fin 512, fmodW 16#32 (BitVec.ofNat 32 n.val) = BitVec.ofNat 32 (n.val % 16) := by decide +kernel

theorem me_eq (c : Dev nD) : me c = BitVec.ofNat 32 c.val := by revert c; decide +kernel

/-- Words below `2 ^ 32` compare equal exactly when their naturals do. -/
theorem cmpi_eq_ofNat {a b : ℕ} (ha : a < 2 ^ 32) (hb : b < 2 ^ 32) :
    IntOp.cmpi .eq (BitVec.ofNat 32 a) (BitVec.ofNat 32 b) = BitVec.ofBool (decide (a = b)) := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases e : a = b
  · subst e; simp [IntOp.cmpi]
  · have e' : BitVec.ofNat 32 a ≠ BitVec.ofNat 32 b := fun h' => e (h.1 h')
    simp [IntOp.cmpi, e, beq_eq_false_iff_ne.2 e']

theorem cmpi_slt_ofNat {a b : ℕ} (ha : a < 2 ^ 31) (hb : b < 2 ^ 31) :
    IntOp.cmpi .slt (BitVec.ofNat 32 a) (BitVec.ofNat 32 b) = BitVec.ofBool (decide (a < b)) := by
  have h := StableHlo.Predicate.slt_ofNat_iff a b ha hb
  show BitVec.ofBool ((BitVec.ofNat 32 a).slt (BitVec.ofNat 32 b)) = _
  rw [StableHlo.Predicate.ofBool_eq_one_iff] at h
  exact congrArg BitVec.ofBool (by rw [Bool.eq_iff_iff, h, decide_eq_true_iff])

theorem andi_ofBool (a b : Bool) : IntOp.andi (BitVec.ofBool a) (BitVec.ofBool b) = BitVec.ofBool (a && b) := by
  cases a <;> cases b <;> decide
theorem ori_ofBool (a b : Bool) : IntOp.ori (BitVec.ofBool a) (BitVec.ofBool b) = BitVec.ofBool (a || b) := by
  cases a <;> cases b <;> decide
theorem select_ofBool {α : Type} (b : Bool) (x y : α) : Scalar.select (BitVec.ofBool b) x y = if b then x else y := by
  cases b <;> rfl

/-! ## A column broadcast along the rows -/

theorem bcol {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i 0) :=
  broadcastTo_apply v h _ _ (fun k => by
    match k with
    | ⟨0, _⟩ =>
      show i.val = if a = 1 then 0 else i.val
      have := i.isLt
      split <;> omega
    | ⟨1, _⟩ => rfl)

/-! ## The words of the dispatch and of the weights -/

theorem pay2_eq (v : Vec Ideal S1024x1 .i32) : k0_pay2 (F := Ideal) v = v := shapeCast_self v _
theorem pay3_eq (v : Vec Ideal S1024x1 .i32) : k0_pay3 (F := Ideal) v = v := shapeCast_self v _
theorem pay79_eq (v : Vec Ideal S32x1 .i32) : k0_pay79 (F := Ideal) v = v := shapeCast_self v _
theorem pay80_eq (v : Vec Ideal S32x1 .i32) : k0_pay80 (F := Ideal) v = v := shapeCast_self v _

/-- Whether a token's two experts lie on a device, as a word. -/
theorem hit_word (me : BitVec 32) (v w : Vec Ideal S1024x1 .i32) (i : S1024x1.Idx) :
    k0_pay12 me (k0_pay3 (F := Ideal) w) (k0_pay9 (k0_pay2 (F := Ideal) v)) 4#32 (k0_pay10 (F := Ideal) w) (k0_pay11 (F := Ideal) w) i
      = IntOp.ori (IntOp.cmpi .eq (fdivW 4#32 (v i)) me) (IntOp.cmpi .eq (fdivW 4#32 (w i)) me) := by
  have h : k0_pay12 me (k0_pay3 (F := Ideal) w) (k0_pay9 (k0_pay2 (F := Ideal) v)) 4#32 (k0_pay10 (F := Ideal) w) (k0_pay11 (F := Ideal) w) i
      = IntOp.ori (IntOp.cmpi .eq (fdivW 4#32 (k0_pay2 (F := Ideal) v i)) me) (IntOp.cmpi .eq (fdivW 4#32 (k0_pay3 (F := Ideal) w i)) me) := rfl
  rw [h, pay2_eq, pay3_eq]

theorem ownE0_word (v : Vec Ideal S32x1 .i32) (i : S32x1.Idx) :
    k0_pay83 (k0_pay79 (F := Ideal) v) 4#32 (k0_pay81 (F := Ideal) v) (k0_pay82 (F := Ideal) v) i = fdivW 4#32 (v i) := by
  have h : k0_pay83 (k0_pay79 (F := Ideal) v) 4#32 (k0_pay81 (F := Ideal) v) (k0_pay82 (F := Ideal) v) i
      = fdivW 4#32 (k0_pay79 (F := Ideal) v i) := rfl
  rw [h, pay79_eq]

theorem ownE1_word (v : Vec Ideal S32x1 .i32) (i : S32x1.Idx) :
    k0_pay84 (k0_pay80 (F := Ideal) v) i = fdivW 4#32 (v i) := by
  have h : k0_pay84 (k0_pay80 (F := Ideal) v) i = fdivW 4#32 (k0_pay80 (F := Ideal) v i) := rfl
  rw [h, pay80_eq]

/-- The block of tokens that column `q` of device `c` serves. -/
theorem dst_word (c : Dev nD) (t : Fin 1024) (q : Fin 512) :
    k0_pay21 (Scalar.select (Scalar.cmpi .eq 32#32 0#32) 1#32 32#32) (k0_pay20 (me c) colI 16#32 k0_pay18 k0_pay19) 0#32 (ix2 t q)
      = BitVec.ofNat 32 (dst c ⟨q.val / 16, by omega⟩).val := by
  have h : ∀ c : Dev nD, fdivW 8#32 (BitVec.ofNat 32 c.val) = BitVec.ofNat 32 (c.val / 8) := by decide +kernel
  have h2 : ∀ a : Fin 32, ∀ b : Fin 4, fmodW 32#32 (IntOp.addi (BitVec.ofNat 32 a.val) (IntOp.muli 8#32 (BitVec.ofNat 32 b.val)))
      = BitVec.ofNat 32 ((a.val + 8 * b.val) % 32) := by decide +kernel
  have h1 : k0_pay21 (Scalar.select (Scalar.cmpi .eq 32#32 0#32) 1#32 32#32) (k0_pay20 (me c) colI 16#32 k0_pay18 k0_pay19) 0#32 (ix2 t q)
      = fmodW 32#32 (IntOp.addi (fdivW 16#32 (BitVec.ofNat 32 (0 * 512 + q.val))) (IntOp.muli 8#32 (fdivW 8#32 (me c)))) := by
    generalize me c = x
    rfl
  rw [h1, Nat.zero_mul, Nat.zero_add, fdivW_sixteen q, me_eq, h c]
  exact h2 ⟨q.val / 16, by omega⟩ ⟨c.val / 8, by have := c.isLt; unfold nD at this; omega⟩

end Cert.KProof
end
-- ==== Proof.Select.lean ====
/-
# `Select`: which token stands at which position

A device serves a token when one of the token's two experts is among its four. The rank of a token on a device counts the
served tokens before it in its block of thirty-two. The dispatch matrix of a device and the collect matrix of another
both put a served token at its rank.
-/
module

public import proofs.«01_k».proof.Proof.Words
public import Idealize.ShloMosaic.Lib.IdealHost
public import Idealize.ShloMosaic.Lib.MatmulPlain

@[expose] public section

set_option maxRecDepth 16384

noncomputable section

namespace Cert.KProof

open Cert.KernelIdeal Cert.KernelIdeal.Gen
open Idealize.ShloMosaic hiding ix1 ix2 ix3
open Idealize.ShloMosaic.ValueIdx

/-! ## Served tokens and ranks -/

/-- Device `c` serves token `t`. -/
def served (e0 e1 : Fin 1024 → Fin 128) (c : Fin 32) (t : Fin 1024) : Bool :=
  decide ((e0 t).val / 4 = c.val) || decide ((e1 t).val / 4 = c.val)
/-- How many tokens before `t` in its block device `c` serves. -/
def rk (e0 e1 : Fin 1024 → Fin 128) (c : Fin 32) (t : Fin 1024) : ℕ :=
  (Finset.univ.filter fun t' : Fin 1024 => (t'.val / 32 = t.val / 32 ∧ t' < t) ∧ served e0 e1 c t' = true).card

/-- A served token raises the rank of the later tokens of its block. -/
theorem rk_lt (e0 e1 : Fin 1024 → Fin 128) (c : Fin 32) {t t' : Fin 1024} (hb : t.val / 32 = t'.val / 32) (hlt : t < t')
    (hs : served e0 e1 c t = true) : rk e0 e1 c t < rk e0 e1 c t' := by
  refine Finset.card_lt_card (Finset.ssubset_iff_subset_ne.2 ⟨fun u hu => ?_, fun e => ?_⟩)
  · simp only [Finset.mem_filter, Finset.mem_univ, true_and] at hu ⊢
    exact ⟨⟨hu.1.1.trans hb, hu.1.2.trans hlt⟩, hu.2⟩
  · have : t ∈ (Finset.univ.filter fun u : Fin 1024 => (u.val / 32 = t'.val / 32 ∧ u < t') ∧ served e0 e1 c u = true) := by
      simp only [Finset.mem_filter, Finset.mem_univ, true_and]
      exact ⟨⟨hb, hlt⟩, hs⟩
    rw [← e] at this
    simp only [Finset.mem_filter, Finset.mem_univ, true_and] at this
    exact absurd this.1 (lt_irrefl t)

/-- Two served tokens of one block at one rank are the same. -/
theorem rk_inj (e0 e1 : Fin 1024 → Fin 128) (c : Fin 32) {t t' : Fin 1024} (hb : t.val / 32 = t'.val / 32)
    (hs : served e0 e1 c t = true) (hs' : served e0 e1 c t' = true) (hr : rk e0 e1 c t = rk e0 e1 c t') : t = t' := by
  rcases lt_trichotomy t t' with h | h | h
  · exact absurd hr (rk_lt e0 e1 c hb h hs).ne
  · exact h
  · exact absurd hr (rk_lt e0 e1 c hb.symm h hs').ne'

/-- The rank counted inside the block. -/
theorem rk_block (e0 e1 : Fin 1024 → Fin 128) (s b r : Fin 32) :
    rk e0 e1 s ⟨32 * b.val + r.val, by omega⟩
      = (Finset.univ.filter fun r' : Fin 32 => r' < r ∧ served e0 e1 s ⟨32 * b.val + r'.val, by omega⟩ = true).card := by
  refine (Finset.card_nbij (fun r' : Fin 32 => (⟨32 * b.val + r'.val, by omega⟩ : Fin 1024)) (fun r' hr' => ?_) (fun x _ y _ h => ?_) (fun u hu => ?_)).symm
  · simp only [Finset.coe_filter, Finset.mem_filter, Finset.mem_univ, true_and, Set.mem_setOf_eq] at hr' ⊢
    refine ⟨⟨?_, ?_⟩, hr'.2⟩
    · show (32 * b.val + r'.val) / 32 = (32 * b.val + r.val) / 32
      omega
    · have := hr'.1
      rw [Fin.lt_def] at this ⊢
      show 32 * b.val + r'.val < 32 * b.val + r.val
      omega
  · have := congrArg Fin.val h
    apply Fin.ext
    simp only at this
    omega
  · simp only [Finset.coe_filter, Finset.mem_univ, true_and, Set.mem_setOf_eq] at hu
    obtain ⟨⟨h1, h2⟩, h3⟩ := hu
    rw [Fin.lt_def] at h2
    simp only at h1 h2
    have e : (⟨32 * b.val + (u.val - 32 * b.val), by omega⟩ : Fin 1024) = u := Fin.ext (by simp only; omega)
    refine ⟨⟨u.val - 32 * b.val, by omega⟩, ?_, e⟩
    simp only [Finset.coe_filter, Finset.mem_univ, true_and, Set.mem_setOf_eq]
    refine ⟨?_, ?_⟩
    · rw [Fin.lt_def]; simp only; omega
    · rw [e]; exact h3

/-- How many tokens of block `b` device `s` serves. -/
def cnt (e0 e1 : Fin 1024 → Fin 128) (s b : Fin 32) : ℕ :=
  (Finset.univ.filter fun r : Fin 32 => served e0 e1 s ⟨32 * b.val + r.val, by omega⟩ = true).card

/-- The rank of a served token is below its block's count. -/
theorem rk_lt_cnt (e0 e1 : Fin 1024 → Fin 128) (s b r : Fin 32) (hs : served e0 e1 s ⟨32 * b.val + r.val, by omega⟩ = true) :
    rk e0 e1 s ⟨32 * b.val + r.val, by omega⟩ < cnt e0 e1 s b := by
  rw [rk_block]
  refine Finset.card_lt_card (Finset.ssubset_iff_subset_ne.2 ⟨fun u hu => ?_, fun e => ?_⟩)
  · simp only [Finset.mem_filter, Finset.mem_univ, true_and] at hu ⊢
    exact hu.2
  · have : r ∈ (Finset.univ.filter fun r : Fin 32 => served e0 e1 s ⟨32 * b.val + r.val, by omega⟩ = true) := by
      simp only [Finset.mem_filter, Finset.mem_univ, true_and]
      exact hs
    rw [← e] at this
    simp only [Finset.mem_filter, Finset.mem_univ, true_and] at this
    exact absurd this.1 (lt_irrefl r)

/-! ## The matrices of zeros and ones -/

/-- A bit as an extended real. -/
def one? (b : Bool) : EReal := if b then 1 else 0

theorem one?_mul (a b : Bool) : one? a * one? b = one? (a && b) := by cases a <;> cases b <;> simp [one?]

/-- A sum of bits counts. -/
theorem sum_one? {n : ℕ} (p : Fin n → Bool) : ∑ k, one? (p k) = (((Finset.univ.filter fun k => p k = true).card : ℕ) : EReal) := by
  unfold one?
  rw [← Finset.sum_filter, Finset.sum_const, nsmul_one]

theorem select_one? (b : Bool) : Scalar.select (BitVec.ofBool b) (FloatOps.ofBits (F := Ideal) .f32 0x3F800000#32) (FloatOps.ofBits (F := Ideal) .f32 0x00000000#32) = one? b := by
  rw [select_ofBool, Ideal.ofBits_def, Ideal.ofBits_def, Ideal.ofBits_one_f32, Ideal.ofBits_zero_f32]
  rfl

/-- A rank compared with a column's remainder. -/
theorem cmp_rank (n p : ℕ) (hp : p < 2 ^ 31) :
    FloatOps.cmpf (F := Ideal) .oeq ((n : EReal) : Ideal .f32) (FloatOps.sitofp (F := Ideal) .f32 (BitVec.ofNat 32 p)) = BitVec.ofBool (decide (n = p)) := by
  have h : (FloatOps.sitofp (F := Ideal) .f32 (BitVec.ofNat 32 p) : EReal) = (p : EReal) := by
    show (((BitVec.ofNat 32 p).toInt : ℝ) : EReal) = _
    rw [StableHlo.Predicate.toInt_ofNat_small p hp]
    simp
  show BitVec.ofBool (decide (((n : EReal)) = (FloatOps.sitofp (F := Ideal) .f32 (BitVec.ofNat 32 p) : EReal))) = _
  rw [h]
  exact congrArg BitVec.ofBool (decide_eq_decide.2 Nat.cast_inj)

theorem hitF_val (me : BitVec 32) (v w : Vec Ideal S1024x1 .i32) (i : S1024x1.Idx) (b : Bool)
    (h : k0_pay12 me (k0_pay3 (F := Ideal) w) (k0_pay9 (k0_pay2 (F := Ideal) v)) 4#32 (k0_pay10 (F := Ideal) w) (k0_pay11 (F := Ideal) w) i = BitVec.ofBool b) :
    k0_pay13 (F := Ideal) me (k0_pay3 (F := Ideal) w) (k0_pay9 (k0_pay2 (F := Ideal) v)) 4#32 (k0_pay10 (F := Ideal) w) (k0_pay11 (F := Ideal) w) i = one? b := by
  have h1 : k0_pay13 (F := Ideal) me (k0_pay3 (F := Ideal) w) (k0_pay9 (k0_pay2 (F := Ideal) v)) 4#32 (k0_pay10 (F := Ideal) w) (k0_pay11 (F := Ideal) w) i
    = Scalar.select (k0_pay12 me (k0_pay3 (F := Ideal) w) (k0_pay9 (k0_pay2 (F := Ideal) v)) 4#32 (k0_pay10 (F := Ideal) w) (k0_pay11 (F := Ideal) w) i)
      (FloatOps.ofBits (F := Ideal) .f32 0x3F800000#32) (FloatOps.ofBits (F := Ideal) .f32 0x00000000#32) := rfl
  rw [h1, h, select_one?]

theorem rank_val (h : FVec Ideal S1024x1 .bf16) (s : Fin 1024 → Bool) (hh : ∀ t, h (ix2 t 0) = one? (s t)) (t : Fin 1024) :
    k0_pay17 (F := Ideal) h (iota .tc S1024x1024 32 [0] iota_S1024x1024_d0_w32) (iota .tc S1024x1024 32 [1] iota_S1024x1024_d1_w32) k0_pay14 k0_pay15 k0_pay16 (ix2 t 0)
      = (((Finset.univ.filter fun t' : Fin 1024 => (t'.val / 32 = t.val / 32 ∧ t' < t) ∧ s t' = true).card : ℕ) : EReal) := by
  have h1 : k0_pay17 (F := Ideal) h (iota .tc S1024x1024 32 [0] iota_S1024x1024_d0_w32) (iota .tc S1024x1024 32 [1] iota_S1024x1024_d1_w32) k0_pay14 k0_pay15 k0_pay16
    = FloatOps.matmul (F := Ideal) (DotDims.plain 1024 1024 1) none
      (fun i => Scalar.select (IntOp.andi (IntOp.cmpi .eq (fdivW 32#32 (BitVec.ofNat 32 (0 * 1024 + (i 0).val))) (fdivW 32#32 (BitVec.ofNat 32 (0 * 1024 + (i 1).val))))
        (IntOp.cmpi .slt (BitVec.ofNat 32 (0 * 1024 + (i 1).val)) (BitVec.ofNat 32 (0 * 1024 + (i 0).val))))
        (FloatOps.ofBits (F := Ideal) .f32 0x3F800000#32) (FloatOps.ofBits (F := Ideal) .f32 0x00000000#32) : FVec Ideal S1024x1024 .bf16)
      h (constant S1024x1 .f32 0x00000000#32) := rfl
  rw [h1, Ideal.matmul_plain_apply, constant_apply, Ideal.ofBits_zero_f32, zero_add]
  have h2 : ∀ k : Fin 1024, (Scalar.select (IntOp.andi (IntOp.cmpi .eq (fdivW 32#32 (BitVec.ofNat 32 (0 * 1024 + t.val))) (fdivW 32#32 (BitVec.ofNat 32 (0 * 1024 + k.val))))
        (IntOp.cmpi .slt (BitVec.ofNat 32 (0 * 1024 + k.val)) (BitVec.ofNat 32 (0 * 1024 + t.val))))
        (FloatOps.ofBits (F := Ideal) .f32 0x3F800000#32) (FloatOps.ofBits (F := Ideal) .f32 0x00000000#32)) * h (ix2 k 0)
      = one? ((decide (t.val / 32 = k.val / 32) && decide (k.val < t.val)) && s k) := by
    intro k
    rw [Nat.zero_mul, Nat.zero_add, Nat.zero_add, fdivW_thirtytwo t, fdivW_thirtytwo k, cmpi_eq_ofNat (by omega) (by omega),
      cmpi_slt_ofNat (by omega) (by omega), andi_ofBool, select_one?, hh, one?_mul]
  refine (Finset.sum_congr rfl fun k _ => h2 k).trans ?_
  rw [sum_one?]
  refine congrArg (fun n : ℕ => (n : EReal)) (congrArg Finset.card (Finset.filter_congr fun k _ => ?_))
  simp only [Bool.and_eq_true, decide_eq_true_eq, Fin.lt_def, eq_comm (a := t.val / 32)]

/-- The dispatch matrix at a token and a column. -/
theorem disp_val (v493 : IVec S1024x1 1) (v555 : FVec Ideal S1024x1 .f32) (v617 : IVec S1024x512 32) (t : Fin 1024) (q : Fin 512)
    (b : Bool) (n d : ℕ) (hd : d < 32) (h1 : v493 (ix2 t 0) = BitVec.ofBool b) (h2 : v555 (ix2 t 0) = (n : EReal))
    (h3 : v617 (ix2 t q) = BitVec.ofNat 32 d) :
    k0_pay26 (F := Ideal) v493 v555 v617 (k0_pay22 (F := Ideal) colI) (k0_pay23 rowI) (k0_pay24 rowI) (k0_pay25 rowI) (ix2 t q)
      = one? ((b && decide (t.val / 32 = d)) && decide (n = q.val % 16)) := by
  have e : k0_pay26 (F := Ideal) v493 v555 v617 (k0_pay22 (F := Ideal) colI) (k0_pay23 rowI) (k0_pay24 rowI) (k0_pay25 rowI) (ix2 t q)
    = Scalar.select (IntOp.andi (IntOp.andi (broadcastTo S1024x512 v493 broadcasts_S1024x1_S1024x512 (ix2 t q))
        (IntOp.cmpi .eq (fdivW 32#32 (BitVec.ofNat 32 (0 * 1024 + t.val))) (v617 (ix2 t q))))
        (FloatOps.cmpf (F := Ideal) .oeq (broadcastTo S1024x512 v555 broadcasts_S1024x1_S1024x512 (ix2 t q)) (FloatOps.sitofp (F := Ideal) .f32 (fmodW 16#32 (BitVec.ofNat 32 (0 * 512 + q.val))))))
        (FloatOps.ofBits (F := Ideal) .f32 0x3F800000#32) (FloatOps.ofBits (F := Ideal) .f32 0x00000000#32) := rfl
  rw [e, bcol, bcol, h1, h2, h3, Nat.zero_mul, Nat.zero_add, Nat.zero_add, fdivW_thirtytwo t, fmodW_sixteen q, cmp_rank _ _ (by omega),
    cmpi_eq_ofNat (by omega) (by omega), andi_ofBool, andi_ofBool, select_one?]

/-- The collect matrix at an own token and a column. -/
theorem coll_val (w0 w1 : IVec S32x1 32) (e0 e1 : Fin 32 → Fin 128) (h0 : ∀ r, w0 (ix2 r 0) = BitVec.ofNat 32 ((e0 r).val / 4))
    (h1 : ∀ r, w1 (ix2 r 0) = BitVec.ofNat 32 ((e1 r).val / 4)) (r : Fin 32) (q : Fin 512) :
    k0_pay89 (F := Ideal) (k0_pay86 (F := Ideal) colJ) (k0_pay87 w0 w1 colJ 16#32 k0_pay85 0#32) (k0_pay88 (F := Ideal) w0 w1 colJ 16#32 k0_pay85 0#32) (ix2 r q)
      = one? ((decide ((e0 r).val / 4 = q.val / 16) || decide ((e1 r).val / 4 = q.val / 16)) &&
          decide ((Finset.univ.filter fun r' : Fin 32 => r' < r ∧ (decide ((e0 r').val / 4 = q.val / 16) || decide ((e1 r').val / 4 = q.val / 16)) = true).card = q.val % 16)) := by
  have hw : ∀ r : Fin 32, k0_pay87 w0 w1 colJ 16#32 k0_pay85 0#32 (ix2 r q)
      = BitVec.ofBool (decide ((e0 r).val / 4 = q.val / 16) || decide ((e1 r).val / 4 = q.val / 16)) := by
    intro r
    have e : k0_pay87 w0 w1 colJ 16#32 k0_pay85 0#32 (ix2 r q)
      = IntOp.ori (IntOp.cmpi .eq (broadcastTo S32x512 w0 broadcasts_S32x1_S32x512 (ix2 r q)) (fdivW 16#32 (BitVec.ofNat 32 (0 * 512 + q.val))))
        (IntOp.cmpi .eq (broadcastTo S32x512 w1 broadcasts_S32x1_S32x512 (ix2 r q)) (fdivW 16#32 (BitVec.ofNat 32 (0 * 512 + q.val)))) := rfl
    rw [e, bcol, bcol, h0, h1, Nat.zero_mul, Nat.zero_add, fdivW_sixteen q, cmpi_eq_ofNat (by omega) (by omega), cmpi_eq_ofNat (by omega) (by omega), ori_ofBool]
  have e : k0_pay89 (F := Ideal) (k0_pay86 (F := Ideal) colJ) (k0_pay87 w0 w1 colJ 16#32 k0_pay85 0#32) (k0_pay88 (F := Ideal) w0 w1 colJ 16#32 k0_pay85 0#32) (ix2 r q)
    = Scalar.select (IntOp.andi (k0_pay87 w0 w1 colJ 16#32 k0_pay85 0#32 (ix2 r q))
        (FloatOps.cmpf (F := Ideal) .oeq (FloatOps.matmul (F := Ideal) (DotDims.plain 32 32 512) none
          (fun i => Scalar.select (IntOp.cmpi .slt (BitVec.ofNat 32 (0 * 32 + (i 1).val)) (BitVec.ofNat 32 (0 * 32 + (i 0).val)))
            (FloatOps.ofBits (F := Ideal) .f32 0x3F800000#32) (FloatOps.ofBits (F := Ideal) .f32 0x00000000#32) : FVec Ideal S32x32 .bf16)
          (fun i => Scalar.select (k0_pay87 w0 w1 colJ 16#32 k0_pay85 0#32 i) (FloatOps.ofBits (F := Ideal) .f32 0x3F800000#32) (FloatOps.ofBits (F := Ideal) .f32 0x00000000#32) : FVec Ideal S32x512 .bf16)
          (constant S32x512 .f32 0x00000000#32) (ix2 r q))
          (FloatOps.sitofp (F := Ideal) .f32 (fmodW 16#32 (BitVec.ofNat 32 (0 * 512 + q.val))))))
        (FloatOps.ofBits (F := Ideal) .f32 0x3F800000#32) (FloatOps.ofBits (F := Ideal) .f32 0x00000000#32) := rfl
  rw [e, Ideal.matmul_plain_apply, constant_apply, Ideal.ofBits_zero_f32, zero_add]
  have h2 : ∀ k : Fin 32, (Scalar.select (IntOp.cmpi .slt (BitVec.ofNat 32 (0 * 32 + k.val)) (BitVec.ofNat 32 (0 * 32 + r.val)))
            (FloatOps.ofBits (F := Ideal) .f32 0x3F800000#32) (FloatOps.ofBits (F := Ideal) .f32 0x00000000#32))
        * (Scalar.select (k0_pay87 w0 w1 colJ 16#32 k0_pay85 0#32 (ix2 k q)) (FloatOps.ofBits (F := Ideal) .f32 0x3F800000#32) (FloatOps.ofBits (F := Ideal) .f32 0x00000000#32))
      = one? (decide (k.val < r.val) && (decide ((e0 k).val / 4 = q.val / 16) || decide ((e1 k).val / 4 = q.val / 16))) := by
    intro k
    rw [Nat.zero_mul, Nat.zero_add, Nat.zero_add, hw, cmpi_slt_ofNat (by omega) (by omega), select_one?, select_one?, one?_mul]
  have h3 := Finset.sum_congr (s₁ := (Finset.univ : Finset (Fin 32))) rfl fun k _ => h2 k
  rw [sum_one?] at h3
  rw [hw, Nat.zero_mul, Nat.zero_add, fmodW_sixteen q]
  refine (congrArg (fun z : EReal => Scalar.select (IntOp.andi (BitVec.ofBool _) (FloatOps.cmpf (F := Ideal) .oeq (z : Ideal .f32) _)) _ _) h3).trans ?_
  rw [cmp_rank _ _ (by omega), andi_ofBool, select_one?]
  simp only [Bool.and_eq_true, decide_eq_true_eq, Fin.lt_def]

end Cert.KProof
end
-- ==== Proof.Reads.lean ====
/-
# `Reads`: what the body reads and what the run leaves, as plain arrays
-/
module

public import proofs.«01_k».proof.Proof.Main
public import proofs.«01_k».proof.Proof.Select
public import Idealize.ShloMosaic.Lib.Pipeline.ValueKit.Tiles

@[expose] public section

set_option maxRecDepth 16384

noncomputable section

namespace Cert.KProof

open Cert.KernelIdeal Cert.KernelIdeal.Gen
open Idealize.ShloMosaic hiding ix1 ix2 ix3
open Idealize.ShloMosaic.ValueIdx Idealize.ShloMosaic.TcCoe
open Idealize.ShloMosaic.Pipeline (Dat Cfg Window)

variable {F : FTy → Type} [FloatOps F] (m : (ℓ : Loc nD τ sig) → Buf (Elt F) ℓ) (ρ : Dev nD → PrngReg)

theorem blk_x (y : S1024x512.Idx) : (win0_0.blk t0_0).view.emb y = y := funext fun a => Fin.ext
  (Pipeline.Window.rect_emb_val_of_index_zero win0_0 t0_0 a (by match a with | ⟨0, _⟩ => rfl | ⟨1, _⟩ => rfl) y)
theorem blk_r (y : S512x128.Idx) : (win0_1.blk t0_0).view.emb y = y := funext fun a => Fin.ext
  (Pipeline.Window.rect_emb_val_of_index_zero win0_1 t0_0 a (by match a with | ⟨0, _⟩ => rfl | ⟨1, _⟩ => rfl) y)
theorem blk_e (y : S1024x2.Idx) : (win0_2.blk t0_0).view.emb y = y := funext fun a => Fin.ext
  (Pipeline.Window.rect_emb_val_of_index_zero win0_2 t0_0 a (by match a with | ⟨0, _⟩ => rfl | ⟨1, _⟩ => rfl) y)
theorem blk_w (y : S4x512x1024.Idx) : (win0_3.blk t0_0).view.emb y = y := funext fun a => Fin.ext
  (Pipeline.Window.rect_emb_val_of_index_zero win0_3 t0_0 a (by match a with | ⟨0, _⟩ => rfl | ⟨1, _⟩ => rfl | ⟨2, _⟩ => rfl) y)
theorem blk_o (y : S32x1024.Idx) : (win0_4.blk t0_0).view.emb y = y := funext fun a => Fin.ext
  (Pipeline.Window.rect_emb_val_of_index_zero win0_4 t0_0 a (by match a with | ⟨0, _⟩ => rfl | ⟨1, _⟩ => rfl) y)

/-- The staged blocks are the arrays. -/
theorem stgX_eq (c : Dev nD) : stgX m c = m ((c : Thread nD τ).loc main_arg0) := funext fun y => congrArg (m ((c : Thread nD τ).loc main_arg0)) (blk_x y)
theorem stgR_eq (c : Dev nD) : stgR m c = m ((c : Thread nD τ).loc main_arg1) := funext fun y => congrArg (m ((c : Thread nD τ).loc main_arg1)) (blk_r y)
theorem stgE_eq (c : Dev nD) : stgE m c = m ((c : Thread nD τ).loc main_arg2) := funext fun y => congrArg (m ((c : Thread nD τ).loc main_arg2)) (blk_e y)
theorem stgW_eq (c : Dev nD) : stgW m c = m ((c : Thread nD τ).loc main_arg3) := funext fun y => congrArg (m ((c : Thread nD τ).loc main_arg3)) (blk_w y)

/-- A load of a whole buffer reads, at an index, the buffer at the offset index. -/
theorem load_at {b : Ref sig .tc} (off size : Fin b.ty.shape.rank → ℕ) (inb : ∀ a, off a + size a ≤ b.ty.shape.size a)
    (f : b.ty.Contents (Elt F)) (x : (Rect.unit off size inb).shape.Idx) (i : b.ty.shape.Idx) (hi : ∀ a, (i a : ℕ) = off a + x a) :
    (Memref.whole b).view.readAt (Elt F) (Rect.unit off size inb).toLoadRect f x = f i :=
  View.ld_unit_apply_of f off size inb x i hi

theorem rdX_eq (c : Dev nD) : rdX m c = m ((c : Thread nD τ).loc main_arg0) := by
  rw [← stgX_eq m c]
  exact funext fun i => load_at (b := cc0_stg0_0) _ _ _ _ i i (fun a => by match a with | ⟨0, _⟩ => exact (Nat.zero_add _).symm | ⟨1, _⟩ => exact (Nat.zero_add _).symm)
theorem rdR_eq (c : Dev nD) : rdR m c = m ((c : Thread nD τ).loc main_arg1) := by
  rw [← stgR_eq m c]
  exact funext fun i => load_at (b := cc0_stg1_0) _ _ _ _ i i (fun a => by match a with | ⟨0, _⟩ => exact (Nat.zero_add _).symm | ⟨1, _⟩ => exact (Nat.zero_add _).symm)
theorem rdE0_eq (c : Dev nD) (t : Fin 1024) : rdE0 m c (ix2 t 0) = m ((c : Thread nD τ).loc main_arg2) (ix2 (n0 := 1024) (n1 := 2) t 0) := by
  rw [← stgE_eq m c]
  exact load_at (b := cc0_stg2_0) _ _ _ _ (ix2 (n0 := 1024) (n1 := 1) t 0) (ix2 (n0 := 1024) (n1 := 2) t 0)
    (fun a => by match a with | ⟨0, _⟩ => exact (Nat.zero_add _).symm | ⟨1, _⟩ => rfl)
theorem rdE1_eq (c : Dev nD) (t : Fin 1024) : rdE1 m c (ix2 t 0) = m ((c : Thread nD τ).loc main_arg2) (ix2 (n0 := 1024) (n1 := 2) t 1) := by
  rw [← stgE_eq m c]
  exact load_at (b := cc0_stg2_0) _ _ _ _ (ix2 (n0 := 1024) (n1 := 1) t 0) (ix2 (n0 := 1024) (n1 := 2) t 1)
    (fun a => by match a with | ⟨0, _⟩ => exact (Nat.zero_add _).symm | ⟨1, _⟩ => rfl)

/-- The four experts' matrices. -/
def eW (c : Dev nD) : Fin 4 → FVec F S512x1024 .bf16
  | 0 => eW0 m c | 1 => eW1 m c | 2 => eW2 m c | 3 => eW3 m c

theorem eW_eq (c : Dev nD) (k : Fin 4) (d : Fin 512) (o : Fin 1024) :
    eW m c k (ix2 d o) = m ((c : Thread nD τ).loc main_arg3) (ix3 (n0 := 4) (n1 := 512) (n2 := 1024) k d o) := by
  rw [← stgW_eq m c]
  match k with
  | 0 => exact (shapeCast_1ab_ab_apply (rdW0 m c) _ d o).trans (load_at (b := cc0_stg3_0) _ _ _ _ (ix3 (n0 := 1) (n1 := 512) (n2 := 1024) 0 d o) (ix3 (n0 := 4) (n1 := 512) (n2 := 1024) 0 d o)
      (fun a => by match a with | ⟨0, _⟩ => rfl | ⟨1, _⟩ => exact (Nat.zero_add _).symm | ⟨2, _⟩ => exact (Nat.zero_add _).symm))
  | 1 => exact (shapeCast_1ab_ab_apply (rdW1 m c) _ d o).trans (load_at (b := cc0_stg3_0) _ _ _ _ (ix3 (n0 := 1) (n1 := 512) (n2 := 1024) 0 d o) (ix3 (n0 := 4) (n1 := 512) (n2 := 1024) 1 d o)
      (fun a => by match a with | ⟨0, _⟩ => rfl | ⟨1, _⟩ => exact (Nat.zero_add _).symm | ⟨2, _⟩ => exact (Nat.zero_add _).symm))
  | 2 => exact (shapeCast_1ab_ab_apply (rdW2 m c) _ d o).trans (load_at (b := cc0_stg3_0) _ _ _ _ (ix3 (n0 := 1) (n1 := 512) (n2 := 1024) 0 d o) (ix3 (n0 := 4) (n1 := 512) (n2 := 1024) 2 d o)
      (fun a => by match a with | ⟨0, _⟩ => rfl | ⟨1, _⟩ => exact (Nat.zero_add _).symm | ⟨2, _⟩ => exact (Nat.zero_add _).symm))
  | 3 => exact (shapeCast_1ab_ab_apply (rdW3 m c) _ d o).trans (load_at (b := cc0_stg3_0) _ _ _ _ (ix3 (n0 := 1) (n1 := 512) (n2 := 1024) 0 d o) (ix3 (n0 := 4) (n1 := 512) (n2 := 1024) 3 d o)
      (fun a => by match a with | ⟨0, _⟩ => rfl | ⟨1, _⟩ => exact (Nat.zero_add _).symm | ⟨2, _⟩ => exact (Nat.zero_add _).symm))

theorem off97_val (c : Dev nD) : k0_off97 c = ![32 * c.val, 0] := by revert c; decide +kernel
theorem off98_val (c : Dev nD) : k0_off98 c = ![32 * c.val, 1] := by revert c; decide +kernel

theorem rdC0_eq (c : Dev nD) (r : Fin 32) : rdC0 m c (ix2 r 0)
    = m ((c : Thread nD τ).loc main_arg2) (ix2 (n0 := 1024) (n1 := 2) ⟨32 * c.val + r.val, by have := c.isLt; unfold nD at this; omega⟩ 0) := by
  rw [← stgE_eq m c]
  exact load_at (b := cc0_stg2_0) _ _ _ _ (ix2 (n0 := 32) (n1 := 1) r 0) _
    (fun a => Eq.trans (by match a with | ⟨0, _⟩ => rfl | ⟨1, _⟩ => rfl) (congrArg (fun o : Fin 2 → ℕ => o a + (ix2 (n0 := 32) (n1 := 1) r 0 a : ℕ)) (off97_val c).symm))
theorem rdC1_eq (c : Dev nD) (r : Fin 32) : rdC1 m c (ix2 r 0)
    = m ((c : Thread nD τ).loc main_arg2) (ix2 (n0 := 1024) (n1 := 2) ⟨32 * c.val + r.val, by have := c.isLt; unfold nD at this; omega⟩ 1) := by
  rw [← stgE_eq m c]
  exact load_at (b := cc0_stg2_0) _ _ _ _ (ix2 (n0 := 32) (n1 := 1) r 0) _
    (fun a => Eq.trans (by match a with | ⟨0, _⟩ => rfl | ⟨1, _⟩ => rfl) (congrArg (fun o : Fin 2 → ℕ => o a + (ix2 (n0 := 32) (n1 := 1) r 0 a : ℕ)) (off98_val c).symm))

/-- The result array after the run is what the body leaves in its block. -/
theorem finalA_out (c : Dev nD) : finalA m ρ c (4 : Fin 5) = outAt m c := by
  funext y
  have h := (dats m ρ 0 c).arrAt_emb_eq_flushed (4 : Fin 5) (fun t t' _ _ hne => absurd ((fin_N0 t).trans (fin_N0 t').symm) hne) t0_0 (by decide +kernel) y
  rw [show ((cfg0.win 4).blk t0_0).view.emb y = y from blk_o y] at h
  exact h

end Cert.KProof
end
-- ==== Proof.Groups.lean ====
/-
# `Groups`: a row of the send buffer

A row of a device's send buffer that holds a served token is that token's weighted sum over the device's four experts.
-/
module

public import proofs.«01_k».proof.Proof.Reads

@[expose] public section

set_option maxRecDepth 16384

noncomputable section

namespace Cert.KProof

open Cert.KernelIdeal Cert.KernelIdeal.Gen
open Idealize.ShloMosaic hiding ix1 ix2 ix3
open Idealize.ShloMosaic.ValueIdx
open scoped BigOperators

/-- The product of a transposed matrix with a matrix. -/
abbrev tdot (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Against a column with a single one, it reads that row. -/
theorem tdot_one {K M N : ℕ} (wf) {φ₁ φ₂ : FTy} (a : FVec Ideal ⟨2, ![K, M]⟩ φ₁) (x : FVec Ideal ⟨2, ![K, N]⟩ φ₂)
    (q : Fin M) (d : Fin N) (t0 : Fin K) (h : ∀ t, a (ix2 t q) = if t = t0 then (1 : EReal) else 0) :
    matmul (tdot K M N wf) none a x (constant ⟨2, ![M, N]⟩ .f32 0x00000000#32) (ix2 q d) = x (ix2 t0 d) := by
  show FloatOps.matmul (tdot K M N wf) none a x (constant ⟨2, ![M, N]⟩ .f32 0x00000000#32) (ix2 q d) = _
  rw [Ideal.matmul_constant_zero_apply, ← Equiv.sum_comp (contrEquiv1 (tdot K M N wf) K rfl rfl).symm]
  refine (Finset.sum_congr rfl (g := fun k : Fin K => if k = t0 then (x (ix2 t0 d) : EReal) else 0) fun k _ => ?_).trans ?_
  · have hk := contrEquiv1_symm_val (tdot K M N wf) K rfl rfl k
    have el : (tdot K M N wf).lhsIdx (ix2 q d) ((contrEquiv1 (tdot K M N wf) K rfl rfl).symm k) = ix2 k q := by
      funext a; apply Fin.ext
      match a with
      | ⟨0, _⟩ => exact hk
      | ⟨1, _⟩ => rfl
    have er : (tdot K M N wf).rhsIdx (ix2 q d) ((contrEquiv1 (tdot K M N wf) K rfl rfl).symm k) = ix2 k d := by
      funext a; apply Fin.ext
      match a with
      | ⟨0, _⟩ => exact hk
      | ⟨1, _⟩ => rfl
    rw [el, er, h]
    by_cases e : k = t0
    · rw [if_pos e, if_pos e, e]; exact one_mul _
    · rw [if_neg e, if_neg e]; exact zero_mul _
  · rw [Finset.sum_ite_eq' Finset.univ t0 (fun _ => (x (ix2 t0 d) : EReal)), if_pos (Finset.mem_univ _)]

/-- One expert's share: the weighted row against the expert's matrix. -/
theorem share_val (k : ℕ) (hs : S128x4.Slices ![0, k] S128x1) (hk : k < 4) (A : FVec Ideal S128x512 .f32) (B : FVec Ideal S128x4 .f32)
    (W : FVec Ideal S512x1024 .bf16) (q : Fin 128) (o : Fin 1024) :
    matmul dot_S128x512_S512x1024_S128x1024_1_0_0_1_n_n none
      (truncf .bf16 (mulf A (broadcastTo S128x512 (extractStridedSlice S128x1 ![0, k] B hs) broadcasts_S128x1_S128x512)) bitsLt_bf16_f32)
      W (constant S128x1024 .f32 0x00000000#32) (ix2 q o)
    = ∑ d : Fin 512, ((A (ix2 q d) : EReal) * B (ix2 q ⟨k, hk⟩)) * W (ix2 d o) := by
  refine (Ideal.matmul_plain_apply (M := 128) (K := 512) (N := 1024) none _ W _ q o).trans ?_
  rw [constant_apply, Ideal.ofBits_zero_f32, zero_add]
  refine Finset.sum_congr rfl fun d _ => ?_
  refine congrArg (fun z : EReal => ((A (ix2 q d) : EReal) * z) * W (ix2 d o)) ?_
  refine (bcol _ broadcasts_S128x1_S128x512 q d).trans (extractStridedSlice_apply _ B hs _ _ fun a => ?_)
  match a with
  | ⟨0, _⟩ => exact (Nat.zero_add _).symm
  | ⟨1, _⟩ => rfl

/-- A row of a group whose column of the dispatch matrix has its one at token `t0`. -/
theorem group_val (w : FVec Ideal S1024x4 .bf16) (x : FVec Ideal S1024x512 .bf16) (W : Fin 4 → FVec Ideal S512x1024 .bf16)
    (dd : FVec Ideal S1024x128 .bf16) (q : Fin 128) (o : Fin 1024) (t0 : Fin 1024)
    (h : ∀ t, dd (ix2 t q) = if t = t0 then (1 : EReal) else 0) :
    k0_pay43 (F := Ideal) w x (W 0) (W 1) (W 2) (W 3) dd (ix2 q o)
      = ∑ k : Fin 4, ∑ d : Fin 512, ((x (ix2 t0 d) : EReal) * w (ix2 t0 k)) * W k (ix2 d o) := by
  have e : ∀ v : FVec Ideal S128x1024 .bf16, shapeCast S128x1024 v shapeCasts_S128x1024_S128x1024 = v := fun v => shapeCast_self v _
  unfold k0_pay43
  rw [e]
  have hx : ∀ d : Fin 512, matmul dot_S1024x128_S1024x512_S128x512_0_0_1_1_n_n none dd x (constant S128x512 .f32 0x00000000#32) (ix2 q d) = x (ix2 t0 d) :=
    fun d => tdot_one _ dd x q d t0 h
  have hw : ∀ d : Fin 4, matmul dot_S1024x128_S1024x4_S128x4_0_0_1_1_n_n none dd w (constant S128x4 .f32 0x00000000#32) (ix2 q d) = w (ix2 t0 d) :=
    fun d => tdot_one _ dd w q d t0 h
  rw [truncf_apply, addf_apply, addf_apply, addf_apply, addf_apply, share_val 0 _ (by decide), share_val 1 _ (by decide),
    share_val 2 _ (by decide), share_val 3 _ (by decide), broadcast_apply, Fin.sum_univ_four]
  simp only [hx]
  rw [hw ⟨0, by decide⟩, hw ⟨1, by decide⟩, hw ⟨2, by decide⟩, hw ⟨3, by decide⟩,
    show (Scalar.ofBits (F := Ideal) .f32 0x00000000#32 : EReal) = 0 from Ideal.ofBits_zero_f32, zero_add]
  rfl

variable (m : (ℓ : Loc nD τ sig) → Buf (Elt Ideal) ℓ)

/-- The columns of a group. -/
def dcols (c : Dev nD) : Fin 4 → FVec Ideal S1024x128 .bf16
  | 0 => extractStridedSlice S1024x128 ![0, 0] (disp m c) slices_S1024x512_o0_0_S1024x128
  | 1 => k0_pay42 (disp m c) | 2 => k0_pay52 (disp m c) | 3 => k0_pay65 (disp m c)

theorem slice_cols (n : ℕ) (hs : S1024x512.Slices ![0, n] S1024x128) (x : FVec Ideal S1024x512 .bf16) (t : Fin 1024) (q : Fin 128)
    (p : Fin 512) (hp : p.val = n + q.val) : extractStridedSlice S1024x128 ![0, n] x hs (ix2 t q) = x (ix2 t p) := by
  refine extractStridedSlice_apply _ x hs _ _ fun a => ?_
  match a with
  | ⟨0, _⟩ => exact (Nat.zero_add _).symm
  | ⟨1, _⟩ => exact hp

theorem dcols_val (c : Dev nD) (g : Fin 4) (t : Fin 1024) (q : Fin 128) :
    dcols m c g (ix2 t q) = disp m c (ix2 t (⟨128 * g.val + q.val, by omega⟩ : Fin 512)) := by
  match g with
  | 0 => exact slice_cols 0 slices_S1024x512_o0_0_S1024x128 (disp m c) t q ⟨128 * 0 + q.val, by omega⟩ rfl
  | 1 => exact slice_cols 128 slices_S1024x512_o0_128_S1024x128 (disp m c) t q ⟨128 * 1 + q.val, by omega⟩ rfl
  | 2 => exact slice_cols 256 slices_S1024x512_o0_256_S1024x128 (disp m c) t q ⟨128 * 2 + q.val, by omega⟩ rfl
  | 3 => exact slice_cols 384 slices_S1024x512_o0_384_S1024x128 (disp m c) t q ⟨128 * 3 + q.val, by omega⟩ rfl

/-- The four groups are one function of their columns. -/
theorem grp_eq (c : Dev nD) (g : Fin 4) :
    grp m c g = k0_pay43 (wgt m c) (toks m c) (eW m c 0) (eW m c 1) (eW m c 2) (eW m c 3) (dcols m c g) := by
  match g with
  | 0 => rfl
  | 1 => rfl
  | 2 => rfl
  | 3 => rfl

/-- A row of the send buffer whose column of the dispatch matrix has its one at token `t0`. -/
theorem send_val (c : Dev nD) (q : Fin 512) (o t0 : Fin 1024) (h : ∀ t, disp m c (ix2 t q) = if t = t0 then (1 : EReal) else 0) :
    sendAll m c (ix2 q o) = ∑ k : Fin 4, ∑ d : Fin 512, ((toks m c (ix2 t0 d) : EReal) * wgt m c (ix2 t0 k)) * eW m c k (ix2 d o) := by
  have e : sendAll m c (ix2 q o) = grp m c ⟨q.val / 128, by omega⟩ (ix2 (⟨q.val % 128, Nat.mod_lt _ (by decide)⟩ : Fin 128) o) := by
    unfold sendAll
    refine congrArg _ (funext fun a => ?_)
    match a with
    | ⟨0, _⟩ => rfl
    | ⟨1, _⟩ => rfl
  rw [e, grp_eq]
  refine group_val (wgt m c) (toks m c) (eW m c) (dcols m c _) _ o t0 fun t => ?_
  rw [dcols_val, ← h t]
  refine congrArg (fun z => disp m c (ix2 t z)) (Fin.ext ?_)
  show 128 * (q.val / 128) + q.val % 128 = q.val
  omega

end Cert.KProof
-- ==== Proof.RefValue.lean ====
/-
# `RefValue`: the reference's result at an index

The reference's result at a token and a column: the two normalised routed probabilities of the token, each times the
token's product with that expert's matrix.
-/
module

public import proofs.«01_k».proof.Proof.Words
public import proofs.«01_k».proof.Proof.Gen.ReferenceIdeal.Run
public import Idealize.ShloMosaic.Lib.IdealHost
public import Idealize.ShloMosaic.Lib.MatmulPlain

@[expose] public section

set_option maxRecDepth 16384

noncomputable section

namespace Cert.KProof

open Cert.ReferenceIdeal Cert.ReferenceIdeal.Gen Cert.ReferenceIdeal.Value
open Idealize.ShloMosaic hiding ix0 ix1 ix2 ix3
open Idealize.ShloMosaic.ValueIdx
open scoped BigOperators

/-- A negative index counts from the end. -/
def wrapW (n : BitVec 32) (v : IVec S1024 32) : IVec S1024 32 :=
  select (cmpi .slt v (broadcastInDim S1024 ![] bcast_S_S1024 (constantI S_ 32 0#32))) (addi v (broadcastInDim S1024 ![] bcast_S_S1024 (constantI S_ 32 n))) v
def asCol {α : Type} (v : S1024.Idx → α) : S1024x1.Idx → α := broadcastInDim S1024x1 ![0] bcast_S1024_S1024x1_0 v
def rCol0 (e : IVec S1024x2 32) : IVec S1024 32 := shapeCast S1024 (extractStridedSlice S1024x1 ![0, 0] e slices_S1024x2_S1024x1_0_0) shapeCasts_S1024x1_S1024
def rCol1 (e : IVec S1024x2 32) : IVec S1024 32 := shapeCast S1024 (extractStridedSlice S1024x1 ![0, 1] e slices_S1024x2_S1024x1_0_1) shapeCasts_S1024x1_S1024

/-- The scores, their exponentials and the probabilities. -/
def rScore (x : FVec Ideal S1024x512 .bf16) (r : FVec Ideal S512x128 .bf16) : FVec Ideal S1024x128 .f32 :=
  Host.dotGeneral dot_S1024x512_S512x128_S1024x128_1_0_0_1_n_n none (extf .f32 x bitsLt_bf16_f32) (extf .f32 r bitsLt_bf16_f32)
def rExp (s : FVec Ideal S1024x128 .f32) : FVec Ideal S1024x128 .f32 :=
  Host.exp (subf s (broadcastInDim S1024x128 ![0, 1] bcast_S1024x1_S1024x128_0_1 (asCol (Host.reduce FloatOps.maximumf s (constant S_ .f32 0xFF800000#32) reducesTo_S1024x128_S1024_d1 h_S_))))
def rProb (s : FVec Ideal S1024x128 .f32) : FVec Ideal S1024x128 .f32 :=
  Host.divf (rExp s) (broadcastInDim S1024x128 ![0, 1] bcast_S1024x1_S1024x128_0_1 (asCol (Host.reduceAdd (rExp s) (constant S_ .f32 0x00000000#32) reducesTo_S1024x128_S1024_d1 h_S_)))
/-- The probability at the token's expert. -/
def rGate (p : FVec Ideal S1024x128 .f32) (v : IVec S1024 32) : FVec Ideal S1024 .f32 :=
  Host.gather gather_S1024x128_S1024x2_S1024_n_01_n_n_01_1_11 p (fn_main_v30 (F := Ideal) (asCol (wrapW 1024#32 (iotaInDim S1024 32 0))) (asCol (wrapW 128#32 v)))
/-- The token's product with its expert's matrix. -/
def rExpert (x : FVec Ideal S1024x512 .bf16) (w : FVec Ideal S128x512x1024 .bf16) (v : IVec S1024 32) : FVec Ideal S1024x1024 .f32 :=
  Host.dotGeneral dot_S1024x512_S1024x512x1024_S1024x1024_1_1_n_2_0_0 none (extf .f32 x bitsLt_bf16_f32)
    (Host.gather gather_S128x512x1024_S1024x1_S1024x512x1024_12_0_n_n_0_1_15121024 (extf .f32 w bitsLt_bf16_f32 : FVec Ideal S128x512x1024 .f32) (asCol (wrapW 128#32 v)))
def rSpread (g : FVec Ideal S1024 .f32) : FVec Ideal S1024x1024 .f32 := broadcastInDim S1024x1024 ![0, 1] bcast_S1024x1_S1024x1024_0_1 (asCol g)
def rOut (x : FVec Ideal S1024x512 .bf16) (r : FVec Ideal S512x128 .bf16) (e : IVec S1024x2 32) (w : FVec Ideal S128x512x1024 .bf16) : FVec Ideal S1024x1024 .f32 :=
  addf (mulf (rSpread (Host.divf (rGate (rProb (rScore x r)) (rCol0 e)) (addf (rGate (rProb (rScore x r)) (rCol0 e)) (rGate (rProb (rScore x r)) (rCol1 e))))) (rExpert x w (rCol0 e)))
    (mulf (rSpread (Host.divf (rGate (rProb (rScore x r)) (rCol1 e)) (addf (rGate (rProb (rScore x r)) (rCol0 e)) (rGate (rProb (rScore x r)) (rCol1 e))))) (rExpert x w (rCol1 e)))

set_option maxHeartbeats 4000000 in
theorem res_eq (m : (ℓ : Loc nD τ sig) → Buf (Elt Ideal) ℓ) (c : Dev nD) :
    res_main_v71 m c = rOut (m ((c.tc : Thread nD τ).loc main_arg0)) (m ((c.tc : Thread nD τ).loc main_arg1)) (m ((c.tc : Thread nD τ).loc main_arg2)) (m ((c.tc : Thread nD τ).loc main_arg3)) := rfl

theorem wrapW_val (n : BitVec 32) (v : IVec S1024 32) (t : Fin 1024) (k : ℕ) (hk : k < 2 ^ 31) (h : v (ix1 t) = BitVec.ofNat 32 k) :
    wrapW n v (ix1 t) = BitVec.ofNat 32 k := by
  show Scalar.select (IntOp.cmpi .slt (v (ix1 t)) (BitVec.ofNat 32 0)) (IntOp.addi (v (ix1 t)) n) (v (ix1 t)) = _
  rw [h, cmpi_slt_ofNat hk (by decide), select_ofBool, if_neg (by simp)]

theorem asCol_val {α : Type} (v : S1024.Idx → α) (t : Fin 1024) : asCol v (ix2 t 0) = v (ix1 t) :=
  broadcastInDim_apply _ _ v _ (ix1 t) fun a => by
    match a with
    | ⟨0, _⟩ => rfl

theorem rCol0_val (e : IVec S1024x2 32) (t : Fin 1024) : rCol0 e (ix1 t) = e (ix2 t 0) := by
  refine (shapeCast_apply _ _ (ix1 t) (ix2 (n0 := 1024) (n1 := 1) t 0) (by
    rw [Shape.rowMajor_val_two, Shape.rowMajor_val_one]
    show t.val * 1 + 0 = t.val
    omega)).trans ?_
  refine extractStridedSlice_apply _ e _ _ _ fun a => ?_
  match a with
  | ⟨0, _⟩ => exact (Nat.zero_add _).symm
  | ⟨1, _⟩ => rfl
theorem rCol1_val (e : IVec S1024x2 32) (t : Fin 1024) : rCol1 e (ix1 t) = e (ix2 t 1) := by
  refine (shapeCast_apply _ _ (ix1 t) (ix2 (n0 := 1024) (n1 := 1) t 0) (by
    rw [Shape.rowMajor_val_two, Shape.rowMajor_val_one]
    show t.val * 1 + 0 = t.val
    omega)).trans ?_
  refine extractStridedSlice_apply _ e _ _ _ fun a => ?_
  match a with
  | ⟨0, _⟩ => exact (Nat.zero_add _).symm
  | ⟨1, _⟩ => rfl

/-- The clamped start of a small index is the index. -/
theorem clamp_small (k n : ℕ) (hk : k ≤ n) (hn : n < 2 ^ 31) : min ((BitVec.ofNat 32 k).toInt.toNat) n = k := by
  rw [StableHlo.Predicate.toInt_ofNat_small k (by omega)]
  simp [hk]

theorem gather_pair (p : FVec Ideal S1024x128 .f32) (idx : IVec S1024x2 32) (t t' : Fin 1024) (n : Fin 128)
    (h0 : idx (ix2 t 0) = BitVec.ofNat 32 t'.val) (h1 : idx (ix2 t 1) = BitVec.ofNat 32 n.val) :
    Host.gather gather_S1024x128_S1024x2_S1024_n_01_n_n_01_1_11 p idx (ix1 t) = p (ix2 t' n) := by
  unfold Host.gather
  congr 1
  funext a
  refine Fin.ext ?_
  show gather_S1024x128_S1024x2_S1024_n_01_n_n_01_1_11.start (ix1 t) idx a + gather_S1024x128_S1024x2_S1024_n_01_n_n_01_1_11.batchCoord (ix1 t) a
    + gather_S1024x128_S1024x2_S1024_n_01_n_n_01_1_11.offCoord (ix1 t) a = _
  rw [GatherDims.batchCoord_eq_zero _ _ _ List.not_mem_nil,
    GatherDims.offCoord_eq_zero _ _ _ (fun h => ((GatherDims.mem_sKept _ _).mp h).1 (by revert a; decide))]
  unfold GatherDims.start
  match a with
  | ⟨0, _⟩ =>
    rw [dif_pos (by decide +revert)]
    have hsi : gather_S1024x128_S1024x2_S1024_n_01_n_n_01_1_11.siIdx (ix1 t) ⟨0, by decide⟩ = ix2 t 0 := by
      funext b; refine Fin.ext ?_
      match b with
      | ⟨0, _⟩ => rfl
      | ⟨1, _⟩ => rfl
    refine (congrArg (fun z => min (idx z).toInt.toNat 1023 + 0 + 0) hsi).trans ?_
    rw [h0]
    exact clamp_small t'.val 1023 (by omega) (by decide)
  | ⟨1, _⟩ =>
    rw [dif_pos (by decide +revert)]
    have hsi : gather_S1024x128_S1024x2_S1024_n_01_n_n_01_1_11.siIdx (ix1 t) ⟨1, by decide⟩ = ix2 t 1 := by
      funext b; refine Fin.ext ?_
      match b with
      | ⟨0, _⟩ => rfl
      | ⟨1, _⟩ => rfl
    refine (congrArg (fun z => min (idx z).toInt.toNat 127 + 0 + 0) hsi).trans ?_
    rw [h1]
    exact clamp_small n.val 127 (by omega) (by decide)

theorem gather_mat (w : FVec Ideal S128x512x1024 .f32) (idx : IVec S1024x1 32) (t : Fin 1024) (d : Fin 512) (o : Fin 1024) (n : Fin 128)
    (h : idx (ix2 t 0) = BitVec.ofNat 32 n.val) :
    Host.gather gather_S128x512x1024_S1024x1_S1024x512x1024_12_0_n_n_0_1_15121024 w idx (ix3 t d o) = w (ix3 n d o) := by
  unfold Host.gather
  congr 1
  funext a
  refine Fin.ext ?_
  show gather_S128x512x1024_S1024x1_S1024x512x1024_12_0_n_n_0_1_15121024.start (ix3 t d o) idx a
    + gather_S128x512x1024_S1024x1_S1024x512x1024_12_0_n_n_0_1_15121024.batchCoord (ix3 t d o) a
    + gather_S128x512x1024_S1024x1_S1024x512x1024_12_0_n_n_0_1_15121024.offCoord (ix3 t d o) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (by decide +revert)]
    have hsi : gather_S128x512x1024_S1024x1_S1024x512x1024_12_0_n_n_0_1_15121024.siIdx (ix3 t d o) ⟨0, by decide⟩ = ix2 t 0 := by
      funext b; refine Fin.ext ?_
      match b with
      | ⟨0, _⟩ => rfl
      | ⟨1, _⟩ => rfl
    refine (congrArg (fun z => min (idx z).toInt.toNat 127 + 0 + 0) hsi).trans ?_
    rw [h]
    exact clamp_small n.val 127 (by omega) (by decide)
  | ⟨1, _⟩ =>
    unfold GatherDims.start GatherDims.offCoord
    rw [dif_neg (by decide +revert), dif_pos (by decide +revert)]
    exact Nat.zero_add _
  | ⟨2, _⟩ =>
    unfold GatherDims.start GatherDims.offCoord
    rw [dif_neg (by decide +revert), dif_pos (by decide +revert)]
    exact Nat.zero_add _

theorem rGate_val (p : FVec Ideal S1024x128 .f32) (v : IVec S1024 32) (t : Fin 1024) (n : Fin 128) (h : v (ix1 t) = BitVec.ofNat 32 n.val) :
    rGate p v (ix1 t) = p (ix2 t n) := by
  refine gather_pair p _ t t n ?_ ?_
  · refine (concatenate_pair_apply_left (t := S1024x2) 1 (asCol (wrapW 1024#32 (iotaInDim S1024 32 0))) (asCol (wrapW 128#32 v)) concatenates_S1024x1_S1024x1_S1024x2_d1 (ix2 t 0) rfl (ix2 (n0 := 1024) (n1 := 1) t 0) fun b => ?_).trans
      ((asCol_val _ t).trans (wrapW_val _ _ t t.val (by omega) rfl))
    match b with
    | ⟨0, _⟩ => rfl
    | ⟨1, _⟩ => rfl
  · refine (concatenate_pair_apply_right (t := S1024x2) 1 (asCol (wrapW 1024#32 (iotaInDim S1024 32 0))) (asCol (wrapW 128#32 v)) concatenates_S1024x1_S1024x1_S1024x2_d1 (ix2 t 1) rfl rfl (ix2 (n0 := 1024) (n1 := 1) t 0) (fun b hb => ?_) rfl).trans
      ((asCol_val _ t).trans (wrapW_val _ _ t n.val (by omega) h))
    match b with
    | ⟨0, _⟩ => rfl
    | ⟨1, _⟩ => exact absurd rfl hb

theorem rExpert_val (x : FVec Ideal S1024x512 .bf16) (w : FVec Ideal S128x512x1024 .bf16) (v : IVec S1024 32) (t o : Fin 1024) (n : Fin 128)
    (h : v (ix1 t) = BitVec.ofNat 32 n.val) : rExpert x w v (ix2 t o) = ∑ d : Fin 512, (x (ix2 t d) : EReal) * w (ix3 n d o) := by
  show FloatOps.dotGeneral dot_S1024x512_S1024x512x1024_S1024x1024_1_1_n_2_0_0 none _ (extf .f32 x bitsLt_bf16_f32)
    (Host.gather gather_S128x512x1024_S1024x1_S1024x512x1024_12_0_n_n_0_1_15121024 (extf .f32 w bitsLt_bf16_f32 : FVec Ideal S128x512x1024 .f32) (asCol (wrapW 128#32 v))) (ix2 t o) = _
  rw [Ideal.dotGeneral_apply, ← Equiv.sum_comp (contrEquiv1 dot_S1024x512_S1024x512x1024_S1024x1024_1_1_n_2_0_0 512 rfl rfl).symm]
  refine Finset.sum_congr rfl fun k _ => ?_
  have hk := contrEquiv1_symm_val dot_S1024x512_S1024x512x1024_S1024x1024_1_1_n_2_0_0 512 rfl rfl k
  have el : dot_S1024x512_S1024x512x1024_S1024x1024_1_1_n_2_0_0.lhsIdx (ix2 t o) ((contrEquiv1 dot_S1024x512_S1024x512x1024_S1024x1024_1_1_n_2_0_0 512 rfl rfl).symm k) = ix2 t k := by
    funext a; apply Fin.ext
    match a with
    | ⟨0, _⟩ => rfl
    | ⟨1, _⟩ => exact hk
  have er : dot_S1024x512_S1024x512x1024_S1024x1024_1_1_n_2_0_0.rhsIdx (ix2 t o) ((contrEquiv1 dot_S1024x512_S1024x512x1024_S1024x1024_1_1_n_2_0_0 512 rfl rfl).symm k) = ix3 t k o := by
    funext a; apply Fin.ext
    match a with
    | ⟨0, _⟩ => rfl
    | ⟨1, _⟩ => exact hk
    | ⟨2, _⟩ => rfl
  rw [el, er, gather_mat _ _ t k o n ((asCol_val _ t).trans (wrapW_val _ _ t n.val (by omega) h))]
  rfl

theorem rSpread_val (g : FVec Ideal S1024 .f32) (t o : Fin 1024) : rSpread g (ix2 t o) = g (ix1 t) :=
  (broadcastInDim_apply _ _ _ _ (ix2 (n0 := 1024) (n1 := 1) t 0) fun a => by
    match a with
    | ⟨0, _⟩ => rfl
    | ⟨1, _⟩ => rfl).trans (asCol_val g t)

/-- The reference's result at token `t` and column `o`. -/
theorem rOut_val (x : FVec Ideal S1024x512 .bf16) (r : FVec Ideal S512x128 .bf16) (e : IVec S1024x2 32) (w : FVec Ideal S128x512x1024 .bf16)
    (t o : Fin 1024) (n0 n1 : Fin 128) (h0 : e (ix2 t 0) = BitVec.ofNat 32 n0.val) (h1 : e (ix2 t 1) = BitVec.ofNat 32 n1.val) :
    rOut x r e w (ix2 t o)
      = Ideal.div (rProb (rScore x r) (ix2 t n0)) ((rProb (rScore x r) (ix2 t n0) : EReal) + rProb (rScore x r) (ix2 t n1)) * (∑ d : Fin 512, (x (ix2 t d) : EReal) * w (ix3 n0 d o))
        + Ideal.div (rProb (rScore x r) (ix2 t n1)) ((rProb (rScore x r) (ix2 t n0) : EReal) + rProb (rScore x r) (ix2 t n1)) * (∑ d : Fin 512, (x (ix2 t d) : EReal) * w (ix3 n1 d o)) := by
  have c0 := (rCol0_val e t).trans h0
  have c1 := (rCol1_val e t).trans h1
  unfold rOut
  rw [addf_apply, mulf_apply, mulf_apply, rSpread_val, rSpread_val, hostDivf_apply, hostDivf_apply, addf_apply,
    rGate_val _ _ t n0 c0, rGate_val _ _ t n1 c1, rExpert_val _ _ _ t o n0 c0, rExpert_val _ _ _ t o n1 c1]

end Cert.KProof
-- ==== Proof.Soft.lean ====
/-
# `Soft`: the routed probabilities

The kernel's probabilities are the reference's; over finite tokens and a finite router each is a positive number, so a
token's two normalised weights are numbers at least 0. The weight the kernel sends a token's row with.
-/
module

public import proofs.«01_k».proof.Proof.Groups
public import proofs.«01_k».proof.Proof.RefValue
public import Idealize.ShloMosaic.Lib.KernelVsHost

@[expose] public section

set_option maxRecDepth 16384

noncomputable section

namespace Cert.KProof

open Cert.KernelIdeal Cert.KernelIdeal.Gen
open Idealize.ShloMosaic hiding ix0 ix1 ix2 ix3 eq_ix2
open Idealize.ShloMosaic.ValueIdx
open scoped BigOperators

/-- The kernel's row maximum, exponentials and probabilities. -/
def kTop (s : FVec Ideal S1024x128 .f32) : FVec Ideal S1024 .f32 :=
  multiReduction .maximumf [1] S1024 s 0xFF800000#32 reduces_S1024x128_S1024 (.inl rfl) rfl
def kAlong (v : FVec Ideal S1024 .f32) : FVec Ideal S1024x128 .f32 :=
  broadcastTo S1024x128 (shapeCast S1024x1 v shapeCasts_S1024_S1024x1) broadcasts_S1024x1_S1024x128
def kExp (s : FVec Ideal S1024x128 .f32) : FVec Ideal S1024x128 .f32 := exp (subf s (kAlong (kTop s)))
def kSum (s : FVec Ideal S1024x128 .f32) : FVec Ideal S1024 .f32 :=
  multiReduction .add [1] S1024 s 0x00000000#32 reduces_S1024x128_S1024 (.inl rfl) rfl

theorem kAlong_val (v : FVec Ideal S1024 .f32) (t : Fin 1024) (n : Fin 128) : kAlong v (ix2 t n) = v (ix1 t) :=
  (bcol _ _ t n).trans (shapeCast_a_a1_apply v _ t 0)

theorem rAlong_val (v : FVec Ideal S1024 .f32) (t : Fin 1024) (n : Fin 128) :
    broadcastInDim S1024x128 ![0, 1] Cert.ReferenceIdeal.Gen.bcast_S1024x1_S1024x128_0_1 (asCol v) (ix2 t n) = v (ix1 t) :=
  (broadcastInDim_apply _ _ _ _ (ix2 (n0 := 1024) (n1 := 1) t 0) fun a => by
    match a with
    | ⟨0, _⟩ => rfl
    | ⟨1, _⟩ => rfl).trans (asCol_val v t)

theorem along_eq (v : FVec Ideal S1024 .f32) :
    broadcastInDim S1024x128 ![0, 1] Cert.ReferenceIdeal.Gen.bcast_S1024x1_S1024x128_0_1 (asCol v) = kAlong v := by
  funext i
  obtain ⟨t, n, rfl⟩ : ∃ (t : Fin 1024) (n : Fin 128), i = ix2 t n := ⟨i 0, i 1, eq_ix2 i⟩
  rw [rAlong_val, kAlong_val]

theorem rExp_eq (s : FVec Ideal S1024x128 .f32) : rExp s = kExp s := by
  unfold rExp
  have h : Host.reduce FloatOps.maximumf s (constant Cert.ReferenceIdeal.S_ .f32 0xFF800000#32) Cert.ReferenceIdeal.Gen.reducesTo_S1024x128_S1024_d1 Cert.ReferenceIdeal.Gen.h_S_ = kTop s :=
    hostReduce_maximumf_eq_multiReduction s 0xFF800000#32 _ _ reduces_S1024x128_S1024 (.inl rfl) rfl
  rw [h]
  refine (congrArg (fun z => Host.exp (subf s z)) (along_eq (kTop s))).trans rfl

theorem rProb_eq (s : FVec Ideal S1024x128 .f32) : rProb s = divf (kExp s) (kAlong (kSum (kExp s))) := by
  unfold rProb
  rw [rExp_eq]
  have h := multiReduction_add_eq_hostReduceAdd (kExp s) 0x00000000#32 reduces_S1024x128_S1024 (.inl rfl) rfl
    (constant Cert.ReferenceIdeal.S_ .f32 0x00000000#32 : FVec Ideal _ .f32) Cert.ReferenceIdeal.Gen.reducesTo_S1024x128_S1024_d1 Cert.ReferenceIdeal.Gen.h_S_ Ideal.ofBits_zero_f32
  rw [← h]
  exact (congrArg (fun z => Host.divf (kExp s) z) (along_eq (kSum (kExp s)))).trans rfl

/-- The kernel's probabilities are the reference's. -/
theorem soft_eq (x : FVec Ideal S1024x512 .bf16) (r : FVec Ideal S512x128 .bf16) : k0_pay1 (F := Ideal) x r = rProb (rScore x r) := by
  have e : matmul dot_S1024x512_S512x128_S1024x128_1_0_0_1_n_n none (shapeCast S1024x512 x shapeCasts_S1024x512_S1024x512) (shapeCast S512x128 r shapeCasts_S512x128_S512x128)
      (constant (F := Ideal) S1024x128 .f32 0x00000000#32) = rScore x r := by
    rw [shapeCast_self, shapeCast_self, matmul_zero_eq_dotGeneral]
    rfl
  have k : k0_pay1 (F := Ideal) x r = (fun s => divf (kExp s) (kAlong (kSum (kExp s)))) (matmul dot_S1024x512_S512x128_S1024x128_1_0_0_1_n_n none
      (shapeCast S1024x512 x shapeCasts_S1024x512_S1024x512) (shapeCast S512x128 r shapeCasts_S512x128_S512x128) (constant (F := Ideal) S1024x128 .f32 0x00000000#32)) := rfl
  rw [k, e]
  exact (rProb_eq (rScore x r)).symm

/-! ## Numbers -/

theorem sum_real {ι : Type} (s : Finset ι) (f : ι → EReal) (h : ∀ i, ∃ a : ℝ, f i = a) : ∃ a : ℝ, ∑ i ∈ s, f i = a := by
  classical
  induction s using Finset.induction_on with
  | empty => exact ⟨0, by simp⟩
  | insert i s hi ih =>
    obtain ⟨a, ha⟩ := ih
    obtain ⟨b, hb⟩ := h i
    exact ⟨b + a, by rw [Finset.sum_insert hi, ha, hb, EReal.coe_add]⟩

theorem sum_pos_real {ι : Type} (s : Finset ι) (hs : s.Nonempty) (f : ι → EReal) (h : ∀ i, ∃ a : ℝ, 0 < a ∧ f i = a) :
    ∃ a : ℝ, 0 < a ∧ ∑ i ∈ s, f i = a := by
  classical
  induction hs using Finset.Nonempty.cons_induction with
  | singleton i => simpa using h i
  | cons i s hi hs ih =>
    obtain ⟨a, ha0, ha⟩ := ih
    obtain ⟨b, hb0, hb⟩ := h i
    exact ⟨b + a, by positivity, by rw [Finset.sum_cons, ha, hb, EReal.coe_add]⟩

theorem fold_max_real {ι : Type} (s : Finset ι) (hs : s.Nonempty) (f : ι → EReal) (h : ∀ i, ∃ a : ℝ, f i = a) :
    ∃ a : ℝ, s.fold max (⊥ : EReal) f = a := by
  classical
  induction hs using Finset.Nonempty.cons_induction with
  | singleton i => simpa using h i
  | cons i s hi hs ih =>
    obtain ⟨a, ha⟩ := ih
    obtain ⟨b, hb⟩ := h i
    refine ⟨max b a, ?_⟩
    rw [Finset.fold_cons, ha, hb]
    exact (EReal.coe_strictMono.monotone.map_max).symm

theorem rScore_real (x : FVec Ideal S1024x512 .bf16) (r : FVec Ideal S512x128 .bf16)
    (hx : ∀ i, ∃ a : ℝ, (x i : EReal) = a) (hr : ∀ i, ∃ a : ℝ, (r i : EReal) = a) (i : S1024x128.Idx) : ∃ a : ℝ, (rScore x r i : EReal) = a := by
  have e : (rScore x r i : EReal) = ∑ k : (Cert.ReferenceIdeal.dot_S1024x512_S512x128_S1024x128_1_0_0_1_n_n).contr.Idx, (x ((Cert.ReferenceIdeal.dot_S1024x512_S512x128_S1024x128_1_0_0_1_n_n).lhsIdx i k) : EReal) * r ((Cert.ReferenceIdeal.dot_S1024x512_S512x128_S1024x128_1_0_0_1_n_n).rhsIdx i k) :=
    Ideal.dotGeneral_apply _ _ _ _ _ _
  rw [e]
  refine sum_real _ _ fun k => ?_
  obtain ⟨a, ha⟩ := hx ((Cert.ReferenceIdeal.dot_S1024x512_S512x128_S1024x128_1_0_0_1_n_n).lhsIdx i k)
  obtain ⟨b, hb⟩ := hr ((Cert.ReferenceIdeal.dot_S1024x512_S512x128_S1024x128_1_0_0_1_n_n).rhsIdx i k)
  exact ⟨a * b, by rw [ha, hb, EReal.coe_mul]⟩

theorem kExp_pos (s : FVec Ideal S1024x128 .f32) (h : ∀ i, ∃ a : ℝ, (s i : EReal) = a) (t : Fin 1024) (n : Fin 128) :
    ∃ a : ℝ, 0 < a ∧ (kExp s (ix2 t n) : EReal) = a := by
  have e : (kExp s (ix2 t n) : EReal) = Ideal.exp ((s (ix2 t n) : EReal) - kTop s (ix1 t)) :=
    congrArg (fun z : EReal => Ideal.exp ((s (ix2 t n) : EReal) - z)) (kAlong_val (kTop s) t n)
  have ht : ∃ a : ℝ, (kTop s (ix1 t) : EReal) = a := by
    have hf := Ideal.multiReduction_maximumf_single s 0xFF800000#32 reduces_S1024x128_S1024 (.inl rfl) rfl (ix1 t)
    have hb : (FloatOps.ofBits (F := Ideal) .f32 0xFF800000#32 : EReal) = ⊥ := by
      show Ideal.ofBits .f32 0xFF800000#32 = ⊥
      simp [Ideal.ofBits, Ideal.ieee]
    rw [hb] at hf
    refine (fold_max_real (Finset.univ : Finset (Fin 128)) Finset.univ_nonempty (s ∘ reduces_S1024x128_S1024.lift (ix1 t)) fun i => h _).imp fun a ha => ?_
    exact hf.trans ha
  obtain ⟨a, ha⟩ := h (ix2 t n)
  obtain ⟨b, hb⟩ := ht
  refine ⟨Real.exp (a - b), Real.exp_pos _, ?_⟩
  rw [e, ha, hb, ← EReal.coe_sub]
  rfl

theorem div_pos_real (a b : ℝ) (ha : 0 < a) (hb : 0 < b) : ∃ p : ℝ, 0 < p ∧ Ideal.div (a : EReal) (b : EReal) = p :=
  ⟨a * (1 / b), by positivity, by rw [Ideal.div_coe hb.ne', EReal.coe_mul]⟩

/-- Over finite scores every probability is a positive number. -/
theorem rProb_pos (s : FVec Ideal S1024x128 .f32) (h : ∀ i, ∃ a : ℝ, (s i : EReal) = a) (t : Fin 1024) (n : Fin 128) :
    ∃ a : ℝ, 0 < a ∧ (rProb s (ix2 t n) : EReal) = a := by
  rw [rProb_eq]
  obtain ⟨a, ha0, ha⟩ := kExp_pos s h t n
  have hs : ∃ b : ℝ, 0 < b ∧ (kSum (kExp s) (ix1 t) : EReal) = b := by
    refine (sum_pos_real (Finset.univ : Finset (Fin 128)) Finset.univ_nonempty (fun k => (kExp s (reduces_S1024x128_S1024.lift (ix1 t) k) : EReal)) fun k => ?_).imp
      fun b hb => ⟨hb.1, (Ideal.multiReduction_add_single (kExp s) 0x00000000#32 reduces_S1024x128_S1024 (.inl rfl) rfl (ix1 t)).trans hb.2⟩
    have e : reduces_S1024x128_S1024.lift (ix1 t) k = ix2 (n0 := 1024) (n1 := 128) (reduces_S1024x128_S1024.lift (ix1 t) k 0) (reduces_S1024x128_S1024.lift (ix1 t) k 1) := eq_ix2 _
    rw [e]
    exact kExp_pos s h _ _
  obtain ⟨b, hb0, hb⟩ := hs
  obtain ⟨p, hp0, hp⟩ := div_pos_real a b ha0 hb0
  refine ⟨p, hp0, Eq.trans ?_ hp⟩
  rw [← ha, ← hb, ← kAlong_val (kSum (kExp s)) t n]
  rfl

/-! ## The gates -/

theorem lift_row (t : Fin 1024) (n : Fin 128) : reduces_S1024x128_S1024.lift (ix1 t) n = ix2 (n0 := 1024) (n1 := 128) t n := by
  funext a; apply Fin.ext
  match a with
  | ⟨0, _⟩ => rfl
  | ⟨1, _⟩ => rfl

/-- A probability selected by comparing the expert with each column. -/
theorem gate_val (p : FVec Ideal S1024x128 .f32) (v : IVec S1024x1 32) (t : Fin 1024) (n : Fin 128) (h : v (ix2 t 0) = BitVec.ofNat 32 n.val) :
    k0_pay4 p v (ix2 t 0) = p (ix2 t n) := by
  unfold k0_pay4
  refine (shapeCast_a_a1_apply _ _ t 0).trans ?_
  refine (Ideal.multiReduction_add_single _ _ _ _ _ _).trans ?_
  refine (Finset.sum_congr rfl (g := fun k : Fin 128 => if k = n then (p (ix2 t n) : EReal) else 0) fun k _ => ?_).trans
    (Finset.sum_ite_eq' Finset.univ n _ |>.trans (if_pos (Finset.mem_univ _)))
  refine (congrArg _ (lift_row t k)).trans ?_
  show Scalar.select (IntOp.cmpi .eq (BitVec.ofNat 32 (0 * 128 + k.val)) (broadcastTo S1024x128 v broadcasts_S1024x1_S1024x128 (ix2 t k))) (p (ix2 t k)) (Scalar.ofBits .f32 0x00000000#32) = _
  rw [show (0 * 128 + k.val) = k.val from by omega, show broadcastTo S1024x128 v broadcasts_S1024x1_S1024x128 (ix2 t k) = v (ix2 t 0) from bcol v _ t k, h, cmpi_eq_ofNat (by omega) (by omega), select_ofBool]
  by_cases hk : k = n
  · subst hk; simp
  · rw [if_neg (by simpa [Fin.ext_iff] using hk), if_neg hk]
    exact Ideal.ofBits_zero_f32

theorem gate5_val (p : FVec Ideal S1024x128 .f32) (v : Vec Ideal S1024x1 .i32) (t : Fin 1024) (n : Fin 128) (h : v (ix2 t 0) = BitVec.ofNat 32 n.val) :
    k0_pay5 p v (ix2 t 0) = p (ix2 t n) := by
  refine Eq.trans ?_ (gate_val p (k0_pay3 v) t n ((congrFun (pay3_eq v) _).trans h))
  rfl

/-- A token's weight for the device's `k`-th expert. -/
theorem pay27_val (c : Dev nD) (v0 v1 : IVec S1024x1 32) (g0 g1 : FVec Ideal S1024x1 .f32) (t : Fin 1024) (k : Fin 4) (n0 n1 : Fin 128)
    (h0 : v0 (ix2 t 0) = BitVec.ofNat 32 n0.val) (h1 : v1 (ix2 t 0) = BitVec.ofNat 32 n1.val) :
    (k0_pay27 (me c) v0 v1 g0 g1 (ix2 t k) : EReal)
      = (if n0.val = 4 * c.val + k.val then (g0 (ix2 t 0) : EReal) else 0) + (if n1.val = 4 * c.val + k.val then (g1 (ix2 t 0) : EReal) else 0) := by
  have hw : IntOp.addi (IntOp.muli (me c) 4#32) (BitVec.ofNat 32 (0 * 4 + k.val)) = BitVec.ofNat 32 (4 * c.val + k.val) := by
    revert c k; decide +kernel
  have key (v : IVec S1024x1 32) (g : FVec Ideal S1024x1 .f32) (n : Fin 128) (h : v (ix2 t 0) = BitVec.ofNat 32 n.val) :
      (Scalar.select (IntOp.cmpi .eq (broadcastTo S1024x4 v broadcasts_S1024x1_S1024x4 (ix2 t k)) (IntOp.addi (IntOp.muli (me c) 4#32) (BitVec.ofNat 32 (0 * 4 + k.val))))
        (broadcastTo S1024x4 (shapeCast S1024x1 g shapeCasts_S1024x1_S1024x1) broadcasts_S1024x1_S1024x4 (ix2 t k)) (Scalar.ofBits (F := Ideal) .f32 0x00000000#32) : EReal)
        = if n.val = 4 * c.val + k.val then (g (ix2 t 0) : EReal) else 0 := by
    have hc : c.val < 32 := c.isLt
    rw [hw, show broadcastTo S1024x4 v broadcasts_S1024x1_S1024x4 (ix2 t k) = v (ix2 t 0) from bcol v _ t k, h, cmpi_eq_ofNat (by omega) (by omega), select_ofBool, shapeCast_self,
      show broadcastTo S1024x4 g broadcasts_S1024x1_S1024x4 (ix2 t k) = g (ix2 t 0) from bcol g _ t k]
    simp only [decide_eq_true_eq]
    exact if_congr Iff.rfl rfl Ideal.ofBits_zero_f32
  have e0 := key v0 g0 n0 h0
  have e1 := key v1 g1 n1 h1
  rw [← e0, ← e1]
  generalize me c = z
  rfl

end Cert.KProof
-- ==== Proof.Combine.lean ====
/-
# `Combine`: sums over the senders and their experts

Every device sends a token's row summed over its own four experts, weighted by the token's two gates. Summed over the
devices it is the two gates' products, since a weight that is a number at least 0 comes out of a sum.
-/
module

public import Idealize.ShloMosaic.Lib.ValueIdx
public import Mathlib.Algebra.BigOperators.Fin
public import Mathlib.Logic.Equiv.Fin.Basic
public import Mathlib.Data.Fintype.BigOperators
public import Mathlib.Tactic.Ring

@[expose] public section

noncomputable section

namespace Cert.KProof

open scoped BigOperators

theorem mul_sum_nonneg {ι : Type} (s : Finset ι) (w : EReal) (h0 : 0 ≤ w) (ht : w ≠ ⊤) (f : ι → EReal) : w * ∑ i ∈ s, f i = ∑ i ∈ s, w * f i := by
  classical
  induction s using Finset.induction_on with
  | empty => simp
  | insert i s hi ih => rw [Finset.sum_insert hi, Finset.sum_insert hi, EReal.left_distrib_of_nonneg_of_ne_top h0 ht, ih]

/-- A sum over pairs, the second coordinate running fastest. -/
theorem sum_pairs {a b n : ℕ} (hn : a * b = n) (f : Fin n → EReal) :
    ∑ q, f q = ∑ s : Fin a, ∑ p : Fin b, f ⟨b * s.val + p.val, by
      subst hn
      have := s.isLt; have := p.isLt
      calc b * s.val + p.val < b * s.val + b := by omega
        _ = b * (s.val + 1) := by ring
        _ ≤ b * a := Nat.mul_le_mul_left _ (by omega)
        _ = a * b := Nat.mul_comm _ _⟩ := by
  subst hn
  rw [← Equiv.sum_comp finProdFinEquiv, Fintype.sum_prod_type]
  refine Finset.sum_congr rfl fun s _ => Finset.sum_congr rfl fun p _ => congrArg f (Fin.ext ?_)
  exact Nat.add_comm _ _

/-- A number at least 0, or 0. -/
theorem ite_nonneg (P : Prop) [Decidable P] (g : ℝ) (h : 0 ≤ g) : (0 : EReal) ≤ (if P then (g : EReal) else 0) ∧ (if P then (g : EReal) else 0) ≠ ⊤ := by
  split
  · exact ⟨EReal.coe_nonneg.2 h, EReal.coe_ne_top _⟩
  · exact ⟨le_refl _, EReal.zero_ne_top⟩

/-- The rows the devices send for one token, together. -/
theorem combine (e0 e1 : Fin 128) (g0 g1 : ℝ) (h0 : 0 ≤ g0) (h1 : 0 ≤ g1) (x : Fin 512 → EReal) (W : Fin 128 → Fin 512 → EReal) :
    ∑ s : Fin 32, ∑ k : Fin 4, ∑ d : Fin 512, (x d * ((if e0.val = 4 * s.val + k.val then (g0 : EReal) else 0) + (if e1.val = 4 * s.val + k.val then (g1 : EReal) else 0)))
        * W ⟨4 * s.val + k.val, by omega⟩ d
      = (g0 : EReal) * (∑ d, x d * W e0 d) + (g1 : EReal) * (∑ d, x d * W e1 d) := by
  rw [← sum_pairs (a := 32) (b := 4) (n := 128) rfl (fun e => ∑ d : Fin 512, (x d * ((if e0.val = e.val then (g0 : EReal) else 0) + (if e1.val = e.val then (g1 : EReal) else 0))) * W e d)]
  have key (e : Fin 128) : ∑ d : Fin 512, (x d * ((if e0.val = e.val then (g0 : EReal) else 0) + (if e1.val = e.val then (g1 : EReal) else 0))) * W e d
      = (if e0 = e then (g0 : EReal) * (∑ d, x d * W e0 d) else 0) + (if e1 = e then (g1 : EReal) * (∑ d, x d * W e1 d) else 0) := by
    obtain ⟨p0, t0⟩ := ite_nonneg (e0.val = e.val) g0 h0
    obtain ⟨p1, t1⟩ := ite_nonneg (e1.val = e.val) g1 h1
    have hw : ∀ d, (x d * ((if e0.val = e.val then (g0 : EReal) else 0) + (if e1.val = e.val then (g1 : EReal) else 0))) * W e d
        = ((if e0.val = e.val then (g0 : EReal) else 0) + (if e1.val = e.val then (g1 : EReal) else 0)) * (x d * W e d) := fun d => by
      rw [mul_comm (x d), mul_assoc]
    rw [Finset.sum_congr rfl fun d _ => hw d, ← mul_sum_nonneg _ _ (add_nonneg p0 p1) (EReal.add_ne_top t0 t1), EReal.right_distrib_of_nonneg p0 p1]
    congr 1
    · by_cases h : e0 = e
      · subst h; rw [if_pos rfl, if_pos rfl]
      · rw [if_neg (fun hh => h (Fin.ext hh)), if_neg h, zero_mul]
    · by_cases h : e1 = e
      · subst h; rw [if_pos rfl, if_pos rfl]
      · rw [if_neg (fun hh => h (Fin.ext hh)), if_neg h, zero_mul]
  rw [Finset.sum_congr rfl fun e _ => key e, Finset.sum_add_distrib]
  simp

/-- A row sent with no weight is zero. -/
theorem unsent (e0 e1 : Fin 128) (g0 g1 : EReal) (x : Fin 512 → EReal) (W : Fin 4 → Fin 512 → EReal) (s : ℕ) (h0 : e0.val / 4 ≠ s) (h1 : e1.val / 4 ≠ s) :
    ∑ k : Fin 4, ∑ d : Fin 512, (x d * ((if e0.val = 4 * s + k.val then g0 else 0) + (if e1.val = 4 * s + k.val then g1 else 0))) * W k d = 0 := by
  refine Finset.sum_eq_zero fun k _ => Finset.sum_eq_zero fun d _ => ?_
  rw [if_neg (by omega), if_neg (by omega), add_zero, mul_zero, zero_mul]

end Cert.KProof
-- ==== Proof.Values.lean ====
/-
# `Values`: the kernel's result at an index

Row `r` of device `c`'s result block: the rows the devices sent for token `32 c + r`, added up. Each device that serves
the token sent it once, at the token's position among those it serves of the block.
-/
module

public import proofs.«01_k».proof.Proof.Soft
public import proofs.«01_k».proof.Proof.Select
public import proofs.«01_k».proof.Proof.Combine

@[expose] public section

set_option maxRecDepth 16384

noncomputable section

namespace Cert.KProof

open Cert.KernelIdeal Cert.KernelIdeal.Gen
open Idealize.ShloMosaic hiding ix0 ix1 ix2 ix3 eq_ix2
open Idealize.ShloMosaic.ValueIdx
open scoped BigOperators

variable (m : (ℓ : Loc nD τ sig) → Buf (Elt Ideal) ℓ)

section Routes
variable (e0 e1 : Fin 1024 → Fin 128)
variable (he0 : ∀ (c : Dev nD) t, m ((c.tc : Thread nD τ).loc main_arg2) (ix2 (n0 := 1024) (n1 := 2) t 0) = BitVec.ofNat 32 (e0 t).val)
variable (he1 : ∀ (c : Dev nD) t, m ((c.tc : Thread nD τ).loc main_arg2) (ix2 (n0 := 1024) (n1 := 2) t 1) = BitVec.ofNat 32 (e1 t).val)

include he0 he1

theorem hits_val (c : Dev nD) (t : Fin 1024) : hits m c (ix2 t 0) = BitVec.ofBool (served e0 e1 c t) := by
  refine (hit_word (me c) (rdE0 m c) (rdE1 m c) (ix2 t 0)).trans ?_
  have hc : c.val < 32 := c.isLt
  rw [rdE0_eq, rdE1_eq, he0, he1, fdivW_four, fdivW_four, me_eq, cmpi_eq_ofNat (by omega) (by omega), cmpi_eq_ofNat (by omega) (by omega), ori_ofBool]
  rfl

theorem rank_eq (c : Dev nD) (t : Fin 1024) : rank m c (ix2 t 0) = ((rk e0 e1 c t : ℕ) : EReal) :=
  rank_val (hitF m c) (served e0 e1 c) (fun t => hitF_val (me c) (rdE0 m c) (rdE1 m c) (ix2 t 0) _ (hits_val m e0 e1 he0 he1 c t)) t

theorem disp_eq (c : Dev nD) (t : Fin 1024) (q : Fin 512) :
    disp m c (ix2 t q) = one? ((served e0 e1 c t && decide (t.val / 32 = (dst c ⟨q.val / 16, by omega⟩).val)) && decide (rk e0 e1 c t = q.val % 16)) :=
  disp_val _ _ _ t q _ _ _ (dst c ⟨q.val / 16, by omega⟩).isLt (hits_val m e0 e1 he0 he1 c t) (rank_eq m e0 e1 he0 he1 c t) (dst_word c t q)

/-- The column of a served token has its one at the token. -/
theorem disp_one (c : Dev nD) (q : Fin 512) (t0 : Fin 1024) (hs : served e0 e1 c t0 = true) (hb : t0.val / 32 = (dst c ⟨q.val / 16, by omega⟩).val)
    (hr : rk e0 e1 c t0 = q.val % 16) (t : Fin 1024) : disp m c (ix2 t q) = if t = t0 then (1 : EReal) else 0 := by
  rw [disp_eq m e0 e1 he0 he1]
  unfold one?
  refine if_congr ?_ rfl rfl
  simp only [Bool.and_eq_true, decide_eq_true_eq]
  constructor
  · rintro ⟨⟨h1, h2⟩, h3⟩
    exact rk_inj e0 e1 c (h2.trans hb.symm) h1 hs (h3.trans hr.symm)
  · rintro rfl
    exact ⟨⟨hs, hb⟩, hr⟩

/-- The collect matrix picks, for each sender that serves the token, the token's position. -/
theorem coll_eq (c : Dev nD) (r s : Fin 32) (p : Fin 16) :
    coll m c (ix2 r ⟨16 * s.val + p.val, by omega⟩)
      = one? (served e0 e1 s ⟨32 * c.val + r.val, by have := c.isLt; unfold nD at this; omega⟩
          && decide (rk e0 e1 s ⟨32 * c.val + r.val, by have := c.isLt; unfold nD at this; omega⟩ = p.val)) := by
  have hc : c.val < 32 := c.isLt
  refine (coll_val (ownE0 m c) (ownE1 m c) (fun r => e0 ⟨32 * c.val + r.val, by omega⟩) (fun r => e1 ⟨32 * c.val + r.val, by omega⟩) (fun r => ?_) (fun r => ?_) r _).trans ?_
  · refine (ownE0_word (rdC0 m c) (ix2 r 0)).trans ?_
    rw [rdC0_eq, he0, fdivW_four]
  · refine (ownE1_word (rdC1 m c) (ix2 r 0)).trans ?_
    rw [rdC1_eq, he1, fdivW_four]
  · have hq : (16 * s.val + p.val) / 16 = s.val := by omega
    have hm : (16 * s.val + p.val) % 16 = p.val := by omega
    simp only [hq, hm]
    rw [rk_block e0 e1 s (c : Fin 32) r]
    rfl

end Routes

theorem expert_lt (c : Dev nD) (k : Fin 4) : 4 * c.val + k.val < 128 := by
  have hc : c.val < 32 := c.isLt
  omega

/-- The number of a device's `k`-th expert. -/
def expertOf (c : Dev nD) (k : Fin 4) : Fin 128 := ⟨4 * c.val + k.val, expert_lt c k⟩

section Result
variable (X : FVec Ideal S1024x512 .bf16) (R : FVec Ideal S512x128 .bf16) (W : FVec Ideal ⟨3, ![128, 512, 1024]⟩ .bf16) (e0 e1 : Fin 1024 → Fin 128)
variable (hx : ∀ c : Dev nD, m ((c.tc : Thread nD τ).loc main_arg0) = X) (hr : ∀ c : Dev nD, m ((c.tc : Thread nD τ).loc main_arg1) = R)
variable (he0 : ∀ (c : Dev nD) t, m ((c.tc : Thread nD τ).loc main_arg2) (ix2 (n0 := 1024) (n1 := 2) t 0) = BitVec.ofNat 32 (e0 t).val)
variable (he1 : ∀ (c : Dev nD) t, m ((c.tc : Thread nD τ).loc main_arg2) (ix2 (n0 := 1024) (n1 := 2) t 1) = BitVec.ofNat 32 (e1 t).val)
variable (hw : ∀ (c : Dev nD) (k : Fin 4) (d : Fin 512) (o : Fin 1024), m ((c.tc : Thread nD τ).loc main_arg3) (ix3 (n0 := 4) (n1 := 512) (n2 := 1024) k d o)
  = W (ix3 (n0 := 128) (expertOf c k) d o))

/-- A token's normalised gates. -/
def gate0 (t : Fin 1024) : EReal := Ideal.div (rProb (rScore X R) (ix2 t (e0 t))) ((rProb (rScore X R) (ix2 t (e0 t)) : EReal) + rProb (rScore X R) (ix2 t (e1 t)))
def gate1 (t : Fin 1024) : EReal := Ideal.div (rProb (rScore X R) (ix2 t (e1 t))) ((rProb (rScore X R) (ix2 t (e0 t)) : EReal) + rProb (rScore X R) (ix2 t (e1 t)))

include hx hr he0 he1 in
theorem wgt_eq (c : Dev nD) (t : Fin 1024) (k : Fin 4) :
    (wgt m c (ix2 t k) : EReal) = (if (e0 t).val = 4 * c.val + k.val then gate0 X R e0 e1 t else 0) + (if (e1 t).val = 4 * c.val + k.val then gate1 X R e0 e1 t else 0) := by
  have h0 : ex0 m c (ix2 t 0) = BitVec.ofNat 32 (e0 t).val := (congrFun (pay2_eq (rdE0 m c)) _).trans ((rdE0_eq m c t).trans (he0 c t))
  have h1' : rdE1 m c (ix2 t 0) = BitVec.ofNat 32 (e1 t).val := (rdE1_eq m c t).trans (he1 c t)
  have h1 : ex1 m c (ix2 t 0) = BitVec.ofNat 32 (e1 t).val := (congrFun (pay3_eq (rdE1 m c)) _).trans h1'
  have hs : soft m c = rProb (rScore X R) := (soft_eq (rdX m c) (rdR m c)).trans (by rw [rdX_eq, rdR_eq, hx, hr])
  refine (pay27_val c (ex0 m c) (ex1 m c) _ _ t k (e0 t) (e1 t) h0 h1).trans ?_
  have g4 := gate_val (soft m c) (ex0 m c) t (e0 t) h0
  have g5 := gate5_val (soft m c) (rdE1 m c) t (e1 t) h1'
  have a : (k0_pay7 (soft m c) (ex0 m c) (rdE1 m c) (ix2 t 0) : EReal) = gate0 X R e0 e1 t := by
    have e : (k0_pay7 (soft m c) (ex0 m c) (rdE1 m c) (ix2 t 0) : EReal)
        = Ideal.div (k0_pay4 (soft m c) (ex0 m c) (ix2 t 0)) ((k0_pay4 (soft m c) (ex0 m c) (ix2 t 0) : EReal) + k0_pay5 (soft m c) (rdE1 m c) (ix2 t 0)) := rfl
    rw [e, g4, g5, hs]; rfl
  have b : (k0_pay8 (soft m c) (ex0 m c) (rdE1 m c) (ix2 t 0) : EReal) = gate1 X R e0 e1 t := by
    have e : (k0_pay8 (soft m c) (ex0 m c) (rdE1 m c) (ix2 t 0) : EReal)
        = Ideal.div (k0_pay5 (soft m c) (rdE1 m c) (ix2 t 0)) ((k0_pay4 (soft m c) (ex0 m c) (ix2 t 0) : EReal) + k0_pay5 (soft m c) (rdE1 m c) (ix2 t 0)) := rfl
    rw [e, g4, g5, hs]; rfl
  rw [a, b]

/-- The row a device sends for a token. -/
def sentRow (s : Fin 32) (t o : Fin 1024) : EReal :=
  ∑ k : Fin 4, ∑ d : Fin 512, ((X (ix2 t d) : EReal) * ((if (e0 t).val = 4 * s.val + k.val then gate0 X R e0 e1 t else 0) + (if (e1 t).val = 4 * s.val + k.val then gate1 X R e0 e1 t else 0)))
    * W (ix3 (n0 := 128) ⟨4 * s.val + k.val, by omega⟩ d o)

include hx hr he0 he1 hw in
theorem send_eq (s : Dev nD) (q : Fin 512) (t0 o : Fin 1024) (hs : served e0 e1 s t0 = true) (hb : t0.val / 32 = (dst s ⟨q.val / 16, by omega⟩).val)
    (hk : rk e0 e1 s t0 = q.val % 16) : sendAll m s (ix2 q o) = sentRow X R W e0 e1 s t0 o := by
  refine (send_val m s q o t0 (disp_one m e0 e1 he0 he1 s q t0 hs hb hk)).trans ?_
  refine Finset.sum_congr rfl fun k _ => Finset.sum_congr rfl fun d _ => ?_
  have ht : toks m s = X := (shapeCast_self (rdX m s) _).trans ((rdX_eq m s).trans (hx s))
  rw [ht, wgt_eq m X R e0 e1 hx hr he0 he1 s t0 k, eW_eq, hw]
  rfl

theorem recv_eq (c : Dev nD) (s : Fin 32) (p : Fin 16) (o : Fin 1024) :
    recvAll m c (ix2 ⟨16 * s.val + p.val, by omega⟩ o) = sendAll m s (ix2 ⟨16 * (blk s c).val + p.val, by have := (blk s c).isLt; omega⟩ o) := by
  have key : ∀ (n r : ℕ) (hn : n < 32) (hr : r < 16), n = s.val → r = p.val →
      sendAll m (⟨n, hn⟩ : Fin 32) (ix2 (n0 := 512) (n1 := 1024) ⟨16 * (blk (⟨n, hn⟩ : Fin 32) c).val + r, by have := (blk (⟨n, hn⟩ : Fin 32) c).isLt; omega⟩ o)
        = sendAll m s (ix2 ⟨16 * (blk s c).val + p.val, by have := (blk s c).isLt; omega⟩ o) := by
    intro n r hn hr h1 h2
    subst h1; subst h2
    rfl
  exact key ((16 * s.val + p.val) / 16) ((16 * s.val + p.val) % 16) (by omega) (by omega) (by omega) (by omega)

include hx hr he0 he1 hw in
/-- The kernel's result at row `r` of device `c` and column `o`, over finite tokens and router and within the capacity. -/
theorem out_eq (hX : ∀ i, ∃ a : ℝ, (X i : EReal) = a) (hR : ∀ i, ∃ a : ℝ, (R i : EReal) = a) (hcap : ∀ s b : Fin 32, cnt e0 e1 s b ≤ 16)
    (c : Dev nD) (r : Fin 32) (o t : Fin 1024) (htv : t.val = 32 * c.val + r.val) :
    outAt m c (ix2 r o) = gate0 X R e0 e1 t * (∑ d : Fin 512, (X (ix2 t d) : EReal) * W (ix3 (n0 := 128) (e0 t) d o))
      + gate1 X R e0 e1 t * (∑ d : Fin 512, (X (ix2 t d) : EReal) * W (ix3 (n0 := 128) (e1 t) d o)) := by
  have hc : c.val < 32 := c.isLt
  have hlt : 32 * c.val + r.val < 1024 := by clear htv; omega
  obtain rfl : t = ⟨32 * c.val + r.val, hlt⟩ := Fin.ext htv
  set t : Fin 1024 := ⟨32 * c.val + r.val, hlt⟩ with ht
  have e : outAt m c (ix2 r o) = ∑ q : Fin 512, (coll m c (ix2 r q) : EReal) * recvAll m c (ix2 q o) := by
    refine (Ideal.matmul_plain_apply none (coll m c) (recvAll m c) (constant S32x1024 .f32 0x00000000#32) r o).trans ?_
    exact (congrArg (· + _) Ideal.ofBits_zero_f32).trans (zero_add _)
  rw [e, sum_pairs (a := 32) (b := 16) (n := 512) rfl]
  have row (s : Fin 32) : ∑ p : Fin 16, (coll m c (ix2 r ⟨16 * s.val + p.val, by omega⟩) : EReal) * recvAll m c (ix2 ⟨16 * s.val + p.val, by omega⟩ o)
      = sentRow X R W e0 e1 s t o := by
    by_cases hs : served e0 e1 s t = true
    · have hk : rk e0 e1 s t < 16 := lt_of_lt_of_le (rk_lt_cnt e0 e1 s (c : Fin 32) r hs) (hcap s c)
      rw [Finset.sum_eq_single (⟨rk e0 e1 s t, hk⟩ : Fin 16)]
      · rw [coll_eq m e0 e1 he0 he1, recv_eq]
        have h1 : one? (served e0 e1 s t && decide (rk e0 e1 s t = (⟨rk e0 e1 s t, hk⟩ : Fin 16).val)) = 1 := by
          simp [one?, hs]
        refine (congrArg (· * _) h1).trans ((one_mul _).trans ?_)
        refine send_eq m X R W e0 e1 hx hr he0 he1 hw s _ t o hs ?_ ?_
        · have hb : (⟨(16 * (blk s c).val + rk e0 e1 s t) / 16, by have := (blk s c).isLt; omega⟩ : Fin 32) = blk s c := Fin.ext (by show (16 * (blk s c).val + rk e0 e1 s t) / 16 = _; omega)
          show t.val / 32 = (dst s (⟨(16 * (blk s c).val + rk e0 e1 s t) / 16, _⟩ : Fin 32)).val
          rw [hb, dst_blk]
          show (32 * c.val + r.val) / 32 = c.val
          omega
        · show rk e0 e1 s t = (16 * (blk s c).val + rk e0 e1 s t) % 16
          omega
      · intro p _ hp
        rw [coll_eq m e0 e1 he0 he1]
        have h1 : one? (served e0 e1 s t && decide (rk e0 e1 s t = p.val)) = 0 := by
          have : ¬ rk e0 e1 s t = p.val := fun h => hp (Fin.ext h.symm)
          simp [one?, this]
        exact (congrArg (· * _) h1).trans (zero_mul _)
      · intro h; exact absurd (Finset.mem_univ _) h
    · have hn : ¬ (e0 t).val / 4 = s.val ∧ ¬ (e1 t).val / 4 = s.val := by simpa [served] using hs
      refine Eq.trans (Finset.sum_eq_zero fun p _ => ?_) (unsent (e0 t) (e1 t) _ _ (fun d => X (ix2 t d)) (fun k d => W (ix3 (n0 := 128) ⟨4 * s.val + k.val, by omega⟩ d o)) s.val hn.1 hn.2).symm
      rw [coll_eq m e0 e1 he0 he1]
      have h1 : one? (served e0 e1 s t && decide (rk e0 e1 s t = p.val)) = 0 := by
        simp [one?, hs]
      exact (congrArg (· * _) h1).trans (zero_mul _)
  rw [Finset.sum_congr rfl fun s _ => row s]
  obtain ⟨p0, hp0, ep0⟩ := rProb_pos (rScore X R) (rScore_real X R hX hR) t (e0 t)
  obtain ⟨p1, hp1, ep1⟩ := rProb_pos (rScore X R) (rScore_real X R hX hR) t (e1 t)
  have hsum : (0 : ℝ) < p0 + p1 := by positivity
  obtain ⟨g0, hg0, eg0⟩ := div_pos_real p0 (p0 + p1) hp0 hsum
  obtain ⟨g1, hg1, eg1⟩ := div_pos_real p1 (p0 + p1) hp1 hsum
  have a0 : gate0 X R e0 e1 t = (g0 : EReal) := by unfold gate0; rw [ep0, ep1, ← EReal.coe_add, eg0]
  have a1 : gate1 X R e0 e1 t = (g1 : EReal) := by unfold gate1; rw [ep0, ep1, ← EReal.coe_add, eg1]
  unfold sentRow
  rw [a0, a1]
  exact combine (e0 t) (e1 t) g0 g1 hg0.le hg1.le (fun d => X (ix2 t d)) (fun e d => W (ix3 (n0 := 128) e d o))

end Result

end Cert.KProof
-- ==== Proof.Pre.lean ====
/-
# `Pre`: what the precondition gives

Where the precondition holds, the tokens and the router are finite, both experts of a token are below 128, and no device
serves more than sixteen tokens of a block of thirty-two.
-/
module

public import proofs.«01_k».proof.Proof.Select
public import proofs.«01_k».proof.Proof.Gen.Pre_capacity_kept_KernelIdeal
public import Idealize.ShloMosaic.Lib.ReduceAll
public import Idealize.ShloMosaic.Lib.StableHlo.Predicate

@[expose] public section

set_option maxRecDepth 16384

noncomputable section

namespace Cert.KProof

open Idealize.ShloMosaic hiding ix0 ix1 ix2 ix3
open Idealize.ShloMosaic.ValueIdx
open Cert.Pre_capacity_kept_KernelIdeal Cert.Pre_capacity_kept_KernelIdeal.Gen

/-- A value whose magnitude is below infinity is a real. -/
theorem real_of_abs_lt {s : Shape} (x : FVec Ideal s .bf16) (i : s.Idx)
    (h : FloatOps.cmpf (F := Ideal) .olt (FloatOps.hostAbsf (x i)) (FloatOps.ofBits (F := Ideal) .bf16 0x7F80#16) = 1#1) : ∃ a : ℝ, (x i : EReal) = a := by
  have htop : Ideal.ofBits .bf16 0x7F80#16 = ⊤ := by simp [Ideal.ofBits, Ideal.ieee]
  have h1 : BitVec.ofBool (decide (max (x i : EReal) (-(x i : EReal)) < Ideal.ofBits .bf16 0x7F80#16)) = 1#1 := h
  rw [StableHlo.Predicate.ofBool_eq_one_iff, decide_eq_true_eq, htop] at h1
  have h2 : (x i : EReal) ≠ ⊤ := fun e => by rw [e] at h1; simp at h1
  have h3 : (x i : EReal) ≠ ⊥ := fun e => by rw [e] at h1; simp at h1
  exact ⟨(x i : EReal).toReal, (EReal.coe_toReal h2 h3).symm⟩

/-- A word that is at least zero and below 128, signed, is a number below 128. -/
theorem route_of_range (v : BitVec 32) (h0 : IntOp.cmpi .sge v 0#32 = 1#1) (h1 : IntOp.cmpi .slt v 128#32 = 1#1) : ∃ n : Fin 128, v = BitVec.ofNat 32 n.val := by
  have a : (0#32).sle v = true := (StableHlo.Predicate.ofBool_eq_one_iff _).1 h0
  have b : v.slt 128#32 = true := (StableHlo.Predicate.ofBool_eq_one_iff _).1 h1
  rw [BitVec.sle_iff_toInt_le] at a
  rw [BitVec.slt_iff_toInt_lt] at b
  have e0 : (0#32 : BitVec 32).toInt = 0 := by decide
  have e1 : (128#32 : BitVec 32).toInt = 128 := by decide
  rw [e0] at a; rw [e1] at b
  have hv : v.toNat < 128 := by
    rw [BitVec.toInt_eq_toNat_cond] at a b
    have := v.isLt
    split at a <;> split at b <;> omega
  exact ⟨⟨v.toNat, hv⟩, by show v = BitVec.ofNat 32 v.toNat; rw [BitVec.ofNat_toNat, BitVec.setWidth_eq]⟩

/-- An expert lies among a device's four, by comparing with the device's first and last. -/
theorem among_word : ∀ (s : Fin 32) (n : Fin 128),
    IntOp.andi (IntOp.cmpi .sle (IntOp.muli 4#32 (BitVec.ofNat 32 s.val)) (BitVec.ofNat 32 n.val))
      (IntOp.cmpi .slt (BitVec.ofNat 32 n.val) (IntOp.addi (IntOp.muli 4#32 (BitVec.ofNat 32 s.val)) 4#32))
    = BitVec.ofBool (decide (n.val / 4 = s.val)) := by decide +kernel

/-- A column of the routes as a vector. -/
theorem col_apply (k : Fin 2) (hs : S1024x2.Slices ![0, k.val] S1024x1) (hc : S1024x1.ShapeCasts S1024) (e : IVec S1024x2 32) (t : Fin 1024) :
    shapeCast S1024 (extractStridedSlice S1024x1 ![0, k.val] e hs) hc (ix1 t) = e (ix2 t k) := by
  refine (shapeCast_apply _ hc (ix1 t) (ix2 (n0 := 1024) (n1 := 1) t 0) (by
    rw [Shape.rowMajor_val_two, Shape.rowMajor_val_one]
    show t.val * 1 + 0 = t.val
    omega)).trans ?_
  refine extractStridedSlice_apply _ e hs _ _ fun a => ?_
  match a with
  | ⟨0, _⟩ => exact (Nat.zero_add _).symm
  | ⟨1, _⟩ => rfl

/-- Four times the device number, one row per device. -/
def firstW : IVec S32x1 32 :=
  muli (broadcastInDim S32x1 ![] Facts.bcast_S_S32x1 (constantI S_ 32 4#32)) (broadcastInDim S32x1 ![0] Facts.bcast_S32_S32x1_0 (iotaInDim S32 32 0))
/-- Which tokens have an expert of `v` on which device. -/
def among (v : IVec S1024 32) : IVec S32x1024 1 :=
  andi (cmpi .sle (broadcastInDim S32x1024 ![0, 1] Facts.bcast_S32x1_S32x1024_0_1 firstW)
      (broadcastInDim S32x1024 ![0, 1] Facts.bcast_S1x1024_S32x1024_0_1 (broadcastInDim S1x1024 ![1] Facts.bcast_S1024_S1x1024_1 v)))
    (cmpi .slt (broadcastInDim S32x1024 ![0, 1] Facts.bcast_S1x1024_S32x1024_0_1 (broadcastInDim S1x1024 ![1] Facts.bcast_S1024_S1x1024_1 v))
      (broadcastInDim S32x1024 ![0, 1] Facts.bcast_S32x1_S32x1024_0_1 (addi firstW (broadcastInDim S32x1 ![] Facts.bcast_S_S32x1 (constantI S_ 32 4#32)))))
/-- The two columns of the routes. -/
def col0 (e : IVec S1024x2 32) : IVec S1024 32 := shapeCast S1024 (extractStridedSlice S1024x1 ![0, 0] e Facts.slices_S1024x2_S1024x1_0_0) Facts.shapeCasts_S1024x1_S1024
def col1 (e : IVec S1024x2 32) : IVec S1024 32 := shapeCast S1024 (extractStridedSlice S1024x1 ![0, 1] e Facts.slices_S1024x2_S1024x1_0_1) Facts.shapeCasts_S1024x1_S1024
/-- Which device serves which token, laid out by block of thirty-two. -/
def mask (e : IVec S1024x2 32) : IVec S1024x32 1 := shapeCast S1024x32 (ori (among (col0 e)) (among (col1 e))) Facts.shapeCasts_S32x1024_S1024x32

theorem among_val (v : IVec S1024 32) (s : Fin 32) (t : Fin 1024) (n : Fin 128) (h : v (ix1 t) = BitVec.ofNat 32 n.val) :
    among v (ix2 s t) = BitVec.ofBool (decide (n.val / 4 = s.val)) := by
  have e1 : ∀ x : IVec S32x1 32, broadcastInDim S32x1024 ![0, 1] Facts.bcast_S32x1_S32x1024_0_1 x (ix2 s t) = x (ix2 s 0) := fun x =>
    broadcastInDim_apply _ _ x _ _ fun a => by
      match a with
      | ⟨0, _⟩ => rfl
      | ⟨1, _⟩ => rfl
  have e2 : broadcastInDim S32x1024 ![0, 1] Facts.bcast_S1x1024_S32x1024_0_1 (broadcastInDim S1x1024 ![1] Facts.bcast_S1024_S1x1024_1 v) (ix2 s t) = v (ix1 t) :=
    (broadcastInDim_apply _ _ _ _ (ix2 (n0 := 1) (n1 := 1024) 0 t) fun a => by
      match a with
      | ⟨0, _⟩ => rfl
      | ⟨1, _⟩ => rfl).trans
    (broadcastInDim_apply _ _ v _ (ix1 t) fun a => by
      match a with
      | ⟨0, _⟩ => rfl)
  show IntOp.andi (IntOp.cmpi .sle (broadcastInDim S32x1024 ![0, 1] Facts.bcast_S32x1_S32x1024_0_1 firstW (ix2 s t)) (broadcastInDim S32x1024 ![0, 1] Facts.bcast_S1x1024_S32x1024_0_1 (broadcastInDim S1x1024 ![1] Facts.bcast_S1024_S1x1024_1 v) (ix2 s t)))
    (IntOp.cmpi .slt (broadcastInDim S32x1024 ![0, 1] Facts.bcast_S1x1024_S32x1024_0_1 (broadcastInDim S1x1024 ![1] Facts.bcast_S1024_S1x1024_1 v) (ix2 s t)) (broadcastInDim S32x1024 ![0, 1] Facts.bcast_S32x1_S32x1024_0_1 (addi firstW (broadcastInDim S32x1 ![] Facts.bcast_S_S32x1 (constantI S_ 32 4#32))) (ix2 s t))) = _
  rw [e1, e1, e2, h]
  exact among_word s n

theorem mask_val (e : IVec S1024x2 32) (e0 e1 : Fin 1024 → Fin 128) (h0 : ∀ t, e (ix2 t 0) = BitVec.ofNat 32 (e0 t).val)
    (h1 : ∀ t, e (ix2 t 1) = BitVec.ofNat 32 (e1 t).val) (s b r : Fin 32) :
    mask e (ix2 (⟨32 * s.val + b.val, by omega⟩ : Fin 1024) r) = BitVec.ofBool (served e0 e1 s ⟨32 * b.val + r.val, by omega⟩) := by
  unfold mask
  refine (shapeCast_apply _ _ _ (ix2 s (⟨32 * b.val + r.val, by omega⟩ : Fin 1024)) (by
    rw [Shape.rowMajor_val_two, Shape.rowMajor_val_two]
    show s.val * 1024 + (32 * b.val + r.val) = (32 * s.val + b.val) * 32 + r.val
    omega)).trans ?_
  show IntOp.ori (among (col0 e) _) (among (col1 e) _) = _
  rw [among_val (col0 e) s _ (e0 ⟨32 * b.val + r.val, by omega⟩) ((col_apply 0 _ _ e _).trans (h0 _)),
    among_val (col1 e) s _ (e1 ⟨32 * b.val + r.val, by omega⟩) ((col_apply 1 _ _ e _).trans (h1 _)), ori_ofBool]
  rfl

theorem pre_decode (x : FVec Ideal S1024x512 .bf16) (r : FVec Ideal S512x128 .bf16) (e : IVec S1024x2 32) (w : FVec Ideal S4x512x1024 .bf16)
    (h : fn (F := Ideal) x r e w = fun _ => 1#1) :
    (∀ i, ∃ a : ℝ, (x i : EReal) = a) ∧ (∀ i, ∃ a : ℝ, (r i : EReal) = a) ∧
    ∃ e0 e1 : Fin 1024 → Fin 128, (∀ t, e (ix2 t 0) = BitVec.ofNat 32 (e0 t).val) ∧ (∀ t, e (ix2 t 1) = BitVec.ofNat 32 (e1 t).val) ∧
      ∀ s b : Fin 32, cnt e0 e1 s b ≤ 16 := by
  have h0 := congrFun h ix0
  unfold fn fn_part1 fn_part2 at h0
  dsimp only at h0
  obtain ⟨h47, h50⟩ := IntOp.andi_eq_one.1 h0
  obtain ⟨h40, h46⟩ := IntOp.andi_eq_one.1 h47
  obtain ⟨h35, h39⟩ := IntOp.andi_eq_one.1 h40
  haveI : Subsingleton S_.Idx := ⟨fun a b => (eq_ix0 a).trans (eq_ix0 b).symm⟩
  have g35 := Host.reduce_andi_all _ _ _ _ _ h35
  have g39 := Host.reduce_andi_all _ _ _ _ _ h39
  have g46 := Host.reduce_andi_all _ _ _ _ _ h46
  have g50 := Host.reduce_andi_all _ _ _ _ _ h50
  refine ⟨fun i => real_of_abs_lt x i (g35 i), fun i => real_of_abs_lt r i (g39 i), ?_⟩
  have hr : ∀ i, ∃ n : Fin 128, e i = BitVec.ofNat 32 n.val := fun i => by
    obtain ⟨a, b⟩ := IntOp.andi_eq_one.1 (g46 i)
    exact route_of_range (e i) a b
  choose f hf using hr
  refine ⟨fun t => f (ix2 t 0), fun t => f (ix2 t 1), fun t => hf _, fun t => hf _, fun s b => ?_⟩
  have hc : IntOp.cmpi .sle (Host.reduce IntOp.addi (extui 32 (mask e) Facts.natLt_1_32) (constantI S_ 32 0#32) Facts.reducesTo_S1024x32_S1024_d1 Facts.h_S_
      (ix1 (⟨32 * s.val + b.val, by omega⟩ : Fin 1024))) 16#32 = 1#1 := g50 (ix1 (⟨32 * s.val + b.val, by omega⟩ : Fin 1024))
  have hc' := (StableHlo.Predicate.ofBool_eq_one_iff _).1 hc
  rw [BitVec.sle_iff_toInt_le] at hc'
  have hcount := StableHlo.Predicate.toNat_reduce_count_cols (n := 1024) (m := 32) (by decide) (mask e) Facts.natLt_1_32
    Facts.reducesTo_S1024x32_S1024_d1 Facts.h_S_ (ix1 (⟨32 * s.val + b.val, by omega⟩ : Fin 1024))
  generalize Host.reduce IntOp.addi (extui 32 (mask e) Facts.natLt_1_32) (constantI S_ 32 0#32) Facts.reducesTo_S1024x32_S1024_d1 Facts.h_S_
      (ix1 (⟨32 * s.val + b.val, by omega⟩ : Fin 1024)) = z at hc' hcount
  have hz : z.toNat = cnt (fun t => f (ix2 t 0)) (fun t => f (ix2 t 1)) s b := by
    rw [hcount]
    unfold cnt
    refine congrArg Finset.card (Finset.filter_congr fun q _ => ?_)
    rw [← StableHlo.Predicate.ofBool_eq_one_iff, ← mask_val e (fun t => f (ix2 t 0)) (fun t => f (ix2 t 1)) (fun t => hf _) (fun t => hf _) s b q]
    have : StableHlo.Predicate.ij ((ix1 (⟨32 * s.val + b.val, by omega⟩ : Fin 1024)) 0) q = ix2 (⟨32 * s.val + b.val, by omega⟩ : Fin 1024) q := by
      funext a
      match a with
      | ⟨0, _⟩ => rfl
      | ⟨1, _⟩ => rfl
    exact iff_of_eq (congrArg (fun i => mask e i = 1#1) this)
  have hle : cnt (fun t => f (ix2 t 0)) (fun t => f (ix2 t 1)) s b ≤ 32 := (Finset.card_le_univ _).trans (by simp)
  have e16 : (16#32 : BitVec 32).toInt = 16 := by decide
  rw [e16, BitVec.toInt_eq_toNat_cond] at hc'
  split at hc' <;> omega

end Cert.KProof
-- ==== Proof.Value.lean ====
/-
# `Value`: the kernel's result is the reference's

Each device's block of the result is its rows of the reference's, where the precondition holds.
-/
module

public import proofs.«01_k».proof.Proof.Frames
public import proofs.«01_k».proof.Proof.Values
public import proofs.«01_k».proof.Proof.Pre

@[expose] public section

set_option maxRecDepth 16384

noncomputable section

namespace Cert.Proof

open Idealize.ShloMosaic hiding ix0 ix1 ix2 ix3 eq_ix2
open Idealize.ShloMosaic.ValueIdx Idealize.SL.Sem
open Cert.KProof

/-- The kernel's result block and the reference's rows, from arguments cut as the claim says. -/
theorem out_block (m : (ℓ : Loc Cert.KernelIdeal.nD Cert.KernelIdeal.τ Cert.KernelIdeal.sig) → Buf (Elt Ideal) ℓ)
    (X : FVec Ideal ⟨2, ![1024, 512]⟩ .bf16) (R : FVec Ideal ⟨2, ![512, 128]⟩ .bf16) (E : IVec ⟨2, ![1024, 2]⟩ 32) (W : FVec Ideal ⟨3, ![128, 512, 1024]⟩ .bf16)
    (hx : ∀ c : Dev Cert.KernelIdeal.nD, m ((c.tc : Thread Cert.KernelIdeal.nD Cert.KernelIdeal.τ).loc Cert.KernelIdeal.main_arg0) = X)
    (hr : ∀ c : Dev Cert.KernelIdeal.nD, m ((c.tc : Thread Cert.KernelIdeal.nD Cert.KernelIdeal.τ).loc Cert.KernelIdeal.main_arg1) = R)
    (he : ∀ c : Dev Cert.KernelIdeal.nD, m ((c.tc : Thread Cert.KernelIdeal.nD Cert.KernelIdeal.τ).loc Cert.KernelIdeal.main_arg2) = E)
    (hw : ∀ c : Dev Cert.KernelIdeal.nD, m ((c.tc : Thread Cert.KernelIdeal.nD Cert.KernelIdeal.τ).loc Cert.KernelIdeal.main_arg3)
      = Layout.block ⟨3, ![4, 512, 1024]⟩ ⟨3, ![128, 512, 1024]⟩ 0 32 c W)
    (hpre : Cert.Pre_capacity_kept_KernelIdeal.fn (F := Ideal) X R E
      (m (((0 : Dev Cert.KernelIdeal.nD).tc : Thread Cert.KernelIdeal.nD Cert.KernelIdeal.τ).loc Cert.KernelIdeal.main_arg3)) = fun _ => 1#1)
    (c : Dev Cert.KernelIdeal.nD) :
    outAt m c = Layout.block ⟨2, ![32, 1024]⟩ ⟨2, ![1024, 1024]⟩ 0 32 c (rOut X R E W) := by
  obtain ⟨hX, hR, e0, e1, he0, he1, hcap⟩ := pre_decode X R E _ hpre
  funext i
  obtain ⟨r, o, rfl⟩ : ∃ (r : Fin 32) (o : Fin 1024), i = ix2 r o := ⟨i 0, i 1, eq_ix2 i⟩
  have hc : c.val < 32 := c.isLt
  have hlt : c.val * 32 + r.val < 1024 := by omega
  have ei : ∀ h, Layout.Tiles.idx (S := ⟨2, ![32, 1024]⟩) (T := ⟨2, ![1024, 1024]⟩) (a := 0) (k := 32) h c (ix2 r o) = ix2 (⟨c.val * 32 + r.val, hlt⟩ : Fin 1024) o := by
    intro h
    funext a; apply Fin.ext
    match a with
    | ⟨0, _⟩ => rfl
    | ⟨1, _⟩ => rfl
  refine Eq.trans ?_ (congrArg (rOut X R E W) (ei _)).symm
  rw [rOut_val X R E W ⟨c.val * 32 + r.val, hlt⟩ o _ _ (he0 _) (he1 _)]
  refine out_eq m X R W e0 e1 hx hr (fun c t => (congrFun (he c) _).trans (he0 t)) (fun c t => (congrFun (he c) _).trans (he1 t))
    (fun c k d o => (congrFun (hw c) _).trans (congrArg W (funext fun a => Fin.ext ?_))) hX hR hcap c r o ⟨c.val * 32 + r.val, hlt⟩ ?_
  · match a with
    | ⟨0, _⟩ => exact congrArg (· + k.val) (Nat.mul_comm c.val 4)
    | ⟨1, _⟩ => rfl
    | ⟨2, _⟩ => rfl
  · exact congrArg (· + r.val) (Nat.mul_comm c.val 32)

/-- The algebraic claim: on each device the kernel leaves its rows of what the reference leaves. -/
theorem algebraic_kernelIdeal : Cert.algebraic_KernelIdeal_ReferenceIdeal_pre_capacity_kept_KernelIdeal := by
  intro m g m' g' hpre hin
  refine ⟨Cert.ReferenceIdeal.Value.res_main_v71 m' 0, ?_, ?_⟩
  · refine (θ_run Cert.KernelIdeal.defs _ _).mono (fun r h c => ?_) (Cert.KProof.run_main m g)
    refine ⟨?_, (h.1 c 0).trans (finalA_x m g c), (h.1 c 1).trans (finalA_router m g c), (h.1 c 2).trans (finalA_route m g c), (h.1 c 3).trans (finalA_expert m g c)⟩
    refine (h.1 c 4).trans ((finalA_out m g c).trans ?_)
    rw [res_eq]
    refine out_block m _ _ _ _ (fun c => (hin c).1) (fun c => (hin c).2.1) (fun c => (hin c).2.2.1) (fun c => (hin c).2.2.2) ?_ c
    have h0 := hpre 0
    rw [(hin 0).1, (hin 0).2.1, (hin 0).2.2.1] at h0
    exact h0
  · exact (θ_run Cert.ReferenceIdeal.defs _ _).mono (fun _ h => h 0) (Cert.ReferenceIdeal.Value.run m' g')

end Cert.Proof

end
-- ==== Proof.lean ====
module

public import proofs.«01_k».proof.Proof.Gen.Pre_capacity_kept_KernelIdeal
public import proofs.«01_k».proof.Proof.Gen.Pre_capacity_kept_ReferenceIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_capacity_kept_KernelIdeal.Gen.facts, Cert.Pre_capacity_kept_ReferenceIdeal.Gen.facts,
  frame_kernel, frame_kernelIdeal, fun m g _ => frame_kernelIdeal m g (by trivial), frame_referenceIdeal, fun m g _ => frame_referenceIdeal m g (by trivial),
  preserves_kernelIdeal, algebraic_kernelIdeal⟩

end Cert.Proof

end
